-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_prompt [hPre_finite_prompt : Cert.Pre_finite_prompt.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_prompt.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12)) (m ((c.tc : Thread Cert.Kernel3Ideal.nD Cert.Kernel3Ideal.τ).loc Cert.Kernel3Ideal.main_arg13)) (m ((c.tc : Thread Cert.Kernel3Ideal.nD Cert.Kernel3Ideal.τ).loc Cert.Kernel3Ideal.main_arg14)) (m ((c.tc : Thread Cert.Kernel3Ideal.nD Cert.Kernel3Ideal.τ).loc Cert.Kernel3Ideal.main_arg15)) (m ((c.tc : Thread Cert.Kernel3Ideal.nD Cert.Kernel3Ideal.τ).loc Cert.Kernel3Ideal.main_arg16))).1 = (fun _ => 1#1)
    ∧ (Cert.Pre_finite_prompt.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12)) (m ((c.tc : Thread Cert.Kernel3Ideal.nD Cert.Kernel3Ideal.τ).loc Cert.Kernel3Ideal.main_arg13)) (m ((c.tc : Thread Cert.Kernel3Ideal.nD Cert.Kernel3Ideal.τ).loc Cert.Kernel3Ideal.main_arg14)) (m ((c.tc : Thread Cert.Kernel3Ideal.nD Cert.Kernel3Ideal.τ).loc Cert.Kernel3Ideal.main_arg15)) (m ((c.tc : Thread Cert.Kernel3Ideal.nD Cert.Kernel3Ideal.τ).loc Cert.Kernel3Ideal.main_arg16))).2.1 = (fun _ => 1#1)
    ∧ (Cert.Pre_finite_prompt.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12)) (m ((c.tc : Thread Cert.Kernel3Ideal.nD Cert.Kernel3Ideal.τ).loc Cert.Kernel3Ideal.main_arg13)) (m ((c.tc : Thread Cert.Kernel3Ideal.nD Cert.Kernel3Ideal.τ).loc Cert.Kernel3Ideal.main_arg14)) (m ((c.tc : Thread Cert.Kernel3Ideal.nD Cert.Kernel3Ideal.τ).loc Cert.Kernel3Ideal.main_arg15)) (m ((c.tc : Thread Cert.Kernel3Ideal.nD Cert.Kernel3Ideal.τ).loc Cert.Kernel3Ideal.main_arg16))).2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_prompt [hPre_finite_prompt : Cert.Pre_finite_prompt.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_prompt.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12)) (m ((c.tc : Thread Cert.Reference3Ideal.nD Cert.Reference3Ideal.τ).loc Cert.Reference3Ideal.main_arg13)) (m ((c.tc : Thread Cert.Reference3Ideal.nD Cert.Reference3Ideal.τ).loc Cert.Reference3Ideal.main_arg14)) (m ((c.tc : Thread Cert.Reference3Ideal.nD Cert.Reference3Ideal.τ).loc Cert.Reference3Ideal.main_arg15)) (m ((c.tc : Thread Cert.Reference3Ideal.nD Cert.Reference3Ideal.τ).loc Cert.Reference3Ideal.main_arg16))).1 = (fun _ => 1#1)
    ∧ (Cert.Pre_finite_prompt.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12)) (m ((c.tc : Thread Cert.Reference3Ideal.nD Cert.Reference3Ideal.τ).loc Cert.Reference3Ideal.main_arg13)) (m ((c.tc : Thread Cert.Reference3Ideal.nD Cert.Reference3Ideal.τ).loc Cert.Reference3Ideal.main_arg14)) (m ((c.tc : Thread Cert.Reference3Ideal.nD Cert.Reference3Ideal.τ).loc Cert.Reference3Ideal.main_arg15)) (m ((c.tc : Thread Cert.Reference3Ideal.nD Cert.Reference3Ideal.τ).loc Cert.Reference3Ideal.main_arg16))).2.1 = (fun _ => 1#1)
    ∧ (Cert.Pre_finite_prompt.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12)) (m ((c.tc : Thread Cert.Reference3Ideal.nD Cert.Reference3Ideal.τ).loc Cert.Reference3Ideal.main_arg13)) (m ((c.tc : Thread Cert.Reference3Ideal.nD Cert.Reference3Ideal.τ).loc Cert.Reference3Ideal.main_arg14)) (m ((c.tc : Thread Cert.Reference3Ideal.nD Cert.Reference3Ideal.τ).loc Cert.Reference3Ideal.main_arg15)) (m ((c.tc : Thread Cert.Reference3Ideal.nD Cert.Reference3Ideal.τ).loc Cert.Reference3Ideal.main_arg16))).2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14)
      ∧ r.2.mem ((c.tc : Thread Cert.Kernel3.nD Cert.Kernel3.τ).loc Cert.Kernel3.main_arg15) = m ((c.tc : Thread Cert.Kernel3.nD Cert.Kernel3.τ).loc Cert.Kernel3.main_arg15)
      ∧ r.2.mem ((c.tc : Thread Cert.Kernel3.nD Cert.Kernel3.τ).loc Cert.Kernel3.main_arg16) = m ((c.tc : Thread Cert.Kernel3.nD Cert.Kernel3.τ).loc Cert.Kernel3.main_arg16))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
      ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
      ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16))
      ∧ r.2.sem = fun _ => 0)

def quiescent_Kernel3Ideal_pre_finite_prompt [hKernel3Ideal : Cert.Kernel3Ideal.Facts] [hPre_finite_prompt : Cert.Pre_finite_prompt.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_prompt m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
      ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
      ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14)
      ∧ r.2.mem ((c.tc : Thread Cert.Reference3Ideal.nD Cert.Reference3Ideal.τ).loc Cert.Reference3Ideal.main_arg15) = m ((c.tc : Thread Cert.Reference3Ideal.nD Cert.Reference3Ideal.τ).loc Cert.Reference3Ideal.main_arg15)
      ∧ r.2.mem ((c.tc : Thread Cert.Reference3Ideal.nD Cert.Reference3Ideal.τ).loc Cert.Reference3Ideal.main_arg16) = m ((c.tc : Thread Cert.Reference3Ideal.nD Cert.Reference3Ideal.τ).loc Cert.Reference3Ideal.main_arg16))
      ∧ r.2.sem = fun _ => 0)

def quiescent_Reference3Ideal_pre_finite_prompt [hReference3Ideal : Cert.Reference3Ideal.Facts] [hPre_finite_prompt : Cert.Pre_finite_prompt.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_prompt m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14)
      ∧ r.2.mem ((c.tc : Thread Cert.Reference3Ideal.nD Cert.Reference3Ideal.τ).loc Cert.Reference3Ideal.main_arg15) = m ((c.tc : Thread Cert.Reference3Ideal.nD Cert.Reference3Ideal.τ).loc Cert.Reference3Ideal.main_arg15)
      ∧ r.2.mem ((c.tc : Thread Cert.Reference3Ideal.nD Cert.Reference3Ideal.τ).loc Cert.Reference3Ideal.main_arg16) = m ((c.tc : Thread Cert.Reference3Ideal.nD Cert.Reference3Ideal.τ).loc Cert.Reference3Ideal.main_arg16))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def preserves_Kernel_KernelIdeal : Prop :=
  IdealRules.named_const.Statement Cert.KernelIdeal.κ "q_scale" .f32 0x3E38AA3B#32 (((8 * (Real.log 2))⁻¹ : ℝ) : EReal)
  ∧ IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v212) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v4_0)) (v1 : (c : Dev Cert.Kernel2Ideal.nD) → Buf (Elt Ideal) ((c.tc : Thread Cert.Kernel2Ideal.nD Cert.Kernel2Ideal.τ).loc Cert.Kernel2Ideal.main_v4_1)) (v2 : (c : Dev Cert.Kernel2Ideal.nD) → Buf (Elt Ideal) ((c.tc : Thread Cert.Kernel2Ideal.nD Cert.Kernel2Ideal.τ).loc Cert.Kernel2Ideal.main_v4_2)) (v3 : (c : Dev Cert.Kernel2Ideal.nD) → Buf (Elt Ideal) ((c.tc : Thread Cert.Kernel2Ideal.nD Cert.Kernel2Ideal.τ).loc Cert.Kernel2Ideal.main_v4_3)) (v4 : (c : Dev Cert.Kernel2Ideal.nD) → Buf (Elt Ideal) ((c.tc : Thread Cert.Kernel2Ideal.nD Cert.Kernel2Ideal.τ).loc Cert.Kernel2Ideal.main_v4_4)) (v5 : (c : Dev Cert.Kernel2Ideal.nD) → Buf (Elt Ideal) ((c.tc : Thread Cert.Kernel2Ideal.nD Cert.Kernel2Ideal.τ).loc Cert.Kernel2Ideal.main_v4_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4_0) = v0 c
          ∧ r.2.mem ((c.tc : Thread Cert.Kernel2Ideal.nD Cert.Kernel2Ideal.τ).loc Cert.Kernel2Ideal.main_v4_1) = v1 c
          ∧ r.2.mem ((c.tc : Thread Cert.Kernel2Ideal.nD Cert.Kernel2Ideal.τ).loc Cert.Kernel2Ideal.main_v4_2) = v2 c
          ∧ r.2.mem ((c.tc : Thread Cert.Kernel2Ideal.nD Cert.Kernel2Ideal.τ).loc Cert.Kernel2Ideal.main_v4_3) = v3 c
          ∧ r.2.mem ((c.tc : Thread Cert.Kernel2Ideal.nD Cert.Kernel2Ideal.τ).loc Cert.Kernel2Ideal.main_v4_4) = v4 c
          ∧ r.2.mem ((c.tc : Thread Cert.Kernel2Ideal.nD Cert.Kernel2Ideal.τ).loc Cert.Kernel2Ideal.main_v4_5) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v24) = v0 c
          ∧ r.2.mem ((c.tc : Thread Cert.Reference2Ideal.nD Cert.Reference2Ideal.τ).loc Cert.Reference2Ideal.main_v25) = v1 c
          ∧ r.2.mem ((c.tc : Thread Cert.Reference2Ideal.nD Cert.Reference2Ideal.τ).loc Cert.Reference2Ideal.main_v26) = v2 c
          ∧ r.2.mem ((c.tc : Thread Cert.Reference2Ideal.nD Cert.Reference2Ideal.τ).loc Cert.Reference2Ideal.main_v27) = v3 c
          ∧ r.2.mem ((c.tc : Thread Cert.Reference2Ideal.nD Cert.Reference2Ideal.τ).loc Cert.Reference2Ideal.main_v28) = v4 c
          ∧ r.2.mem ((c.tc : Thread Cert.Reference2Ideal.nD Cert.Reference2Ideal.τ).loc Cert.Reference2Ideal.main_v29) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  IdealRules.named_const.Statement Cert.Kernel3Ideal.κ "q_scale" .f32 0x3E38AA3B#32 (((8 * (Real.log 2))⁻¹ : ℝ) : EReal)
  ∧ IdealRules.named_const.Statement Cert.Kernel3Ideal.κ "log2e" .f32 0x3FB8AA3B#32 (((Real.log 2)⁻¹ : ℝ) : EReal)

def algebraic_Kernel3Ideal_Reference3Ideal_pre_finite_prompt [hKernel3Ideal : Cert.Kernel3Ideal.Facts] [hReference3Ideal : Cert.Reference3Ideal.Facts] [hPre_finite_prompt : Cert.Pre_finite_prompt.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_prompt m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)
      ∧ m' ((c.tc : Thread Cert.Reference3Ideal.nD Cert.Reference3Ideal.τ).loc Cert.Reference3Ideal.main_arg15) = m ((c.tc : Thread Cert.Kernel3Ideal.nD Cert.Kernel3Ideal.τ).loc Cert.Kernel3Ideal.main_arg15)
      ∧ m' ((c.tc : Thread Cert.Reference3Ideal.nD Cert.Reference3Ideal.τ).loc Cert.Reference3Ideal.main_arg16) = m ((c.tc : Thread Cert.Kernel3Ideal.nD Cert.Kernel3Ideal.τ).loc Cert.Kernel3Ideal.main_arg16)) →
    ∃ (v0 : (c : Dev Cert.Kernel3Ideal.nD) → Buf (Elt Ideal) ((c.tc : Thread Cert.Kernel3Ideal.nD Cert.Kernel3Ideal.τ).loc Cert.Kernel3Ideal.main_v44)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v44) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
          ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
          ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v212) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14)
          ∧ r.2.mem ((c.tc : Thread Cert.Reference3Ideal.nD Cert.Reference3Ideal.τ).loc Cert.Reference3Ideal.main_arg15) = m' ((c.tc : Thread Cert.Reference3Ideal.nD Cert.Reference3Ideal.τ).loc Cert.Reference3Ideal.main_arg15)
          ∧ r.2.mem ((c.tc : Thread Cert.Reference3Ideal.nD Cert.Reference3Ideal.τ).loc Cert.Reference3Ideal.main_arg16) = m' ((c.tc : Thread Cert.Reference3Ideal.nD Cert.Reference3Ideal.τ).loc Cert.Reference3Ideal.main_arg16))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v4_0)) (v1 : (c : Dev Cert.Kernel4Ideal.nD) → Buf (Elt Ideal) ((c.tc : Thread Cert.Kernel4Ideal.nD Cert.Kernel4Ideal.τ).loc Cert.Kernel4Ideal.main_v4_1)) (v2 : (c : Dev Cert.Kernel4Ideal.nD) → Buf (Elt Ideal) ((c.tc : Thread Cert.Kernel4Ideal.nD Cert.Kernel4Ideal.τ).loc Cert.Kernel4Ideal.main_v4_2)) (v3 : (c : Dev Cert.Kernel4Ideal.nD) → Buf (Elt Ideal) ((c.tc : Thread Cert.Kernel4Ideal.nD Cert.Kernel4Ideal.τ).loc Cert.Kernel4Ideal.main_v4_3)) (v4 : (c : Dev Cert.Kernel4Ideal.nD) → Buf (Elt Ideal) ((c.tc : Thread Cert.Kernel4Ideal.nD Cert.Kernel4Ideal.τ).loc Cert.Kernel4Ideal.main_v4_4)) (v5 : (c : Dev Cert.Kernel4Ideal.nD) → Buf (Elt Ideal) ((c.tc : Thread Cert.Kernel4Ideal.nD Cert.Kernel4Ideal.τ).loc Cert.Kernel4Ideal.main_v4_5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4_0) = v0 c
          ∧ r.2.mem ((c.tc : Thread Cert.Kernel4Ideal.nD Cert.Kernel4Ideal.τ).loc Cert.Kernel4Ideal.main_v4_1) = v1 c
          ∧ r.2.mem ((c.tc : Thread Cert.Kernel4Ideal.nD Cert.Kernel4Ideal.τ).loc Cert.Kernel4Ideal.main_v4_2) = v2 c
          ∧ r.2.mem ((c.tc : Thread Cert.Kernel4Ideal.nD Cert.Kernel4Ideal.τ).loc Cert.Kernel4Ideal.main_v4_3) = v3 c
          ∧ r.2.mem ((c.tc : Thread Cert.Kernel4Ideal.nD Cert.Kernel4Ideal.τ).loc Cert.Kernel4Ideal.main_v4_4) = v4 c
          ∧ r.2.mem ((c.tc : Thread Cert.Kernel4Ideal.nD Cert.Kernel4Ideal.τ).loc Cert.Kernel4Ideal.main_v4_5) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v24) = v0 c
          ∧ r.2.mem ((c.tc : Thread Cert.Reference4Ideal.nD Cert.Reference4Ideal.τ).loc Cert.Reference4Ideal.main_v25) = v1 c
          ∧ r.2.mem ((c.tc : Thread Cert.Reference4Ideal.nD Cert.Reference4Ideal.τ).loc Cert.Reference4Ideal.main_v26) = v2 c
          ∧ r.2.mem ((c.tc : Thread Cert.Reference4Ideal.nD Cert.Reference4Ideal.τ).loc Cert.Reference4Ideal.main_v27) = v3 c
          ∧ r.2.mem ((c.tc : Thread Cert.Reference4Ideal.nD Cert.Reference4Ideal.τ).loc Cert.Reference4Ideal.main_v28) = v4 c
          ∧ r.2.mem ((c.tc : Thread Cert.Reference4Ideal.nD Cert.Reference4Ideal.τ).loc Cert.Reference4Ideal.main_v29) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_finite_prompt : Cert.Pre_finite_prompt.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite_prompt (hKernel3Ideal := hKernel3Ideal) (hPre_finite_prompt := hPre_finite_prompt)
    ∧ quiescent_Reference3Ideal (hReference3Ideal := hReference3Ideal)
    ∧ quiescent_Reference3Ideal_pre_finite_prompt (hReference3Ideal := hReference3Ideal) (hPre_finite_prompt := hPre_finite_prompt)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite_prompt (hKernel3Ideal := hKernel3Ideal) (hReference3Ideal := hReference3Ideal) (hPre_finite_prompt := hPre_finite_prompt)
    ∧ preserves_Kernel4_Kernel4Ideal
    ∧ algebraic_Kernel4Ideal_Reference4Ideal (hKernel4Ideal := hKernel4Ideal) (hReference4Ideal := hReference4Ideal)
-- ==== Pre_finite.lean ====
abbrev S2x8192x1024 : Shape := ⟨3, ![2, 8192, 1024]⟩
abbrev S2x8192x512 : Shape := ⟨3, ![2, 8192, 512]⟩
abbrev S2x8192x2048 : Shape := ⟨3, ![2, 8192, 2048]⟩
abbrev S1x2048 : Shape := ⟨2, ![1, 2048]⟩
abbrev S1x8x15x31 : Shape := ⟨4, ![1, 8, 15, 31]⟩
abbrev S1x3x512 : Shape := ⟨3, ![1, 3, 512]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S_ : Shape := ⟨0, ![]⟩

class Facts : Prop where
  bcast_S_S2x8192x512 : S_.BroadcastsInDim S2x8192x512 (![] : Fin 0 → Fin S2x8192x512.rank)
  bcast_S_S1x8x15x31 : S_.BroadcastsInDim S1x8x15x31 (![] : Fin 0 → Fin S1x8x15x31.rank)

variable [Facts]

def fn {F : FTy → Type} [FloatOps F] (main_arg0 : FVec F S2x8192x1024 .f32) (main_arg1 : FVec F S2x8192x512 .f32) (main_arg2 : FVec F S2x8192x512 .f32) (main_arg3 : FVec F S2x8192x512 .f32) (main_arg4 : FVec F S2x8192x512 .f32) (main_arg5 : FVec F S2x8192x512 .f32) (main_arg6 : FVec F S2x8192x2048 .f32) (main_arg7 : FVec F S1x2048 .f32) (main_arg8 : FVec F S1x8x15x31 .f32) (main_arg9 : FVec F S1x3x512 .f32) (main_arg10 : FVec F S1x512x1024 .f32) (main_arg11 : FVec F S1x512x1024 .f32) (main_arg12 : FVec F S1x1024x1024 .f32) (main_arg13 : FVec F S1x1024 .f32) (main_arg14 : FVec F S1x1024x5632 .f32) (main_arg15 : FVec F S1x2816x1024 .f32) (main_arg16 : FVec F S1024 .f32) : IVec S2x8192x512 1 × IVec S2x8192x512 1 × IVec S1x8x15x31 1 :=
  let main_v0 : FVec F S2x8192x512 .f32 := Host.absf main_arg1
  let main_cst : FVec F S_ .f32 := constant S_ .f32 0x7F800000#32
  let main_v1 : FVec F S2x8192x512 .f32 := broadcastInDim S2x8192x512 ![] bcast_S_S2x8192x512 main_cst
  let main_v2 : IVec S2x8192x512 1 := cmpf .olt main_v0 main_v1
  let main_v3 : FVec F S2x8192x512 .f32 := Host.absf main_arg2
  let main_cst_0 : FVec F S_ .f32 := constant S_ .f32 0x7F800000#32
  let main_v4 : FVec F S2x8192x512 .f32 := broadcastInDim S2x8192x512 ![] bcast_S_S2x8192x512 main_cst_0
  let main_v5 : IVec S2x8192x512 1 := cmpf .olt main_v3 main_v4
  let main_v6 : FVec F S1x8x15x31 .f32 := Host.absf main_arg8
  let main_cst_1 : FVec F S_ .f32 := constant S_ .f32 0x7F800000#32
  let main_v7 : FVec F S1x8x15x31 .f32 := broadcastInDim S1x8x15x31 ![] bcast_S_S1x8x15x31 main_cst_1
  let main_v8 : IVec S1x8x15x31 1 := cmpf .olt main_v6 main_v7
  (main_v2, main_v5, main_v8)
-- ==== Pre_finite_prompt.lean ====
abbrev S8x8192x1024 : Shape := ⟨3, ![8, 8192, 1024]⟩
abbrev S8x8192x512 : Shape := ⟨3, ![8, 8192, 512]⟩
abbrev S8x8192x2048 : Shape := ⟨3, ![8, 8192, 2048]⟩
abbrev S1x2048 : Shape := ⟨2, ![1, 2048]⟩
abbrev S1x8x15x31 : Shape := ⟨4, ![1, 8, 15, 31]⟩
abbrev S1x3x512 : Shape := ⟨3, ![1, 3, 512]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S_ : Shape := ⟨0, ![]⟩

class Facts : Prop where
  bcast_S_S8x8192x512 : S_.BroadcastsInDim S8x8192x512 (![] : Fin 0 → Fin S8x8192x512.rank)
  bcast_S_S1x8x15x31 : S_.BroadcastsInDim S1x8x15x31 (![] : Fin 0 → Fin S1x8x15x31.rank)

variable [Facts]

def fn {F : FTy → Type} [FloatOps F] (main_arg0 : FVec F S8x8192x1024 .f32) (main_arg1 : FVec F S8x8192x512 .f32) (main_arg2 : FVec F S8x8192x512 .f32) (main_arg3 : FVec F S8x8192x512 .f32) (main_arg4 : FVec F S8x8192x512 .f32) (main_arg5 : FVec F S8x8192x512 .f32) (main_arg6 : FVec F S8x8192x2048 .f32) (main_arg7 : FVec F S1x2048 .f32) (main_arg8 : FVec F S1x8x15x31 .f32) (main_arg9 : FVec F S1x3x512 .f32) (main_arg10 : FVec F S1x512x1024 .f32) (main_arg11 : FVec F S1x512x1024 .f32) (main_arg12 : FVec F S1x1024x1024 .f32) (main_arg13 : FVec F S1x1024 .f32) (main_arg14 : FVec F S1x1024x5632 .f32) (main_arg15 : FVec F S1x2816x1024 .f32) (main_arg16 : FVec F S1024 .f32) : IVec S8x8192x512 1 × IVec S8x8192x512 1 × IVec S1x8x15x31 1 :=
  let main_v0 : FVec F S8x8192x512 .f32 := Host.absf main_arg1
  let main_cst : FVec F S_ .f32 := constant S_ .f32 0x7F800000#32
  let main_v1 : FVec F S8x8192x512 .f32 := broadcastInDim S8x8192x512 ![] bcast_S_S8x8192x512 main_cst
  let main_v2 : IVec S8x8192x512 1 := cmpf .olt main_v0 main_v1
  let main_v3 : FVec F S8x8192x512 .f32 := Host.absf main_arg2
  let main_cst_0 : FVec F S_ .f32 := constant S_ .f32 0x7F800000#32
  let main_v4 : FVec F S8x8192x512 .f32 := broadcastInDim S8x8192x512 ![] bcast_S_S8x8192x512 main_cst_0
  let main_v5 : IVec S8x8192x512 1 := cmpf .olt main_v3 main_v4
  let main_v6 : FVec F S1x8x15x31 .f32 := Host.absf main_arg8
  let main_cst_1 : FVec F S_ .f32 := constant S_ .f32 0x7F800000#32
  let main_v7 : FVec F S1x8x15x31 .f32 := broadcastInDim S1x8x15x31 ![] bcast_S_S1x8x15x31 main_cst_1
  let main_v8 : IVec S1x8x15x31 1 := cmpf .olt main_v6 main_v7
  (main_v2, main_v5, main_v8)
-- ==== Kernel.lean ====
abbrev S2x8192x1024 : Shape := ⟨3, ![2, 8192, 1024]⟩
abbrev S2x8192x512 : Shape := ⟨3, ![2, 8192, 512]⟩
abbrev S2x8192x2048 : Shape := ⟨3, ![2, 8192, 2048]⟩
abbrev S1x2048 : Shape := ⟨2, ![1, 2048]⟩
abbrev S1x8x15x31 : Shape := ⟨4, ![1, 8, 15, 31]⟩
abbrev S1x3x512 : Shape := ⟨3, ![1, 3, 512]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S64x64 : Shape := ⟨2, ![64, 64]⟩
abbrev S1x1x64x64 : Shape := ⟨4, ![1, 1, 64, 64]⟩
abbrev S8x15x31 : Shape := ⟨3, ![8, 15, 31]⟩
abbrev S_ : Shape := ⟨0, ![]⟩
abbrev S8x15x127 : Shape := ⟨3, ![8, 15, 127]⟩
abbrev S1x8x1x15x1x127 : Shape := ⟨6, ![1, 8, 1, 15, 1, 127]⟩
abbrev S1x8x1x15x65x127 : Shape := ⟨6, ![1, 8, 1, 15, 65, 127]⟩
abbrev S8x15x8255 : Shape := ⟨3, ![8, 15, 8255]⟩
abbrev S8x15x8192 : Shape := ⟨3, ![8, 15, 8192]⟩
abbrev S8x15x64x128 : Shape := ⟨4, ![8, 15, 64, 128]⟩
abbrev S8x15x64x64 : Shape := ⟨4, ![8, 15, 64, 64]⟩
abbrev S8x64x15x64 : Shape := ⟨4, ![8, 64, 15, 64]⟩
abbrev S4x128x960 : Shape := ⟨3, ![4, 128, 960]⟩
abbrev S4x128x896 : Shape := ⟨3, ![4, 128, 896]⟩
abbrev S4x128x7x128 : Shape := ⟨4, ![4, 128, 7, 128]⟩
abbrev S4x7x128x128 : Shape := ⟨4, ![4, 7, 128, 128]⟩
abbrev S1x4x7x128x128 : Shape := ⟨5, ![1, 4, 7, 128, 128]⟩
abbrev S2x4x7x128x128 : Shape := ⟨5, ![2, 4, 7, 128, 128]⟩
abbrev S2048 : Shape := ⟨1, ![2048]⟩
abbrev S3x512 : Shape := ⟨2, ![3, 512]⟩
abbrev S512x1024 : Shape := ⟨2, ![512, 1024]⟩
abbrev S1024x1024 : Shape := ⟨2, ![1024, 1024]⟩
abbrev S1024x5632 : Shape := ⟨2, ![1024, 5632]⟩
abbrev S2816x1024 : Shape := ⟨2, ![2816, 1024]⟩
abbrev S1x512x512 : Shape := ⟨3, ![1, 512, 512]⟩
abbrev S1x1024x512 : Shape := ⟨3, ![1, 1024, 512]⟩
abbrev S1x16x512 : Shape := ⟨3, ![1, 16, 512]⟩
abbrev S1x512x2048 : Shape := ⟨3, ![1, 512, 2048]⟩
abbrev S8x128x512 : Shape := ⟨3, ![8, 128, 512]⟩
abbrev S8x128x128 : Shape := ⟨3, ![8, 128, 128]⟩
abbrev S512x512 : Shape := ⟨2, ![512, 512]⟩
abbrev S1x1x512 : Shape := ⟨3, ![1, 1, 512]⟩
abbrev S1x512 : Shape := ⟨2, ![1, 512]⟩
abbrev S512x2048 : Shape := ⟨2, ![512, 2048]⟩
abbrev S512 : Shape := ⟨1, ![512]⟩
abbrev S512x1 : Shape := ⟨2, ![512, 1]⟩
abbrev S1024x512 : Shape := ⟨2, ![1024, 512]⟩
abbrev S64x128 : Shape := ⟨2, ![64, 128]⟩
abbrev S1x64x128 : Shape := ⟨3, ![1, 64, 128]⟩
abbrev S1x512x128 : Shape := ⟨3, ![1, 512, 128]⟩
abbrev S512x128 : Shape := ⟨2, ![512, 128]⟩
abbrev S128x128 : Shape := ⟨2, ![128, 128]⟩
abbrev S128x512 : Shape := ⟨2, ![128, 512]⟩
abbrev S1x1x1x128x128 : Shape := ⟨5, ![1, 1, 1, 128, 128]⟩
abbrev S1x128x512 : Shape := ⟨3, ![1, 128, 512]⟩
abbrev S128 : Shape := ⟨1, ![128]⟩
abbrev S128x1 : Shape := ⟨2, ![128, 1]⟩
abbrev S1x128x128 : Shape := ⟨3, ![1, 128, 128]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 69
  | .vmem => 35
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .f32⟩
  | .hbm, ⟨2, _⟩ => ⟨S2x8192x512, .f32⟩
  | .hbm, ⟨3, _⟩ => ⟨S2x8192x512, .f32⟩
  | .hbm, ⟨4, _⟩ => ⟨S2x8192x512, .f32⟩
  | .hbm, ⟨5, _⟩ => ⟨S2x8192x512, .f32⟩
  | .hbm, ⟨6, _⟩ => ⟨S2x8192x2048, .f32⟩
  | .hbm, ⟨7, _⟩ => ⟨S1x2048, .f32⟩
  | .hbm, ⟨8, _⟩ => ⟨S1x8x15x31, .f32⟩
  | .hbm, ⟨9, _⟩ => ⟨S1x3x512, .f32⟩
  | .hbm, ⟨10, _⟩ => ⟨S1x512x1024, .f32⟩
  | .hbm, ⟨11, _⟩ => ⟨S1x512x1024, .f32⟩
  | .hbm, ⟨12, _⟩ => ⟨S1x1024x1024, .f32⟩
  | .hbm, ⟨13, _⟩ => ⟨S1x1024, .f32⟩
  | .hbm, ⟨14, _⟩ => ⟨S1x1024x5632, .f32⟩
  | .hbm, ⟨15, _⟩ => ⟨S1x2816x1024, .f32⟩
  | .hbm, ⟨16, _⟩ => ⟨S1024, .f32⟩
  | .hbm, ⟨17, _⟩ => ⟨S64x64, .i1⟩
  | .hbm, ⟨18, _⟩ => ⟨S1x1x64x64, .i1⟩
  | .hbm, ⟨19, _⟩ => ⟨S8x15x31, .f32⟩
  | .hbm, ⟨20, _⟩ => ⟨S_, .i32⟩
  | .hbm, ⟨21, _⟩ => ⟨S_, .f32⟩
  | .hbm, ⟨22, _⟩ => ⟨S8x15x127, .f32⟩
  | .hbm, ⟨23, _⟩ => ⟨S1x8x1x15x1x127, .f32⟩
  | .hbm, ⟨24, _⟩ => ⟨S1x8x1x15x65x127, .f32⟩
  | .hbm, ⟨25, _⟩ => ⟨S8x15x8255, .f32⟩
  | .hbm, ⟨26, _⟩ => ⟨S8x15x8192, .f32⟩
  | .hbm, ⟨27, _⟩ => ⟨S8x15x64x128, .f32⟩
  | .hbm, ⟨28, _⟩ => ⟨S8x15x64x64, .f32⟩
  | .hbm, ⟨29, _⟩ => ⟨S8x15x64x64, .f32⟩
  | .hbm, ⟨30, _⟩ => ⟨S_, .f32⟩
  | .hbm, ⟨31, _⟩ => ⟨S_, .f32⟩
  | .hbm, ⟨32, _⟩ => ⟨S8x15x64x64, .i1⟩
  | .hbm, ⟨33, _⟩ => ⟨S8x15x64x64, .f32⟩
  | .hbm, ⟨34, _⟩ => ⟨S8x15x64x64, .f32⟩
  | .hbm, ⟨35, _⟩ => ⟨S8x64x15x64, .f32⟩
  | .hbm, ⟨36, _⟩ => ⟨S4x128x960, .f32⟩
  | .hbm, ⟨37, _⟩ => ⟨S4x128x896, .f32⟩
  | .hbm, ⟨38, _⟩ => ⟨S4x128x7x128, .f32⟩
  | .hbm, ⟨39, _⟩ => ⟨S4x7x128x128, .f32⟩
  | .hbm, ⟨40, _⟩ => ⟨S4x128x896, .f32⟩
  | .hbm, ⟨41, _⟩ => ⟨S4x128x7x128, .f32⟩
  | .hbm, ⟨42, _⟩ => ⟨S4x7x128x128, .f32⟩
  | .hbm, ⟨43, _⟩ => ⟨S1x4x7x128x128, .f32⟩
  | .hbm, ⟨44, _⟩ => ⟨S1x4x7x128x128, .f32⟩
  | .hbm, ⟨45, _⟩ => ⟨S2x4x7x128x128, .f32⟩
  | .hbm, ⟨46, _⟩ => ⟨S2048, .f32⟩
  | .hbm, ⟨47, _⟩ => ⟨S1x2048, .f32⟩
  | .hbm, ⟨48, _⟩ => ⟨S3x512, .f32⟩
  | .hbm, ⟨49, _⟩ => ⟨S512x1024, .f32⟩
  | .hbm, ⟨50, _⟩ => ⟨S512x1024, .bf16⟩
  | .hbm, ⟨51, _⟩ => ⟨S512x1024, .f32⟩
  | .hbm, ⟨52, _⟩ => ⟨S512x1024, .bf16⟩
  | .hbm, ⟨53, _⟩ => ⟨S1024x1024, .f32⟩
  | .hbm, ⟨54, _⟩ => ⟨S1024x1024, .bf16⟩
  | .hbm, ⟨55, _⟩ => ⟨S1024, .f32⟩
  | .hbm, ⟨56, _⟩ => ⟨S1x1024, .f32⟩
  | .hbm, ⟨57, _⟩ => ⟨S1024x5632, .f32⟩
  | .hbm, ⟨58, _⟩ => ⟨S1024x5632, .bf16⟩
  | .hbm, ⟨59, _⟩ => ⟨S2816x1024, .f32⟩
  | .hbm, ⟨60, _⟩ => ⟨S2816x1024, .bf16⟩
  | .hbm, ⟨61, _⟩ => ⟨S1x1024, .f32⟩
  | .hbm, ⟨62, _⟩ => ⟨S2x8192x512, .bf16⟩
  | .hbm, ⟨63, _⟩ => ⟨S2x8192x512, .bf16⟩
  | .hbm, ⟨64, _⟩ => ⟨S2x8192x512, .bf16⟩
  | .hbm, ⟨65, _⟩ => ⟨S2x8192x512, .bf16⟩
  | .hbm, ⟨66, _⟩ => ⟨S2x8192x512, .bf16⟩
  | .hbm, ⟨67, _⟩ => ⟨S2x8192x2048, .bf16⟩
  | .hbm, ⟨68, _⟩ => ⟨S2x8192x1024, .f32⟩
  | .local _ .vmem, ⟨0, _⟩ => ⟨S1x512x512, .bf16⟩
  | .local _ .vmem, ⟨1, _⟩ => ⟨S1x512x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S2x4x7x128x128, .f32⟩
  | .local _ .vmem, ⟨7, _⟩ => ⟨S1x512x1024, .f32⟩
  | .local _ .vmem, ⟨8, _⟩ => ⟨S1x512x1024, .f32⟩
  | .local _ .vmem, ⟨9, _⟩ => ⟨S1x512x512, .bf16⟩
  | .local _ .vmem, ⟨10, _⟩ => ⟨S1x512x512, .bf16⟩
  | .local _ .vmem, ⟨11, _⟩ => ⟨S1x16x512, .bf16⟩
  | .local _ .vmem, ⟨12, _⟩ => ⟨S1x16x512, .bf16⟩
  | .local _ .vmem, ⟨13, _⟩ => ⟨S1x16x512, .bf16⟩
  | .local _ .vmem, ⟨14, _⟩ => ⟨S1x16x512, .bf16⟩
  | .local _ .vmem, ⟨15, _⟩ => ⟨S1x512x512, .bf16⟩
  | .local _ .vmem, ⟨16, _⟩ => ⟨S1x512x512, .bf16⟩
  | .local _ .vmem, ⟨17, _⟩ => ⟨S1x512x2048, .bf16⟩
  | .local _ .vmem, ⟨18, _⟩ => ⟨S1x512x2048, .bf16⟩
  | .local _ .vmem, ⟨19, _⟩ => ⟨S1x2048, .f32⟩
  | .local _ .vmem, ⟨20, _⟩ => ⟨S3x512, .f32⟩
  | .local _ .vmem, ⟨21, _⟩ => ⟨S512x1024, .bf16⟩
  | .local _ .vmem, ⟨22, _⟩ => ⟨S512x1024, .bf16⟩
  | .local _ .vmem, ⟨23, _⟩ => ⟨S1024x1024, .bf16⟩
  | .local _ .vmem, ⟨24, _⟩ => ⟨S1x1024, .f32⟩
  | .local _ .vmem, ⟨25, _⟩ => ⟨S1024x5632, .bf16⟩
  | .local _ .vmem, ⟨26, _⟩ => ⟨S2816x1024, .bf16⟩
  | .local _ .vmem, ⟨27, _⟩ => ⟨S1x1024, .f32⟩
  | .local _ .vmem, ⟨28, _⟩ => ⟨S1x512x1024, .f32⟩
  | .local _ .vmem, ⟨29, _⟩ => ⟨S1x512x1024, .f32⟩
  | .local _ .vmem, ⟨30, _⟩ => ⟨S8x128x512, .f32⟩
  | .local _ .vmem, ⟨31, _⟩ => ⟨S8x128x512, .bf16⟩
  | .local _ .vmem, ⟨32, _⟩ => ⟨S8x128x128, .f32⟩
  | .local _ .vmem, ⟨33, _⟩ => ⟨S512x512, .bf16⟩
  | .local _ .vmem, ⟨34, _⟩ => ⟨S512x512, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_c : Ref sig .tc := ⟨.hbm, 17, rfl⟩
abbrev main_v0 : Ref sig .tc := ⟨.hbm, 18, rfl⟩
abbrev main_v1 : Ref sig .tc := ⟨.hbm, 19, rfl⟩
abbrev main_c_0 : Ref sig .tc := ⟨.hbm, 20, rfl⟩
abbrev main_call0_v0 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_cst : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg18_0 : Ref sig .tc := ⟨.vmem, 27, rfl⟩
abbrev cc0_stg19_0 : Ref sig .tc := ⟨.vmem, 28, rfl⟩
abbrev cc0_stg19_1 : Ref sig .tc := ⟨.vmem, 29, rfl⟩
abbrev cc0_scratch0 : Ref sig .tc := ⟨.vmem, 30, rfl⟩
abbrev cc0_scratch1 : Ref sig .tc := ⟨.vmem, 31, rfl⟩
abbrev cc0_scratch2 : Ref sig .tc := ⟨.vmem, 32, rfl⟩
abbrev cc0_scratch3 : Ref sig .tc := ⟨.vmem, 33, rfl⟩
abbrev cc0_scratch4 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem17_0 : DmaSem sig := 26
abbrev cc0_sem18_0 : DmaSem sig := 27
abbrev cc0_sem19_0 : DmaSem sig := 28
abbrev cc0_sem19_1 : DmaSem sig := 29

abbrev nD : Nat := 1
abbrev τ : Topo := Topo.v7x

variable {F : FTy → Type} [FloatOps F]

abbrev grid0 : Pipeline.Grid := ⟨1, ![33], ![false]⟩

def k0_mult1 (i : grid0.Coords) : BitVec 32 :=
  let c7168_i32 : BitVec 32 := 7168#32
  let c0_i32_10 : BitVec 32 := 0#32
  let arg0 : BitVec 32 := BitVec.ofNat 32 (i 0).val
  let c31_i32 : BitVec 32 := 31#32
  let v0 : BitVec 32 := Scalar.minsi arg0 c31_i32
  let c16_i32_4 : BitVec 32 := 16#32
  let c0_i32_5 : BitVec 32 := 0#32
  let v18 : BitVec 1 := Scalar.cmpi .eq c16_i32_4 c0_i32_5
  let c1_i32_6 : BitVec 32 := 1#32
  let v19 : BitVec 32 := Scalar.select v18 c1_i32_6 c16_i32_4
  let v20 : BitVec 32 := Scalar.remsi v0 v19
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let c0_i32_7 : BitVec 32 := 0#32
  let v21 : BitVec 1 := Scalar.cmpi .ne v20 c0_i32_7
  let v25 : BitVec 1 := Scalar.andi v24 v21
  let v26 : BitVec 32 := Scalar.addi v20 v19
  let v27 : BitVec 32 := Scalar.select v25 v26 v20
  let c512_i32 : BitVec 32 := 512#32
  let v28 : BitVec 32 := Scalar.muli v27 c512_i32
  let c256_i32 : BitVec 32 := 256#32
  let v29 : BitVec 32 := Scalar.subi v28 c256_i32
  let v30 : BitVec 32 := Scalar.maxsi c0_i32_10 v29
  let v31 : BitVec 32 := Scalar.minsi c7168_i32 v30
  v31
def k0_mult2 (i : grid0.Coords) : BitVec 32 :=
  let c7168_i32 : BitVec 32 := 7168#32
  let c0_i32_10 : BitVec 32 := 0#32
  let arg0 : BitVec 32 := BitVec.ofNat 32 (i 0).val
  let c31_i32 : BitVec 32 := 31#32
  let v0 : BitVec 32 := Scalar.minsi arg0 c31_i32
  let c16_i32_4 : BitVec 32 := 16#32
  let c0_i32_5 : BitVec 32 := 0#32
  let v18 : BitVec 1 := Scalar.cmpi .eq c16_i32_4 c0_i32_5
  let c1_i32_6 : BitVec 32 := 1#32
  let v19 : BitVec 32 := Scalar.select v18 c1_i32_6 c16_i32_4
  let v20 : BitVec 32 := Scalar.remsi v0 v19
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let c0_i32_7 : BitVec 32 := 0#32
  let v21 : BitVec 1 := Scalar.cmpi .ne v20 c0_i32_7
  let v25 : BitVec 1 := Scalar.andi v24 v21
  let v26 : BitVec 32 := Scalar.addi v20 v19
  let v27 : BitVec 32 := Scalar.select v25 v26 v20
  let c512_i32 : BitVec 32 := 512#32
  let v28 : BitVec 32 := Scalar.muli v27 c512_i32
  let c256_i32 : BitVec 32 := 256#32
  let v29 : BitVec 32 := Scalar.subi v28 c256_i32
  let v30 : BitVec 32 := Scalar.maxsi c0_i32_10 v29
  let v31 : BitVec 32 := Scalar.minsi c7168_i32 v30
  v31
def k0_mult3 (i : grid0.Coords) : BitVec 32 :=
  let c120_i32 : BitVec 32 := 120#32
  let c0_i32_73 : BitVec 32 := 0#32
  let arg0 : BitVec 32 := BitVec.ofNat 32 (i 0).val
  let c31_i32 : BitVec 32 := 31#32
  let v7 : BitVec 32 := Scalar.minsi arg0 c31_i32
  let c16_i32 : BitVec 32 := 16#32
  let c0_i32_4 : BitVec 32 := 0#32
  let v8 : BitVec 1 := Scalar.cmpi .eq c16_i32 c0_i32_4
  let c1_i32 : BitVec 32 := 1#32
  let v9 : BitVec 32 := Scalar.select v8 c1_i32 c16_i32
  let v10 : BitVec 32 := Scalar.remsi v7 v9
  let c0_i32_6 : BitVec 32 := 0#32
  let v12 : BitVec 1 := Scalar.cmpi .slt v10 c0_i32_6
  let c0_i32_7 : BitVec 32 := 0#32
  let v13 : BitVec 1 := Scalar.cmpi .slt v9 c0_i32_7
  let v14 : BitVec 1 := Scalar.xori v12 v13
  let c0_i32_5 : BitVec 32 := 0#32
  let v11 : BitVec 1 := Scalar.cmpi .ne v10 c0_i32_5
  let v15 : BitVec 1 := Scalar.andi v14 v11
  let v16 : BitVec 32 := Scalar.addi v10 v9
  let v17 : BitVec 32 := Scalar.select v15 v16 v10
  let c8_i32 : BitVec 32 := 8#32
  let v150 : BitVec 32 := Scalar.muli v17 c8_i32
  let c0_i32_72 : BitVec 32 := 0#32
  let v151 : BitVec 32 := Scalar.addi v150 c0_i32_72
  let c4_i32 : BitVec 32 := 4#32
  let v152 : BitVec 32 := Scalar.subi v151 c4_i32
  let v153 : BitVec 32 := Scalar.maxsi c0_i32_73 v152
  let v154 : BitVec 32 := Scalar.minsi c120_i32 v153
  let c64_i32_74 : BitVec 32 := 64#32
  let v157 : BitVec 32 := Scalar.muli v154 c64_i32_74
  let c7168_i32 : BitVec 32 := 7168#32
  let c0_i32_75 : BitVec 32 := 0#32
  let c512_i32 : BitVec 32 := 512#32
  let v158 : BitVec 32 := Scalar.muli v17 c512_i32
  let c256_i32 : BitVec 32 := 256#32
  let v159 : BitVec 32 := Scalar.subi v158 c256_i32
  let v160 : BitVec 32 := Scalar.maxsi c0_i32_75 v159
  let v161 : BitVec 32 := Scalar.minsi c7168_i32 v160
  let v162 : BitVec 32 := Scalar.subi v157 v161
  v162
def k0_mult4 (i : grid0.Coords) : BitVec 32 :=
  let c120_i32_81 : BitVec 32 := 120#32
  let c0_i32_80 : BitVec 32 := 0#32
  let arg0 : BitVec 32 := BitVec.ofNat 32 (i 0).val
  let c31_i32 : BitVec 32 := 31#32
  let v7 : BitVec 32 := Scalar.minsi arg0 c31_i32
  let c16_i32 : BitVec 32 := 16#32
  let c0_i32_4 : BitVec 32 := 0#32
  let v8 : BitVec 1 := Scalar.cmpi .eq c16_i32 c0_i32_4
  let c1_i32 : BitVec 32 := 1#32
  let v9 : BitVec 32 := Scalar.select v8 c1_i32 c16_i32
  let v10 : BitVec 32 := Scalar.remsi v7 v9
  let c0_i32_6 : BitVec 32 := 0#32
  let v12 : BitVec 1 := Scalar.cmpi .slt v10 c0_i32_6
  let c0_i32_7 : BitVec 32 := 0#32
  let v13 : BitVec 1 := Scalar.cmpi .slt v9 c0_i32_7
  let v14 : BitVec 1 := Scalar.xori v12 v13
  let c0_i32_5 : BitVec 32 := 0#32
  let v11 : BitVec 1 := Scalar.cmpi .ne v10 c0_i32_5
  let v15 : BitVec 1 := Scalar.andi v14 v11
  let v16 : BitVec 32 := Scalar.addi v10 v9
  let v17 : BitVec 32 := Scalar.select v15 v16 v10
  let c8_i32 : BitVec 32 := 8#32
  let v150 : BitVec 32 := Scalar.muli v17 c8_i32
  let c1_i32_78 : BitVec 32 := 1#32
  let v166 : BitVec 32 := Scalar.addi v150 c1_i32_78
  let c4_i32_79 : BitVec 32 := 4#32
  let v167 : BitVec 32 := Scalar.subi v166 c4_i32_79
  let v168 : BitVec 32 := Scalar.maxsi c0_i32_80 v167
  let v169 : BitVec 32 := Scalar.minsi c120_i32_81 v168
  let c64_i32_83 : BitVec 32 := 64#32
  let v172 : BitVec 32 := Scalar.muli v169 c64_i32_83
  let c7168_i32_87 : BitVec 32 := 7168#32
  let c0_i32_86 : BitVec 32 := 0#32
  let c512_i32_84 : BitVec 32 := 512#32
  let v173 : BitVec 32 := Scalar.muli v17 c512_i32_84
  let c256_i32_85 : BitVec 32 := 256#32
  let v174 : BitVec 32 := Scalar.subi v173 c256_i32_85
  let v175 : BitVec 32 := Scalar.maxsi c0_i32_86 v174
  let v176 : BitVec 32 := Scalar.minsi c7168_i32_87 v175
  let v177 : BitVec 32 := Scalar.subi v172 v176
  v177
def k0_off1 (i : grid0.Coords) (c0_i32_72 : BitVec 32) : Fin 3 → Nat :=
  let c0_93 : Index := 0#32
  let c120_i32 : BitVec 32 := 120#32
  let c0_i32_73 : BitVec 32 := 0#32
  let arg0 : BitVec 32 := BitVec.ofNat 32 (i 0).val
  let c31_i32 : BitVec 32 := 31#32
  let v7 : BitVec 32 := Scalar.minsi arg0 c31_i32
  let c16_i32 : BitVec 32 := 16#32
  let c0_i32_4 : BitVec 32 := 0#32
  let v8 : BitVec 1 := Scalar.cmpi .eq c16_i32 c0_i32_4
  let c1_i32 : BitVec 32 := 1#32
  let v9 : BitVec 32 := Scalar.select v8 c1_i32 c16_i32
  let v10 : BitVec 32 := Scalar.remsi v7 v9
  let c0_i32_6 : BitVec 32 := 0#32
  let v12 : BitVec 1 := Scalar.cmpi .slt v10 c0_i32_6
  let c0_i32_7 : BitVec 32 := 0#32
  let v13 : BitVec 1 := Scalar.cmpi .slt v9 c0_i32_7
  let v14 : BitVec 1 := Scalar.xori v12 v13
  let c0_i32_5 : BitVec 32 := 0#32
  let v11 : BitVec 1 := Scalar.cmpi .ne v10 c0_i32_5
  let v15 : BitVec 1 := Scalar.andi v14 v11
  let v16 : BitVec 32 := Scalar.addi v10 v9
  let v17 : BitVec 32 := Scalar.select v15 v16 v10
  let c8_i32 : BitVec 32 := 8#32
  let v150 : BitVec 32 := Scalar.muli v17 c8_i32
  let v151 : BitVec 32 := Scalar.addi v150 c0_i32_72
  let c4_i32 : BitVec 32 := 4#32
  let v152 : BitVec 32 := Scalar.subi v151 c4_i32
  let v153 : BitVec 32 := Scalar.maxsi c0_i32_73 v152
  let v154 : BitVec 32 := Scalar.minsi c120_i32 v153
  let c64_i32_74 : BitVec 32 := 64#32
  let v157 : BitVec 32 := Scalar.muli v154 c64_i32_74
  let c7168_i32 : BitVec 32 := 7168#32
  let c0_i32_75 : BitVec 32 := 0#32
  let c512_i32 : BitVec 32 := 512#32
  let v158 : BitVec 32 := Scalar.muli v17 c512_i32
  let c256_i32 : BitVec 32 := 256#32
  let v159 : BitVec 32 := Scalar.subi v158 c256_i32
  let v160 : BitVec 32 := Scalar.maxsi c0_i32_75 v159
  let v161 : BitVec 32 := Scalar.minsi c7168_i32 v160
  let v162 : BitVec 32 := Scalar.subi v157 v161
  let v163 : BitVec 32 := v162
  let v183 : Index := Scalar.indexCast v163
  let c0_94 : Index := 0#32
  ![0, v183.toNat, 0]
def k0_off2 (i : grid0.Coords) (c0_i32_72 : BitVec 32) (c0_i32_97 : BitVec 32) : Fin 5 → Nat :=
  let c7_i32 : BitVec 32 := 7#32
  let arg0 : BitVec 32 := BitVec.ofNat 32 (i 0).val
  let c31_i32 : BitVec 32 := 31#32
  let v7 : BitVec 32 := Scalar.minsi arg0 c31_i32
  let c16_i32 : BitVec 32 := 16#32
  let c0_i32_4 : BitVec 32 := 0#32
  let v8 : BitVec 1 := Scalar.cmpi .eq c16_i32 c0_i32_4
  let c1_i32 : BitVec 32 := 1#32
  let v9 : BitVec 32 := Scalar.select v8 c1_i32 c16_i32
  let v10 : BitVec 32 := Scalar.remsi v7 v9
  let c0_i32_6 : BitVec 32 := 0#32
  let v12 : BitVec 1 := Scalar.cmpi .slt v10 c0_i32_6
  let c0_i32_7 : BitVec 32 := 0#32
  let v13 : BitVec 1 := Scalar.cmpi .slt v9 c0_i32_7
  let v14 : BitVec 1 := Scalar.xori v12 v13
  let c0_i32_5 : BitVec 32 := 0#32
  let v11 : BitVec 1 := Scalar.cmpi .ne v10 c0_i32_5
  let v15 : BitVec 1 := Scalar.andi v14 v11
  let v16 : BitVec 32 := Scalar.addi v10 v9
  let v17 : BitVec 32 := Scalar.select v15 v16 v10
  let c8_i32 : BitVec 32 := 8#32
  let v150 : BitVec 32 := Scalar.muli v17 c8_i32
  let v151 : BitVec 32 := Scalar.addi v150 c0_i32_72
  let c120_i32 : BitVec 32 := 120#32
  let c0_i32_73 : BitVec 32 := 0#32
  let c4_i32 : BitVec 32 := 4#32
  let v152 : BitVec 32 := Scalar.subi v151 c4_i32
  let v153 : BitVec 32 := Scalar.maxsi c0_i32_73 v152
  let v154 : BitVec 32 := Scalar.minsi c120_i32 v153
  let v155 : BitVec 32 := Scalar.subi v151 v154
  let v156 : BitVec 32 := Scalar.subi c7_i32 v155
  let c1_i32_76 : BitVec 32 := 1#32
  let v164 : BitVec 32 := Scalar.andi v156 c1_i32_76
  let v192 : Index := Scalar.indexCast v164
  let c0_98 : Index := 0#32
  let c1_i32_77 : BitVec 32 := 1#32
  let v165 : BitVec 32 := Scalar.shrsi v156 c1_i32_77
  let v191 : BitVec 32 := Scalar.addi v165 c0_i32_97
  let v193 : Index := Scalar.indexCast v191
  let c0_99 : Index := 0#32
  let c0_100 : Index := 0#32
  ![v192.toNat, 0, v193.toNat, 0, 0]
def k0_off3 (i : grid0.Coords) (c0_i32_72 : BitVec 32) : Fin 3 → Nat :=
  let c0_118 : Index := 0#32
  let c120_i32 : BitVec 32 := 120#32
  let c0_i32_73 : BitVec 32 := 0#32
  let arg0 : BitVec 32 := BitVec.ofNat 32 (i 0).val
  let c31_i32 : BitVec 32 := 31#32
  let v7 : BitVec 32 := Scalar.minsi arg0 c31_i32
  let c16_i32 : BitVec 32 := 16#32
  let c0_i32_4 : BitVec 32 := 0#32
  let v8 : BitVec 1 := Scalar.cmpi .eq c16_i32 c0_i32_4
  let c1_i32 : BitVec 32 := 1#32
  let v9 : BitVec 32 := Scalar.select v8 c1_i32 c16_i32
  let v10 : BitVec 32 := Scalar.remsi v7 v9
  let c0_i32_6 : BitVec 32 := 0#32
  let v12 : BitVec 1 := Scalar.cmpi .slt v10 c0_i32_6
  let c0_i32_7 : BitVec 32 := 0#32
  let v13 : BitVec 1 := Scalar.cmpi .slt v9 c0_i32_7
  let v14 : BitVec 1 := Scalar.xori v12 v13
  let c0_i32_5 : BitVec 32 := 0#32
  let v11 : BitVec 1 := Scalar.cmpi .ne v10 c0_i32_5
  let v15 : BitVec 1 := Scalar.andi v14 v11
  let v16 : BitVec 32 := Scalar.addi v10 v9
  let v17 : BitVec 32 := Scalar.select v15 v16 v10
  let c8_i32 : BitVec 32 := 8#32
  let v150 : BitVec 32 := Scalar.muli v17 c8_i32
  let v151 : BitVec 32 := Scalar.addi v150 c0_i32_72
  let c4_i32 : BitVec 32 := 4#32
  let v152 : BitVec 32 := Scalar.subi v151 c4_i32
  let v153 : BitVec 32 := Scalar.maxsi c0_i32_73 v152
  let v154 : BitVec 32 := Scalar.minsi c120_i32 v153
  let c64_i32_74 : BitVec 32 := 64#32
  let v157 : BitVec 32 := Scalar.muli v154 c64_i32_74
  let c7168_i32 : BitVec 32 := 7168#32
  let c0_i32_75 : BitVec 32 := 0#32
  let c512_i32 : BitVec 32 := 512#32
  let v158 : BitVec 32 := Scalar.muli v17 c512_i32
  let c256_i32 : BitVec 32 := 256#32
  let v159 : BitVec 32 := Scalar.subi v158 c256_i32
  let v160 : BitVec 32 := Scalar.maxsi c0_i32_75 v159
  let v161 : BitVec 32 := Scalar.minsi c7168_i32 v160
  let v162 : BitVec 32 := Scalar.subi v157 v161
  let v163 : BitVec 32 := v162
  let v222 : Index := Scalar.indexCast v163
  let c128_119 : Index := 128#32
  ![0, v222.toNat, 128]
def k0_off4 (i : grid0.Coords) (c0_i32_72 : BitVec 32) (c0_i32_122 : BitVec 32) : Fin 5 → Nat :=
  let c7_i32 : BitVec 32 := 7#32
  let arg0 : BitVec 32 := BitVec.ofNat 32 (i 0).val
  let c31_i32 : BitVec 32 := 31#32
  let v7 : BitVec 32 := Scalar.minsi arg0 c31_i32
  let c16_i32 : BitVec 32 := 16#32
  let c0_i32_4 : BitVec 32 := 0#32
  let v8 : BitVec 1 := Scalar.cmpi .eq c16_i32 c0_i32_4
  let c1_i32 : BitVec 32 := 1#32
  let v9 : BitVec 32 := Scalar.select v8 c1_i32 c16_i32
  let v10 : BitVec 32 := Scalar.remsi v7 v9
  let c0_i32_6 : BitVec 32 := 0#32
  let v12 : BitVec 1 := Scalar.cmpi .slt v10 c0_i32_6
  let c0_i32_7 : BitVec 32 := 0#32
  let v13 : BitVec 1 := Scalar.cmpi .slt v9 c0_i32_7
  let v14 : BitVec 1 := Scalar.xori v12 v13
  let c0_i32_5 : BitVec 32 := 0#32
  let v11 : BitVec 1 := Scalar.cmpi .ne v10 c0_i32_5
  let v15 : BitVec 1 := Scalar.andi v14 v11
  let v16 : BitVec 32 := Scalar.addi v10 v9
  let v17 : BitVec 32 := Scalar.select v15 v16 v10
  let c8_i32 : BitVec 32 := 8#32
  let v150 : BitVec 32 := Scalar.muli v17 c8_i32
  let v151 : BitVec 32 := Scalar.addi v150 c0_i32_72
  let c120_i32 : BitVec 32 := 120#32
  let c0_i32_73 : BitVec 32 := 0#32
  let c4_i32 : BitVec 32 := 4#32
  let v152 : BitVec 32 := Scalar.subi v151 c4_i32
  let v153 : BitVec 32 := Scalar.maxsi c0_i32_73 v152
  let v154 : BitVec 32 := Scalar.minsi c120_i32 v153
  let v155 : BitVec 32 := Scalar.subi v151 v154
  let v156 : BitVec 32 := Scalar.subi c7_i32 v155
  let c1_i32_76 : BitVec 32 := 1#32
  let v164 : BitVec 32 := Scalar.andi v156 c1_i32_76
  let v231 : Index := Scalar.indexCast v164
  let c1 : Index := 1#32
  let c1_i32_77 : BitVec 32 := 1#32
  let v165 : BitVec 32 := Scalar.shrsi v156 c1_i32_77
  let v230 : BitVec 32 := Scalar.addi v165 c0_i32_122
  let v232 : Index := Scalar.indexCast v230
  let c0_123 : Index := 0#32
  let c0_124 : Index := 0#32
  ![v231.toNat, 1, v232.toNat, 0, 0]
def k0_off5 (i : grid0.Coords) (c0_i32_72 : BitVec 32) : Fin 3 → Nat :=
  let c0_144 : Index := 0#32
  let c120_i32 : BitVec 32 := 120#32
  let c0_i32_73 : BitVec 32 := 0#32
  let arg0 : BitVec 32 := BitVec.ofNat 32 (i 0).val
  let c31_i32 : BitVec 32 := 31#32
  let v7 : BitVec 32 := Scalar.minsi arg0 c31_i32
  let c16_i32 : BitVec 32 := 16#32
  let c0_i32_4 : BitVec 32 := 0#32
  let v8 : BitVec 1 := Scalar.cmpi .eq c16_i32 c0_i32_4
  let c1_i32 : BitVec 32 := 1#32
  let v9 : BitVec 32 := Scalar.select v8 c1_i32 c16_i32
  let v10 : BitVec 32 := Scalar.remsi v7 v9
  let c0_i32_6 : BitVec 32 := 0#32
  let v12 : BitVec 1 := Scalar.cmpi .slt v10 c0_i32_6
  let c0_i32_7 : BitVec 32 := 0#32
  let v13 : BitVec 1 := Scalar.cmpi .slt v9 c0_i32_7
  let v14 : BitVec 1 := Scalar.xori v12 v13
  let c0_i32_5 : BitVec 32 := 0#32
  let v11 : BitVec 1 := Scalar.cmpi .ne v10 c0_i32_5
  let v15 : BitVec 1 := Scalar.andi v14 v11
  let v16 : BitVec 32 := Scalar.addi v10 v9
  let v17 : BitVec 32 := Scalar.select v15 v16 v10
  let c8_i32 : BitVec 32 := 8#32
  let v150 : BitVec 32 := Scalar.muli v17 c8_i32
  let v151 : BitVec 32 := Scalar.addi v150 c0_i32_72
  let c4_i32 : BitVec 32 := 4#32
  let v152 : BitVec 32 := Scalar.subi v151 c4_i32
  let v153 : BitVec 32 := Scalar.maxsi c0_i32_73 v152
  let v154 : BitVec 32 := Scalar.minsi c120_i32 v153
  let c64_i32_74 : BitVec 32 := 64#32
  let v157 : BitVec 32 := Scalar.muli v154 c64_i32_74
  let c7168_i32 : BitVec 32 := 7168#32
  let c0_i32_75 : BitVec 32 := 0#32
  let c512_i32 : BitVec 32 := 512#32
  let v158 : BitVec 32 := Scalar.muli v17 c512_i32
  let c256_i32 : BitVec 32 := 256#32
  let v159 : BitVec 32 := Scalar.subi v158 c256_i32
  let v160 : BitVec 32 := Scalar.maxsi c0_i32_75 v159
  let v161 : BitVec 32 := Scalar.minsi c7168_i32 v160
  let v162 : BitVec 32 := Scalar.subi v157 v161
  let v163 : BitVec 32 := v162
  let v261 : Index := Scalar.indexCast v163
  let c256_145 : Index := 256#32
  ![0, v261.toNat, 256]
def k0_off6 (i : grid0.Coords) (c0_i32_72 : BitVec 32) (c0_i32_148 : BitVec 32) : Fin 5 → Nat :=
  let c7_i32 : BitVec 32 := 7#32
  let arg0 : BitVec 32 := BitVec.ofNat 32 (i 0).val
  let c31_i32 : BitVec 32 := 31#32
  let v7 : BitVec 32 := Scalar.minsi arg0 c31_i32
  let c16_i32 : BitVec 32 := 16#32
  let c0_i32_4 : BitVec 32 := 0#32
  let v8 : BitVec 1 := Scalar.cmpi .eq c16_i32 c0_i32_4
  let c1_i32 : BitVec 32 := 1#32
  let v9 : BitVec 32 := Scalar.select v8 c1_i32 c16_i32
  let v10 : BitVec 32 := Scalar.remsi v7 v9
  let c0_i32_6 : BitVec 32 := 0#32
  let v12 : BitVec 1 := Scalar.cmpi .slt v10 c0_i32_6
  let c0_i32_7 : BitVec 32 := 0#32
  let v13 : BitVec 1 := Scalar.cmpi .slt v9 c0_i32_7
  let v14 : BitVec 1 := Scalar.xori v12 v13
  let c0_i32_5 : BitVec 32 := 0#32
  let v11 : BitVec 1 := Scalar.cmpi .ne v10 c0_i32_5
  let v15 : BitVec 1 := Scalar.andi v14 v11
  let v16 : BitVec 32 := Scalar.addi v10 v9
  let v17 : BitVec 32 := Scalar.select v15 v16 v10
  let c8_i32 : BitVec 32 := 8#32
  let v150 : BitVec 32 := Scalar.muli v17 c8_i32
  let v151 : BitVec 32 := Scalar.addi v150 c0_i32_72
  let c120_i32 : BitVec 32 := 120#32
  let c0_i32_73 : BitVec 32 := 0#32
  let c4_i32 : BitVec 32 := 4#32
  let v152 : BitVec 32 := Scalar.subi v151 c4_i32
  let v153 : BitVec 32 := Scalar.maxsi c0_i32_73 v152
  let v154 : BitVec 32 := Scalar.minsi c120_i32 v153
  let v155 : BitVec 32 := Scalar.subi v151 v154
  let v156 : BitVec 32 := Scalar.subi c7_i32 v155
  let c1_i32_76 : BitVec 32 := 1#32
  let v164 : BitVec 32 := Scalar.andi v156 c1_i32_76
  let v270 : Index := Scalar.indexCast v164
  let c2 : Index := 2#32
  let c1_i32_77 : BitVec 32 := 1#32
  let v165 : BitVec 32 := Scalar.shrsi v156 c1_i32_77
  let v269 : BitVec 32 := Scalar.addi v165 c0_i32_148
  let v271 : Index := Scalar.indexCast v269
  let c0_149 : Index := 0#32
  let c0_150 : Index := 0#32
  ![v270.toNat, 2, v271.toNat, 0, 0]
def k0_off7 (i : grid0.Coords) (c0_i32_72 : BitVec 32) : Fin 3 → Nat :=
  let c0_170 : Index := 0#32
  let c120_i32 : BitVec 32 := 120#32
  let c0_i32_73 : BitVec 32 := 0#32
  let arg0 : BitVec 32 := BitVec.ofNat 32 (i 0).val
  let c31_i32 : BitVec 32 := 31#32
  let v7 : BitVec 32 := Scalar.minsi arg0 c31_i32
  let c16_i32 : BitVec 32 := 16#32
  let c0_i32_4 : BitVec 32 := 0#32
  let v8 : BitVec 1 := Scalar.cmpi .eq c16_i32 c0_i32_4
  let c1_i32 : BitVec 32 := 1#32
  let v9 : BitVec 32 := Scalar.select v8 c1_i32 c16_i32
  let v10 : BitVec 32 := Scalar.remsi v7 v9
  let c0_i32_6 : BitVec 32 := 0#32
  let v12 : BitVec 1 := Scalar.cmpi .slt v10 c0_i32_6
  let c0_i32_7 : BitVec 32 := 0#32
  let v13 : BitVec 1 := Scalar.cmpi .slt v9 c0_i32_7
  let v14 : BitVec 1 := Scalar.xori v12 v13
  let c0_i32_5 : BitVec 32 := 0#32
  let v11 : BitVec 1 := Scalar.cmpi .ne v10 c0_i32_5
  let v15 : BitVec 1 := Scalar.andi v14 v11
  let v16 : BitVec 32 := Scalar.addi v10 v9
  let v17 : BitVec 32 := Scalar.select v15 v16 v10
  let c8_i32 : BitVec 32 := 8#32
  let v150 : BitVec 32 := Scalar.muli v17 c8_i32
  let v151 : BitVec 32 := Scalar.addi v150 c0_i32_72
  let c4_i32 : BitVec 32 := 4#32
  let v152 : BitVec 32 := Scalar.subi v151 c4_i32
  let v153 : BitVec 32 := Scalar.maxsi c0_i32_73 v152
  let v154 : BitVec 32 := Scalar.minsi c120_i32 v153
  let c64_i32_74 : BitVec 32 := 64#32
  let v157 : BitVec 32 := Scalar.muli v154 c64_i32_74
  let c7168_i32 : BitVec 32 := 7168#32
  let c0_i32_75 : BitVec 32 := 0#32
  let c512_i32 : BitVec 32 := 512#32
  let v158 : BitVec 32 := Scalar.muli v17 c512_i32
  let c256_i32 : BitVec 32 := 256#32
  let v159 : BitVec 32 := Scalar.subi v158 c256_i32
  let v160 : BitVec 32 := Scalar.maxsi c0_i32_75 v159
  let v161 : BitVec 32 := Scalar.minsi c7168_i32 v160
  let v162 : BitVec 32 := Scalar.subi v157 v161
  let v163 : BitVec 32 := v162
  let v300 : Index := Scalar.indexCast v163
  let c384_171 : Index := 384#32
  ![0, v300.toNat, 384]
def k0_off8 (i : grid0.Coords) (c0_i32_72 : BitVec 32) (c0_i32_174 : BitVec 32) : Fin 5 → Nat :=
  let c7_i32 : BitVec 32 := 7#32
  let arg0 : BitVec 32 := BitVec.ofNat 32 (i 0).val
  let c31_i32 : BitVec 32 := 31#32
  let v7 : BitVec 32 := Scalar.minsi arg0 c31_i32
  let c16_i32 : BitVec 32 := 16#32
  let c0_i32_4 : BitVec 32 := 0#32
  let v8 : BitVec 1 := Scalar.cmpi .eq c16_i32 c0_i32_4
  let c1_i32 : BitVec 32 := 1#32
  let v9 : BitVec 32 := Scalar.select v8 c1_i32 c16_i32
  let v10 : BitVec 32 := Scalar.remsi v7 v9
  let c0_i32_6 : BitVec 32 := 0#32
  let v12 : BitVec 1 := Scalar.cmpi .slt v10 c0_i32_6
  let c0_i32_7 : BitVec 32 := 0#32
  let v13 : BitVec 1 := Scalar.cmpi .slt v9 c0_i32_7
  let v14 : BitVec 1 := Scalar.xori v12 v13
  let c0_i32_5 : BitVec 32 := 0#32
  let v11 : BitVec 1 := Scalar.cmpi .ne v10 c0_i32_5
  let v15 : BitVec 1 := Scalar.andi v14 v11
  let v16 : BitVec 32 := Scalar.addi v10 v9
  let v17 : BitVec 32 := Scalar.select v15 v16 v10
  let c8_i32 : BitVec 32 := 8#32
  let v150 : BitVec 32 := Scalar.muli v17 c8_i32
  let v151 : BitVec 32 := Scalar.addi v150 c0_i32_72
  let c120_i32 : BitVec 32 := 120#32
  let c0_i32_73 : BitVec 32 := 0#32
  let c4_i32 : BitVec 32 := 4#32
  let v152 : BitVec 32 := Scalar.subi v151 c4_i32
  let v153 : BitVec 32 := Scalar.maxsi c0_i32_73 v152
  let v154 : BitVec 32 := Scalar.minsi c120_i32 v153
  let v155 : BitVec 32 := Scalar.subi v151 v154
  let v156 : BitVec 32 := Scalar.subi c7_i32 v155
  let c1_i32_76 : BitVec 32 := 1#32
  let v164 : BitVec 32 := Scalar.andi v156 c1_i32_76
  let v309 : Index := Scalar.indexCast v164
  let c3 : Index := 3#32
  let c1_i32_77 : BitVec 32 := 1#32
  let v165 : BitVec 32 := Scalar.shrsi v156 c1_i32_77
  let v308 : BitVec 32 := Scalar.addi v165 c0_i32_174
  let v310 : Index := Scalar.indexCast v308
  let c0_175 : Index := 0#32
  let c0_176 : Index := 0#32
  ![v309.toNat, 3, v310.toNat, 0, 0]
def k0_mult5 (i : grid0.Coords) : BitVec 32 :=
  let c120_i32_492 : BitVec 32 := 120#32
  let c0_i32_491 : BitVec 32 := 0#32
  let arg0 : BitVec 32 := BitVec.ofNat 32 (i 0).val
  let c31_i32 : BitVec 32 := 31#32
  let v7 : BitVec 32 := Scalar.minsi arg0 c31_i32
  let c16_i32 : BitVec 32 := 16#32
  let c0_i32_4 : BitVec 32 := 0#32
  let v8 : BitVec 1 := Scalar.cmpi .eq c16_i32 c0_i32_4
  let c1_i32 : BitVec 32 := 1#32
  let v9 : BitVec 32 := Scalar.select v8 c1_i32 c16_i32
  let v10 : BitVec 32 := Scalar.remsi v7 v9
  let c0_i32_6 : BitVec 32 := 0#32
  let v12 : BitVec 1 := Scalar.cmpi .slt v10 c0_i32_6
  let c0_i32_7 : BitVec 32 := 0#32
  let v13 : BitVec 1 := Scalar.cmpi .slt v9 c0_i32_7
  let v14 : BitVec 1 := Scalar.xori v12 v13
  let c0_i32_5 : BitVec 32 := 0#32
  let v11 : BitVec 1 := Scalar.cmpi .ne v10 c0_i32_5
  let v15 : BitVec 1 := Scalar.andi v14 v11
  let v16 : BitVec 32 := Scalar.addi v10 v9
  let v17 : BitVec 32 := Scalar.select v15 v16 v10
  let c8_i32_488 : BitVec 32 := 8#32
  let v792 : BitVec 32 := Scalar.muli v17 c8_i32_488
  let c2_i32_489 : BitVec 32 := 2#32
  let v793 : BitVec 32 := Scalar.addi v792 c2_i32_489
  let c4_i32_490 : BitVec 32 := 4#32
  let v794 : BitVec 32 := Scalar.subi v793 c4_i32_490
  let v795 : BitVec 32 := Scalar.maxsi c0_i32_491 v794
  let v796 : BitVec 32 := Scalar.minsi c120_i32_492 v795
  let c64_i32_494 : BitVec 32 := 64#32
  let v799 : BitVec 32 := Scalar.muli v796 c64_i32_494
  let c7168_i32_498 : BitVec 32 := 7168#32
  let c0_i32_497 : BitVec 32 := 0#32
  let c512_i32_495 : BitVec 32 := 512#32
  let v800 : BitVec 32 := Scalar.muli v17 c512_i32_495
  let c256_i32_496 : BitVec 32 := 256#32
  let v801 : BitVec 32 := Scalar.subi v800 c256_i32_496
  let v802 : BitVec 32 := Scalar.maxsi c0_i32_497 v801
  let v803 : BitVec 32 := Scalar.minsi c7168_i32_498 v802
  let v804 : BitVec 32 := Scalar.subi v799 v803
  v804
def k0_mult6 (i : grid0.Coords) : BitVec 32 :=
  let c120_i32_504 : BitVec 32 := 120#32
  let c0_i32_503 : BitVec 32 := 0#32
  let arg0 : BitVec 32 := BitVec.ofNat 32 (i 0).val
  let c31_i32 : BitVec 32 := 31#32
  let v7 : BitVec 32 := Scalar.minsi arg0 c31_i32
  let c16_i32 : BitVec 32 := 16#32
  let c0_i32_4 : BitVec 32 := 0#32
  let v8 : BitVec 1 := Scalar.cmpi .eq c16_i32 c0_i32_4
  let c1_i32 : BitVec 32 := 1#32
  let v9 : BitVec 32 := Scalar.select v8 c1_i32 c16_i32
  let v10 : BitVec 32 := Scalar.remsi v7 v9
  let c0_i32_6 : BitVec 32 := 0#32
  let v12 : BitVec 1 := Scalar.cmpi .slt v10 c0_i32_6
  let c0_i32_7 : BitVec 32 := 0#32
  let v13 : BitVec 1 := Scalar.cmpi .slt v9 c0_i32_7
  let v14 : BitVec 1 := Scalar.xori v12 v13
  let c0_i32_5 : BitVec 32 := 0#32
  let v11 : BitVec 1 := Scalar.cmpi .ne v10 c0_i32_5
  let v15 : BitVec 1 := Scalar.andi v14 v11
  let v16 : BitVec 32 := Scalar.addi v10 v9
  let v17 : BitVec 32 := Scalar.select v15 v16 v10
  let c8_i32_488 : BitVec 32 := 8#32
  let v792 : BitVec 32 := Scalar.muli v17 c8_i32_488
  let c3_i32_501 : BitVec 32 := 3#32
  let v808 : BitVec 32 := Scalar.addi v792 c3_i32_501
  let c4_i32_502 : BitVec 32 := 4#32
  let v809 : BitVec 32 := Scalar.subi v808 c4_i32_502
  let v810 : BitVec 32 := Scalar.maxsi c0_i32_503 v809
  let v811 : BitVec 32 := Scalar.minsi c120_i32_504 v810
  let c64_i32_506 : BitVec 32 := 64#32
  let v814 : BitVec 32 := Scalar.muli v811 c64_i32_506
  let c7168_i32_510 : BitVec 32 := 7168#32
  let c0_i32_509 : BitVec 32 := 0#32
  let c512_i32_507 : BitVec 32 := 512#32
  let v815 : BitVec 32 := Scalar.muli v17 c512_i32_507
  let c256_i32_508 : BitVec 32 := 256#32
  let v816 : BitVec 32 := Scalar.subi v815 c256_i32_508
  let v817 : BitVec 32 := Scalar.maxsi c0_i32_509 v816
  let v818 : BitVec 32 := Scalar.minsi c7168_i32_510 v817
  let v819 : BitVec 32 := Scalar.subi v814 v818
  v819
def k0_mult7 (i : grid0.Coords) : BitVec 32 :=
  let c120_i32_927 : BitVec 32 := 120#32
  let c0_i32_926 : BitVec 32 := 0#32
  let arg0 : BitVec 32 := BitVec.ofNat 32 (i 0).val
  let c31_i32 : BitVec 32 := 31#32
  let v7 : BitVec 32 := Scalar.minsi arg0 c31_i32
  let c16_i32 : BitVec 32 := 16#32
  let c0_i32_4 : BitVec 32 := 0#32
  let v8 : BitVec 1 := Scalar.cmpi .eq c16_i32 c0_i32_4
  let c1_i32 : BitVec 32 := 1#32
  let v9 : BitVec 32 := Scalar.select v8 c1_i32 c16_i32
  let v10 : BitVec 32 := Scalar.remsi v7 v9
  let c0_i32_6 : BitVec 32 := 0#32
  let v12 : BitVec 1 := Scalar.cmpi .slt v10 c0_i32_6
  let c0_i32_7 : BitVec 32 := 0#32
  let v13 : BitVec 1 := Scalar.cmpi .slt v9 c0_i32_7
  let v14 : BitVec 1 := Scalar.xori v12 v13
  let c0_i32_5 : BitVec 32 := 0#32
  let v11 : BitVec 1 := Scalar.cmpi .ne v10 c0_i32_5
  let v15 : BitVec 1 := Scalar.andi v14 v11
  let v16 : BitVec 32 := Scalar.addi v10 v9
  let v17 : BitVec 32 := Scalar.select v15 v16 v10
  let c8_i32_923 : BitVec 32 := 8#32
  let v1434 : BitVec 32 := Scalar.muli v17 c8_i32_923
  let c4_i32_924 : BitVec 32 := 4#32
  let v1435 : BitVec 32 := Scalar.addi v1434 c4_i32_924
  let c4_i32_925 : BitVec 32 := 4#32
  let v1436 : BitVec 32 := Scalar.subi v1435 c4_i32_925
  let v1437 : BitVec 32 := Scalar.maxsi c0_i32_926 v1436
  let v1438 : BitVec 32 := Scalar.minsi c120_i32_927 v1437
  let c64_i32_929 : BitVec 32 := 64#32
  let v1441 : BitVec 32 := Scalar.muli v1438 c64_i32_929
  let c7168_i32_933 : BitVec 32 := 7168#32
  let c0_i32_932 : BitVec 32 := 0#32
  let c512_i32_930 : BitVec 32 := 512#32
  let v1442 : BitVec 32 := Scalar.muli v17 c512_i32_930
  let c256_i32_931 : BitVec 32 := 256#32
  let v1443 : BitVec 32 := Scalar.subi v1442 c256_i32_931
  let v1444 : BitVec 32 := Scalar.maxsi c0_i32_932 v1443
  let v1445 : BitVec 32 := Scalar.minsi c7168_i32_933 v1444
  let v1446 : BitVec 32 := Scalar.subi v1441 v1445
  v1446
def k0_mult8 (i : grid0.Coords) : BitVec 32 :=
  let c120_i32_938 : BitVec 32 := 120#32
  let c0_i32_937 : BitVec 32 := 0#32
  let arg0 : BitVec 32 := BitVec.ofNat 32 (i 0).val
  let c31_i32 : BitVec 32 := 31#32
  let v7 : BitVec 32 := Scalar.minsi arg0 c31_i32
  let c16_i32 : BitVec 32 := 16#32
  let c0_i32_4 : BitVec 32 := 0#32
  let v8 : BitVec 1 := Scalar.cmpi .eq c16_i32 c0_i32_4
  let c1_i32 : BitVec 32 := 1#32
  let v9 : BitVec 32 := Scalar.select v8 c1_i32 c16_i32
  let v10 : BitVec 32 := Scalar.remsi v7 v9
  let c0_i32_6 : BitVec 32 := 0#32
  let v12 : BitVec 1 := Scalar.cmpi .slt v10 c0_i32_6
  let c0_i32_7 : BitVec 32 := 0#32
  let v13 : BitVec 1 := Scalar.cmpi .slt v9 c0_i32_7
  let v14 : BitVec 1 := Scalar.xori v12 v13
  let c0_i32_5 : BitVec 32 := 0#32
  let v11 : BitVec 1 := Scalar.cmpi .ne v10 c0_i32_5
  let v15 : BitVec 1 := Scalar.andi v14 v11
  let v16 : BitVec 32 := Scalar.addi v10 v9
  let v17 : BitVec 32 := Scalar.select v15 v16 v10
  let c8_i32_923 : BitVec 32 := 8#32
  let v1434 : BitVec 32 := Scalar.muli v17 c8_i32_923
  let c5_i32 : BitVec 32 := 5#32
  let v1450 : BitVec 32 := Scalar.addi v1434 c5_i32
  let c4_i32_936 : BitVec 32 := 4#32
  let v1451 : BitVec 32 := Scalar.subi v1450 c4_i32_936
  let v1452 : BitVec 32 := Scalar.maxsi c0_i32_937 v1451
  let v1453 : BitVec 32 := Scalar.minsi c120_i32_938 v1452
  let c64_i32_940 : BitVec 32 := 64#32
  let v1456 : BitVec 32 := Scalar.muli v1453 c64_i32_940
  let c7168_i32_944 : BitVec 32 := 7168#32
  let c0_i32_943 : BitVec 32 := 0#32
  let c512_i32_941 : BitVec 32 := 512#32
  let v1457 : BitVec 32 := Scalar.muli v17 c512_i32_941
  let c256_i32_942 : BitVec 32 := 256#32
  let v1458 : BitVec 32 := Scalar.subi v1457 c256_i32_942
  let v1459 : BitVec 32 := Scalar.maxsi c0_i32_943 v1458
  let v1460 : BitVec 32 := Scalar.minsi c7168_i32_944 v1459
  let v1461 : BitVec 32 := Scalar.subi v1456 v1460
  v1461
def k0_mult9 (i : grid0.Coords) : BitVec 32 :=
  let c120_i32_1360 : BitVec 32 := 120#32
  let c0_i32_1359 : BitVec 32 := 0#32
  let arg0 : BitVec 32 := BitVec.ofNat 32 (i 0).val
  let c31_i32 : BitVec 32 := 31#32
  let v7 : BitVec 32 := Scalar.minsi arg0 c31_i32
  let c16_i32 : BitVec 32 := 16#32
  let c0_i32_4 : BitVec 32 := 0#32
  let v8 : BitVec 1 := Scalar.cmpi .eq c16_i32 c0_i32_4
  let c1_i32 : BitVec 32 := 1#32
  let v9 : BitVec 32 := Scalar.select v8 c1_i32 c16_i32
  let v10 : BitVec 32 := Scalar.remsi v7 v9
  let c0_i32_6 : BitVec 32 := 0#32
  let v12 : BitVec 1 := Scalar.cmpi .slt v10 c0_i32_6
  let c0_i32_7 : BitVec 32 := 0#32
  let v13 : BitVec 1 := Scalar.cmpi .slt v9 c0_i32_7
  let v14 : BitVec 1 := Scalar.xori v12 v13
  let c0_i32_5 : BitVec 32 := 0#32
  let v11 : BitVec 1 := Scalar.cmpi .ne v10 c0_i32_5
  let v15 : BitVec 1 := Scalar.andi v14 v11
  let v16 : BitVec 32 := Scalar.addi v10 v9
  let v17 : BitVec 32 := Scalar.select v15 v16 v10
  let c8_i32_1357 : BitVec 32 := 8#32
  let v2076 : BitVec 32 := Scalar.muli v17 c8_i32_1357
  let c6_i32 : BitVec 32 := 6#32
  let v2077 : BitVec 32 := Scalar.addi v2076 c6_i32
  let c4_i32_1358 : BitVec 32 := 4#32
  let v2078 : BitVec 32 := Scalar.subi v2077 c4_i32_1358
  let v2079 : BitVec 32 := Scalar.maxsi c0_i32_1359 v2078
  let v2080 : BitVec 32 := Scalar.minsi c120_i32_1360 v2079
  let c64_i32_1362 : BitVec 32 := 64#32
  let v2083 : BitVec 32 := Scalar.muli v2080 c64_i32_1362
  let c7168_i32_1366 : BitVec 32 := 7168#32
  let c0_i32_1365 : BitVec 32 := 0#32
  let c512_i32_1363 : BitVec 32 := 512#32
  let v2084 : BitVec 32 := Scalar.muli v17 c512_i32_1363
  let c256_i32_1364 : BitVec 32 := 256#32
  let v2085 : BitVec 32 := Scalar.subi v2084 c256_i32_1364
  let v2086 : BitVec 32 := Scalar.maxsi c0_i32_1365 v2085
  let v2087 : BitVec 32 := Scalar.minsi c7168_i32_1366 v2086
  let v2088 : BitVec 32 := Scalar.subi v2083 v2087
  v2088
def k0_mult10 (i : grid0.Coords) : BitVec 32 :=
  let c120_i32_1372 : BitVec 32 := 120#32
  let c0_i32_1371 : BitVec 32 := 0#32
  let arg0 : BitVec 32 := BitVec.ofNat 32 (i 0).val
  let c31_i32 : BitVec 32 := 31#32
  let v7 : BitVec 32 := Scalar.minsi arg0 c31_i32
  let c16_i32 : BitVec 32 := 16#32
  let c0_i32_4 : BitVec 32 := 0#32
  let v8 : BitVec 1 := Scalar.cmpi .eq c16_i32 c0_i32_4
  let c1_i32 : BitVec 32 := 1#32
  let v9 : BitVec 32 := Scalar.select v8 c1_i32 c16_i32
  let v10 : BitVec 32 := Scalar.remsi v7 v9
  let c0_i32_6 : BitVec 32 := 0#32
  let v12 : BitVec 1 := Scalar.cmpi .slt v10 c0_i32_6
  let c0_i32_7 : BitVec 32 := 0#32
  let v13 : BitVec 1 := Scalar.cmpi .slt v9 c0_i32_7
  let v14 : BitVec 1 := Scalar.xori v12 v13
  let c0_i32_5 : BitVec 32 := 0#32
  let v11 : BitVec 1 := Scalar.cmpi .ne v10 c0_i32_5
  let v15 : BitVec 1 := Scalar.andi v14 v11
  let v16 : BitVec 32 := Scalar.addi v10 v9
  let v17 : BitVec 32 := Scalar.select v15 v16 v10
  let c8_i32_1357 : BitVec 32 := 8#32
  let v2076 : BitVec 32 := Scalar.muli v17 c8_i32_1357
  let c7_i32_1369 : BitVec 32 := 7#32
  let v2092 : BitVec 32 := Scalar.addi v2076 c7_i32_1369
  let c4_i32_1370 : BitVec 32 := 4#32
  let v2093 : BitVec 32 := Scalar.subi v2092 c4_i32_1370
  let v2094 : BitVec 32 := Scalar.maxsi c0_i32_1371 v2093
  let v2095 : BitVec 32 := Scalar.minsi c120_i32_1372 v2094
  let c64_i32_1374 : BitVec 32 := 64#32
  let v2098 : BitVec 32 := Scalar.muli v2095 c64_i32_1374
  let c7168_i32_1378 : BitVec 32 := 7168#32
  let c0_i32_1377 : BitVec 32 := 0#32
  let c512_i32_1375 : BitVec 32 := 512#32
  let v2099 : BitVec 32 := Scalar.muli v17 c512_i32_1375
  let c256_i32_1376 : BitVec 32 := 256#32
  let v2100 : BitVec 32 := Scalar.subi v2099 c256_i32_1376
  let v2101 : BitVec 32 := Scalar.maxsi c0_i32_1377 v2100
  let v2102 : BitVec 32 := Scalar.minsi c7168_i32_1378 v2101
  let v2103 : BitVec 32 := Scalar.subi v2098 v2102
  v2103
def cc0_transform_0 (i : grid0.Coords) : Fin 3 → Nat :=
  let arg0 : BitVec 32 := BitVec.ofNat 32 (i 0).val
  let c31_i32 : BitVec 32 := 31#32
  let v0 : BitVec 32 := Scalar.minsi arg0 c31_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c16_i32_4 : BitVec 32 := 16#32
  let c0_i32_5 : BitVec 32 := 0#32
  let v18 : BitVec 1 := Scalar.cmpi .eq c16_i32_4 c0_i32_5
  let c1_i32_6 : BitVec 32 := 1#32
  let v19 : BitVec 32 := Scalar.select v18 c1_i32_6 c16_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, v27.toNat, c0_i32_10.toNat]

def cc0_transform_1 (i : grid0.Coords) : Fin 3 → Nat :=
  let arg0 : BitVec 32 := BitVec.ofNat 32 (i 0).val
  let c31_i32 : BitVec 32 := 31#32
  let v0 : BitVec 32 := Scalar.minsi arg0 c31_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c16_i32_4 : BitVec 32 := 16#32
  let c0_i32_5 : BitVec 32 := 0#32
  let v18 : BitVec 1 := Scalar.cmpi .eq c16_i32_4 c0_i32_5
  let c1_i32_6 : BitVec 32 := 1#32
  let v19 : BitVec 32 := Scalar.select v18 c1_i32_6 c16_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c512_i32 : BitVec 32 := 512#32
  let v28 : BitVec 32 := Scalar.muli v27 c512_i32
  let c256_i32 : BitVec 32 := 256#32
  let v29 : BitVec 32 := Scalar.subi v28 c256_i32
  let c0_i32_10 : BitVec 32 := 0#32
  let c7168_i32 : BitVec 32 := 7168#32
  let v30 : BitVec 32 := Scalar.maxsi c0_i32_10 v29
  let v31 : BitVec 32 := Scalar.minsi c7168_i32 v30
  let v32 : BitVec 32 := v31
  let c0_i32_11 : BitVec 32 := 0#32
  let c0_i32_12 : BitVec 32 := 0#32
  ![v17.toNat, v32.toNat, c0_i32_11.toNat]

def cc0_transform_2 (i : grid0.Coords) : Fin 3 → Nat :=
  let arg0 : BitVec 32 := BitVec.ofNat 32 (i 0).val
  let c31_i32 : BitVec 32 := 31#32
  let v0 : BitVec 32 := Scalar.minsi arg0 c31_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c16_i32_4 : BitVec 32 := 16#32
  let c0_i32_5 : BitVec 32 := 0#32
  let v18 : BitVec 1 := Scalar.cmpi .eq c16_i32_4 c0_i32_5
  let c1_i32_6 : BitVec 32 := 1#32
  let v19 : BitVec 32 := Scalar.select v18 c1_i32_6 c16_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c512_i32 : BitVec 32 := 512#32
  let v28 : BitVec 32 := Scalar.muli v27 c512_i32
  let c256_i32 : BitVec 32 := 256#32
  let v29 : BitVec 32 := Scalar.subi v28 c256_i32
  let c0_i32_10 : BitVec 32 := 0#32
  let c7168_i32 : BitVec 32 := 7168#32
  let v30 : BitVec 32 := Scalar.maxsi c0_i32_10 v29
  let v31 : BitVec 32 := Scalar.minsi c7168_i32 v30
  let v32 : BitVec 32 := v31
  let c0_i32_11 : BitVec 32 := 0#32
  let c0_i32_12 : BitVec 32 := 0#32
  ![v17.toNat, v32.toNat, c0_i32_11.toNat]

def cc0_transform_3 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, c0_i32_0.toNat, c0_i32_1.toNat, c0_i32_2.toNat, c0_i32_3.toNat]

def cc0_transform_4 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let v2 : BitVec 32 := Scalar.divsi v1 c16_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c16_i32_6 : BitVec 32 := 16#32
  let c0_i32_7 : BitVec 32 := 0#32
  let v19 : BitVec 1 := Scalar.cmpi .eq c16_i32_6 c0_i32_7
  let c1_i32_8 : BitVec 32 := 1#32
  let v20 : BitVec 32 := Scalar.select v19 c1_i32_8 c16_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v18.toNat, v28.toNat, c0_i32_12.toNat]

def cc0_transform_5 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let v2 : BitVec 32 := Scalar.divsi v1 c16_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c16_i32_6 : BitVec 32 := 16#32
  let c0_i32_7 : BitVec 32 := 0#32
  let v19 : BitVec 1 := Scalar.cmpi .eq c16_i32_6 c0_i32_7
  let c1_i32_8 : BitVec 32 := 1#32
  let v20 : BitVec 32 := Scalar.select v19 c1_i32_8 c16_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v18.toNat, v28.toNat, c0_i32_12.toNat]

def cc0_transform_6 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let v2 : BitVec 32 := Scalar.divsi v1 c16_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c16_i32_6 : BitVec 32 := 16#32
  let c0_i32_7 : BitVec 32 := 0#32
  let v19 : BitVec 1 := Scalar.cmpi .eq c16_i32_6 c0_i32_7
  let c1_i32_8 : BitVec 32 := 1#32
  let v20 : BitVec 32 := Scalar.select v19 c1_i32_8 c16_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c32_i32 : BitVec 32 := 32#32
  let v29 : BitVec 32 := Scalar.muli v28 c32_i32
  let c1_i32_12 : BitVec 32 := 1#32
  let v30 : BitVec 32 := Scalar.subi v29 c1_i32_12
  let c0_i32_13 : BitVec 32 := 0#32
  let v31 : BitVec 32 := Scalar.maxsi v30 c0_i32_13
  let c0_i32_14 : BitVec 32 := 0#32
  let c0_i32_15 : BitVec 32 := 0#32
  ![v18.toNat, v31.toNat, c0_i32_14.toNat]

def cc0_transform_7 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let v2 : BitVec 32 := Scalar.divsi v1 c16_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c16_i32_6 : BitVec 32 := 16#32
  let c0_i32_7 : BitVec 32 := 0#32
  let v19 : BitVec 1 := Scalar.cmpi .eq c16_i32_6 c0_i32_7
  let c1_i32_8 : BitVec 32 := 1#32
  let v20 : BitVec 32 := Scalar.select v19 c1_i32_8 c16_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c1_i32_12 : BitVec 32 := 1#32
  let v29 : BitVec 32 := Scalar.addi v28 c1_i32_12
  let c32_i32 : BitVec 32 := 32#32
  let v30 : BitVec 32 := Scalar.muli v29 c32_i32
  let c511_i32 : BitVec 32 := 511#32
  let v31 : BitVec 32 := Scalar.minsi v30 c511_i32
  let c0_i32_13 : BitVec 32 := 0#32
  let c0_i32_14 : BitVec 32 := 0#32
  ![v18.toNat, v31.toNat, c0_i32_13.toNat]

def cc0_transform_8 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let v2 : BitVec 32 := Scalar.divsi v1 c16_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c16_i32_6 : BitVec 32 := 16#32
  let c0_i32_7 : BitVec 32 := 0#32
  let v19 : BitVec 1 := Scalar.cmpi .eq c16_i32_6 c0_i32_7
  let c1_i32_8 : BitVec 32 := 1#32
  let v20 : BitVec 32 := Scalar.select v19 c1_i32_8 c16_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v18.toNat, v28.toNat, c0_i32_12.toNat]

def cc0_transform_9 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let v2 : BitVec 32 := Scalar.divsi v1 c16_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c16_i32_6 : BitVec 32 := 16#32
  let c0_i32_7 : BitVec 32 := 0#32
  let v19 : BitVec 1 := Scalar.cmpi .eq c16_i32_6 c0_i32_7
  let c1_i32_8 : BitVec 32 := 1#32
  let v20 : BitVec 32 := Scalar.select v19 c1_i32_8 c16_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v18.toNat, v28.toNat, c0_i32_12.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let v2 : BitVec 32 := Scalar.divsi v1 c16_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c16_i32_6 : BitVec 32 := 16#32
  let c0_i32_7 : BitVec 32 := 0#32
  let v19 : BitVec 1 := Scalar.cmpi .eq c16_i32_6 c0_i32_7
  let c1_i32_8 : BitVec 32 := 1#32
  let v20 : BitVec 32 := Scalar.select v19 c1_i32_8 c16_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v18.toNat, v28.toNat, c0_i32_12.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x4x7x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x16x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x16x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S3x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1024x5632 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S2816x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S1x512x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== KernelIdeal.lean ====
abbrev S2x8192x1024 : Shape := ⟨3, ![2, 8192, 1024]⟩
abbrev S2x8192x512 : Shape := ⟨3, ![2, 8192, 512]⟩
abbrev S2x8192x2048 : Shape := ⟨3, ![2, 8192, 2048]⟩
abbrev S1x2048 : Shape := ⟨2, ![1, 2048]⟩
abbrev S1x8x15x31 : Shape := ⟨4, ![1, 8, 15, 31]⟩
abbrev S1x3x512 : Shape := ⟨3, ![1, 3, 512]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S64x64 : Shape := ⟨2, ![64, 64]⟩
abbrev S1x1x64x64 : Shape := ⟨4, ![1, 1, 64, 64]⟩
abbrev S8x15x31 : Shape := ⟨3, ![8, 15, 31]⟩
abbrev S_ : Shape := ⟨0, ![]⟩
abbrev S8x15x127 : Shape := ⟨3, ![8, 15, 127]⟩
abbrev S1x8x1x15x1x127 : Shape := ⟨6, ![1, 8, 1, 15, 1, 127]⟩
abbrev S1x8x1x15x65x127 : Shape := ⟨6, ![1, 8, 1, 15, 65, 127]⟩
abbrev S8x15x8255 : Shape := ⟨3, ![8, 15, 8255]⟩
abbrev S8x15x8192 : Shape := ⟨3, ![8, 15, 8192]⟩
abbrev S8x15x64x128 : Shape := ⟨4, ![8, 15, 64, 128]⟩
abbrev S8x15x64x64 : Shape := ⟨4, ![8, 15, 64, 64]⟩
abbrev S8x64x15x64 : Shape := ⟨4, ![8, 64, 15, 64]⟩
abbrev S4x128x960 : Shape := ⟨3, ![4, 128, 960]⟩
abbrev S4x128x896 : Shape := ⟨3, ![4, 128, 896]⟩
abbrev S4x128x7x128 : Shape := ⟨4, ![4, 128, 7, 128]⟩
abbrev S4x7x128x128 : Shape := ⟨4, ![4, 7, 128, 128]⟩
abbrev S1x4x7x128x128 : Shape := ⟨5, ![1, 4, 7, 128, 128]⟩
abbrev S2x4x7x128x128 : Shape := ⟨5, ![2, 4, 7, 128, 128]⟩
abbrev S2048 : Shape := ⟨1, ![2048]⟩
abbrev S3x512 : Shape := ⟨2, ![3, 512]⟩
abbrev S512x1024 : Shape := ⟨2, ![512, 1024]⟩
abbrev S1024x1024 : Shape := ⟨2, ![1024, 1024]⟩
abbrev S1024x5632 : Shape := ⟨2, ![1024, 5632]⟩
abbrev S2816x1024 : Shape := ⟨2, ![2816, 1024]⟩
abbrev S1x512x512 : Shape := ⟨3, ![1, 512, 512]⟩
abbrev S1x1024x512 : Shape := ⟨3, ![1, 1024, 512]⟩
abbrev S1x16x512 : Shape := ⟨3, ![1, 16, 512]⟩
abbrev S1x512x2048 : Shape := ⟨3, ![1, 512, 2048]⟩
abbrev S8x128x512 : Shape := ⟨3, ![8, 128, 512]⟩
abbrev S8x128x128 : Shape := ⟨3, ![8, 128, 128]⟩
abbrev S512x512 : Shape := ⟨2, ![512, 512]⟩
abbrev S1x1x512 : Shape := ⟨3, ![1, 1, 512]⟩
abbrev S1x512 : Shape := ⟨2, ![1, 512]⟩
abbrev S512x2048 : Shape := ⟨2, ![512, 2048]⟩
abbrev S512 : Shape := ⟨1, ![512]⟩
abbrev S512x1 : Shape := ⟨2, ![512, 1]⟩
abbrev S1024x512 : Shape := ⟨2, ![1024, 512]⟩
abbrev S64x128 : Shape := ⟨2, ![64, 128]⟩
abbrev S1x64x128 : Shape := ⟨3, ![1, 64, 128]⟩
abbrev S1x512x128 : Shape := ⟨3, ![1, 512, 128]⟩
abbrev S512x128 : Shape := ⟨2, ![512, 128]⟩
abbrev S128x128 : Shape := ⟨2, ![128, 128]⟩
abbrev S128x512 : Shape := ⟨2, ![128, 512]⟩
abbrev S1x1x1x128x128 : Shape := ⟨5, ![1, 1, 1, 128, 128]⟩
abbrev S1x128x512 : Shape := ⟨3, ![1, 128, 512]⟩
abbrev S128 : Shape := ⟨1, ![128]⟩
abbrev S128x1 : Shape := ⟨2, ![128, 1]⟩
abbrev S1x128x128 : Shape := ⟨3, ![1, 128, 128]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 69
  | .vmem => 35
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .f32⟩
  | .hbm, ⟨2, _⟩ => ⟨S2x8192x512, .f32⟩
  | .hbm, ⟨3, _⟩ => ⟨S2x8192x512, .f32⟩
  | .hbm, ⟨4, _⟩ => ⟨S2x8192x512, .f32⟩
  | .hbm, ⟨5, _⟩ => ⟨S2x8192x512, .f32⟩
  | .hbm, ⟨6, _⟩ => ⟨S2x8192x2048, .f32⟩
  | .hbm, ⟨7, _⟩ => ⟨S1x2048, .f32⟩
  | .hbm, ⟨8, _⟩ => ⟨S1x8x15x31, .f32⟩
  | .hbm, ⟨9, _⟩ => ⟨S1x3x512, .f32⟩
  | .hbm, ⟨10, _⟩ => ⟨S1x512x1024, .f32⟩
  | .hbm, ⟨11, _⟩ => ⟨S1x512x1024, .f32⟩
  | .hbm, ⟨12, _⟩ => ⟨S1x1024x1024, .f32⟩
  | .hbm, ⟨13, _⟩ => ⟨S1x1024, .f32⟩
  | .hbm, ⟨14, _⟩ => ⟨S1x1024x5632, .f32⟩
  | .hbm, ⟨15, _⟩ => ⟨S1x2816x1024, .f32⟩
  | .hbm, ⟨16, _⟩ => ⟨S1024, .f32⟩
  | .hbm, ⟨17, _⟩ => ⟨S64x64, .i1⟩
  | .hbm, ⟨18, _⟩ => ⟨S1x1x64x64, .i1⟩
  | .hbm, ⟨19, _⟩ => ⟨S8x15x31, .f32⟩
  | .hbm, ⟨20, _⟩ => ⟨S_, .i32⟩
  | .hbm, ⟨21, _⟩ => ⟨S_, .f32⟩
  | .hbm, ⟨22, _⟩ => ⟨S8x15x127, .f32⟩
  | .hbm, ⟨23, _⟩ => ⟨S1x8x1x15x1x127, .f32⟩
  | .hbm, ⟨24, _⟩ => ⟨S1x8x1x15x65x127, .f32⟩
  | .hbm, ⟨25, _⟩ => ⟨S8x15x8255, .f32⟩
  | .hbm, ⟨26, _⟩ => ⟨S8x15x8192, .f32⟩
  | .hbm, ⟨27, _⟩ => ⟨S8x15x64x128, .f32⟩
  | .hbm, ⟨28, _⟩ => ⟨S8x15x64x64, .f32⟩
  | .hbm, ⟨29, _⟩ => ⟨S8x15x64x64, .f32⟩
  | .hbm, ⟨30, _⟩ => ⟨S_, .f32⟩
  | .hbm, ⟨31, _⟩ => ⟨S_, .f32⟩
  | .hbm, ⟨32, _⟩ => ⟨S8x15x64x64, .i1⟩
  | .hbm, ⟨33, _⟩ => ⟨S8x15x64x64, .f32⟩
  | .hbm, ⟨34, _⟩ => ⟨S8x15x64x64, .f32⟩
  | .hbm, ⟨35, _⟩ => ⟨S8x64x15x64, .f32⟩
  | .hbm, ⟨36, _⟩ => ⟨S4x128x960, .f32⟩
  | .hbm, ⟨37, _⟩ => ⟨S4x128x896, .f32⟩
  | .hbm, ⟨38, _⟩ => ⟨S4x128x7x128, .f32⟩
  | .hbm, ⟨39, _⟩ => ⟨S4x7x128x128, .f32⟩
  | .hbm, ⟨40, _⟩ => ⟨S4x128x896, .f32⟩
  | .hbm, ⟨41, _⟩ => ⟨S4x128x7x128, .f32⟩
  | .hbm, ⟨42, _⟩ => ⟨S4x7x128x128, .f32⟩
  | .hbm, ⟨43, _⟩ => ⟨S1x4x7x128x128, .f32⟩
  | .hbm, ⟨44, _⟩ => ⟨S1x4x7x128x128, .f32⟩
  | .hbm, ⟨45, _⟩ => ⟨S2x4x7x128x128, .f32⟩
  | .hbm, ⟨46, _⟩ => ⟨S2048, .f32⟩
  | .hbm, ⟨47, _⟩ => ⟨S1x2048, .f32⟩
  | .hbm, ⟨48, _⟩ => ⟨S3x512, .f32⟩
  | .hbm, ⟨49, _⟩ => ⟨S512x1024, .f32⟩
  | .hbm, ⟨50, _⟩ => ⟨S512x1024, .bf16⟩
  | .hbm, ⟨51, _⟩ => ⟨S512x1024, .f32⟩
  | .hbm, ⟨52, _⟩ => ⟨S512x1024, .bf16⟩
  | .hbm, ⟨53, _⟩ => ⟨S1024x1024, .f32⟩
  | .hbm, ⟨54, _⟩ => ⟨S1024x1024, .bf16⟩
  | .hbm, ⟨55, _⟩ => ⟨S1024, .f32⟩
  | .hbm, ⟨56, _⟩ => ⟨S1x1024, .f32⟩
  | .hbm, ⟨57, _⟩ => ⟨S1024x5632, .f32⟩
  | .hbm, ⟨58, _⟩ => ⟨S1024x5632, .bf16⟩
  | .hbm, ⟨59, _⟩ => ⟨S2816x1024, .f32⟩
  | .hbm, ⟨60, _⟩ => ⟨S2816x1024, .bf16⟩
  | .hbm, ⟨61, _⟩ => ⟨S1x1024, .f32⟩
  | .hbm, ⟨62, _⟩ => ⟨S2x8192x512, .bf16⟩
  | .hbm, ⟨63, _⟩ => ⟨S2x8192x512, .bf16⟩
  | .hbm, ⟨64, _⟩ => ⟨S2x8192x512, .bf16⟩
  | .hbm, ⟨65, _⟩ => ⟨S2x8192x512, .bf16⟩
  | .hbm, ⟨66, _⟩ => ⟨S2x8192x512, .bf16⟩
  | .hbm, ⟨67, _⟩ => ⟨S2x8192x2048, .bf16⟩
  | .hbm, ⟨68, _⟩ => ⟨S2x8192x1024, .f32⟩
  | .local _ .vmem, ⟨0, _⟩ => ⟨S1x512x512, .bf16⟩
  | .local _ .vmem, ⟨1, _⟩ => ⟨S1x512x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S2x4x7x128x128, .f32⟩
  | .local _ .vmem, ⟨7, _⟩ => ⟨S1x512x1024, .f32⟩
  | .local _ .vmem, ⟨8, _⟩ => ⟨S1x512x1024, .f32⟩
  | .local _ .vmem, ⟨9, _⟩ => ⟨S1x512x512, .bf16⟩
  | .local _ .vmem, ⟨10, _⟩ => ⟨S1x512x512, .bf16⟩
  | .local _ .vmem, ⟨11, _⟩ => ⟨S1x16x512, .bf16⟩
  | .local _ .vmem, ⟨12, _⟩ => ⟨S1x16x512, .bf16⟩
  | .local _ .vmem, ⟨13, _⟩ => ⟨S1x16x512, .bf16⟩
  | .local _ .vmem, ⟨14, _⟩ => ⟨S1x16x512, .bf16⟩
  | .local _ .vmem, ⟨15, _⟩ => ⟨S1x512x512, .bf16⟩
  | .local _ .vmem, ⟨16, _⟩ => ⟨S1x512x512, .bf16⟩
  | .local _ .vmem, ⟨17, _⟩ => ⟨S1x512x2048, .bf16⟩
  | .local _ .vmem, ⟨18, _⟩ => ⟨S1x512x2048, .bf16⟩
  | .local _ .vmem, ⟨19, _⟩ => ⟨S1x2048, .f32⟩
  | .local _ .vmem, ⟨20, _⟩ => ⟨S3x512, .f32⟩
  | .local _ .vmem, ⟨21, _⟩ => ⟨S512x1024, .bf16⟩
  | .local _ .vmem, ⟨22, _⟩ => ⟨S512x1024, .bf16⟩
  | .local _ .vmem, ⟨23, _⟩ => ⟨S1024x1024, .bf16⟩
  | .local _ .vmem, ⟨24, _⟩ => ⟨S1x1024, .f32⟩
  | .local _ .vmem, ⟨25, _⟩ => ⟨S1024x5632, .bf16⟩
  | .local _ .vmem, ⟨26, _⟩ => ⟨S2816x1024, .bf16⟩
  | .local _ .vmem, ⟨27, _⟩ => ⟨S1x1024, .f32⟩
  | .local _ .vmem, ⟨28, _⟩ => ⟨S1x512x1024, .f32⟩
  | .local _ .vmem, ⟨29, _⟩ => ⟨S1x512x1024, .f32⟩
  | .local _ .vmem, ⟨30, _⟩ => ⟨S8x128x512, .f32⟩
  | .local _ .vmem, ⟨31, _⟩ => ⟨S8x128x512, .bf16⟩
  | .local _ .vmem, ⟨32, _⟩ => ⟨S8x128x128, .f32⟩
  | .local _ .vmem, ⟨33, _⟩ => ⟨S512x512, .bf16⟩
  | .local _ .vmem, ⟨34, _⟩ => ⟨S512x512, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_c : Ref sig .tc := ⟨.hbm, 17, rfl⟩
abbrev main_v0 : Ref sig .tc := ⟨.hbm, 18, rfl⟩
abbrev main_v1 : Ref sig .tc := ⟨.hbm, 19, rfl⟩
abbrev main_c_0 : Ref sig .tc := ⟨.hbm, 20, rfl⟩
abbrev main_call0_v0 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_cst : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg18_0 : Ref sig .tc := ⟨.vmem, 27, rfl⟩
abbrev cc0_stg19_0 : Ref sig .tc := ⟨.vmem, 28, rfl⟩
abbrev cc0_stg19_1 : Ref sig .tc := ⟨.vmem, 29, rfl⟩
abbrev cc0_scratch0 : Ref sig .tc := ⟨.vmem, 30, rfl⟩
abbrev cc0_scratch1 : Ref sig .tc := ⟨.vmem, 31, rfl⟩
abbrev cc0_scratch2 : Ref sig .tc := ⟨.vmem, 32, rfl⟩
abbrev cc0_scratch3 : Ref sig .tc := ⟨.vmem, 33, rfl⟩
abbrev cc0_scratch4 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem17_0 : DmaSem sig := 26
abbrev cc0_sem18_0 : DmaSem sig := 27
abbrev cc0_sem19_0 : DmaSem sig := 28
abbrev cc0_sem19_1 : DmaSem sig := 29

abbrev nD : Nat := 1
abbrev τ : Topo := Topo.v7x

variable {F : FTy → Type} [FloatOps F] [Named F]

def κ : String → Option EReal := fun
  | "log2e" => some (((Real.log 2)⁻¹ : ℝ) : EReal)
  | "q_scale" => some (((8 * (Real.log 2))⁻¹ : ℝ) : EReal)
  | _ => none

abbrev grid0 : Pipeline.Grid := ⟨1, ![33], ![false]⟩

def k0_mult1 (i : grid0.Coords) : BitVec 32 :=
  let c7168_i32 : BitVec 32 := 7168#32
  let c0_i32_10 : BitVec 32 := 0#32
  let arg0 : BitVec 32 := BitVec.ofNat 32 (i 0).val
  let c31_i32 : BitVec 32 := 31#32
  let v0 : BitVec 32 := Scalar.minsi arg0 c31_i32
  let c16_i32_4 : BitVec 32 := 16#32
  let c0_i32_5 : BitVec 32 := 0#32
  let v18 : BitVec 1 := Scalar.cmpi .eq c16_i32_4 c0_i32_5
  let c1_i32_6 : BitVec 32 := 1#32
  let v19 : BitVec 32 := Scalar.select v18 c1_i32_6 c16_i32_4
  let v20 : BitVec 32 := Scalar.remsi v0 v19
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let c0_i32_7 : BitVec 32 := 0#32
  let v21 : BitVec 1 := Scalar.cmpi .ne v20 c0_i32_7
  let v25 : BitVec 1 := Scalar.andi v24 v21
  let v26 : BitVec 32 := Scalar.addi v20 v19
  let v27 : BitVec 32 := Scalar.select v25 v26 v20
  let c512_i32 : BitVec 32 := 512#32
  let v28 : BitVec 32 := Scalar.muli v27 c512_i32
  let c256_i32 : BitVec 32 := 256#32
  let v29 : BitVec 32 := Scalar.subi v28 c256_i32
  let v30 : BitVec 32 := Scalar.maxsi c0_i32_10 v29
  let v31 : BitVec 32 := Scalar.minsi c7168_i32 v30
  v31
def k0_mult2 (i : grid0.Coords) : BitVec 32 :=
  let c7168_i32 : BitVec 32 := 7168#32
  let c0_i32_10 : BitVec 32 := 0#32
  let arg0 : BitVec 32 := BitVec.ofNat 32 (i 0).val
  let c31_i32 : BitVec 32 := 31#32
  let v0 : BitVec 32 := Scalar.minsi arg0 c31_i32
  let c16_i32_4 : BitVec 32 := 16#32
  let c0_i32_5 : BitVec 32 := 0#32
  let v18 : BitVec 1 := Scalar.cmpi .eq c16_i32_4 c0_i32_5
  let c1_i32_6 : BitVec 32 := 1#32
  let v19 : BitVec 32 := Scalar.select v18 c1_i32_6 c16_i32_4
  let v20 : BitVec 32 := Scalar.remsi v0 v19
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let c0_i32_7 : BitVec 32 := 0#32
  let v21 : BitVec 1 := Scalar.cmpi .ne v20 c0_i32_7
  let v25 : BitVec 1 := Scalar.andi v24 v21
  let v26 : BitVec 32 := Scalar.addi v20 v19
  let v27 : BitVec 32 := Scalar.select v25 v26 v20
  let c512_i32 : BitVec 32 := 512#32
  let v28 : BitVec 32 := Scalar.muli v27 c512_i32
  let c256_i32 : BitVec 32 := 256#32
  let v29 : BitVec 32 := Scalar.subi v28 c256_i32
  let v30 : BitVec 32 := Scalar.maxsi c0_i32_10 v29
  let v31 : BitVec 32 := Scalar.minsi c7168_i32 v30
  v31
def k0_mult3 (i : grid0.Coords) : BitVec 32 :=
  let c120_i32 : BitVec 32 := 120#32
  let c0_i32_73 : BitVec 32 := 0#32
  let arg0 : BitVec 32 := BitVec.ofNat 32 (i 0).val
  let c31_i32 : BitVec 32 := 31#32
  let v7 : BitVec 32 := Scalar.minsi arg0 c31_i32
  let c16_i32 : BitVec 32 := 16#32
  let c0_i32_4 : BitVec 32 := 0#32
  let v8 : BitVec 1 := Scalar.cmpi .eq c16_i32 c0_i32_4
  let c1_i32 : BitVec 32 := 1#32
  let v9 : BitVec 32 := Scalar.select v8 c1_i32 c16_i32
  let v10 : BitVec 32 := Scalar.remsi v7 v9
  let c0_i32_6 : BitVec 32 := 0#32
  let v12 : BitVec 1 := Scalar.cmpi .slt v10 c0_i32_6
  let c0_i32_7 : BitVec 32 := 0#32
  let v13 : BitVec 1 := Scalar.cmpi .slt v9 c0_i32_7
  let v14 : BitVec 1 := Scalar.xori v12 v13
  let c0_i32_5 : BitVec 32 := 0#32
  let v11 : BitVec 1 := Scalar.cmpi .ne v10 c0_i32_5
  let v15 : BitVec 1 := Scalar.andi v14 v11
  let v16 : BitVec 32 := Scalar.addi v10 v9
  let v17 : BitVec 32 := Scalar.select v15 v16 v10
  let c8_i32 : BitVec 32 := 8#32
  let v150 : BitVec 32 := Scalar.muli v17 c8_i32
  let c0_i32_72 : BitVec 32 := 0#32
  let v151 : BitVec 32 := Scalar.addi v150 c0_i32_72
  let c4_i32 : BitVec 32 := 4#32
  let v152 : BitVec 32 := Scalar.subi v151 c4_i32
  let v153 : BitVec 32 := Scalar.maxsi c0_i32_73 v152
  let v154 : BitVec 32 := Scalar.minsi c120_i32 v153
  let c64_i32_74 : BitVec 32 := 64#32
  let v157 : BitVec 32 := Scalar.muli v154 c64_i32_74
  let c7168_i32 : BitVec 32 := 7168#32
  let c0_i32_75 : BitVec 32 := 0#32
  let c512_i32 : BitVec 32 := 512#32
  let v158 : BitVec 32 := Scalar.muli v17 c512_i32
  let c256_i32 : BitVec 32 := 256#32
  let v159 : BitVec 32 := Scalar.subi v158 c256_i32
  let v160 : BitVec 32 := Scalar.maxsi c0_i32_75 v159
  let v161 : BitVec 32 := Scalar.minsi c7168_i32 v160
  let v162 : BitVec 32 := Scalar.subi v157 v161
  v162
def k0_mult4 (i : grid0.Coords) : BitVec 32 :=
  let c120_i32_81 : BitVec 32 := 120#32
  let c0_i32_80 : BitVec 32 := 0#32
  let arg0 : BitVec 32 := BitVec.ofNat 32 (i 0).val
  let c31_i32 : BitVec 32 := 31#32
  let v7 : BitVec 32 := Scalar.minsi arg0 c31_i32
  let c16_i32 : BitVec 32 := 16#32
  let c0_i32_4 : BitVec 32 := 0#32
  let v8 : BitVec 1 := Scalar.cmpi .eq c16_i32 c0_i32_4
  let c1_i32 : BitVec 32 := 1#32
  let v9 : BitVec 32 := Scalar.select v8 c1_i32 c16_i32
  let v10 : BitVec 32 := Scalar.remsi v7 v9
  let c0_i32_6 : BitVec 32 := 0#32
  let v12 : BitVec 1 := Scalar.cmpi .slt v10 c0_i32_6
  let c0_i32_7 : BitVec 32 := 0#32
  let v13 : BitVec 1 := Scalar.cmpi .slt v9 c0_i32_7
  let v14 : BitVec 1 := Scalar.xori v12 v13
  let c0_i32_5 : BitVec 32 := 0#32
  let v11 : BitVec 1 := Scalar.cmpi .ne v10 c0_i32_5
  let v15 : BitVec 1 := Scalar.andi v14 v11
  let v16 : BitVec 32 := Scalar.addi v10 v9
  let v17 : BitVec 32 := Scalar.select v15 v16 v10
  let c8_i32 : BitVec 32 := 8#32
  let v150 : BitVec 32 := Scalar.muli v17 c8_i32
  let c1_i32_78 : BitVec 32 := 1#32
  let v166 : BitVec 32 := Scalar.addi v150 c1_i32_78
  let c4_i32_79 : BitVec 32 := 4#32
  let v167 : BitVec 32 := Scalar.subi v166 c4_i32_79
  let v168 : BitVec 32 := Scalar.maxsi c0_i32_80 v167
  let v169 : BitVec 32 := Scalar.minsi c120_i32_81 v168
  let c64_i32_83 : BitVec 32 := 64#32
  let v172 : BitVec 32 := Scalar.muli v169 c64_i32_83
  let c7168_i32_87 : BitVec 32 := 7168#32
  let c0_i32_86 : BitVec 32 := 0#32
  let c512_i32_84 : BitVec 32 := 512#32
  let v173 : BitVec 32 := Scalar.muli v17 c512_i32_84
  let c256_i32_85 : BitVec 32 := 256#32
  let v174 : BitVec 32 := Scalar.subi v173 c256_i32_85
  let v175 : BitVec 32 := Scalar.maxsi c0_i32_86 v174
  let v176 : BitVec 32 := Scalar.minsi c7168_i32_87 v175
  let v177 : BitVec 32 := Scalar.subi v172 v176
  v177
def k0_off1 (i : grid0.Coords) (c0_i32_72 : BitVec 32) : Fin 3 → Nat :=
  let c0_93 : Index := 0#32
  let c120_i32 : BitVec 32 := 120#32
  let c0_i32_73 : BitVec 32 := 0#32
  let arg0 : BitVec 32 := BitVec.ofNat 32 (i 0).val
  let c31_i32 : BitVec 32 := 31#32
  let v7 : BitVec 32 := Scalar.minsi arg0 c31_i32
  let c16_i32 : BitVec 32 := 16#32
  let c0_i32_4 : BitVec 32 := 0#32
  let v8 : BitVec 1 := Scalar.cmpi .eq c16_i32 c0_i32_4
  let c1_i32 : BitVec 32 := 1#32
  let v9 : BitVec 32 := Scalar.select v8 c1_i32 c16_i32
  let v10 : BitVec 32 := Scalar.remsi v7 v9
  let c0_i32_6 : BitVec 32 := 0#32
  let v12 : BitVec 1 := Scalar.cmpi .slt v10 c0_i32_6
  let c0_i32_7 : BitVec 32 := 0#32
  let v13 : BitVec 1 := Scalar.cmpi .slt v9 c0_i32_7
  let v14 : BitVec 1 := Scalar.xori v12 v13
  let c0_i32_5 : BitVec 32 := 0#32
  let v11 : BitVec 1 := Scalar.cmpi .ne v10 c0_i32_5
  let v15 : BitVec 1 := Scalar.andi v14 v11
  let v16 : BitVec 32 := Scalar.addi v10 v9
  let v17 : BitVec 32 := Scalar.select v15 v16 v10
  let c8_i32 : BitVec 32 := 8#32
  let v150 : BitVec 32 := Scalar.muli v17 c8_i32
  let v151 : BitVec 32 := Scalar.addi v150 c0_i32_72
  let c4_i32 : BitVec 32 := 4#32
  let v152 : BitVec 32 := Scalar.subi v151 c4_i32
  let v153 : BitVec 32 := Scalar.maxsi c0_i32_73 v152
  let v154 : BitVec 32 := Scalar.minsi c120_i32 v153
  let c64_i32_74 : BitVec 32 := 64#32
  let v157 : BitVec 32 := Scalar.muli v154 c64_i32_74
  let c7168_i32 : BitVec 32 := 7168#32
  let c0_i32_75 : BitVec 32 := 0#32
  let c512_i32 : BitVec 32 := 512#32
  let v158 : BitVec 32 := Scalar.muli v17 c512_i32
  let c256_i32 : BitVec 32 := 256#32
  let v159 : BitVec 32 := Scalar.subi v158 c256_i32
  let v160 : BitVec 32 := Scalar.maxsi c0_i32_75 v159
  let v161 : BitVec 32 := Scalar.minsi c7168_i32 v160
  let v162 : BitVec 32 := Scalar.subi v157 v161
  let v163 : BitVec 32 := v162
  let v183 : Index := Scalar.indexCast v163
  let c0_94 : Index := 0#32
  ![0, v183.toNat, 0]
def k0_off2 (i : grid0.Coords) (c0_i32_72 : BitVec 32) (c0_i32_97 : BitVec 32) : Fin 5 → Nat :=
  let c7_i32 : BitVec 32 := 7#32
  let arg0 : BitVec 32 := BitVec.ofNat 32 (i 0).val
  let c31_i32 : BitVec 32 := 31#32
  let v7 : BitVec 32 := Scalar.minsi arg0 c31_i32
  let c16_i32 : BitVec 32 := 16#32
  let c0_i32_4 : BitVec 32 := 0#32
  let v8 : BitVec 1 := Scalar.cmpi .eq c16_i32 c0_i32_4
  let c1_i32 : BitVec 32 := 1#32
  let v9 : BitVec 32 := Scalar.select v8 c1_i32 c16_i32
  let v10 : BitVec 32 := Scalar.remsi v7 v9
  let c0_i32_6 : BitVec 32 := 0#32
  let v12 : BitVec 1 := Scalar.cmpi .slt v10 c0_i32_6
  let c0_i32_7 : BitVec 32 := 0#32
  let v13 : BitVec 1 := Scalar.cmpi .slt v9 c0_i32_7
  let v14 : BitVec 1 := Scalar.xori v12 v13
  let c0_i32_5 : BitVec 32 := 0#32
  let v11 : BitVec 1 := Scalar.cmpi .ne v10 c0_i32_5
  let v15 : BitVec 1 := Scalar.andi v14 v11
  let v16 : BitVec 32 := Scalar.addi v10 v9
  let v17 : BitVec 32 := Scalar.select v15 v16 v10
  let c8_i32 : BitVec 32 := 8#32
  let v150 : BitVec 32 := Scalar.muli v17 c8_i32
  let v151 : BitVec 32 := Scalar.addi v150 c0_i32_72
  let c120_i32 : BitVec 32 := 120#32
  let c0_i32_73 : BitVec 32 := 0#32
  let c4_i32 : BitVec 32 := 4#32
  let v152 : BitVec 32 := Scalar.subi v151 c4_i32
  let v153 : BitVec 32 := Scalar.maxsi c0_i32_73 v152
  let v154 : BitVec 32 := Scalar.minsi c120_i32 v153
  let v155 : BitVec 32 := Scalar.subi v151 v154
  let v156 : BitVec 32 := Scalar.subi c7_i32 v155
  let c1_i32_76 : BitVec 32 := 1#32
  let v164 : BitVec 32 := Scalar.andi v156 c1_i32_76
  let v192 : Index := Scalar.indexCast v164
  let c0_98 : Index := 0#32
  let c1_i32_77 : BitVec 32 := 1#32
  let v165 : BitVec 32 := Scalar.shrsi v156 c1_i32_77
  let v191 : BitVec 32 := Scalar.addi v165 c0_i32_97
  let v193 : Index := Scalar.indexCast v191
  let c0_99 : Index := 0#32
  let c0_100 : Index := 0#32
  ![v192.toNat, 0, v193.toNat, 0, 0]
def k0_off3 (i : grid0.Coords) (c0_i32_72 : BitVec 32) : Fin 3 → Nat :=
  let c0_118 : Index := 0#32
  let c120_i32 : BitVec 32 := 120#32
  let c0_i32_73 : BitVec 32 := 0#32
  let arg0 : BitVec 32 := BitVec.ofNat 32 (i 0).val
  let c31_i32 : BitVec 32 := 31#32
  let v7 : BitVec 32 := Scalar.minsi arg0 c31_i32
  let c16_i32 : BitVec 32 := 16#32
  let c0_i32_4 : BitVec 32 := 0#32
  let v8 : BitVec 1 := Scalar.cmpi .eq c16_i32 c0_i32_4
  let c1_i32 : BitVec 32 := 1#32
  let v9 : BitVec 32 := Scalar.select v8 c1_i32 c16_i32
  let v10 : BitVec 32 := Scalar.remsi v7 v9
  let c0_i32_6 : BitVec 32 := 0#32
  let v12 : BitVec 1 := Scalar.cmpi .slt v10 c0_i32_6
  let c0_i32_7 : BitVec 32 := 0#32
  let v13 : BitVec 1 := Scalar.cmpi .slt v9 c0_i32_7
  let v14 : BitVec 1 := Scalar.xori v12 v13
  let c0_i32_5 : BitVec 32 := 0#32
  let v11 : BitVec 1 := Scalar.cmpi .ne v10 c0_i32_5
  let v15 : BitVec 1 := Scalar.andi v14 v11
  let v16 : BitVec 32 := Scalar.addi v10 v9
  let v17 : BitVec 32 := Scalar.select v15 v16 v10
  let c8_i32 : BitVec 32 := 8#32
  let v150 : BitVec 32 := Scalar.muli v17 c8_i32
  let v151 : BitVec 32 := Scalar.addi v150 c0_i32_72
  let c4_i32 : BitVec 32 := 4#32
  let v152 : BitVec 32 := Scalar.subi v151 c4_i32
  let v153 : BitVec 32 := Scalar.maxsi c0_i32_73 v152
  let v154 : BitVec 32 := Scalar.minsi c120_i32 v153
  let c64_i32_74 : BitVec 32 := 64#32
  let v157 : BitVec 32 := Scalar.muli v154 c64_i32_74
  let c7168_i32 : BitVec 32 := 7168#32
  let c0_i32_75 : BitVec 32 := 0#32
  let c512_i32 : BitVec 32 := 512#32
  let v158 : BitVec 32 := Scalar.muli v17 c512_i32
  let c256_i32 : BitVec 32 := 256#32
  let v159 : BitVec 32 := Scalar.subi v158 c256_i32
  let v160 : BitVec 32 := Scalar.maxsi c0_i32_75 v159
  let v161 : BitVec 32 := Scalar.minsi c7168_i32 v160
  let v162 : BitVec 32 := Scalar.subi v157 v161
  let v163 : BitVec 32 := v162
  let v222 : Index := Scalar.indexCast v163
  let c128_119 : Index := 128#32
  ![0, v222.toNat, 128]
def k0_off4 (i : grid0.Coords) (c0_i32_72 : BitVec 32) (c0_i32_122 : BitVec 32) : Fin 5 → Nat :=
  let c7_i32 : BitVec 32 := 7#32
  let arg0 : BitVec 32 := BitVec.ofNat 32 (i 0).val
  let c31_i32 : BitVec 32 := 31#32
  let v7 : BitVec 32 := Scalar.minsi arg0 c31_i32
  let c16_i32 : BitVec 32 := 16#32
  let c0_i32_4 : BitVec 32 := 0#32
  let v8 : BitVec 1 := Scalar.cmpi .eq c16_i32 c0_i32_4
  let c1_i32 : BitVec 32 := 1#32
  let v9 : BitVec 32 := Scalar.select v8 c1_i32 c16_i32
  let v10 : BitVec 32 := Scalar.remsi v7 v9
  let c0_i32_6 : BitVec 32 := 0#32
  let v12 : BitVec 1 := Scalar.cmpi .slt v10 c0_i32_6
  let c0_i32_7 : BitVec 32 := 0#32
  let v13 : BitVec 1 := Scalar.cmpi .slt v9 c0_i32_7
  let v14 : BitVec 1 := Scalar.xori v12 v13
  let c0_i32_5 : BitVec 32 := 0#32
  let v11 : BitVec 1 := Scalar.cmpi .ne v10 c0_i32_5
  let v15 : BitVec 1 := Scalar.andi v14 v11
  let v16 : BitVec 32 := Scalar.addi v10 v9
  let v17 : BitVec 32 := Scalar.select v15 v16 v10
  let c8_i32 : BitVec 32 := 8#32
  let v150 : BitVec 32 := Scalar.muli v17 c8_i32
  let v151 : BitVec 32 := Scalar.addi v150 c0_i32_72
  let c120_i32 : BitVec 32 := 120#32
  let c0_i32_73 : BitVec 32 := 0#32
  let c4_i32 : BitVec 32 := 4#32
  let v152 : BitVec 32 := Scalar.subi v151 c4_i32
  let v153 : BitVec 32 := Scalar.maxsi c0_i32_73 v152
  let v154 : BitVec 32 := Scalar.minsi c120_i32 v153
  let v155 : BitVec 32 := Scalar.subi v151 v154
  let v156 : BitVec 32 := Scalar.subi c7_i32 v155
  let c1_i32_76 : BitVec 32 := 1#32
  let v164 : BitVec 32 := Scalar.andi v156 c1_i32_76
  let v231 : Index := Scalar.indexCast v164
  let c1 : Index := 1#32
  let c1_i32_77 : BitVec 32 := 1#32
  let v165 : BitVec 32 := Scalar.shrsi v156 c1_i32_77
  let v230 : BitVec 32 := Scalar.addi v165 c0_i32_122
  let v232 : Index := Scalar.indexCast v230
  let c0_123 : Index := 0#32
  let c0_124 : Index := 0#32
  ![v231.toNat, 1, v232.toNat, 0, 0]
def k0_off5 (i : grid0.Coords) (c0_i32_72 : BitVec 32) : Fin 3 → Nat :=
  let c0_144 : Index := 0#32
  let c120_i32 : BitVec 32 := 120#32
  let c0_i32_73 : BitVec 32 := 0#32
  let arg0 : BitVec 32 := BitVec.ofNat 32 (i 0).val
  let c31_i32 : BitVec 32 := 31#32
  let v7 : BitVec 32 := Scalar.minsi arg0 c31_i32
  let c16_i32 : BitVec 32 := 16#32
  let c0_i32_4 : BitVec 32 := 0#32
  let v8 : BitVec 1 := Scalar.cmpi .eq c16_i32 c0_i32_4
  let c1_i32 : BitVec 32 := 1#32
  let v9 : BitVec 32 := Scalar.select v8 c1_i32 c16_i32
  let v10 : BitVec 32 := Scalar.remsi v7 v9
  let c0_i32_6 : BitVec 32 := 0#32
  let v12 : BitVec 1 := Scalar.cmpi .slt v10 c0_i32_6
  let c0_i32_7 : BitVec 32 := 0#32
  let v13 : BitVec 1 := Scalar.cmpi .slt v9 c0_i32_7
  let v14 : BitVec 1 := Scalar.xori v12 v13
  let c0_i32_5 : BitVec 32 := 0#32
  let v11 : BitVec 1 := Scalar.cmpi .ne v10 c0_i32_5
  let v15 : BitVec 1 := Scalar.andi v14 v11
  let v16 : BitVec 32 := Scalar.addi v10 v9
  let v17 : BitVec 32 := Scalar.select v15 v16 v10
  let c8_i32 : BitVec 32 := 8#32
  let v150 : BitVec 32 := Scalar.muli v17 c8_i32
  let v151 : BitVec 32 := Scalar.addi v150 c0_i32_72
  let c4_i32 : BitVec 32 := 4#32
  let v152 : BitVec 32 := Scalar.subi v151 c4_i32
  let v153 : BitVec 32 := Scalar.maxsi c0_i32_73 v152
  let v154 : BitVec 32 := Scalar.minsi c120_i32 v153
  let c64_i32_74 : BitVec 32 := 64#32
  let v157 : BitVec 32 := Scalar.muli v154 c64_i32_74
  let c7168_i32 : BitVec 32 := 7168#32
  let c0_i32_75 : BitVec 32 := 0#32
  let c512_i32 : BitVec 32 := 512#32
  let v158 : BitVec 32 := Scalar.muli v17 c512_i32
  let c256_i32 : BitVec 32 := 256#32
  let v159 : BitVec 32 := Scalar.subi v158 c256_i32
  let v160 : BitVec 32 := Scalar.maxsi c0_i32_75 v159
  let v161 : BitVec 32 := Scalar.minsi c7168_i32 v160
  let v162 : BitVec 32 := Scalar.subi v157 v161
  let v163 : BitVec 32 := v162
  let v261 : Index := Scalar.indexCast v163
  let c256_145 : Index := 256#32
  ![0, v261.toNat, 256]
def k0_off6 (i : grid0.Coords) (c0_i32_72 : BitVec 32) (c0_i32_148 : BitVec 32) : Fin 5 → Nat :=
  let c7_i32 : BitVec 32 := 7#32
  let arg0 : BitVec 32 := BitVec.ofNat 32 (i 0).val
  let c31_i32 : BitVec 32 := 31#32
  let v7 : BitVec 32 := Scalar.minsi arg0 c31_i32
  let c16_i32 : BitVec 32 := 16#32
  let c0_i32_4 : BitVec 32 := 0#32
  let v8 : BitVec 1 := Scalar.cmpi .eq c16_i32 c0_i32_4
  let c1_i32 : BitVec 32 := 1#32
  let v9 : BitVec 32 := Scalar.select v8 c1_i32 c16_i32
  let v10 : BitVec 32 := Scalar.remsi v7 v9
  let c0_i32_6 : BitVec 32 := 0#32
  let v12 : BitVec 1 := Scalar.cmpi .slt v10 c0_i32_6
  let c0_i32_7 : BitVec 32 := 0#32
  let v13 : BitVec 1 := Scalar.cmpi .slt v9 c0_i32_7
  let v14 : BitVec 1 := Scalar.xori v12 v13
  let c0_i32_5 : BitVec 32 := 0#32
  let v11 : BitVec 1 := Scalar.cmpi .ne v10 c0_i32_5
  let v15 : BitVec 1 := Scalar.andi v14 v11
  let v16 : BitVec 32 := Scalar.addi v10 v9
  let v17 : BitVec 32 := Scalar.select v15 v16 v10
  let c8_i32 : BitVec 32 := 8#32
  let v150 : BitVec 32 := Scalar.muli v17 c8_i32
  let v151 : BitVec 32 := Scalar.addi v150 c0_i32_72
  let c120_i32 : BitVec 32 := 120#32
  let c0_i32_73 : BitVec 32 := 0#32
  let c4_i32 : BitVec 32 := 4#32
  let v152 : BitVec 32 := Scalar.subi v151 c4_i32
  let v153 : BitVec 32 := Scalar.maxsi c0_i32_73 v152
  let v154 : BitVec 32 := Scalar.minsi c120_i32 v153
  let v155 : BitVec 32 := Scalar.subi v151 v154
  let v156 : BitVec 32 := Scalar.subi c7_i32 v155
  let c1_i32_76 : BitVec 32 := 1#32
  let v164 : BitVec 32 := Scalar.andi v156 c1_i32_76
  let v270 : Index := Scalar.indexCast v164
  let c2 : Index := 2#32
  let c1_i32_77 : BitVec 32 := 1#32
  let v165 : BitVec 32 := Scalar.shrsi v156 c1_i32_77
  let v269 : BitVec 32 := Scalar.addi v165 c0_i32_148
  let v271 : Index := Scalar.indexCast v269
  let c0_149 : Index := 0#32
  let c0_150 : Index := 0#32
  ![v270.toNat, 2, v271.toNat, 0, 0]
def k0_off7 (i : grid0.Coords) (c0_i32_72 : BitVec 32) : Fin 3 → Nat :=
  let c0_170 : Index := 0#32
  let c120_i32 : BitVec 32 := 120#32
  let c0_i32_73 : BitVec 32 := 0#32
  let arg0 : BitVec 32 := BitVec.ofNat 32 (i 0).val
  let c31_i32 : BitVec 32 := 31#32
  let v7 : BitVec 32 := Scalar.minsi arg0 c31_i32
  let c16_i32 : BitVec 32 := 16#32
  let c0_i32_4 : BitVec 32 := 0#32
  let v8 : BitVec 1 := Scalar.cmpi .eq c16_i32 c0_i32_4
  let c1_i32 : BitVec 32 := 1#32
  let v9 : BitVec 32 := Scalar.select v8 c1_i32 c16_i32
  let v10 : BitVec 32 := Scalar.remsi v7 v9
  let c0_i32_6 : BitVec 32 := 0#32
  let v12 : BitVec 1 := Scalar.cmpi .slt v10 c0_i32_6
  let c0_i32_7 : BitVec 32 := 0#32
  let v13 : BitVec 1 := Scalar.cmpi .slt v9 c0_i32_7
  let v14 : BitVec 1 := Scalar.xori v12 v13
  let c0_i32_5 : BitVec 32 := 0#32
  let v11 : BitVec 1 := Scalar.cmpi .ne v10 c0_i32_5
  let v15 : BitVec 1 := Scalar.andi v14 v11
  let v16 : BitVec 32 := Scalar.addi v10 v9
  let v17 : BitVec 32 := Scalar.select v15 v16 v10
  let c8_i32 : BitVec 32 := 8#32
  let v150 : BitVec 32 := Scalar.muli v17 c8_i32
  let v151 : BitVec 32 := Scalar.addi v150 c0_i32_72
  let c4_i32 : BitVec 32 := 4#32
  let v152 : BitVec 32 := Scalar.subi v151 c4_i32
  let v153 : BitVec 32 := Scalar.maxsi c0_i32_73 v152
  let v154 : BitVec 32 := Scalar.minsi c120_i32 v153
  let c64_i32_74 : BitVec 32 := 64#32
  let v157 : BitVec 32 := Scalar.muli v154 c64_i32_74
  let c7168_i32 : BitVec 32 := 7168#32
  let c0_i32_75 : BitVec 32 := 0#32
  let c512_i32 : BitVec 32 := 512#32
  let v158 : BitVec 32 := Scalar.muli v17 c512_i32
  let c256_i32 : BitVec 32 := 256#32
  let v159 : BitVec 32 := Scalar.subi v158 c256_i32
  let v160 : BitVec 32 := Scalar.maxsi c0_i32_75 v159
  let v161 : BitVec 32 := Scalar.minsi c7168_i32 v160
  let v162 : BitVec 32 := Scalar.subi v157 v161
  let v163 : BitVec 32 := v162
  let v300 : Index := Scalar.indexCast v163
  let c384_171 : Index := 384#32
  ![0, v300.toNat, 384]
def k0_off8 (i : grid0.Coords) (c0_i32_72 : BitVec 32) (c0_i32_174 : BitVec 32) : Fin 5 → Nat :=
  let c7_i32 : BitVec 32 := 7#32
  let arg0 : BitVec 32 := BitVec.ofNat 32 (i 0).val
  let c31_i32 : BitVec 32 := 31#32
  let v7 : BitVec 32 := Scalar.minsi arg0 c31_i32
  let c16_i32 : BitVec 32 := 16#32
  let c0_i32_4 : BitVec 32 := 0#32
  let v8 : BitVec 1 := Scalar.cmpi .eq c16_i32 c0_i32_4
  let c1_i32 : BitVec 32 := 1#32
  let v9 : BitVec 32 := Scalar.select v8 c1_i32 c16_i32
  let v10 : BitVec 32 := Scalar.remsi v7 v9
  let c0_i32_6 : BitVec 32 := 0#32
  let v12 : BitVec 1 := Scalar.cmpi .slt v10 c0_i32_6
  let c0_i32_7 : BitVec 32 := 0#32
  let v13 : BitVec 1 := Scalar.cmpi .slt v9 c0_i32_7
  let v14 : BitVec 1 := Scalar.xori v12 v13
  let c0_i32_5 : BitVec 32 := 0#32
  let v11 : BitVec 1 := Scalar.cmpi .ne v10 c0_i32_5
  let v15 : BitVec 1 := Scalar.andi v14 v11
  let v16 : BitVec 32 := Scalar.addi v10 v9
  let v17 : BitVec 32 := Scalar.select v15 v16 v10
  let c8_i32 : BitVec 32 := 8#32
  let v150 : BitVec 32 := Scalar.muli v17 c8_i32
  let v151 : BitVec 32 := Scalar.addi v150 c0_i32_72
  let c120_i32 : BitVec 32 := 120#32
  let c0_i32_73 : BitVec 32 := 0#32
  let c4_i32 : BitVec 32 := 4#32
  let v152 : BitVec 32 := Scalar.subi v151 c4_i32
  let v153 : BitVec 32 := Scalar.maxsi c0_i32_73 v152
  let v154 : BitVec 32 := Scalar.minsi c120_i32 v153
  let v155 : BitVec 32 := Scalar.subi v151 v154
  let v156 : BitVec 32 := Scalar.subi c7_i32 v155
  let c1_i32_76 : BitVec 32 := 1#32
  let v164 : BitVec 32 := Scalar.andi v156 c1_i32_76
  let v309 : Index := Scalar.indexCast v164
  let c3 : Index := 3#32
  let c1_i32_77 : BitVec 32 := 1#32
  let v165 : BitVec 32 := Scalar.shrsi v156 c1_i32_77
  let v308 : BitVec 32 := Scalar.addi v165 c0_i32_174
  let v310 : Index := Scalar.indexCast v308
  let c0_175 : Index := 0#32
  let c0_176 : Index := 0#32
  ![v309.toNat, 3, v310.toNat, 0, 0]
def k0_mult5 (i : grid0.Coords) : BitVec 32 :=
  let c120_i32_492 : BitVec 32 := 120#32
  let c0_i32_491 : BitVec 32 := 0#32
  let arg0 : BitVec 32 := BitVec.ofNat 32 (i 0).val
  let c31_i32 : BitVec 32 := 31#32
  let v7 : BitVec 32 := Scalar.minsi arg0 c31_i32
  let c16_i32 : BitVec 32 := 16#32
  let c0_i32_4 : BitVec 32 := 0#32
  let v8 : BitVec 1 := Scalar.cmpi .eq c16_i32 c0_i32_4
  let c1_i32 : BitVec 32 := 1#32
  let v9 : BitVec 32 := Scalar.select v8 c1_i32 c16_i32
  let v10 : BitVec 32 := Scalar.remsi v7 v9
  let c0_i32_6 : BitVec 32 := 0#32
  let v12 : BitVec 1 := Scalar.cmpi .slt v10 c0_i32_6
  let c0_i32_7 : BitVec 32 := 0#32
  let v13 : BitVec 1 := Scalar.cmpi .slt v9 c0_i32_7
  let v14 : BitVec 1 := Scalar.xori v12 v13
  let c0_i32_5 : BitVec 32 := 0#32
  let v11 : BitVec 1 := Scalar.cmpi .ne v10 c0_i32_5
  let v15 : BitVec 1 := Scalar.andi v14 v11
  let v16 : BitVec 32 := Scalar.addi v10 v9
  let v17 : BitVec 32 := Scalar.select v15 v16 v10
  let c8_i32_488 : BitVec 32 := 8#32
  let v792 : BitVec 32 := Scalar.muli v17 c8_i32_488
  let c2_i32_489 : BitVec 32 := 2#32
  let v793 : BitVec 32 := Scalar.addi v792 c2_i32_489
  let c4_i32_490 : BitVec 32 := 4#32
  let v794 : BitVec 32 := Scalar.subi v793 c4_i32_490
  let v795 : BitVec 32 := Scalar.maxsi c0_i32_491 v794
  let v796 : BitVec 32 := Scalar.minsi c120_i32_492 v795
  let c64_i32_494 : BitVec 32 := 64#32
  let v799 : BitVec 32 := Scalar.muli v796 c64_i32_494
  let c7168_i32_498 : BitVec 32 := 7168#32
  let c0_i32_497 : BitVec 32 := 0#32
  let c512_i32_495 : BitVec 32 := 512#32
  let v800 : BitVec 32 := Scalar.muli v17 c512_i32_495
  let c256_i32_496 : BitVec 32 := 256#32
  let v801 : BitVec 32 := Scalar.subi v800 c256_i32_496
  let v802 : BitVec 32 := Scalar.maxsi c0_i32_497 v801
  let v803 : BitVec 32 := Scalar.minsi c7168_i32_498 v802
  let v804 : BitVec 32 := Scalar.subi v799 v803
  v804
def k0_mult6 (i : grid0.Coords) : BitVec 32 :=
  let c120_i32_504 : BitVec 32 := 120#32
  let c0_i32_503 : BitVec 32 := 0#32
  let arg0 : BitVec 32 := BitVec.ofNat 32 (i 0).val
  let c31_i32 : BitVec 32 := 31#32
  let v7 : BitVec 32 := Scalar.minsi arg0 c31_i32
  let c16_i32 : BitVec 32 := 16#32
  let c0_i32_4 : BitVec 32 := 0#32
  let v8 : BitVec 1 := Scalar.cmpi .eq c16_i32 c0_i32_4
  let c1_i32 : BitVec 32 := 1#32
  let v9 : BitVec 32 := Scalar.select v8 c1_i32 c16_i32
  let v10 : BitVec 32 := Scalar.remsi v7 v9
  let c0_i32_6 : BitVec 32 := 0#32
  let v12 : BitVec 1 := Scalar.cmpi .slt v10 c0_i32_6
  let c0_i32_7 : BitVec 32 := 0#32
  let v13 : BitVec 1 := Scalar.cmpi .slt v9 c0_i32_7
  let v14 : BitVec 1 := Scalar.xori v12 v13
  let c0_i32_5 : BitVec 32 := 0#32
  let v11 : BitVec 1 := Scalar.cmpi .ne v10 c0_i32_5
  let v15 : BitVec 1 := Scalar.andi v14 v11
  let v16 : BitVec 32 := Scalar.addi v10 v9
  let v17 : BitVec 32 := Scalar.select v15 v16 v10
  let c8_i32_488 : BitVec 32 := 8#32
  let v792 : BitVec 32 := Scalar.muli v17 c8_i32_488
  let c3_i32_501 : BitVec 32 := 3#32
  let v808 : BitVec 32 := Scalar.addi v792 c3_i32_501
  let c4_i32_502 : BitVec 32 := 4#32
  let v809 : BitVec 32 := Scalar.subi v808 c4_i32_502
  let v810 : BitVec 32 := Scalar.maxsi c0_i32_503 v809
  let v811 : BitVec 32 := Scalar.minsi c120_i32_504 v810
  let c64_i32_506 : BitVec 32 := 64#32
  let v814 : BitVec 32 := Scalar.muli v811 c64_i32_506
  let c7168_i32_510 : BitVec 32 := 7168#32
  let c0_i32_509 : BitVec 32 := 0#32
  let c512_i32_507 : BitVec 32 := 512#32
  let v815 : BitVec 32 := Scalar.muli v17 c512_i32_507
  let c256_i32_508 : BitVec 32 := 256#32
  let v816 : BitVec 32 := Scalar.subi v815 c256_i32_508
  let v817 : BitVec 32 := Scalar.maxsi c0_i32_509 v816
  let v818 : BitVec 32 := Scalar.minsi c7168_i32_510 v817
  let v819 : BitVec 32 := Scalar.subi v814 v818
  v819
def k0_mult7 (i : grid0.Coords) : BitVec 32 :=
  let c120_i32_927 : BitVec 32 := 120#32
  let c0_i32_926 : BitVec 32 := 0#32
  let arg0 : BitVec 32 := BitVec.ofNat 32 (i 0).val
  let c31_i32 : BitVec 32 := 31#32
  let v7 : BitVec 32 := Scalar.minsi arg0 c31_i32
  let c16_i32 : BitVec 32 := 16#32
  let c0_i32_4 : BitVec 32 := 0#32
  let v8 : BitVec 1 := Scalar.cmpi .eq c16_i32 c0_i32_4
  let c1_i32 : BitVec 32 := 1#32
  let v9 : BitVec 32 := Scalar.select v8 c1_i32 c16_i32
  let v10 : BitVec 32 := Scalar.remsi v7 v9
  let c0_i32_6 : BitVec 32 := 0#32
  let v12 : BitVec 1 := Scalar.cmpi .slt v10 c0_i32_6
  let c0_i32_7 : BitVec 32 := 0#32
  let v13 : BitVec 1 := Scalar.cmpi .slt v9 c0_i32_7
  let v14 : BitVec 1 := Scalar.xori v12 v13
  let c0_i32_5 : BitVec 32 := 0#32
  let v11 : BitVec 1 := Scalar.cmpi .ne v10 c0_i32_5
  let v15 : BitVec 1 := Scalar.andi v14 v11
  let v16 : BitVec 32 := Scalar.addi v10 v9
  let v17 : BitVec 32 := Scalar.select v15 v16 v10
  let c8_i32_923 : BitVec 32 := 8#32
  let v1434 : BitVec 32 := Scalar.muli v17 c8_i32_923
  let c4_i32_924 : BitVec 32 := 4#32
  let v1435 : BitVec 32 := Scalar.addi v1434 c4_i32_924
  let c4_i32_925 : BitVec 32 := 4#32
  let v1436 : BitVec 32 := Scalar.subi v1435 c4_i32_925
  let v1437 : BitVec 32 := Scalar.maxsi c0_i32_926 v1436
  let v1438 : BitVec 32 := Scalar.minsi c120_i32_927 v1437
  let c64_i32_929 : BitVec 32 := 64#32
  let v1441 : BitVec 32 := Scalar.muli v1438 c64_i32_929
  let c7168_i32_933 : BitVec 32 := 7168#32
  let c0_i32_932 : BitVec 32 := 0#32
  let c512_i32_930 : BitVec 32 := 512#32
  let v1442 : BitVec 32 := Scalar.muli v17 c512_i32_930
  let c256_i32_931 : BitVec 32 := 256#32
  let v1443 : BitVec 32 := Scalar.subi v1442 c256_i32_931
  let v1444 : BitVec 32 := Scalar.maxsi c0_i32_932 v1443
  let v1445 : BitVec 32 := Scalar.minsi c7168_i32_933 v1444
  let v1446 : BitVec 32 := Scalar.subi v1441 v1445
  v1446
def k0_mult8 (i : grid0.Coords) : BitVec 32 :=
  let c120_i32_938 : BitVec 32 := 120#32
  let c0_i32_937 : BitVec 32 := 0#32
  let arg0 : BitVec 32 := BitVec.ofNat 32 (i 0).val
  let c31_i32 : BitVec 32 := 31#32
  let v7 : BitVec 32 := Scalar.minsi arg0 c31_i32
  let c16_i32 : BitVec 32 := 16#32
  let c0_i32_4 : BitVec 32 := 0#32
  let v8 : BitVec 1 := Scalar.cmpi .eq c16_i32 c0_i32_4
  let c1_i32 : BitVec 32 := 1#32
  let v9 : BitVec 32 := Scalar.select v8 c1_i32 c16_i32
  let v10 : BitVec 32 := Scalar.remsi v7 v9
  let c0_i32_6 : BitVec 32 := 0#32
  let v12 : BitVec 1 := Scalar.cmpi .slt v10 c0_i32_6
  let c0_i32_7 : BitVec 32 := 0#32
  let v13 : BitVec 1 := Scalar.cmpi .slt v9 c0_i32_7
  let v14 : BitVec 1 := Scalar.xori v12 v13
  let c0_i32_5 : BitVec 32 := 0#32
  let v11 : BitVec 1 := Scalar.cmpi .ne v10 c0_i32_5
  let v15 : BitVec 1 := Scalar.andi v14 v11
  let v16 : BitVec 32 := Scalar.addi v10 v9
  let v17 : BitVec 32 := Scalar.select v15 v16 v10
  let c8_i32_923 : BitVec 32 := 8#32
  let v1434 : BitVec 32 := Scalar.muli v17 c8_i32_923
  let c5_i32 : BitVec 32 := 5#32
  let v1450 : BitVec 32 := Scalar.addi v1434 c5_i32
  let c4_i32_936 : BitVec 32 := 4#32
  let v1451 : BitVec 32 := Scalar.subi v1450 c4_i32_936
  let v1452 : BitVec 32 := Scalar.maxsi c0_i32_937 v1451
  let v1453 : BitVec 32 := Scalar.minsi c120_i32_938 v1452
  let c64_i32_940 : BitVec 32 := 64#32
  let v1456 : BitVec 32 := Scalar.muli v1453 c64_i32_940
  let c7168_i32_944 : BitVec 32 := 7168#32
  let c0_i32_943 : BitVec 32 := 0#32
  let c512_i32_941 : BitVec 32 := 512#32
  let v1457 : BitVec 32 := Scalar.muli v17 c512_i32_941
  let c256_i32_942 : BitVec 32 := 256#32
  let v1458 : BitVec 32 := Scalar.subi v1457 c256_i32_942
  let v1459 : BitVec 32 := Scalar.maxsi c0_i32_943 v1458
  let v1460 : BitVec 32 := Scalar.minsi c7168_i32_944 v1459
  let v1461 : BitVec 32 := Scalar.subi v1456 v1460
  v1461
def k0_mult9 (i : grid0.Coords) : BitVec 32 :=
  let c120_i32_1360 : BitVec 32 := 120#32
  let c0_i32_1359 : BitVec 32 := 0#32
  let arg0 : BitVec 32 := BitVec.ofNat 32 (i 0).val
  let c31_i32 : BitVec 32 := 31#32
  let v7 : BitVec 32 := Scalar.minsi arg0 c31_i32
  let c16_i32 : BitVec 32 := 16#32
  let c0_i32_4 : BitVec 32 := 0#32
  let v8 : BitVec 1 := Scalar.cmpi .eq c16_i32 c0_i32_4
  let c1_i32 : BitVec 32 := 1#32
  let v9 : BitVec 32 := Scalar.select v8 c1_i32 c16_i32
  let v10 : BitVec 32 := Scalar.remsi v7 v9
  let c0_i32_6 : BitVec 32 := 0#32
  let v12 : BitVec 1 := Scalar.cmpi .slt v10 c0_i32_6
  let c0_i32_7 : BitVec 32 := 0#32
  let v13 : BitVec 1 := Scalar.cmpi .slt v9 c0_i32_7
  let v14 : BitVec 1 := Scalar.xori v12 v13
  let c0_i32_5 : BitVec 32 := 0#32
  let v11 : BitVec 1 := Scalar.cmpi .ne v10 c0_i32_5
  let v15 : BitVec 1 := Scalar.andi v14 v11
  let v16 : BitVec 32 := Scalar.addi v10 v9
  let v17 : BitVec 32 := Scalar.select v15 v16 v10
  let c8_i32_1357 : BitVec 32 := 8#32
  let v2076 : BitVec 32 := Scalar.muli v17 c8_i32_1357
  let c6_i32 : BitVec 32 := 6#32
  let v2077 : BitVec 32 := Scalar.addi v2076 c6_i32
  let c4_i32_1358 : BitVec 32 := 4#32
  let v2078 : BitVec 32 := Scalar.subi v2077 c4_i32_1358
  let v2079 : BitVec 32 := Scalar.maxsi c0_i32_1359 v2078
  let v2080 : BitVec 32 := Scalar.minsi c120_i32_1360 v2079
  let c64_i32_1362 : BitVec 32 := 64#32
  let v2083 : BitVec 32 := Scalar.muli v2080 c64_i32_1362
  let c7168_i32_1366 : BitVec 32 := 7168#32
  let c0_i32_1365 : BitVec 32 := 0#32
  let c512_i32_1363 : BitVec 32 := 512#32
  let v2084 : BitVec 32 := Scalar.muli v17 c512_i32_1363
  let c256_i32_1364 : BitVec 32 := 256#32
  let v2085 : BitVec 32 := Scalar.subi v2084 c256_i32_1364
  let v2086 : BitVec 32 := Scalar.maxsi c0_i32_1365 v2085
  let v2087 : BitVec 32 := Scalar.minsi c7168_i32_1366 v2086
  let v2088 : BitVec 32 := Scalar.subi v2083 v2087
  v2088
def k0_mult10 (i : grid0.Coords) : BitVec 32 :=
  let c120_i32_1372 : BitVec 32 := 120#32
  let c0_i32_1371 : BitVec 32 := 0#32
  let arg0 : BitVec 32 := BitVec.ofNat 32 (i 0).val
  let c31_i32 : BitVec 32 := 31#32
  let v7 : BitVec 32 := Scalar.minsi arg0 c31_i32
  let c16_i32 : BitVec 32 := 16#32
  let c0_i32_4 : BitVec 32 := 0#32
  let v8 : BitVec 1 := Scalar.cmpi .eq c16_i32 c0_i32_4
  let c1_i32 : BitVec 32 := 1#32
  let v9 : BitVec 32 := Scalar.select v8 c1_i32 c16_i32
  let v10 : BitVec 32 := Scalar.remsi v7 v9
  let c0_i32_6 : BitVec 32 := 0#32
  let v12 : BitVec 1 := Scalar.cmpi .slt v10 c0_i32_6
  let c0_i32_7 : BitVec 32 := 0#32
  let v13 : BitVec 1 := Scalar.cmpi .slt v9 c0_i32_7
  let v14 : BitVec 1 := Scalar.xori v12 v13
  let c0_i32_5 : BitVec 32 := 0#32
  let v11 : BitVec 1 := Scalar.cmpi .ne v10 c0_i32_5
  let v15 : BitVec 1 := Scalar.andi v14 v11
  let v16 : BitVec 32 := Scalar.addi v10 v9
  let v17 : BitVec 32 := Scalar.select v15 v16 v10
  let c8_i32_1357 : BitVec 32 := 8#32
  let v2076 : BitVec 32 := Scalar.muli v17 c8_i32_1357
  let c7_i32_1369 : BitVec 32 := 7#32
  let v2092 : BitVec 32 := Scalar.addi v2076 c7_i32_1369
  let c4_i32_1370 : BitVec 32 := 4#32
  let v2093 : BitVec 32 := Scalar.subi v2092 c4_i32_1370
  let v2094 : BitVec 32 := Scalar.maxsi c0_i32_1371 v2093
  let v2095 : BitVec 32 := Scalar.minsi c120_i32_1372 v2094
  let c64_i32_1374 : BitVec 32 := 64#32
  let v2098 : BitVec 32 := Scalar.muli v2095 c64_i32_1374
  let c7168_i32_1378 : BitVec 32 := 7168#32
  let c0_i32_1377 : BitVec 32 := 0#32
  let c512_i32_1375 : BitVec 32 := 512#32
  let v2099 : BitVec 32 := Scalar.muli v17 c512_i32_1375
  let c256_i32_1376 : BitVec 32 := 256#32
  let v2100 : BitVec 32 := Scalar.subi v2099 c256_i32_1376
  let v2101 : BitVec 32 := Scalar.maxsi c0_i32_1377 v2100
  let v2102 : BitVec 32 := Scalar.minsi c7168_i32_1378 v2101
  let v2103 : BitVec 32 := Scalar.subi v2098 v2102
  v2103
def cc0_transform_0 (i : grid0.Coords) : Fin 3 → Nat :=
  let arg0 : BitVec 32 := BitVec.ofNat 32 (i 0).val
  let c31_i32 : BitVec 32 := 31#32
  let v0 : BitVec 32 := Scalar.minsi arg0 c31_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c16_i32_4 : BitVec 32 := 16#32
  let c0_i32_5 : BitVec 32 := 0#32
  let v18 : BitVec 1 := Scalar.cmpi .eq c16_i32_4 c0_i32_5
  let c1_i32_6 : BitVec 32 := 1#32
  let v19 : BitVec 32 := Scalar.select v18 c1_i32_6 c16_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, v27.toNat, c0_i32_10.toNat]

def cc0_transform_1 (i : grid0.Coords) : Fin 3 → Nat :=
  let arg0 : BitVec 32 := BitVec.ofNat 32 (i 0).val
  let c31_i32 : BitVec 32 := 31#32
  let v0 : BitVec 32 := Scalar.minsi arg0 c31_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c16_i32_4 : BitVec 32 := 16#32
  let c0_i32_5 : BitVec 32 := 0#32
  let v18 : BitVec 1 := Scalar.cmpi .eq c16_i32_4 c0_i32_5
  let c1_i32_6 : BitVec 32 := 1#32
  let v19 : BitVec 32 := Scalar.select v18 c1_i32_6 c16_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c512_i32 : BitVec 32 := 512#32
  let v28 : BitVec 32 := Scalar.muli v27 c512_i32
  let c256_i32 : BitVec 32 := 256#32
  let v29 : BitVec 32 := Scalar.subi v28 c256_i32
  let c0_i32_10 : BitVec 32 := 0#32
  let c7168_i32 : BitVec 32 := 7168#32
  let v30 : BitVec 32 := Scalar.maxsi c0_i32_10 v29
  let v31 : BitVec 32 := Scalar.minsi c7168_i32 v30
  let v32 : BitVec 32 := v31
  let c0_i32_11 : BitVec 32 := 0#32
  let c0_i32_12 : BitVec 32 := 0#32
  ![v17.toNat, v32.toNat, c0_i32_11.toNat]

def cc0_transform_2 (i : grid0.Coords) : Fin 3 → Nat :=
  let arg0 : BitVec 32 := BitVec.ofNat 32 (i 0).val
  let c31_i32 : BitVec 32 := 31#32
  let v0 : BitVec 32 := Scalar.minsi arg0 c31_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c16_i32_4 : BitVec 32 := 16#32
  let c0_i32_5 : BitVec 32 := 0#32
  let v18 : BitVec 1 := Scalar.cmpi .eq c16_i32_4 c0_i32_5
  let c1_i32_6 : BitVec 32 := 1#32
  let v19 : BitVec 32 := Scalar.select v18 c1_i32_6 c16_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c512_i32 : BitVec 32 := 512#32
  let v28 : BitVec 32 := Scalar.muli v27 c512_i32
  let c256_i32 : BitVec 32 := 256#32
  let v29 : BitVec 32 := Scalar.subi v28 c256_i32
  let c0_i32_10 : BitVec 32 := 0#32
  let c7168_i32 : BitVec 32 := 7168#32
  let v30 : BitVec 32 := Scalar.maxsi c0_i32_10 v29
  let v31 : BitVec 32 := Scalar.minsi c7168_i32 v30
  let v32 : BitVec 32 := v31
  let c0_i32_11 : BitVec 32 := 0#32
  let c0_i32_12 : BitVec 32 := 0#32
  ![v17.toNat, v32.toNat, c0_i32_11.toNat]

def cc0_transform_3 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, c0_i32_0.toNat, c0_i32_1.toNat, c0_i32_2.toNat, c0_i32_3.toNat]

def cc0_transform_4 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let v2 : BitVec 32 := Scalar.divsi v1 c16_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c16_i32_6 : BitVec 32 := 16#32
  let c0_i32_7 : BitVec 32 := 0#32
  let v19 : BitVec 1 := Scalar.cmpi .eq c16_i32_6 c0_i32_7
  let c1_i32_8 : BitVec 32 := 1#32
  let v20 : BitVec 32 := Scalar.select v19 c1_i32_8 c16_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v18.toNat, v28.toNat, c0_i32_12.toNat]

def cc0_transform_5 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let v2 : BitVec 32 := Scalar.divsi v1 c16_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c16_i32_6 : BitVec 32 := 16#32
  let c0_i32_7 : BitVec 32 := 0#32
  let v19 : BitVec 1 := Scalar.cmpi .eq c16_i32_6 c0_i32_7
  let c1_i32_8 : BitVec 32 := 1#32
  let v20 : BitVec 32 := Scalar.select v19 c1_i32_8 c16_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v18.toNat, v28.toNat, c0_i32_12.toNat]

def cc0_transform_6 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let v2 : BitVec 32 := Scalar.divsi v1 c16_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c16_i32_6 : BitVec 32 := 16#32
  let c0_i32_7 : BitVec 32 := 0#32
  let v19 : BitVec 1 := Scalar.cmpi .eq c16_i32_6 c0_i32_7
  let c1_i32_8 : BitVec 32 := 1#32
  let v20 : BitVec 32 := Scalar.select v19 c1_i32_8 c16_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c32_i32 : BitVec 32 := 32#32
  let v29 : BitVec 32 := Scalar.muli v28 c32_i32
  let c1_i32_12 : BitVec 32 := 1#32
  let v30 : BitVec 32 := Scalar.subi v29 c1_i32_12
  let c0_i32_13 : BitVec 32 := 0#32
  let v31 : BitVec 32 := Scalar.maxsi v30 c0_i32_13
  let c0_i32_14 : BitVec 32 := 0#32
  let c0_i32_15 : BitVec 32 := 0#32
  ![v18.toNat, v31.toNat, c0_i32_14.toNat]

def cc0_transform_7 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let v2 : BitVec 32 := Scalar.divsi v1 c16_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c16_i32_6 : BitVec 32 := 16#32
  let c0_i32_7 : BitVec 32 := 0#32
  let v19 : BitVec 1 := Scalar.cmpi .eq c16_i32_6 c0_i32_7
  let c1_i32_8 : BitVec 32 := 1#32
  let v20 : BitVec 32 := Scalar.select v19 c1_i32_8 c16_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c1_i32_12 : BitVec 32 := 1#32
  let v29 : BitVec 32 := Scalar.addi v28 c1_i32_12
  let c32_i32 : BitVec 32 := 32#32
  let v30 : BitVec 32 := Scalar.muli v29 c32_i32
  let c511_i32 : BitVec 32 := 511#32
  let v31 : BitVec 32 := Scalar.minsi v30 c511_i32
  let c0_i32_13 : BitVec 32 := 0#32
  let c0_i32_14 : BitVec 32 := 0#32
  ![v18.toNat, v31.toNat, c0_i32_13.toNat]

def cc0_transform_8 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let v2 : BitVec 32 := Scalar.divsi v1 c16_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c16_i32_6 : BitVec 32 := 16#32
  let c0_i32_7 : BitVec 32 := 0#32
  let v19 : BitVec 1 := Scalar.cmpi .eq c16_i32_6 c0_i32_7
  let c1_i32_8 : BitVec 32 := 1#32
  let v20 : BitVec 32 := Scalar.select v19 c1_i32_8 c16_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v18.toNat, v28.toNat, c0_i32_12.toNat]

def cc0_transform_9 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let v2 : BitVec 32 := Scalar.divsi v1 c16_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c16_i32_6 : BitVec 32 := 16#32
  let c0_i32_7 : BitVec 32 := 0#32
  let v19 : BitVec 1 := Scalar.cmpi .eq c16_i32_6 c0_i32_7
  let c1_i32_8 : BitVec 32 := 1#32
  let v20 : BitVec 32 := Scalar.select v19 c1_i32_8 c16_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v18.toNat, v28.toNat, c0_i32_12.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let v2 : BitVec 32 := Scalar.divsi v1 c16_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c16_i32_6 : BitVec 32 := 16#32
  let c0_i32_7 : BitVec 32 := 0#32
  let v19 : BitVec 1 := Scalar.cmpi .eq c16_i32_6 c0_i32_7
  let c1_i32_8 : BitVec 32 := 1#32
  let v20 : BitVec 32 := Scalar.select v19 c1_i32_8 c16_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v18.toNat, v28.toNat, c0_i32_12.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x4x7x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x16x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x16x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S3x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1024x5632 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S2816x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S1x512x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== ReferenceIdeal.lean ====
abbrev S2x8192x1024 : Shape := ⟨3, ![2, 8192, 1024]⟩
abbrev S2x8192x512 : Shape := ⟨3, ![2, 8192, 512]⟩
abbrev S2x8192x2048 : Shape := ⟨3, ![2, 8192, 2048]⟩
abbrev S1x2048 : Shape := ⟨2, ![1, 2048]⟩
abbrev S1x8x15x31 : Shape := ⟨4, ![1, 8, 15, 31]⟩
abbrev S1x3x512 : Shape := ⟨3, ![1, 3, 512]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S8x15x31 : Shape := ⟨3, ![8, 15, 31]⟩
abbrev S2x128x4x16x8x64 : Shape := ⟨6, ![2, 128, 4, 16, 8, 64]⟩
abbrev S2x128x64x8x64 : Shape := ⟨5, ![2, 128, 64, 8, 64]⟩
abbrev S4 : Shape := ⟨1, ![4]⟩
abbrev S_ : Shape := ⟨0, ![]⟩
abbrev S4x1 : Shape := ⟨2, ![4, 1]⟩
abbrev S32 : Shape := ⟨1, ![32]⟩
abbrev S1x32 : Shape := ⟨2, ![1, 32]⟩
abbrev S4x32 : Shape := ⟨2, ![4, 32]⟩
abbrev S16 : Shape := ⟨1, ![16]⟩
abbrev S1x16 : Shape := ⟨2, ![1, 16]⟩
abbrev S4x16 : Shape := ⟨2, ![4, 16]⟩
abbrev S4x1x32 : Shape := ⟨3, ![4, 1, 32]⟩
abbrev S4x16x1 : Shape := ⟨3, ![4, 16, 1]⟩
abbrev S4x16x32 : Shape := ⟨3, ![4, 16, 32]⟩
abbrev S128 : Shape := ⟨1, ![128]⟩
abbrev S128x1 : Shape := ⟨2, ![128, 1]⟩
abbrev S8 : Shape := ⟨1, ![8]⟩
abbrev S1x8 : Shape := ⟨2, ![1, 8]⟩
abbrev S128x8 : Shape := ⟨2, ![128, 8]⟩
abbrev S128x8x1 : Shape := ⟨3, ![128, 8, 1]⟩
abbrev S2x128x8x64x8x64 : Shape := ⟨6, ![2, 128, 8, 64, 8, 64]⟩
abbrev S4x32x1 : Shape := ⟨3, ![4, 32, 1]⟩
abbrev S2x128x8x4x32x8x64 : Shape := ⟨7, ![2, 128, 8, 4, 32, 8, 64]⟩
abbrev S2x128x8x4x16x8x32 : Shape := ⟨7, ![2, 128, 8, 4, 16, 8, 32]⟩
abbrev S4x16x32x1 : Shape := ⟨4, ![4, 16, 32, 1]⟩
abbrev S8x15x4x16x32 : Shape := ⟨5, ![8, 15, 4, 16, 32]⟩
abbrev S8x128x8x4x16x32 : Shape := ⟨6, ![8, 128, 8, 4, 16, 32]⟩
abbrev S128x8x4x16x8x32 : Shape := ⟨6, ![128, 8, 4, 16, 8, 32]⟩
abbrev S1x128x8x4x16x8x32 : Shape := ⟨7, ![1, 128, 8, 4, 16, 8, 32]⟩
abbrev S1x1x1x4x16x1x32 : Shape := ⟨7, ![1, 1, 1, 4, 16, 1, 32]⟩
abbrev S2x128x8x4x16x256 : Shape := ⟨6, ![2, 128, 8, 4, 16, 256]⟩
abbrev S2x128x8x4x16 : Shape := ⟨5, ![2, 128, 8, 4, 16]⟩
abbrev S2x128x8x4x16x1 : Shape := ⟨6, ![2, 128, 8, 4, 16, 1]⟩
abbrev S2x128x4x8x64x16 : Shape := ⟨6, ![2, 128, 4, 8, 64, 16]⟩
abbrev S3x512 : Shape := ⟨2, ![3, 512]⟩
abbrev S2x8194x512 : Shape := ⟨3, ![2, 8194, 512]⟩
abbrev S1x512 : Shape := ⟨2, ![1, 512]⟩
abbrev S512 : Shape := ⟨1, ![512]⟩
abbrev S1x1x512 : Shape := ⟨3, ![1, 1, 512]⟩
abbrev S2048 : Shape := ⟨1, ![2048]⟩
abbrev S1x1x2048 : Shape := ⟨3, ![1, 1, 2048]⟩
abbrev S512x1024 : Shape := ⟨2, ![512, 1024]⟩
abbrev S1024x1024 : Shape := ⟨2, ![1024, 1024]⟩
abbrev S2x8192 : Shape := ⟨2, ![2, 8192]⟩
abbrev S2x8192x1 : Shape := ⟨3, ![2, 8192, 1]⟩
abbrev S1x1x1024 : Shape := ⟨3, ![1, 1, 1024]⟩
abbrev S1024x5632 : Shape := ⟨2, ![1024, 5632]⟩
abbrev S2816x1024 : Shape := ⟨2, ![2816, 1024]⟩
abbrev S2x8192x5632 : Shape := ⟨3, ![2, 8192, 5632]⟩
abbrev S2x8192x2816 : Shape := ⟨3, ![2, 8192, 2816]⟩

abbrev nBuf : Space → Nat
  | .hbm => 305
  | .vmem => 0
  | .smem => 0
  | _ => 0

abbrev hbmTy0_0 (i : Nat) : BufTy := match i % 128 with
  | 0 => ⟨S2x8192x1024, .f32⟩
  | 1 => ⟨S2x8192x512, .f32⟩
  | 2 => ⟨S2x8192x512, .f32⟩
  | 3 => ⟨S2x8192x512, .f32⟩
  | 4 => ⟨S2x8192x512, .f32⟩
  | 5 => ⟨S2x8192x512, .f32⟩
  | 6 => ⟨S2x8192x2048, .f32⟩
  | 7 => ⟨S1x2048, .f32⟩
  | 8 => ⟨S1x8x15x31, .f32⟩
  | 9 => ⟨S1x3x512, .f32⟩
  | 10 => ⟨S1x512x1024, .f32⟩
  | 11 => ⟨S1x512x1024, .f32⟩
  | 12 => ⟨S1x1024x1024, .f32⟩
  | 13 => ⟨S1x1024, .f32⟩
  | 14 => ⟨S1x1024x5632, .f32⟩
  | 15 => ⟨S1x2816x1024, .f32⟩
  | 16 => ⟨S1024, .f32⟩
  | 17 => ⟨S8x15x31, .f32⟩
  | 18 => ⟨S2x128x4x16x8x64, .f32⟩
  | 19 => ⟨S2x128x64x8x64, .f32⟩
  | 20 => ⟨S2x128x64x8x64, .f32⟩
  | 21 => ⟨S4, .i32⟩
  | 22 => ⟨S_, .i32⟩
  | 23 => ⟨S4, .i32⟩
  | 24 => ⟨S4, .i32⟩
  | 25 => ⟨S_, .i32⟩
  | 26 => ⟨S4, .i32⟩
  | 27 => ⟨S4, .i32⟩
  | 28 => ⟨S_, .i32⟩
  | 29 => ⟨S_, .i32⟩
  | 30 => ⟨S_, .i32⟩
  | 31 => ⟨S4, .i32⟩
  | 32 => ⟨S4, .i32⟩
  | 33 => ⟨S_, .i32⟩
  | 34 => ⟨S4, .i32⟩
  | 35 => ⟨S4, .i32⟩
  | 36 => ⟨S4x1, .i32⟩
  | 37 => ⟨S32, .i32⟩
  | 38 => ⟨S1x32, .i32⟩
  | 39 => ⟨S4x32, .i32⟩
  | 40 => ⟨S4x32, .i32⟩
  | 41 => ⟨S4x32, .i32⟩
  | 42 => ⟨S4x1, .i32⟩
  | 43 => ⟨S_, .i32⟩
  | 44 => ⟨S4x1, .i32⟩
  | 45 => ⟨S4x1, .i32⟩
  | 46 => ⟨S16, .i32⟩
  | 47 => ⟨S1x16, .i32⟩
  | 48 => ⟨S4x16, .i32⟩
  | 49 => ⟨S4x16, .i32⟩
  | 50 => ⟨S4x16, .i32⟩
  | 51 => ⟨S_, .i32⟩
  | 52 => ⟨S4x16, .i32⟩
  | 53 => ⟨S4x16, .i32⟩
  | 54 => ⟨S_, .i32⟩
  | 55 => ⟨S_, .i32⟩
  | 56 => ⟨S_, .i32⟩
  | 57 => ⟨S4x16, .i32⟩
  | 58 => ⟨S4x16, .i32⟩
  | 59 => ⟨S_, .i32⟩
  | 60 => ⟨S4x16, .i32⟩
  | 61 => ⟨S4x16, .i32⟩
  | 62 => ⟨S4x1x32, .i32⟩
  | 63 => ⟨S4x16x1, .i32⟩
  | 64 => ⟨S4x16x32, .i32⟩
  | 65 => ⟨S4x16x32, .i32⟩
  | 66 => ⟨S4x16x32, .i1⟩
  | 67 => ⟨S4x1x32, .i32⟩
  | 68 => ⟨S4x16x1, .i32⟩
  | 69 => ⟨S_, .i32⟩
  | 70 => ⟨S4x16x1, .i32⟩
  | 71 => ⟨S4x16x1, .i32⟩
  | 72 => ⟨S4x16x32, .i32⟩
  | 73 => ⟨S4x16x32, .i32⟩
  | 74 => ⟨S4x16x32, .i1⟩
  | 75 => ⟨S4x16x32, .i1⟩
  | 76 => ⟨S4x1x32, .i32⟩
  | 77 => ⟨S4x16x1, .i32⟩
  | 78 => ⟨S4x16x32, .i32⟩
  | 79 => ⟨S4x16x32, .i32⟩
  | 80 => ⟨S4x16x32, .i32⟩
  | 81 => ⟨S_, .i32⟩
  | 82 => ⟨S4x16x32, .i32⟩
  | 83 => ⟨S4x16x32, .i32⟩
  | 84 => ⟨S_, .i32⟩
  | 85 => ⟨S4x16x32, .i32⟩
  | 86 => ⟨S4x16x32, .i32⟩
  | 87 => ⟨S_, .i32⟩
  | 88 => ⟨S_, .i32⟩
  | 89 => ⟨S_, .i32⟩
  | 90 => ⟨S4x16x32, .i32⟩
  | 91 => ⟨S4x16x32, .i32⟩
  | 92 => ⟨S_, .i32⟩
  | 93 => ⟨S4x16x32, .i32⟩
  | 94 => ⟨S4x16x32, .i32⟩
  | 95 => ⟨S128, .i32⟩
  | 96 => ⟨S_, .i32⟩
  | 97 => ⟨S128, .i32⟩
  | 98 => ⟨S128, .i32⟩
  | 99 => ⟨S_, .i32⟩
  | 100 => ⟨S_, .i32⟩
  | 101 => ⟨S_, .i32⟩
  | 102 => ⟨S128, .i32⟩
  | 103 => ⟨S128, .i32⟩
  | 104 => ⟨S_, .i32⟩
  | 105 => ⟨S128, .i32⟩
  | 106 => ⟨S128, .i32⟩
  | 107 => ⟨S128x1, .i32⟩
  | 108 => ⟨S8, .i32⟩
  | 109 => ⟨S1x8, .i32⟩
  | 110 => ⟨S128x8, .i32⟩
  | 111 => ⟨S128x8, .i32⟩
  | 112 => ⟨S128x8, .i32⟩
  | 113 => ⟨S128x1, .i32⟩
  | 114 => ⟨S128x8, .i32⟩
  | 115 => ⟨S128x8, .i32⟩
  | 116 => ⟨S_, .i32⟩
  | 117 => ⟨S128x8, .i32⟩
  | 118 => ⟨S128x8, .i32⟩
  | 119 => ⟨S_, .i32⟩
  | 120 => ⟨S128x8, .i32⟩
  | 121 => ⟨S128x8, .i1⟩
  | 122 => ⟨S_, .i32⟩
  | 123 => ⟨S128x8, .i32⟩
  | 124 => ⟨S128x8, .i32⟩
  | 125 => ⟨S128x8, .i32⟩
  | 126 => ⟨S128x8x1, .i32⟩
  | 127 => ⟨S2x128x8x64x8x64, .f32⟩
  | _ => ⟨S2x8192x1024, .f32⟩

abbrev hbmTy0_1 (i : Nat) : BufTy := match i % 128 with
  | 0 => ⟨S_, .i32⟩
  | 1 => ⟨S4x32, .i32⟩
  | 2 => ⟨S4x32, .i1⟩
  | 3 => ⟨S_, .i32⟩
  | 4 => ⟨S4x32, .i32⟩
  | 5 => ⟨S4x32, .i32⟩
  | 6 => ⟨S4x32, .i32⟩
  | 7 => ⟨S4x32x1, .i32⟩
  | 8 => ⟨S2x128x8x4x32x8x64, .f32⟩
  | 9 => ⟨S_, .i32⟩
  | 10 => ⟨S128x8, .i32⟩
  | 11 => ⟨S128x8, .i1⟩
  | 12 => ⟨S_, .i32⟩
  | 13 => ⟨S128x8, .i32⟩
  | 14 => ⟨S128x8, .i32⟩
  | 15 => ⟨S128x8, .i32⟩
  | 16 => ⟨S128x8x1, .i32⟩
  | 17 => ⟨S2x128x8x64x8x64, .f32⟩
  | 18 => ⟨S_, .i32⟩
  | 19 => ⟨S4x32, .i32⟩
  | 20 => ⟨S4x32, .i1⟩
  | 21 => ⟨S_, .i32⟩
  | 22 => ⟨S4x32, .i32⟩
  | 23 => ⟨S4x32, .i32⟩
  | 24 => ⟨S4x32, .i32⟩
  | 25 => ⟨S4x32x1, .i32⟩
  | 26 => ⟨S2x128x8x4x32x8x64, .f32⟩
  | 27 => ⟨S2x128x8x4x16x8x32, .f32⟩
  | 28 => ⟨S_, .f32⟩
  | 29 => ⟨S2x128x8x4x16x8x32, .f32⟩
  | 30 => ⟨S2x128x8x4x16x8x32, .f32⟩
  | 31 => ⟨S_, .i32⟩
  | 32 => ⟨S4x16x32, .i32⟩
  | 33 => ⟨S4x16x32, .i1⟩
  | 34 => ⟨S_, .i32⟩
  | 35 => ⟨S4x16x32, .i32⟩
  | 36 => ⟨S4x16x32, .i32⟩
  | 37 => ⟨S4x16x32, .i32⟩
  | 38 => ⟨S4x16x32x1, .i32⟩
  | 39 => ⟨S8x15x4x16x32, .f32⟩
  | 40 => ⟨S_, .i32⟩
  | 41 => ⟨S128x8, .i32⟩
  | 42 => ⟨S128x8, .i1⟩
  | 43 => ⟨S_, .i32⟩
  | 44 => ⟨S128x8, .i32⟩
  | 45 => ⟨S128x8, .i32⟩
  | 46 => ⟨S128x8, .i32⟩
  | 47 => ⟨S128x8x1, .i32⟩
  | 48 => ⟨S8x128x8x4x16x32, .f32⟩
  | 49 => ⟨S128x8x4x16x8x32, .f32⟩
  | 50 => ⟨S1x128x8x4x16x8x32, .f32⟩
  | 51 => ⟨S2x128x8x4x16x8x32, .f32⟩
  | 52 => ⟨S2x128x8x4x16x8x32, .f32⟩
  | 53 => ⟨S1x1x1x4x16x1x32, .i1⟩
  | 54 => ⟨S_, .f32⟩
  | 55 => ⟨S_, .f32⟩
  | 56 => ⟨S2x128x8x4x16x8x32, .i1⟩
  | 57 => ⟨S2x128x8x4x16x8x32, .f32⟩
  | 58 => ⟨S2x128x8x4x16x8x32, .f32⟩
  | 59 => ⟨S2x128x8x4x16x256, .f32⟩
  | 60 => ⟨S_, .f32⟩
  | 61 => ⟨S2x128x8x4x16, .f32⟩
  | 62 => ⟨S_, .f32⟩
  | 63 => ⟨S2x128x8x4x16, .f32⟩
  | 64 => ⟨S2x128x8x4x16, .f32⟩
  | 65 => ⟨S2x128x8x4x16x1, .f32⟩
  | 66 => ⟨S2x128x8x4x16x256, .f32⟩
  | 67 => ⟨S2x128x8x4x16x256, .f32⟩
  | 68 => ⟨S2x128x8x4x16x256, .f32⟩
  | 69 => ⟨S_, .f32⟩
  | 70 => ⟨S2x128x8x4x16, .f32⟩
  | 71 => ⟨S2x128x8x4x16x1, .f32⟩
  | 72 => ⟨S2x128x8x4x16x256, .f32⟩
  | 73 => ⟨S2x128x8x4x16x256, .f32⟩
  | 74 => ⟨S2x128x8x4x16x8x32, .f32⟩
  | 75 => ⟨S2x128x4x8x64x16, .f32⟩
  | 76 => ⟨S2x128x4x16x8x64, .f32⟩
  | 77 => ⟨S2x8192x512, .f32⟩
  | 78 => ⟨S3x512, .f32⟩
  | 79 => ⟨S_, .i32⟩
  | 80 => ⟨S_, .f32⟩
  | 81 => ⟨S2x8194x512, .f32⟩
  | 82 => ⟨S2x8192x512, .f32⟩
  | 83 => ⟨S1x512, .f32⟩
  | 84 => ⟨S512, .f32⟩
  | 85 => ⟨S1x1x512, .f32⟩
  | 86 => ⟨S2x8192x512, .f32⟩
  | 87 => ⟨S2x8192x512, .f32⟩
  | 88 => ⟨S2x8192x512, .f32⟩
  | 89 => ⟨S1x512, .f32⟩
  | 90 => ⟨S512, .f32⟩
  | 91 => ⟨S1x1x512, .f32⟩
  | 92 => ⟨S2x8192x512, .f32⟩
  | 93 => ⟨S2x8192x512, .f32⟩
  | 94 => ⟨S2x8192x512, .f32⟩
  | 95 => ⟨S2x8192x512, .f32⟩
  | 96 => ⟨S1x512, .f32⟩
  | 97 => ⟨S512, .f32⟩
  | 98 => ⟨S1x1x512, .f32⟩
  | 99 => ⟨S2x8192x512, .f32⟩
  | 100 => ⟨S2x8192x512, .f32⟩
  | 101 => ⟨S2x8192x512, .f32⟩
  | 102 => ⟨S2x8192x512, .f32⟩
  | 103 => ⟨S2048, .f32⟩
  | 104 => ⟨S1x1x2048, .f32⟩
  | 105 => ⟨S2x8192x2048, .f32⟩
  | 106 => ⟨S2x8192x2048, .f32⟩
  | 107 => ⟨S2x8192x2048, .f32⟩
  | 108 => ⟨S2x8192x2048, .f32⟩
  | 109 => ⟨S_, .f32⟩
  | 110 => ⟨S2x8192x2048, .f32⟩
  | 111 => ⟨S2x8192x2048, .f32⟩
  | 112 => ⟨S_, .f32⟩
  | 113 => ⟨S2x8192x2048, .f32⟩
  | 114 => ⟨S2x8192x2048, .f32⟩
  | 115 => ⟨S2x8192x1024, .f32⟩
  | 116 => ⟨S2x8192x1024, .f32⟩
  | 117 => ⟨S512x1024, .f32⟩
  | 118 => ⟨S2x8192x1024, .f32⟩
  | 119 => ⟨S2x8192x1024, .f32⟩
  | 120 => ⟨S512x1024, .f32⟩
  | 121 => ⟨S2x8192x1024, .f32⟩
  | 122 => ⟨S2x8192x1024, .f32⟩
  | 123 => ⟨S2x8192x1024, .f32⟩
  | 124 => ⟨S1024x1024, .f32⟩
  | 125 => ⟨S2x8192x1024, .f32⟩
  | 126 => ⟨S2x8192x1024, .f32⟩
  | 127 => ⟨S1024, .f32⟩
  | _ => ⟨S2x8192x1024, .f32⟩

abbrev hbmTy0_2 (i : Nat) : BufTy := match i % 128 with
  | 0 => ⟨S2x8192x1024, .f32⟩
  | 1 => ⟨S_, .f32⟩
  | 2 => ⟨S2x8192, .f32⟩
  | 3 => ⟨S2x8192x1, .f32⟩
  | 4 => ⟨S_, .f32⟩
  | 5 => ⟨S2x8192x1, .f32⟩
  | 6 => ⟨S2x8192x1, .f32⟩
  | 7 => ⟨S_, .f32⟩
  | 8 => ⟨S2x8192x1, .f32⟩
  | 9 => ⟨S2x8192x1, .f32⟩
  | 10 => ⟨S2x8192x1, .f32⟩
  | 11 => ⟨S2x8192x1024, .f32⟩
  | 12 => ⟨S2x8192x1024, .f32⟩
  | 13 => ⟨S1x1x1024, .f32⟩
  | 14 => ⟨S2x8192x1024, .f32⟩
  | 15 => ⟨S2x8192x1024, .f32⟩
  | 16 => ⟨S1024x5632, .f32⟩
  | 17 => ⟨S2816x1024, .f32⟩
  | 18 => ⟨S2x8192x5632, .f32⟩
  | 19 => ⟨S2x8192x2816, .f32⟩
  | 20 => ⟨S2x8192x2816, .f32⟩
  | 21 => ⟨S2x8192x2816, .f32⟩
  | 22 => ⟨S2x8192x2816, .f32⟩
  | 23 => ⟨S_, .f32⟩
  | 24 => ⟨S2x8192x2816, .f32⟩
  | 25 => ⟨S2x8192x2816, .f32⟩
  | 26 => ⟨S_, .f32⟩
  | 27 => ⟨S2x8192x2816, .f32⟩
  | 28 => ⟨S2x8192x2816, .f32⟩
  | 29 => ⟨S2x8192x2816, .f32⟩
  | 30 => ⟨S2x8192x2816, .f32⟩
  | 31 => ⟨S2x8192x1024, .f32⟩
  | 32 => ⟨S2x8192x1024, .f32⟩
  | 33 => ⟨S2x8192x1024, .f32⟩
  | 34 => ⟨S_, .f32⟩
  | 35 => ⟨S2x8192, .f32⟩
  | 36 => ⟨S2x8192x1, .f32⟩
  | 37 => ⟨S_, .f32⟩
  | 38 => ⟨S2x8192x1, .f32⟩
  | 39 => ⟨S2x8192x1, .f32⟩
  | 40 => ⟨S_, .f32⟩
  | 41 => ⟨S2x8192x1, .f32⟩
  | 42 => ⟨S2x8192x1, .f32⟩
  | 43 => ⟨S2x8192x1, .f32⟩
  | 44 => ⟨S2x8192x1024, .f32⟩
  | 45 => ⟨S2x8192x1024, .f32⟩
  | 46 => ⟨S1x1x1024, .f32⟩
  | 47 => ⟨S2x8192x1024, .f32⟩
  | 48 => ⟨S2x8192x1024, .f32⟩
  | _ => ⟨S2x8192x1024, .f32⟩

abbrev hbmTy (i : Nat) : BufTy := match i / 128 with
  | 0 => hbmTy0_0 i
  | 1 => hbmTy0_1 i
  | 2 => hbmTy0_2 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_c : Ref sig .tc := ⟨.hbm, 22, rfl⟩
abbrev main_v5 : Ref sig .tc := ⟨.hbm, 23, rfl⟩
abbrev main_v6 : Ref sig .tc := ⟨.hbm, 24, rfl⟩
abbrev main_c_0 : Ref sig .tc := ⟨.hbm, 25, rfl⟩
abbrev main_v7 : Ref sig .tc := ⟨.hbm, 26, rfl⟩
abbrev main_v8 : Ref sig .tc := ⟨.hbm, 27, rfl⟩
abbrev main_c_1 : Ref sig .tc := ⟨.hbm, 28, rfl⟩
abbrev main_c_2 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_c_3 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_c_4 : Ref sig .tc := ⟨.hbm, 51, rfl⟩
abbrev main_v24 : Ref sig .tc := ⟨.hbm, 52, rfl⟩
abbrev main_v25 : Ref sig .tc := ⟨.hbm, 53, rfl⟩
abbrev main_c_5 : Ref sig .tc := ⟨.hbm, 54, rfl⟩
abbrev main_c_6 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_c_7 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_c_8 : Ref sig .tc := ⟨.hbm, 81, rfl⟩
abbrev main_v45 : Ref sig .tc := ⟨.hbm, 82, rfl⟩
abbrev main_v46 : Ref sig .tc := ⟨.hbm, 83, rfl⟩
abbrev main_c_9 : Ref sig .tc := ⟨.hbm, 84, rfl⟩
abbrev main_v47 : Ref sig .tc := ⟨.hbm, 85, rfl⟩
abbrev main_v48 : Ref sig .tc := ⟨.hbm, 86, rfl⟩
abbrev main_c_10 : Ref sig .tc := ⟨.hbm, 87, rfl⟩
abbrev main_c_11 : Ref sig .tc := ⟨.hbm, 88, rfl⟩
abbrev main_call2_v0 : Ref sig .tc := ⟨.hbm, 89, rfl⟩
abbrev main_call2_v1 : Ref sig .tc := ⟨.hbm, 90, rfl⟩
abbrev main_call2_v2 : Ref sig .tc := ⟨.hbm, 91, rfl⟩
abbrev main_call2_v3 : Ref sig .tc := ⟨.hbm, 92, rfl⟩
abbrev main_call2_v4 : Ref sig .tc := ⟨.hbm, 93, rfl⟩
abbrev main_v49 : Ref sig .tc := ⟨.hbm, 94, rfl⟩
abbrev main_v50 : Ref sig .tc := ⟨.hbm, 95, rfl⟩
abbrev main_c_12 : Ref sig .tc := ⟨.hbm, 96, rfl⟩
abbrev main_v51 : Ref sig .tc := ⟨.hbm, 97, rfl⟩
abbrev main_v52 : Ref sig .tc := ⟨.hbm, 98, rfl⟩
abbrev main_c_13 : Ref sig .tc := ⟨.hbm, 99, rfl⟩
abbrev main_c_14 : Ref sig .tc := ⟨.hbm, 100, rfl⟩
abbrev main_call3_v0 : Ref sig .tc := ⟨.hbm, 101, rfl⟩
abbrev main_call3_v1 : Ref sig .tc := ⟨.hbm, 102, rfl⟩
abbrev main_call3_v2 : Ref sig .tc := ⟨.hbm, 103, rfl⟩
abbrev main_call3_v3 : Ref sig .tc := ⟨.hbm, 104, rfl⟩
abbrev main_call3_v4 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_c_15 : Ref sig .tc := ⟨.hbm, 116, rfl⟩
abbrev main_v63 : Ref sig .tc := ⟨.hbm, 117, rfl⟩
abbrev main_v64 : Ref sig .tc := ⟨.hbm, 118, rfl⟩
abbrev main_c_16 : Ref sig .tc := ⟨.hbm, 119, rfl⟩
abbrev main_v65 : Ref sig .tc := ⟨.hbm, 120, rfl⟩
abbrev main_v66 : Ref sig .tc := ⟨.hbm, 121, rfl⟩
abbrev main_c_17 : Ref sig .tc := ⟨.hbm, 122, rfl⟩
abbrev main_v67 : Ref sig .tc := ⟨.hbm, 123, rfl⟩
abbrev main_v68 : Ref sig .tc := ⟨.hbm, 124, rfl⟩
abbrev main_v69 : Ref sig .tc := ⟨.hbm, 125, rfl⟩
abbrev main_v70 : Ref sig .tc := ⟨.hbm, 126, rfl⟩
abbrev main_v71 : Ref sig .tc := ⟨.hbm, 127, rfl⟩
abbrev main_c_18 : Ref sig .tc := ⟨.hbm, 128, rfl⟩
abbrev main_v72 : Ref sig .tc := ⟨.hbm, 129, rfl⟩
abbrev main_v73 : Ref sig .tc := ⟨.hbm, 130, rfl⟩
abbrev main_c_19 : Ref sig .tc := ⟨.hbm, 131, rfl⟩
abbrev main_v74 : Ref sig .tc := ⟨.hbm, 132, rfl⟩
abbrev main_v75 : Ref sig .tc := ⟨.hbm, 133, rfl⟩
abbrev main_v76 : Ref sig .tc := ⟨.hbm, 134, rfl⟩
abbrev main_v77 : Ref sig .tc := ⟨.hbm, 135, rfl⟩
abbrev main_v78 : Ref sig .tc := ⟨.hbm, 136, rfl⟩
abbrev main_c_20 : Ref sig .tc := ⟨.hbm, 137, rfl⟩
abbrev main_v79 : Ref sig .tc := ⟨.hbm, 138, rfl⟩
abbrev main_v80 : Ref sig .tc := ⟨.hbm, 139, rfl⟩
abbrev main_c_21 : Ref sig .tc := ⟨.hbm, 140, rfl⟩
abbrev main_v81 : Ref sig .tc := ⟨.hbm, 141, rfl⟩
abbrev main_v82 : Ref sig .tc := ⟨.hbm, 142, rfl⟩
abbrev main_v83 : Ref sig .tc := ⟨.hbm, 143, rfl⟩
abbrev main_v84 : Ref sig .tc := ⟨.hbm, 144, rfl⟩
abbrev main_v85 : Ref sig .tc := ⟨.hbm, 145, rfl⟩
abbrev main_c_22 : Ref sig .tc := ⟨.hbm, 146, rfl⟩
abbrev main_v86 : Ref sig .tc := ⟨.hbm, 147, rfl⟩
abbrev main_v87 : Ref sig .tc := ⟨.hbm, 148, rfl⟩
abbrev main_c_23 : Ref sig .tc := ⟨.hbm, 149, rfl⟩
abbrev main_v88 : Ref sig .tc := ⟨.hbm, 150, rfl⟩
abbrev main_v89 : Ref sig .tc := ⟨.hbm, 151, rfl⟩
abbrev main_v90 : Ref sig .tc := ⟨.hbm, 152, rfl⟩
abbrev main_v91 : Ref sig .tc := ⟨.hbm, 153, rfl⟩
abbrev main_v92 : Ref sig .tc := ⟨.hbm, 154, rfl⟩
abbrev main_v93 : Ref sig .tc := ⟨.hbm, 155, rfl⟩
abbrev main_cst : Ref sig .tc := ⟨.hbm, 156, rfl⟩
abbrev main_v94 : Ref sig .tc := ⟨.hbm, 157, rfl⟩
abbrev main_v95 : Ref sig .tc := ⟨.hbm, 158, rfl⟩
abbrev main_c_24 : Ref sig .tc := ⟨.hbm, 159, rfl⟩
abbrev main_v96 : Ref sig .tc := ⟨.hbm, 160, rfl⟩
abbrev main_v97 : Ref sig .tc := ⟨.hbm, 161, rfl⟩
abbrev main_c_25 : Ref sig .tc := ⟨.hbm, 162, rfl⟩
abbrev main_v98 : Ref sig .tc := ⟨.hbm, 163, rfl⟩
abbrev main_v99 : Ref sig .tc := ⟨.hbm, 164, rfl⟩
abbrev main_v100 : Ref sig .tc := ⟨.hbm, 165, rfl⟩
abbrev main_v101 : Ref sig .tc := ⟨.hbm, 166, rfl⟩
abbrev main_v102 : Ref sig .tc := ⟨.hbm, 167, rfl⟩
abbrev main_c_26 : Ref sig .tc := ⟨.hbm, 168, rfl⟩
abbrev main_v103 : Ref sig .tc := ⟨.hbm, 169, rfl⟩
abbrev main_v104 : Ref sig .tc := ⟨.hbm, 170, rfl⟩
abbrev main_c_27 : Ref sig .tc := ⟨.hbm, 171, rfl⟩
abbrev main_v105 : Ref sig .tc := ⟨.hbm, 172, rfl⟩
abbrev main_v106 : Ref sig .tc := ⟨.hbm, 173, rfl⟩
abbrev main_v107 : Ref sig .tc := ⟨.hbm, 174, rfl⟩
abbrev main_v108 : Ref sig .tc := ⟨.hbm, 175, rfl⟩
abbrev main_v109 : Ref sig .tc := ⟨.hbm, 176, rfl⟩
abbrev main_v110 : Ref sig .tc := ⟨.hbm, 177, rfl⟩
abbrev main_v111 : Ref sig .tc := ⟨.hbm, 178, rfl⟩
abbrev main_v112 : Ref sig .tc := ⟨.hbm, 179, rfl⟩
abbrev main_v113 : Ref sig .tc := ⟨.hbm, 180, rfl⟩
abbrev main_v114 : Ref sig .tc := ⟨.hbm, 181, rfl⟩
abbrev main_cst_28 : Ref sig .tc := ⟨.hbm, 182, rfl⟩
abbrev main_call4_v0 : Ref sig .tc := ⟨.hbm, 183, rfl⟩
abbrev main_call4_v1 : Ref sig .tc := ⟨.hbm, 184, rfl⟩
abbrev main_call4_v2 : Ref sig .tc := ⟨.hbm, 185, rfl⟩
abbrev main_v115 : Ref sig .tc := ⟨.hbm, 186, rfl⟩
abbrev main_v116 : Ref sig .tc := ⟨.hbm, 187, rfl⟩
abbrev main_cst_29 : Ref sig .tc := ⟨.hbm, 188, rfl⟩
abbrev main_v117 : Ref sig .tc := ⟨.hbm, 189, rfl⟩
abbrev main_cst_30 : Ref sig .tc := ⟨.hbm, 190, rfl⟩
abbrev main_v118 : Ref sig .tc := ⟨.hbm, 191, rfl⟩
abbrev main_v119 : Ref sig .tc := ⟨.hbm, 192, rfl⟩
abbrev main_v120 : Ref sig .tc := ⟨.hbm, 193, rfl⟩
abbrev main_v121 : Ref sig .tc := ⟨.hbm, 194, rfl⟩
abbrev main_v122 : Ref sig .tc := ⟨.hbm, 195, rfl⟩
abbrev main_v123 : Ref sig .tc := ⟨.hbm, 196, rfl⟩
abbrev main_cst_31 : Ref sig .tc := ⟨.hbm, 197, rfl⟩
abbrev main_v124 : Ref sig .tc := ⟨.hbm, 198, rfl⟩
abbrev main_v125 : Ref sig .tc := ⟨.hbm, 199, rfl⟩
abbrev main_v126 : Ref sig .tc := ⟨.hbm, 200, rfl⟩
abbrev main_v127 : Ref sig .tc := ⟨.hbm, 201, rfl⟩
abbrev main_v128 : Ref sig .tc := ⟨.hbm, 202, rfl⟩
abbrev main_v129 : Ref sig .tc := ⟨.hbm, 203, rfl⟩
abbrev main_v130 : Ref sig .tc := ⟨.hbm, 204, rfl⟩
abbrev main_v131 : Ref sig .tc := ⟨.hbm, 205, rfl⟩
abbrev main_v132 : Ref sig .tc := ⟨.hbm, 206, rfl⟩
abbrev main_c_32 : Ref sig .tc := ⟨.hbm, 207, rfl⟩
abbrev main_call5_v0 : Ref sig .tc := ⟨.hbm, 208, rfl⟩
abbrev main_v133 : Ref sig .tc := ⟨.hbm, 209, rfl⟩
abbrev main_v134 : Ref sig .tc := ⟨.hbm, 210, rfl⟩
abbrev main_v135 : Ref sig .tc := ⟨.hbm, 211, rfl⟩
abbrev main_v136 : Ref sig .tc := ⟨.hbm, 212, rfl⟩
abbrev main_v137 : Ref sig .tc := ⟨.hbm, 213, rfl⟩
abbrev main_v138 : Ref sig .tc := ⟨.hbm, 214, rfl⟩
abbrev main_v139 : Ref sig .tc := ⟨.hbm, 215, rfl⟩
abbrev main_v140 : Ref sig .tc := ⟨.hbm, 216, rfl⟩
abbrev main_v141 : Ref sig .tc := ⟨.hbm, 217, rfl⟩
abbrev main_v142 : Ref sig .tc := ⟨.hbm, 218, rfl⟩
abbrev main_v143 : Ref sig .tc := ⟨.hbm, 219, rfl⟩
abbrev main_v144 : Ref sig .tc := ⟨.hbm, 220, rfl⟩
abbrev main_v145 : Ref sig .tc := ⟨.hbm, 221, rfl⟩
abbrev main_v146 : Ref sig .tc := ⟨.hbm, 222, rfl⟩
abbrev main_v147 : Ref sig .tc := ⟨.hbm, 223, rfl⟩
abbrev main_v148 : Ref sig .tc := ⟨.hbm, 224, rfl⟩
abbrev main_v149 : Ref sig .tc := ⟨.hbm, 225, rfl⟩
abbrev main_v150 : Ref sig .tc := ⟨.hbm, 226, rfl⟩
abbrev main_v151 : Ref sig .tc := ⟨.hbm, 227, rfl⟩
abbrev main_v152 : Ref sig .tc := ⟨.hbm, 228, rfl⟩
abbrev main_v153 : Ref sig .tc := ⟨.hbm, 229, rfl⟩
abbrev main_v154 : Ref sig .tc := ⟨.hbm, 230, rfl⟩
abbrev main_v155 : Ref sig .tc := ⟨.hbm, 231, rfl⟩
abbrev main_v156 : Ref sig .tc := ⟨.hbm, 232, rfl⟩
abbrev main_v157 : Ref sig .tc := ⟨.hbm, 233, rfl⟩
abbrev main_v158 : Ref sig .tc := ⟨.hbm, 234, rfl⟩
abbrev main_v159 : Ref sig .tc := ⟨.hbm, 235, rfl⟩
abbrev main_v160 : Ref sig .tc := ⟨.hbm, 236, rfl⟩
abbrev main_cst_33 : Ref sig .tc := ⟨.hbm, 237, rfl⟩
abbrev main_v161 : Ref sig .tc := ⟨.hbm, 238, rfl⟩
abbrev main_v162 : Ref sig .tc := ⟨.hbm, 239, rfl⟩
abbrev main_cst_34 : Ref sig .tc := ⟨.hbm, 240, rfl⟩
abbrev main_v163 : Ref sig .tc := ⟨.hbm, 241, rfl⟩
abbrev main_v164 : Ref sig .tc := ⟨.hbm, 242, rfl⟩
abbrev main_v165 : Ref sig .tc := ⟨.hbm, 243, rfl⟩
abbrev main_v166 : Ref sig .tc := ⟨.hbm, 244, rfl⟩
abbrev main_v167 : Ref sig .tc := ⟨.hbm, 245, rfl⟩
abbrev main_v168 : Ref sig .tc := ⟨.hbm, 246, rfl⟩
abbrev main_v169 : Ref sig .tc := ⟨.hbm, 247, rfl⟩
abbrev main_v170 : Ref sig .tc := ⟨.hbm, 248, rfl⟩
abbrev main_v171 : Ref sig .tc := ⟨.hbm, 249, rfl⟩
abbrev main_v172 : Ref sig .tc := ⟨.hbm, 250, rfl⟩
abbrev main_v173 : Ref sig .tc := ⟨.hbm, 251, rfl⟩
abbrev main_v174 : Ref sig .tc := ⟨.hbm, 252, rfl⟩
abbrev main_v175 : Ref sig .tc := ⟨.hbm, 253, rfl⟩
abbrev main_v176 : Ref sig .tc := ⟨.hbm, 254, rfl⟩
abbrev main_v177 : Ref sig .tc := ⟨.hbm, 255, rfl⟩
abbrev main_v178 : Ref sig .tc := ⟨.hbm, 256, rfl⟩
abbrev main_cst_35 : Ref sig .tc := ⟨.hbm, 257, rfl⟩
abbrev main_v179 : Ref sig .tc := ⟨.hbm, 258, rfl⟩
abbrev main_v180 : Ref sig .tc := ⟨.hbm, 259, rfl⟩
abbrev main_cst_36 : Ref sig .tc := ⟨.hbm, 260, rfl⟩
abbrev main_v181 : Ref sig .tc := ⟨.hbm, 261, rfl⟩
abbrev main_v182 : Ref sig .tc := ⟨.hbm, 262, rfl⟩
abbrev main_cst_37 : Ref sig .tc := ⟨.hbm, 263, rfl⟩
abbrev main_v183 : Ref sig .tc := ⟨.hbm, 264, rfl⟩
abbrev main_v184 : Ref sig .tc := ⟨.hbm, 265, rfl⟩
abbrev main_v185 : Ref sig .tc := ⟨.hbm, 266, rfl⟩
abbrev main_v186 : Ref sig .tc := ⟨.hbm, 267, rfl⟩
abbrev main_v187 : Ref sig .tc := ⟨.hbm, 268, rfl⟩
abbrev main_v188 : Ref sig .tc := ⟨.hbm, 269, rfl⟩
abbrev main_v189 : Ref sig .tc := ⟨.hbm, 270, rfl⟩
abbrev main_v190 : Ref sig .tc := ⟨.hbm, 271, rfl⟩
abbrev main_v191 : Ref sig .tc := ⟨.hbm, 272, rfl⟩
abbrev main_v192 : Ref sig .tc := ⟨.hbm, 273, rfl⟩
abbrev main_v193 : Ref sig .tc := ⟨.hbm, 274, rfl⟩
abbrev main_v194 : Ref sig .tc := ⟨.hbm, 275, rfl⟩
abbrev main_v195 : Ref sig .tc := ⟨.hbm, 276, rfl⟩
abbrev main_call6_v0 : Ref sig .tc := ⟨.hbm, 277, rfl⟩
abbrev main_call6_v1 : Ref sig .tc := ⟨.hbm, 278, rfl⟩
abbrev main_call6_cst : Ref sig .tc := ⟨.hbm, 279, rfl⟩
abbrev main_call6_v2 : Ref sig .tc := ⟨.hbm, 280, rfl⟩
abbrev main_call6_v3 : Ref sig .tc := ⟨.hbm, 281, rfl⟩
abbrev main_call6_cst_0 : Ref sig .tc := ⟨.hbm, 282, rfl⟩
abbrev main_call6_v4 : Ref sig .tc := ⟨.hbm, 283, rfl⟩
abbrev main_call6_v5 : Ref sig .tc := ⟨.hbm, 284, rfl⟩
abbrev main_v196 : Ref sig .tc := ⟨.hbm, 285, rfl⟩
abbrev main_v197 : Ref sig .tc := ⟨.hbm, 286, rfl⟩
abbrev main_v198 : Ref sig .tc := ⟨.hbm, 287, rfl⟩
abbrev main_v199 : Ref sig .tc := ⟨.hbm, 288, rfl⟩
abbrev main_v200 : Ref sig .tc := ⟨.hbm, 289, rfl⟩
abbrev main_cst_38 : Ref sig .tc := ⟨.hbm, 290, rfl⟩
abbrev main_v201 : Ref sig .tc := ⟨.hbm, 291, rfl⟩
abbrev main_v202 : Ref sig .tc := ⟨.hbm, 292, rfl⟩
abbrev main_cst_39 : Ref sig .tc := ⟨.hbm, 293, rfl⟩
abbrev main_v203 : Ref sig .tc := ⟨.hbm, 294, rfl⟩
abbrev main_v204 : Ref sig .tc := ⟨.hbm, 295, rfl⟩
abbrev main_cst_40 : Ref sig .tc := ⟨.hbm, 296, rfl⟩
abbrev main_v205 : Ref sig .tc := ⟨.hbm, 297, rfl⟩
abbrev main_v206 : Ref sig .tc := ⟨.hbm, 298, rfl⟩
abbrev main_v207 : Ref sig .tc := ⟨.hbm, 299, rfl⟩
abbrev main_v208 : Ref sig .tc := ⟨.hbm, 300, rfl⟩
abbrev main_v209 : Ref sig .tc := ⟨.hbm, 301, rfl⟩
abbrev main_v210 : Ref sig .tc := ⟨.hbm, 302, rfl⟩
abbrev main_v211 : Ref sig .tc := ⟨.hbm, 303, rfl⟩
abbrev main_v212 : Ref sig .tc := ⟨.hbm, 304, rfl⟩

abbrev nD : Nat := 1
abbrev τ : Topo := Topo.v7x

variable {F : FTy → Type} [FloatOps F]
-- ==== Kernel2.lean ====
abbrev S2x8192x1024 : Shape := ⟨3, ![2, 8192, 1024]⟩
abbrev S1x1024 : Shape := ⟨2, ![1, 1024]⟩
abbrev S1x1024x5120 : Shape := ⟨3, ![1, 1024, 5120]⟩
abbrev S1024 : Shape := ⟨1, ![1024]⟩
abbrev S1024x5120 : Shape := ⟨2, ![1024, 5120]⟩
abbrev S2x8192x512 : Shape := ⟨3, ![2, 8192, 512]⟩
abbrev S2x8192x2048 : Shape := ⟨3, ![2, 8192, 2048]⟩
abbrev S1x1024x1024 : Shape := ⟨3, ![1, 1024, 1024]⟩
abbrev S1x1024x512 : Shape := ⟨3, ![1, 1024, 512]⟩
abbrev S1x1024x2048 : Shape := ⟨3, ![1, 1024, 2048]⟩
abbrev S1024x1024 : Shape := ⟨2, ![1024, 1024]⟩
abbrev S1024x1 : Shape := ⟨2, ![1024, 1]⟩
abbrev S1024x512 : Shape := ⟨2, ![1024, 512]⟩

abbrev nBuf : Space → Nat
  | .hbm => 13
  | .vmem => 16
  | .smem => 0
  | _ => 0

abbrev bufTy : (tb : Table) → Fin (tcTables nBuf tb) → BufTy
  | .hbm, ⟨0, _⟩ => ⟨S2x8192x1024, .f32⟩
  | .hbm, ⟨1, _⟩ => ⟨S1x1024, .f32⟩
  | .hbm, ⟨2, _⟩ => ⟨S1x1024x5120, .f32⟩
  | .hbm, ⟨3, _⟩ => ⟨S1024, .f32⟩
  | .hbm, ⟨4, _⟩ => ⟨S1x1024, .f32⟩
  | .hbm, ⟨5, _⟩ => ⟨S1024x5120, .f32⟩
  | .hbm, ⟨6, _⟩ => ⟨S1024x5120, .bf16⟩
  | .hbm, ⟨7, _⟩ => ⟨S2x8192x512, .bf16⟩
  | .hbm, ⟨8, _⟩ => ⟨S2x8192x512, .bf16⟩
  | .hbm, ⟨9, _⟩ => ⟨S2x8192x512, .bf16⟩
  | .hbm, ⟨10, _⟩ => ⟨S2x8192x512, .bf16⟩
  | .hbm, ⟨11, _⟩ => ⟨S2x8192x512, .bf16⟩
  | .hbm, ⟨12, _⟩ => ⟨S2x8192x2048, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1024x5120, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x1024x512, .bf16⟩
  | .local _ .vmem, ⟨7, _⟩ => ⟨S1x1024x512, .bf16⟩
  | .local _ .vmem, ⟨8, _⟩ => ⟨S1x1024x512, .bf16⟩
  | .local _ .vmem, ⟨9, _⟩ => ⟨S1x1024x512, .bf16⟩
  | .local _ .vmem, ⟨10, _⟩ => ⟨S1x1024x512, .bf16⟩
  | .local _ .vmem, ⟨11, _⟩ => ⟨S1x1024x512, .bf16⟩
  | .local _ .vmem, ⟨12, _⟩ => ⟨S1x1024x512, .bf16⟩
  | .local _ .vmem, ⟨13, _⟩ => ⟨S1x1024x512, .bf16⟩
  | .local _ .vmem, ⟨14, _⟩ => ⟨S1x1024x2048, .bf16⟩
  | .local _ .vmem, ⟨15, _⟩ => ⟨S1x1024x2048, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev main_v4_3 : Ref sig .tc := ⟨.hbm, 10, rfl⟩
abbrev main_v4_4 : Ref sig .tc := ⟨.hbm, 11, rfl⟩
abbrev main_v4_5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x5120 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel2Ideal.lean ====
abbrev S2x8192x1024 : Shape := ⟨3, ![2, 8192, 1024]⟩
abbrev S1x1024 : Shape := ⟨2, ![1, 1024]⟩
abbrev S1x1024x5120 : Shape := ⟨3, ![1, 1024, 5120]⟩
abbrev S1024 : Shape := ⟨1, ![1024]⟩
abbrev S1024x5120 : Shape := ⟨2, ![1024, 5120]⟩
abbrev S2x8192x512 : Shape := ⟨3, ![2, 8192, 512]⟩
abbrev S2x8192x2048 : Shape := ⟨3, ![2, 8192, 2048]⟩
abbrev S1x1024x1024 : Shape := ⟨3, ![1, 1024, 1024]⟩
abbrev S1x1024x512 : Shape := ⟨3, ![1, 1024, 512]⟩
abbrev S1x1024x2048 : Shape := ⟨3, ![1, 1024, 2048]⟩
abbrev S1024x1024 : Shape := ⟨2, ![1024, 1024]⟩
abbrev S1024x1 : Shape := ⟨2, ![1024, 1]⟩
abbrev S1024x512 : Shape := ⟨2, ![1024, 512]⟩

abbrev nBuf : Space → Nat
  | .hbm => 13
  | .vmem => 16
  | .smem => 0
  | _ => 0

abbrev bufTy : (tb : Table) → Fin (tcTables nBuf tb) → BufTy
  | .hbm, ⟨0, _⟩ => ⟨S2x8192x1024, .f32⟩
  | .hbm, ⟨1, _⟩ => ⟨S1x1024, .f32⟩
  | .hbm, ⟨2, _⟩ => ⟨S1x1024x5120, .f32⟩
  | .hbm, ⟨3, _⟩ => ⟨S1024, .f32⟩
  | .hbm, ⟨4, _⟩ => ⟨S1x1024, .f32⟩
  | .hbm, ⟨5, _⟩ => ⟨S1024x5120, .f32⟩
  | .hbm, ⟨6, _⟩ => ⟨S1024x5120, .bf16⟩
  | .hbm, ⟨7, _⟩ => ⟨S2x8192x512, .bf16⟩
  | .hbm, ⟨8, _⟩ => ⟨S2x8192x512, .bf16⟩
  | .hbm, ⟨9, _⟩ => ⟨S2x8192x512, .bf16⟩
  | .hbm, ⟨10, _⟩ => ⟨S2x8192x512, .bf16⟩
  | .hbm, ⟨11, _⟩ => ⟨S2x8192x512, .bf16⟩
  | .hbm, ⟨12, _⟩ => ⟨S2x8192x2048, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1024x5120, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x1024x512, .bf16⟩
  | .local _ .vmem, ⟨7, _⟩ => ⟨S1x1024x512, .bf16⟩
  | .local _ .vmem, ⟨8, _⟩ => ⟨S1x1024x512, .bf16⟩
  | .local _ .vmem, ⟨9, _⟩ => ⟨S1x1024x512, .bf16⟩
  | .local _ .vmem, ⟨10, _⟩ => ⟨S1x1024x512, .bf16⟩
  | .local _ .vmem, ⟨11, _⟩ => ⟨S1x1024x512, .bf16⟩
  | .local _ .vmem, ⟨12, _⟩ => ⟨S1x1024x512, .bf16⟩
  | .local _ .vmem, ⟨13, _⟩ => ⟨S1x1024x512, .bf16⟩
  | .local _ .vmem, ⟨14, _⟩ => ⟨S1x1024x2048, .bf16⟩
  | .local _ .vmem, ⟨15, _⟩ => ⟨S1x1024x2048, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev main_v4_3 : Ref sig .tc := ⟨.hbm, 10, rfl⟩
abbrev main_v4_4 : Ref sig .tc := ⟨.hbm, 11, rfl⟩
abbrev main_v4_5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x5120 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference2Ideal.lean ====
abbrev S2x8192x1024 : Shape := ⟨3, ![2, 8192, 1024]⟩
abbrev S1x1024 : Shape := ⟨2, ![1, 1024]⟩
abbrev S1x1024x5120 : Shape := ⟨3, ![1, 1024, 5120]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1024x5120 : Shape := ⟨2, ![1024, 5120]⟩
abbrev S2x8192x5120 : Shape := ⟨3, ![2, 8192, 5120]⟩
abbrev S2x8192x512 : Shape := ⟨3, ![2, 8192, 512]⟩
abbrev S2x8192x2048 : Shape := ⟨3, ![2, 8192, 2048]⟩

abbrev nBuf : Space → Nat
  | .hbm => 36
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1x1024, .f32⟩
  | .hbm, ⟨2, _⟩ => ⟨S1x1024x5120, .f32⟩
  | .hbm, ⟨3, _⟩ => ⟨S1024, .f32⟩
  | .hbm, ⟨4, _⟩ => ⟨S2x8192x1024, .f32⟩
  | .hbm, ⟨5, _⟩ => ⟨S_, .f32⟩
  | .hbm, ⟨6, _⟩ => ⟨S2x8192, .f32⟩
  | .hbm, ⟨7, _⟩ => ⟨S2x8192x1, .f32⟩
  | .hbm, ⟨8, _⟩ => ⟨S_, .f32⟩
  | .hbm, ⟨9, _⟩ => ⟨S2x8192x1, .f32⟩
  | .hbm, ⟨10, _⟩ => ⟨S2x8192x1, .f32⟩
  | .hbm, ⟨11, _⟩ => ⟨S_, .f32⟩
  | .hbm, ⟨12, _⟩ => ⟨S2x8192x1, .f32⟩
  | .hbm, ⟨13, _⟩ => ⟨S2x8192x1, .f32⟩
  | .hbm, ⟨14, _⟩ => ⟨S2x8192x1, .f32⟩
  | .hbm, ⟨15, _⟩ => ⟨S2x8192x1024, .f32⟩
  | .hbm, ⟨16, _⟩ => ⟨S2x8192x1024, .f32⟩
  | .hbm, ⟨17, _⟩ => ⟨S1x1x1024, .f32⟩
  | .hbm, ⟨18, _⟩ => ⟨S2x8192x1024, .f32⟩
  | .hbm, ⟨19, _⟩ => ⟨S2x8192x1024, .f32⟩
  | .hbm, ⟨20, _⟩ => ⟨S1024x5120, .f32⟩
  | .hbm, ⟨21, _⟩ => ⟨S2x8192x5120, .f32⟩
  | .hbm, ⟨22, _⟩ => ⟨S2x8192x512, .f32⟩
  | .hbm, ⟨23, _⟩ => ⟨S2x8192x512, .f32⟩
  | .hbm, ⟨24, _⟩ => ⟨S2x8192x512, .f32⟩
  | .hbm, ⟨25, _⟩ => ⟨S2x8192x512, .f32⟩
  | .hbm, ⟨26, _⟩ => ⟨S2x8192x512, .f32⟩
  | .hbm, ⟨27, _⟩ => ⟨S2x8192x512, .f32⟩
  | .hbm, ⟨28, _⟩ => ⟨S2x8192x2048, .f32⟩
  | .hbm, ⟨29, _⟩ => ⟨S2x8192x512, .f32⟩
  | .hbm, ⟨30, _⟩ => ⟨S2x8192x512, .bf16⟩
  | .hbm, ⟨31, _⟩ => ⟨S2x8192x512, .bf16⟩
  | .hbm, ⟨32, _⟩ => ⟨S2x8192x512, .bf16⟩
  | .hbm, ⟨33, _⟩ => ⟨S2x8192x512, .bf16⟩
  | .hbm, ⟨34, _⟩ => ⟨S2x8192x512, .bf16⟩
  | .hbm, ⟨35, _⟩ => ⟨S2x8192x2048, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩

abbrev nD : Nat := 1
abbrev τ : Topo := Topo.v7x

variable {F : FTy → Type} [FloatOps F]
-- ==== Kernel3.lean ====
abbrev S8x8192x1024 : Shape := ⟨3, ![8, 8192, 1024]⟩
abbrev S8x8192x512 : Shape := ⟨3, ![8, 8192, 512]⟩
abbrev S8x8192x2048 : Shape := ⟨3, ![8, 8192, 2048]⟩
abbrev S1x2048 : Shape := ⟨2, ![1, 2048]⟩
abbrev S1x8x15x31 : Shape := ⟨4, ![1, 8, 15, 31]⟩
abbrev S1x3x512 : Shape := ⟨3, ![1, 3, 512]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S64x64 : Shape := ⟨2, ![64, 64]⟩
abbrev S1x1x64x64 : Shape := ⟨4, ![1, 1, 64, 64]⟩
abbrev S8x15x31 : Shape := ⟨3, ![8, 15, 31]⟩
abbrev S_ : Shape := ⟨0, ![]⟩
abbrev S8x15x127 : Shape := ⟨3, ![8, 15, 127]⟩
abbrev S1x8x1x15x1x127 : Shape := ⟨6, ![1, 8, 1, 15, 1, 127]⟩
abbrev S1x8x1x15x65x127 : Shape := ⟨6, ![1, 8, 1, 15, 65, 127]⟩
abbrev S8x15x8255 : Shape := ⟨3, ![8, 15, 8255]⟩
abbrev S8x15x8192 : Shape := ⟨3, ![8, 15, 8192]⟩
abbrev S8x15x64x128 : Shape := ⟨4, ![8, 15, 64, 128]⟩
abbrev S8x15x64x64 : Shape := ⟨4, ![8, 15, 64, 64]⟩
abbrev S8x64x15x64 : Shape := ⟨4, ![8, 64, 15, 64]⟩
abbrev S4x128x960 : Shape := ⟨3, ![4, 128, 960]⟩
abbrev S4x128x896 : Shape := ⟨3, ![4, 128, 896]⟩
abbrev S4x128x7x128 : Shape := ⟨4, ![4, 128, 7, 128]⟩
abbrev S4x7x128x128 : Shape := ⟨4, ![4, 7, 128, 128]⟩
abbrev S1x4x7x128x128 : Shape := ⟨5, ![1, 4, 7, 128, 128]⟩
abbrev S2x4x7x128x128 : Shape := ⟨5, ![2, 4, 7, 128, 128]⟩
abbrev S2048 : Shape := ⟨1, ![2048]⟩
abbrev S3x512 : Shape := ⟨2, ![3, 512]⟩
abbrev S512x1024 : Shape := ⟨2, ![512, 1024]⟩
abbrev S1024x1024 : Shape := ⟨2, ![1024, 1024]⟩
abbrev S1024x5632 : Shape := ⟨2, ![1024, 5632]⟩
abbrev S2816x1024 : Shape := ⟨2, ![2816, 1024]⟩
abbrev S1x512x512 : Shape := ⟨3, ![1, 512, 512]⟩
abbrev S1x1024x512 : Shape := ⟨3, ![1, 1024, 512]⟩
abbrev S1x16x512 : Shape := ⟨3, ![1, 16, 512]⟩
abbrev S1x512x2048 : Shape := ⟨3, ![1, 512, 2048]⟩
abbrev S8x128x512 : Shape := ⟨3, ![8, 128, 512]⟩
abbrev S8x128x128 : Shape := ⟨3, ![8, 128, 128]⟩
abbrev S512x512 : Shape := ⟨2, ![512, 512]⟩
abbrev S1x1x512 : Shape := ⟨3, ![1, 1, 512]⟩
abbrev S1x512 : Shape := ⟨2, ![1, 512]⟩
abbrev S512x2048 : Shape := ⟨2, ![512, 2048]⟩
abbrev S512 : Shape := ⟨1, ![512]⟩
abbrev S512x1 : Shape := ⟨2, ![512, 1]⟩
abbrev S1024x512 : Shape := ⟨2, ![1024, 512]⟩
abbrev S64x128 : Shape := ⟨2, ![64, 128]⟩
abbrev S1x64x128 : Shape := ⟨3, ![1, 64, 128]⟩
abbrev S1x512x128 : Shape := ⟨3, ![1, 512, 128]⟩
abbrev S512x128 : Shape := ⟨2, ![512, 128]⟩
abbrev S128x128 : Shape := ⟨2, ![128, 128]⟩
abbrev S128x512 : Shape := ⟨2, ![128, 512]⟩
abbrev S1x1x1x128x128 : Shape := ⟨5, ![1, 1, 1, 128, 128]⟩
abbrev S1x128x512 : Shape := ⟨3, ![1, 128, 512]⟩
abbrev S128 : Shape := ⟨1, ![128]⟩
abbrev S128x1 : Shape := ⟨2, ![128, 1]⟩
abbrev S1x128x128 : Shape := ⟨3, ![1, 128, 128]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 69
  | .vmem => 35
  | .smem => 0
  | _ => 0

abbrev bufTy : (tb : Table) → Fin (tcTables nBuf tb) → BufTy
  | .hbm, ⟨0, _⟩ => ⟨S8x8192x1024, .f32⟩
  | .hbm, ⟨1, _⟩ => ⟨S8x8192x512, .f32⟩
  | .hbm, ⟨2, _⟩ => ⟨S8x8192x512, .f32⟩
  | .hbm, ⟨3, _⟩ => ⟨S8x8192x512, .f32⟩
  | .hbm, ⟨4, _⟩ => ⟨S8x8192x512, .f32⟩
  | .hbm, ⟨5, _⟩ => ⟨S8x8192x512, .f32⟩
  | .hbm, ⟨6, _⟩ => ⟨S8x8192x2048, .f32⟩
  | .hbm, ⟨7, _⟩ => ⟨S1x2048, .f32⟩
  | .hbm, ⟨8, _⟩ => ⟨S1x8x15x31, .f32⟩
  | .hbm, ⟨9, _⟩ => ⟨S1x3x512, .f32⟩
  | .hbm, ⟨10, _⟩ => ⟨S1x512x1024, .f32⟩
  | .hbm, ⟨11, _⟩ => ⟨S1x512x1024, .f32⟩
  | .hbm, ⟨12, _⟩ => ⟨S1x1024x1024, .f32⟩
  | .hbm, ⟨13, _⟩ => ⟨S1x1024, .f32⟩
  | .hbm, ⟨14, _⟩ => ⟨S1x1024x5632, .f32⟩
  | .hbm, ⟨15, _⟩ => ⟨S1x2816x1024, .f32⟩
  | .hbm, ⟨16, _⟩ => ⟨S1024, .f32⟩
  | .hbm, ⟨17, _⟩ => ⟨S64x64, .i1⟩
  | .hbm, ⟨18, _⟩ => ⟨S1x1x64x64, .i1⟩
  | .hbm, ⟨19, _⟩ => ⟨S8x15x31, .f32⟩
  | .hbm, ⟨20, _⟩ => ⟨S_, .i32⟩
  | .hbm, ⟨21, _⟩ => ⟨S_, .f32⟩
  | .hbm, ⟨22, _⟩ => ⟨S8x15x127, .f32⟩
  | .hbm, ⟨23, _⟩ => ⟨S1x8x1x15x1x127, .f32⟩
  | .hbm, ⟨24, _⟩ => ⟨S1x8x1x15x65x127, .f32⟩
  | .hbm, ⟨25, _⟩ => ⟨S8x15x8255, .f32⟩
  | .hbm, ⟨26, _⟩ => ⟨S8x15x8192, .f32⟩
  | .hbm, ⟨27, _⟩ => ⟨S8x15x64x128, .f32⟩
  | .hbm, ⟨28, _⟩ => ⟨S8x15x64x64, .f32⟩
  | .hbm, ⟨29, _⟩ => ⟨S8x15x64x64, .f32⟩
  | .hbm, ⟨30, _⟩ => ⟨S_, .f32⟩
  | .hbm, ⟨31, _⟩ => ⟨S_, .f32⟩
  | .hbm, ⟨32, _⟩ => ⟨S8x15x64x64, .i1⟩
  | .hbm, ⟨33, _⟩ => ⟨S8x15x64x64, .f32⟩
  | .hbm, ⟨34, _⟩ => ⟨S8x15x64x64, .f32⟩
  | .hbm, ⟨35, _⟩ => ⟨S8x64x15x64, .f32⟩
  | .hbm, ⟨36, _⟩ => ⟨S4x128x960, .f32⟩
  | .hbm, ⟨37, _⟩ => ⟨S4x128x896, .f32⟩
  | .hbm, ⟨38, _⟩ => ⟨S4x128x7x128, .f32⟩
  | .hbm, ⟨39, _⟩ => ⟨S4x7x128x128, .f32⟩
  | .hbm, ⟨40, _⟩ => ⟨S4x128x896, .f32⟩
  | .hbm, ⟨41, _⟩ => ⟨S4x128x7x128, .f32⟩
  | .hbm, ⟨42, _⟩ => ⟨S4x7x128x128, .f32⟩
  | .hbm, ⟨43, _⟩ => ⟨S1x4x7x128x128, .f32⟩
  | .hbm, ⟨44, _⟩ => ⟨S1x4x7x128x128, .f32⟩
  | .hbm, ⟨45, _⟩ => ⟨S2x4x7x128x128, .f32⟩
  | .hbm, ⟨46, _⟩ => ⟨S2048, .f32⟩
  | .hbm, ⟨47, _⟩ => ⟨S1x2048, .f32⟩
  | .hbm, ⟨48, _⟩ => ⟨S3x512, .f32⟩
  | .hbm, ⟨49, _⟩ => ⟨S512x1024, .f32⟩
  | .hbm, ⟨50, _⟩ => ⟨S512x1024, .bf16⟩
  | .hbm, ⟨51, _⟩ => ⟨S512x1024, .f32⟩
  | .hbm, ⟨52, _⟩ => ⟨S512x1024, .bf16⟩
  | .hbm, ⟨53, _⟩ => ⟨S1024x1024, .f32⟩
  | .hbm, ⟨54, _⟩ => ⟨S1024x1024, .bf16⟩
  | .hbm, ⟨55, _⟩ => ⟨S1024, .f32⟩
  | .hbm, ⟨56, _⟩ => ⟨S1x1024, .f32⟩
  | .hbm, ⟨57, _⟩ => ⟨S1024x5632, .f32⟩
  | .hbm, ⟨58, _⟩ => ⟨S1024x5632, .bf16⟩
  | .hbm, ⟨59, _⟩ => ⟨S2816x1024, .f32⟩
  | .hbm, ⟨60, _⟩ => ⟨S2816x1024, .bf16⟩
  | .hbm, ⟨61, _⟩ => ⟨S1x1024, .f32⟩
  | .hbm, ⟨62, _⟩ => ⟨S8x8192x512, .bf16⟩
  | .hbm, ⟨63, _⟩ => ⟨S8x8192x512, .bf16⟩
  | .hbm, ⟨64, _⟩ => ⟨S8x8192x512, .bf16⟩
  | .hbm, ⟨65, _⟩ => ⟨S8x8192x512, .bf16⟩
  | .hbm, ⟨66, _⟩ => ⟨S8x8192x512, .bf16⟩
  | .hbm, ⟨67, _⟩ => ⟨S8x8192x2048, .bf16⟩
  | .hbm, ⟨68, _⟩ => ⟨S8x8192x1024, .f32⟩
  | .local _ .vmem, ⟨0, _⟩ => ⟨S1x512x512, .bf16⟩
  | .local _ .vmem, ⟨1, _⟩ => ⟨S1x512x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S2x4x7x128x128, .f32⟩
  | .local _ .vmem, ⟨7, _⟩ => ⟨S1x512x1024, .f32⟩
  | .local _ .vmem, ⟨8, _⟩ => ⟨S1x512x1024, .f32⟩
  | .local _ .vmem, ⟨9, _⟩ => ⟨S1x512x512, .bf16⟩
  | .local _ .vmem, ⟨10, _⟩ => ⟨S1x512x512, .bf16⟩
  | .local _ .vmem, ⟨11, _⟩ => ⟨S1x16x512, .bf16⟩
  | .local _ .vmem, ⟨12, _⟩ => ⟨S1x16x512, .bf16⟩
  | .local _ .vmem, ⟨13, _⟩ => ⟨S1x16x512, .bf16⟩
  | .local _ .vmem, ⟨14, _⟩ => ⟨S1x16x512, .bf16⟩
  | .local _ .vmem, ⟨15, _⟩ => ⟨S1x512x512, .bf16⟩
  | .local _ .vmem, ⟨16, _⟩ => ⟨S1x512x512, .bf16⟩
  | .local _ .vmem, ⟨17, _⟩ => ⟨S1x512x2048, .bf16⟩
  | .local _ .vmem, ⟨18, _⟩ => ⟨S1x512x2048, .bf16⟩
  | .local _ .vmem, ⟨19, _⟩ => ⟨S1x2048, .f32⟩
  | .local _ .vmem, ⟨20, _⟩ => ⟨S3x512, .f32⟩
  | .local _ .vmem, ⟨21, _⟩ => ⟨S512x1024, .bf16⟩
  | .local _ .vmem, ⟨22, _⟩ => ⟨S512x1024, .bf16⟩
  | .local _ .vmem, ⟨23, _⟩ => ⟨S1024x1024, .bf16⟩
  | .local _ .vmem, ⟨24, _⟩ => ⟨S1x1024, .f32⟩
  | .local _ .vmem, ⟨25, _⟩ => ⟨S1024x5632, .bf16⟩
  | .local _ .vmem, ⟨26, _⟩ => ⟨S2816x1024, .bf16⟩
  | .local _ .vmem, ⟨27, _⟩ => ⟨S1x1024, .f32⟩
  | .local _ .vmem, ⟨28, _⟩ => ⟨S1x512x1024, .f32⟩
  | .local _ .vmem, ⟨29, _⟩ => ⟨S1x512x1024, .f32⟩
  | .local _ .vmem, ⟨30, _⟩ => ⟨S8x128x512, .f32⟩
  | .local _ .vmem, ⟨31, _⟩ => ⟨S8x128x512, .bf16⟩
  | .local _ .vmem, ⟨32, _⟩ => ⟨S8x128x128, .f32⟩
  | .local _ .vmem, ⟨33, _⟩ => ⟨S512x512, .bf16⟩
  | .local _ .vmem, ⟨34, _⟩ => ⟨S512x512, .bf16⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_c : Ref sig .tc := ⟨.hbm, 17, rfl⟩
abbrev main_v0 : Ref sig .tc := ⟨.hbm, 18, rfl⟩
abbrev main_v1 : Ref sig .tc := ⟨.hbm, 19, rfl⟩
abbrev main_c_0 : Ref sig .tc := ⟨.hbm, 20, rfl⟩
abbrev main_call0_v0 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_cst : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg18_0 : Ref sig .tc := ⟨.vmem, 27, rfl⟩
abbrev cc0_stg19_0 : Ref sig .tc := ⟨.vmem, 28, rfl⟩
abbrev cc0_stg19_1 : Ref sig .tc := ⟨.vmem, 29, rfl⟩
abbrev cc0_scratch0 : Ref sig .tc := ⟨.vmem, 30, rfl⟩
abbrev cc0_scratch1 : Ref sig .tc := ⟨.vmem, 31, rfl⟩
abbrev cc0_scratch2 : Ref sig .tc := ⟨.vmem, 32, rfl⟩
abbrev cc0_scratch3 : Ref sig .tc := ⟨.vmem, 33, rfl⟩
abbrev cc0_scratch4 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem17_0 : DmaSem sig := 26
abbrev cc0_sem18_0 : DmaSem sig := 27
abbrev cc0_sem19_0 : DmaSem sig := 28
abbrev cc0_sem19_1 : DmaSem sig := 29

abbrev nD : Nat := 1
abbrev τ : Topo := Topo.v7x

variable {F : FTy → Type} [FloatOps F]

abbrev grid0 : Pipeline.Grid := ⟨1, ![129], ![false]⟩

def k0_mult1 (i : grid0.Coords) : BitVec 32 :=
  let c7168_i32 : BitVec 32 := 7168#32
  let c0_i32_10 : BitVec 32 := 0#32
  let arg0 : BitVec 32 := BitVec.ofNat 32 (i 0).val
  let c127_i32 : BitVec 32 := 127#32
  let v0 : BitVec 32 := Scalar.minsi arg0 c127_i32
  let c16_i32_4 : BitVec 32 := 16#32
  let c0_i32_5 : BitVec 32 := 0#32
  let v18 : BitVec 1 := Scalar.cmpi .eq c16_i32_4 c0_i32_5
  let c1_i32_6 : BitVec 32 := 1#32
  let v19 : BitVec 32 := Scalar.select v18 c1_i32_6 c16_i32_4
  let v20 : BitVec 32 := Scalar.remsi v0 v19
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let c0_i32_7 : BitVec 32 := 0#32
  let v21 : BitVec 1 := Scalar.cmpi .ne v20 c0_i32_7
  let v25 : BitVec 1 := Scalar.andi v24 v21
  let v26 : BitVec 32 := Scalar.addi v20 v19
  let v27 : BitVec 32 := Scalar.select v25 v26 v20
  let c512_i32 : BitVec 32 := 512#32
  let v28 : BitVec 32 := Scalar.muli v27 c512_i32
  let c256_i32 : BitVec 32 := 256#32
  let v29 : BitVec 32 := Scalar.subi v28 c256_i32
  let v30 : BitVec 32 := Scalar.maxsi c0_i32_10 v29
  let v31 : BitVec 32 := Scalar.minsi c7168_i32 v30
  v31
def k0_mult2 (i : grid0.Coords) : BitVec 32 :=
  let c7168_i32 : BitVec 32 := 7168#32
  let c0_i32_10 : BitVec 32 := 0#32
  let arg0 : BitVec 32 := BitVec.ofNat 32 (i 0).val
  let c127_i32 : BitVec 32 := 127#32
  let v0 : BitVec 32 := Scalar.minsi arg0 c127_i32
  let c16_i32_4 : BitVec 32 := 16#32
  let c0_i32_5 : BitVec 32 := 0#32
  let v18 : BitVec 1 := Scalar.cmpi .eq c16_i32_4 c0_i32_5
  let c1_i32_6 : BitVec 32 := 1#32
  let v19 : BitVec 32 := Scalar.select v18 c1_i32_6 c16_i32_4
  let v20 : BitVec 32 := Scalar.remsi v0 v19
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let c0_i32_7 : BitVec 32 := 0#32
  let v21 : BitVec 1 := Scalar.cmpi .ne v20 c0_i32_7
  let v25 : BitVec 1 := Scalar.andi v24 v21
  let v26 : BitVec 32 := Scalar.addi v20 v19
  let v27 : BitVec 32 := Scalar.select v25 v26 v20
  let c512_i32 : BitVec 32 := 512#32
  let v28 : BitVec 32 := Scalar.muli v27 c512_i32
  let c256_i32 : BitVec 32 := 256#32
  let v29 : BitVec 32 := Scalar.subi v28 c256_i32
  let v30 : BitVec 32 := Scalar.maxsi c0_i32_10 v29
  let v31 : BitVec 32 := Scalar.minsi c7168_i32 v30
  v31
def k0_mult3 (i : grid0.Coords) : BitVec 32 :=
  let c120_i32 : BitVec 32 := 120#32
  let c0_i32_73 : BitVec 32 := 0#32
  let arg0 : BitVec 32 := BitVec.ofNat 32 (i 0).val
  let c127_i32 : BitVec 32 := 127#32
  let v7 : BitVec 32 := Scalar.minsi arg0 c127_i32
  let c16_i32 : BitVec 32 := 16#32
  let c0_i32_4 : BitVec 32 := 0#32
  let v8 : BitVec 1 := Scalar.cmpi .eq c16_i32 c0_i32_4
  let c1_i32 : BitVec 32 := 1#32
  let v9 : BitVec 32 := Scalar.select v8 c1_i32 c16_i32
  let v10 : BitVec 32 := Scalar.remsi v7 v9
  let c0_i32_6 : BitVec 32 := 0#32
  let v12 : BitVec 1 := Scalar.cmpi .slt v10 c0_i32_6
  let c0_i32_7 : BitVec 32 := 0#32
  let v13 : BitVec 1 := Scalar.cmpi .slt v9 c0_i32_7
  let v14 : BitVec 1 := Scalar.xori v12 v13
  let c0_i32_5 : BitVec 32 := 0#32
  let v11 : BitVec 1 := Scalar.cmpi .ne v10 c0_i32_5
  let v15 : BitVec 1 := Scalar.andi v14 v11
  let v16 : BitVec 32 := Scalar.addi v10 v9
  let v17 : BitVec 32 := Scalar.select v15 v16 v10
  let c8_i32 : BitVec 32 := 8#32
  let v150 : BitVec 32 := Scalar.muli v17 c8_i32
  let c0_i32_72 : BitVec 32 := 0#32
  let v151 : BitVec 32 := Scalar.addi v150 c0_i32_72
  let c4_i32 : BitVec 32 := 4#32
  let v152 : BitVec 32 := Scalar.subi v151 c4_i32
  let v153 : BitVec 32 := Scalar.maxsi c0_i32_73 v152
  let v154 : BitVec 32 := Scalar.minsi c120_i32 v153
  let c64_i32_74 : BitVec 32 := 64#32
  let v157 : BitVec 32 := Scalar.muli v154 c64_i32_74
  let c7168_i32 : BitVec 32 := 7168#32
  let c0_i32_75 : BitVec 32 := 0#32
  let c512_i32 : BitVec 32 := 512#32
  let v158 : BitVec 32 := Scalar.muli v17 c512_i32
  let c256_i32 : BitVec 32 := 256#32
  let v159 : BitVec 32 := Scalar.subi v158 c256_i32
  let v160 : BitVec 32 := Scalar.maxsi c0_i32_75 v159
  let v161 : BitVec 32 := Scalar.minsi c7168_i32 v160
  let v162 : BitVec 32 := Scalar.subi v157 v161
  v162
def k0_mult4 (i : grid0.Coords) : BitVec 32 :=
  let c120_i32_81 : BitVec 32 := 120#32
  let c0_i32_80 : BitVec 32 := 0#32
  let arg0 : BitVec 32 := BitVec.ofNat 32 (i 0).val
  let c127_i32 : BitVec 32 := 127#32
  let v7 : BitVec 32 := Scalar.minsi arg0 c127_i32
  let c16_i32 : BitVec 32 := 16#32
  let c0_i32_4 : BitVec 32 := 0#32
  let v8 : BitVec 1 := Scalar.cmpi .eq c16_i32 c0_i32_4
  let c1_i32 : BitVec 32 := 1#32
  let v9 : BitVec 32 := Scalar.select v8 c1_i32 c16_i32
  let v10 : BitVec 32 := Scalar.remsi v7 v9
  let c0_i32_6 : BitVec 32 := 0#32
  let v12 : BitVec 1 := Scalar.cmpi .slt v10 c0_i32_6
  let c0_i32_7 : BitVec 32 := 0#32
  let v13 : BitVec 1 := Scalar.cmpi .slt v9 c0_i32_7
  let v14 : BitVec 1 := Scalar.xori v12 v13
  let c0_i32_5 : BitVec 32 := 0#32
  let v11 : BitVec 1 := Scalar.cmpi .ne v10 c0_i32_5
  let v15 : BitVec 1 := Scalar.andi v14 v11
  let v16 : BitVec 32 := Scalar.addi v10 v9
  let v17 : BitVec 32 := Scalar.select v15 v16 v10
  let c8_i32 : BitVec 32 := 8#32
  let v150 : BitVec 32 := Scalar.muli v17 c8_i32
  let c1_i32_78 : BitVec 32 := 1#32
  let v166 : BitVec 32 := Scalar.addi v150 c1_i32_78
  let c4_i32_79 : BitVec 32 := 4#32
  let v167 : BitVec 32 := Scalar.subi v166 c4_i32_79
  let v168 : BitVec 32 := Scalar.maxsi c0_i32_80 v167
  let v169 : BitVec 32 := Scalar.minsi c120_i32_81 v168
  let c64_i32_83 : BitVec 32 := 64#32
  let v172 : BitVec 32 := Scalar.muli v169 c64_i32_83
  let c7168_i32_87 : BitVec 32 := 7168#32
  let c0_i32_86 : BitVec 32 := 0#32
  let c512_i32_84 : BitVec 32 := 512#32
  let v173 : BitVec 32 := Scalar.muli v17 c512_i32_84
  let c256_i32_85 : BitVec 32 := 256#32
  let v174 : BitVec 32 := Scalar.subi v173 c256_i32_85
  let v175 : BitVec 32 := Scalar.maxsi c0_i32_86 v174
  let v176 : BitVec 32 := Scalar.minsi c7168_i32_87 v175
  let v177 : BitVec 32 := Scalar.subi v172 v176
  v177
def k0_off1 (i : grid0.Coords) (c0_i32_72 : BitVec 32) : Fin 3 → Nat :=
  let c0_93 : Index := 0#32
  let c120_i32 : BitVec 32 := 120#32
  let c0_i32_73 : BitVec 32 := 0#32
  let arg0 : BitVec 32 := BitVec.ofNat 32 (i 0).val
  let c127_i32 : BitVec 32 := 127#32
  let v7 : BitVec 32 := Scalar.minsi arg0 c127_i32
  let c16_i32 : BitVec 32 := 16#32
  let c0_i32_4 : BitVec 32 := 0#32
  let v8 : BitVec 1 := Scalar.cmpi .eq c16_i32 c0_i32_4
  let c1_i32 : BitVec 32 := 1#32
  let v9 : BitVec 32 := Scalar.select v8 c1_i32 c16_i32
  let v10 : BitVec 32 := Scalar.remsi v7 v9
  let c0_i32_6 : BitVec 32 := 0#32
  let v12 : BitVec 1 := Scalar.cmpi .slt v10 c0_i32_6
  let c0_i32_7 : BitVec 32 := 0#32
  let v13 : BitVec 1 := Scalar.cmpi .slt v9 c0_i32_7
  let v14 : BitVec 1 := Scalar.xori v12 v13
  let c0_i32_5 : BitVec 32 := 0#32
  let v11 : BitVec 1 := Scalar.cmpi .ne v10 c0_i32_5
  let v15 : BitVec 1 := Scalar.andi v14 v11
  let v16 : BitVec 32 := Scalar.addi v10 v9
  let v17 : BitVec 32 := Scalar.select v15 v16 v10
  let c8_i32 : BitVec 32 := 8#32
  let v150 : BitVec 32 := Scalar.muli v17 c8_i32
  let v151 : BitVec 32 := Scalar.addi v150 c0_i32_72
  let c4_i32 : BitVec 32 := 4#32
  let v152 : BitVec 32 := Scalar.subi v151 c4_i32
  let v153 : BitVec 32 := Scalar.maxsi c0_i32_73 v152
  let v154 : BitVec 32 := Scalar.minsi c120_i32 v153
  let c64_i32_74 : BitVec 32 := 64#32
  let v157 : BitVec 32 := Scalar.muli v154 c64_i32_74
  let c7168_i32 : BitVec 32 := 7168#32
  let c0_i32_75 : BitVec 32 := 0#32
  let c512_i32 : BitVec 32 := 512#32
  let v158 : BitVec 32 := Scalar.muli v17 c512_i32
  let c256_i32 : BitVec 32 := 256#32
  let v159 : BitVec 32 := Scalar.subi v158 c256_i32
  let v160 : BitVec 32 := Scalar.maxsi c0_i32_75 v159
  let v161 : BitVec 32 := Scalar.minsi c7168_i32 v160
  let v162 : BitVec 32 := Scalar.subi v157 v161
  let v163 : BitVec 32 := v162
  let v183 : Index := Scalar.indexCast v163
  let c0_94 : Index := 0#32
  ![0, v183.toNat, 0]
def k0_off2 (i : grid0.Coords) (c0_i32_72 : BitVec 32) (c0_i32_97 : BitVec 32) : Fin 5 → Nat :=
  let c7_i32 : BitVec 32 := 7#32
  let arg0 : BitVec 32 := BitVec.ofNat 32 (i 0).val
  let c127_i32 : BitVec 32 := 127#32
  let v7 : BitVec 32 := Scalar.minsi arg0 c127_i32
  let c16_i32 : BitVec 32 := 16#32
  let c0_i32_4 : BitVec 32 := 0#32
  let v8 : BitVec 1 := Scalar.cmpi .eq c16_i32 c0_i32_4
  let c1_i32 : BitVec 32 := 1#32
  let v9 : BitVec 32 := Scalar.select v8 c1_i32 c16_i32
  let v10 : BitVec 32 := Scalar.remsi v7 v9
  let c0_i32_6 : BitVec 32 := 0#32
  let v12 : BitVec 1 := Scalar.cmpi .slt v10 c0_i32_6
  let c0_i32_7 : BitVec 32 := 0#32
  let v13 : BitVec 1 := Scalar.cmpi .slt v9 c0_i32_7
  let v14 : BitVec 1 := Scalar.xori v12 v13
  let c0_i32_5 : BitVec 32 := 0#32
  let v11 : BitVec 1 := Scalar.cmpi .ne v10 c0_i32_5
  let v15 : BitVec 1 := Scalar.andi v14 v11
  let v16 : BitVec 32 := Scalar.addi v10 v9
  let v17 : BitVec 32 := Scalar.select v15 v16 v10
  let c8_i32 : BitVec 32 := 8#32
  let v150 : BitVec 32 := Scalar.muli v17 c8_i32
  let v151 : BitVec 32 := Scalar.addi v150 c0_i32_72
  let c120_i32 : BitVec 32 := 120#32
  let c0_i32_73 : BitVec 32 := 0#32
  let c4_i32 : BitVec 32 := 4#32
  let v152 : BitVec 32 := Scalar.subi v151 c4_i32
  let v153 : BitVec 32 := Scalar.maxsi c0_i32_73 v152
  let v154 : BitVec 32 := Scalar.minsi c120_i32 v153
  let v155 : BitVec 32 := Scalar.subi v151 v154
  let v156 : BitVec 32 := Scalar.subi c7_i32 v155
  let c1_i32_76 : BitVec 32 := 1#32
  let v164 : BitVec 32 := Scalar.andi v156 c1_i32_76
  let v192 : Index := Scalar.indexCast v164
  let c0_98 : Index := 0#32
  let c1_i32_77 : BitVec 32 := 1#32
  let v165 : BitVec 32 := Scalar.shrsi v156 c1_i32_77
  let v191 : BitVec 32 := Scalar.addi v165 c0_i32_97
  let v193 : Index := Scalar.indexCast v191
  let c0_99 : Index := 0#32
  let c0_100 : Index := 0#32
  ![v192.toNat, 0, v193.toNat, 0, 0]
def k0_off3 (i : grid0.Coords) (c0_i32_72 : BitVec 32) : Fin 3 → Nat :=
  let c0_118 : Index := 0#32
  let c120_i32 : BitVec 32 := 120#32
  let c0_i32_73 : BitVec 32 := 0#32
  let arg0 : BitVec 32 := BitVec.ofNat 32 (i 0).val
  let c127_i32 : BitVec 32 := 127#32
  let v7 : BitVec 32 := Scalar.minsi arg0 c127_i32
  let c16_i32 : BitVec 32 := 16#32
  let c0_i32_4 : BitVec 32 := 0#32
  let v8 : BitVec 1 := Scalar.cmpi .eq c16_i32 c0_i32_4
  let c1_i32 : BitVec 32 := 1#32
  let v9 : BitVec 32 := Scalar.select v8 c1_i32 c16_i32
  let v10 : BitVec 32 := Scalar.remsi v7 v9
  let c0_i32_6 : BitVec 32 := 0#32
  let v12 : BitVec 1 := Scalar.cmpi .slt v10 c0_i32_6
  let c0_i32_7 : BitVec 32 := 0#32
  let v13 : BitVec 1 := Scalar.cmpi .slt v9 c0_i32_7
  let v14 : BitVec 1 := Scalar.xori v12 v13
  let c0_i32_5 : BitVec 32 := 0#32
  let v11 : BitVec 1 := Scalar.cmpi .ne v10 c0_i32_5
  let v15 : BitVec 1 := Scalar.andi v14 v11
  let v16 : BitVec 32 := Scalar.addi v10 v9
  let v17 : BitVec 32 := Scalar.select v15 v16 v10
  let c8_i32 : BitVec 32 := 8#32
  let v150 : BitVec 32 := Scalar.muli v17 c8_i32
  let v151 : BitVec 32 := Scalar.addi v150 c0_i32_72
  let c4_i32 : BitVec 32 := 4#32
  let v152 : BitVec 32 := Scalar.subi v151 c4_i32
  let v153 : BitVec 32 := Scalar.maxsi c0_i32_73 v152
  let v154 : BitVec 32 := Scalar.minsi c120_i32 v153
  let c64_i32_74 : BitVec 32 := 64#32
  let v157 : BitVec 32 := Scalar.muli v154 c64_i32_74
  let c7168_i32 : BitVec 32 := 7168#32
  let c0_i32_75 : BitVec 32 := 0#32
  let c512_i32 : BitVec 32 := 512#32
  let v158 : BitVec 32 := Scalar.muli v17 c512_i32
  let c256_i32 : BitVec 32 := 256#32
  let v159 : BitVec 32 := Scalar.subi v158 c256_i32
  let v160 : BitVec 32 := Scalar.maxsi c0_i32_75 v159
  let v161 : BitVec 32 := Scalar.minsi c7168_i32 v160
  let v162 : BitVec 32 := Scalar.subi v157 v161
  let v163 : BitVec 32 := v162
  let v222 : Index := Scalar.indexCast v163
  let c128_119 : Index := 128#32
  ![0, v222.toNat, 128]
def k0_off4 (i : grid0.Coords) (c0_i32_72 : BitVec 32) (c0_i32_122 : BitVec 32) : Fin 5 → Nat :=
  let c7_i32 : BitVec 32 := 7#32
  let arg0 : BitVec 32 := BitVec.ofNat 32 (i 0).val
  let c127_i32 : BitVec 32 := 127#32
  let v7 : BitVec 32 := Scalar.minsi arg0 c127_i32
  let c16_i32 : BitVec 32 := 16#32
  let c0_i32_4 : BitVec 32 := 0#32
  let v8 : BitVec 1 := Scalar.cmpi .eq c16_i32 c0_i32_4
  let c1_i32 : BitVec 32 := 1#32
  let v9 : BitVec 32 := Scalar.select v8 c1_i32 c16_i32
  let v10 : BitVec 32 := Scalar.remsi v7 v9
  let c0_i32_6 : BitVec 32 := 0#32
  let v12 : BitVec 1 := Scalar.cmpi .slt v10 c0_i32_6
  let c0_i32_7 : BitVec 32 := 0#32
  let v13 : BitVec 1 := Scalar.cmpi .slt v9 c0_i32_7
  let v14 : BitVec 1 := Scalar.xori v12 v13
  let c0_i32_5 : BitVec 32 := 0#32
  let v11 : BitVec 1 := Scalar.cmpi .ne v10 c0_i32_5
  let v15 : BitVec 1 := Scalar.andi v14 v11
  let v16 : BitVec 32 := Scalar.addi v10 v9
  let v17 : BitVec 32 := Scalar.select v15 v16 v10
  let c8_i32 : BitVec 32 := 8#32
  let v150 : BitVec 32 := Scalar.muli v17 c8_i32
  let v151 : BitVec 32 := Scalar.addi v150 c0_i32_72
  let c120_i32 : BitVec 32 := 120#32
  let c0_i32_73 : BitVec 32 := 0#32
  let c4_i32 : BitVec 32 := 4#32
  let v152 : BitVec 32 := Scalar.subi v151 c4_i32
  let v153 : BitVec 32 := Scalar.maxsi c0_i32_73 v152
  let v154 : BitVec 32 := Scalar.minsi c120_i32 v153
  let v155 : BitVec 32 := Scalar.subi v151 v154
  let v156 : BitVec 32 := Scalar.subi c7_i32 v155
  let c1_i32_76 : BitVec 32 := 1#32
  let v164 : BitVec 32 := Scalar.andi v156 c1_i32_76
  let v231 : Index := Scalar.indexCast v164
  let c1 : Index := 1#32
  let c1_i32_77 : BitVec 32 := 1#32
  let v165 : BitVec 32 := Scalar.shrsi v156 c1_i32_77
  let v230 : BitVec 32 := Scalar.addi v165 c0_i32_122
  let v232 : Index := Scalar.indexCast v230
  let c0_123 : Index := 0#32
  let c0_124 : Index := 0#32
  ![v231.toNat, 1, v232.toNat, 0, 0]
def k0_off5 (i : grid0.Coords) (c0_i32_72 : BitVec 32) : Fin 3 → Nat :=
  let c0_144 : Index := 0#32
  let c120_i32 : BitVec 32 := 120#32
  let c0_i32_73 : BitVec 32 := 0#32
  let arg0 : BitVec 32 := BitVec.ofNat 32 (i 0).val
  let c127_i32 : BitVec 32 := 127#32
  let v7 : BitVec 32 := Scalar.minsi arg0 c127_i32
  let c16_i32 : BitVec 32 := 16#32
  let c0_i32_4 : BitVec 32 := 0#32
  let v8 : BitVec 1 := Scalar.cmpi .eq c16_i32 c0_i32_4
  let c1_i32 : BitVec 32 := 1#32
  let v9 : BitVec 32 := Scalar.select v8 c1_i32 c16_i32
  let v10 : BitVec 32 := Scalar.remsi v7 v9
  let c0_i32_6 : BitVec 32 := 0#32
  let v12 : BitVec 1 := Scalar.cmpi .slt v10 c0_i32_6
  let c0_i32_7 : BitVec 32 := 0#32
  let v13 : BitVec 1 := Scalar.cmpi .slt v9 c0_i32_7
  let v14 : BitVec 1 := Scalar.xori v12 v13
  let c0_i32_5 : BitVec 32 := 0#32
  let v11 : BitVec 1 := Scalar.cmpi .ne v10 c0_i32_5
  let v15 : BitVec 1 := Scalar.andi v14 v11
  let v16 : BitVec 32 := Scalar.addi v10 v9
  let v17 : BitVec 32 := Scalar.select v15 v16 v10
  let c8_i32 : BitVec 32 := 8#32
  let v150 : BitVec 32 := Scalar.muli v17 c8_i32
  let v151 : BitVec 32 := Scalar.addi v150 c0_i32_72
  let c4_i32 : BitVec 32 := 4#32
  let v152 : BitVec 32 := Scalar.subi v151 c4_i32
  let v153 : BitVec 32 := Scalar.maxsi c0_i32_73 v152
  let v154 : BitVec 32 := Scalar.minsi c120_i32 v153
  let c64_i32_74 : BitVec 32 := 64#32
  let v157 : BitVec 32 := Scalar.muli v154 c64_i32_74
  let c7168_i32 : BitVec 32 := 7168#32
  let c0_i32_75 : BitVec 32 := 0#32
  let c512_i32 : BitVec 32 := 512#32
  let v158 : BitVec 32 := Scalar.muli v17 c512_i32
  let c256_i32 : BitVec 32 := 256#32
  let v159 : BitVec 32 := Scalar.subi v158 c256_i32
  let v160 : BitVec 32 := Scalar.maxsi c0_i32_75 v159
  let v161 : BitVec 32 := Scalar.minsi c7168_i32 v160
  let v162 : BitVec 32 := Scalar.subi v157 v161
  let v163 : BitVec 32 := v162
  let v261 : Index := Scalar.indexCast v163
  let c256_145 : Index := 256#32
  ![0, v261.toNat, 256]
def k0_off6 (i : grid0.Coords) (c0_i32_72 : BitVec 32) (c0_i32_148 : BitVec 32) : Fin 5 → Nat :=
  let c7_i32 : BitVec 32 := 7#32
  let arg0 : BitVec 32 := BitVec.ofNat 32 (i 0).val
  let c127_i32 : BitVec 32 := 127#32
  let v7 : BitVec 32 := Scalar.minsi arg0 c127_i32
  let c16_i32 : BitVec 32 := 16#32
  let c0_i32_4 : BitVec 32 := 0#32
  let v8 : BitVec 1 := Scalar.cmpi .eq c16_i32 c0_i32_4
  let c1_i32 : BitVec 32 := 1#32
  let v9 : BitVec 32 := Scalar.select v8 c1_i32 c16_i32
  let v10 : BitVec 32 := Scalar.remsi v7 v9
  let c0_i32_6 : BitVec 32 := 0#32
  let v12 : BitVec 1 := Scalar.cmpi .slt v10 c0_i32_6
  let c0_i32_7 : BitVec 32 := 0#32
  let v13 : BitVec 1 := Scalar.cmpi .slt v9 c0_i32_7
  let v14 : BitVec 1 := Scalar.xori v12 v13
  let c0_i32_5 : BitVec 32 := 0#32
  let v11 : BitVec 1 := Scalar.cmpi .ne v10 c0_i32_5
  let v15 : BitVec 1 := Scalar.andi v14 v11
  let v16 : BitVec 32 := Scalar.addi v10 v9
  let v17 : BitVec 32 := Scalar.select v15 v16 v10
  let c8_i32 : BitVec 32 := 8#32
  let v150 : BitVec 32 := Scalar.muli v17 c8_i32
  let v151 : BitVec 32 := Scalar.addi v150 c0_i32_72
  let c120_i32 : BitVec 32 := 120#32
  let c0_i32_73 : BitVec 32 := 0#32
  let c4_i32 : BitVec 32 := 4#32
  let v152 : BitVec 32 := Scalar.subi v151 c4_i32
  let v153 : BitVec 32 := Scalar.maxsi c0_i32_73 v152
  let v154 : BitVec 32 := Scalar.minsi c120_i32 v153
  let v155 : BitVec 32 := Scalar.subi v151 v154
  let v156 : BitVec 32 := Scalar.subi c7_i32 v155
  let c1_i32_76 : BitVec 32 := 1#32
  let v164 : BitVec 32 := Scalar.andi v156 c1_i32_76
  let v270 : Index := Scalar.indexCast v164
  let c2 : Index := 2#32
  let c1_i32_77 : BitVec 32 := 1#32
  let v165 : BitVec 32 := Scalar.shrsi v156 c1_i32_77
  let v269 : BitVec 32 := Scalar.addi v165 c0_i32_148
  let v271 : Index := Scalar.indexCast v269
  let c0_149 : Index := 0#32
  let c0_150 : Index := 0#32
  ![v270.toNat, 2, v271.toNat, 0, 0]
def k0_off7 (i : grid0.Coords) (c0_i32_72 : BitVec 32) : Fin 3 → Nat :=
  let c0_170 : Index := 0#32
  let c120_i32 : BitVec 32 := 120#32
  let c0_i32_73 : BitVec 32 := 0#32
  let arg0 : BitVec 32 := BitVec.ofNat 32 (i 0).val
  let c127_i32 : BitVec 32 := 127#32
  let v7 : BitVec 32 := Scalar.minsi arg0 c127_i32
  let c16_i32 : BitVec 32 := 16#32
  let c0_i32_4 : BitVec 32 := 0#32
  let v8 : BitVec 1 := Scalar.cmpi .eq c16_i32 c0_i32_4
  let c1_i32 : BitVec 32 := 1#32
  let v9 : BitVec 32 := Scalar.select v8 c1_i32 c16_i32
  let v10 : BitVec 32 := Scalar.remsi v7 v9
  let c0_i32_6 : BitVec 32 := 0#32
  let v12 : BitVec 1 := Scalar.cmpi .slt v10 c0_i32_6
  let c0_i32_7 : BitVec 32 := 0#32
  let v13 : BitVec 1 := Scalar.cmpi .slt v9 c0_i32_7
  let v14 : BitVec 1 := Scalar.xori v12 v13
  let c0_i32_5 : BitVec 32 := 0#32
  let v11 : BitVec 1 := Scalar.cmpi .ne v10 c0_i32_5
  let v15 : BitVec 1 := Scalar.andi v14 v11
  let v16 : BitVec 32 := Scalar.addi v10 v9
  let v17 : BitVec 32 := Scalar.select v15 v16 v10
  let c8_i32 : BitVec 32 := 8#32
  let v150 : BitVec 32 := Scalar.muli v17 c8_i32
  let v151 : BitVec 32 := Scalar.addi v150 c0_i32_72
  let c4_i32 : BitVec 32 := 4#32
  let v152 : BitVec 32 := Scalar.subi v151 c4_i32
  let v153 : BitVec 32 := Scalar.maxsi c0_i32_73 v152
  let v154 : BitVec 32 := Scalar.minsi c120_i32 v153
  let c64_i32_74 : BitVec 32 := 64#32
  let v157 : BitVec 32 := Scalar.muli v154 c64_i32_74
  let c7168_i32 : BitVec 32 := 7168#32
  let c0_i32_75 : BitVec 32 := 0#32
  let c512_i32 : BitVec 32 := 512#32
  let v158 : BitVec 32 := Scalar.muli v17 c512_i32
  let c256_i32 : BitVec 32 := 256#32
  let v159 : BitVec 32 := Scalar.subi v158 c256_i32
  let v160 : BitVec 32 := Scalar.maxsi c0_i32_75 v159
  let v161 : BitVec 32 := Scalar.minsi c7168_i32 v160
  let v162 : BitVec 32 := Scalar.subi v157 v161
  let v163 : BitVec 32 := v162
  let v300 : Index := Scalar.indexCast v163
  let c384_171 : Index := 384#32
  ![0, v300.toNat, 384]
def k0_off8 (i : grid0.Coords) (c0_i32_72 : BitVec 32) (c0_i32_174 : BitVec 32) : Fin 5 → Nat :=
  let c7_i32 : BitVec 32 := 7#32
  let arg0 : BitVec 32 := BitVec.ofNat 32 (i 0).val
  let c127_i32 : BitVec 32 := 127#32
  let v7 : BitVec 32 := Scalar.minsi arg0 c127_i32
  let c16_i32 : BitVec 32 := 16#32
  let c0_i32_4 : BitVec 32 := 0#32
  let v8 : BitVec 1 := Scalar.cmpi .eq c16_i32 c0_i32_4
  let c1_i32 : BitVec 32 := 1#32
  let v9 : BitVec 32 := Scalar.select v8 c1_i32 c16_i32
  let v10 : BitVec 32 := Scalar.remsi v7 v9
  let c0_i32_6 : BitVec 32 := 0#32
  let v12 : BitVec 1 := Scalar.cmpi .slt v10 c0_i32_6
  let c0_i32_7 : BitVec 32 := 0#32
  let v13 : BitVec 1 := Scalar.cmpi .slt v9 c0_i32_7
  let v14 : BitVec 1 := Scalar.xori v12 v13
  let c0_i32_5 : BitVec 32 := 0#32
  let v11 : BitVec 1 := Scalar.cmpi .ne v10 c0_i32_5
  let v15 : BitVec 1 := Scalar.andi v14 v11
  let v16 : BitVec 32 := Scalar.addi v10 v9
  let v17 : BitVec 32 := Scalar.select v15 v16 v10
  let c8_i32 : BitVec 32 := 8#32
  let v150 : BitVec 32 := Scalar.muli v17 c8_i32
  let v151 : BitVec 32 := Scalar.addi v150 c0_i32_72
  let c120_i32 : BitVec 32 := 120#32
  let c0_i32_73 : BitVec 32 := 0#32
  let c4_i32 : BitVec 32 := 4#32
  let v152 : BitVec 32 := Scalar.subi v151 c4_i32
  let v153 : BitVec 32 := Scalar.maxsi c0_i32_73 v152
  let v154 : BitVec 32 := Scalar.minsi c120_i32 v153
  let v155 : BitVec 32 := Scalar.subi v151 v154
  let v156 : BitVec 32 := Scalar.subi c7_i32 v155
  let c1_i32_76 : BitVec 32 := 1#32
  let v164 : BitVec 32 := Scalar.andi v156 c1_i32_76
  let v309 : Index := Scalar.indexCast v164
  let c3 : Index := 3#32
  let c1_i32_77 : BitVec 32 := 1#32
  let v165 : BitVec 32 := Scalar.shrsi v156 c1_i32_77
  let v308 : BitVec 32 := Scalar.addi v165 c0_i32_174
  let v310 : Index := Scalar.indexCast v308
  let c0_175 : Index := 0#32
  let c0_176 : Index := 0#32
  ![v309.toNat, 3, v310.toNat, 0, 0]
def k0_mult5 (i : grid0.Coords) : BitVec 32 :=
  let c120_i32_492 : BitVec 32 := 120#32
  let c0_i32_491 : BitVec 32 := 0#32
  let arg0 : BitVec 32 := BitVec.ofNat 32 (i 0).val
  let c127_i32 : BitVec 32 := 127#32
  let v7 : BitVec 32 := Scalar.minsi arg0 c127_i32
  let c16_i32 : BitVec 32 := 16#32
  let c0_i32_4 : BitVec 32 := 0#32
  let v8 : BitVec 1 := Scalar.cmpi .eq c16_i32 c0_i32_4
  let c1_i32 : BitVec 32 := 1#32
  let v9 : BitVec 32 := Scalar.select v8 c1_i32 c16_i32
  let v10 : BitVec 32 := Scalar.remsi v7 v9
  let c0_i32_6 : BitVec 32 := 0#32
  let v12 : BitVec 1 := Scalar.cmpi .slt v10 c0_i32_6
  let c0_i32_7 : BitVec 32 := 0#32
  let v13 : BitVec 1 := Scalar.cmpi .slt v9 c0_i32_7
  let v14 : BitVec 1 := Scalar.xori v12 v13
  let c0_i32_5 : BitVec 32 := 0#32
  let v11 : BitVec 1 := Scalar.cmpi .ne v10 c0_i32_5
  let v15 : BitVec 1 := Scalar.andi v14 v11
  let v16 : BitVec 32 := Scalar.addi v10 v9
  let v17 : BitVec 32 := Scalar.select v15 v16 v10
  let c8_i32_488 : BitVec 32 := 8#32
  let v792 : BitVec 32 := Scalar.muli v17 c8_i32_488
  let c2_i32_489 : BitVec 32 := 2#32
  let v793 : BitVec 32 := Scalar.addi v792 c2_i32_489
  let c4_i32_490 : BitVec 32 := 4#32
  let v794 : BitVec 32 := Scalar.subi v793 c4_i32_490
  let v795 : BitVec 32 := Scalar.maxsi c0_i32_491 v794
  let v796 : BitVec 32 := Scalar.minsi c120_i32_492 v795
  let c64_i32_494 : BitVec 32 := 64#32
  let v799 : BitVec 32 := Scalar.muli v796 c64_i32_494
  let c7168_i32_498 : BitVec 32 := 7168#32
  let c0_i32_497 : BitVec 32 := 0#32
  let c512_i32_495 : BitVec 32 := 512#32
  let v800 : BitVec 32 := Scalar.muli v17 c512_i32_495
  let c256_i32_496 : BitVec 32 := 256#32
  let v801 : BitVec 32 := Scalar.subi v800 c256_i32_496
  let v802 : BitVec 32 := Scalar.maxsi c0_i32_497 v801
  let v803 : BitVec 32 := Scalar.minsi c7168_i32_498 v802
  let v804 : BitVec 32 := Scalar.subi v799 v803
  v804
def k0_mult6 (i : grid0.Coords) : BitVec 32 :=
  let c120_i32_504 : BitVec 32 := 120#32
  let c0_i32_503 : BitVec 32 := 0#32
  let arg0 : BitVec 32 := BitVec.ofNat 32 (i 0).val
  let c127_i32 : BitVec 32 := 127#32
  let v7 : BitVec 32 := Scalar.minsi arg0 c127_i32
  let c16_i32 : BitVec 32 := 16#32
  let c0_i32_4 : BitVec 32 := 0#32
  let v8 : BitVec 1 := Scalar.cmpi .eq c16_i32 c0_i32_4
  let c1_i32 : BitVec 32 := 1#32
  let v9 : BitVec 32 := Scalar.select v8 c1_i32 c16_i32
  let v10 : BitVec 32 := Scalar.remsi v7 v9
  let c0_i32_6 : BitVec 32 := 0#32
  let v12 : BitVec 1 := Scalar.cmpi .slt v10 c0_i32_6
  let c0_i32_7 : BitVec 32 := 0#32
  let v13 : BitVec 1 := Scalar.cmpi .slt v9 c0_i32_7
  let v14 : BitVec 1 := Scalar.xori v12 v13
  let c0_i32_5 : BitVec 32 := 0#32
  let v11 : BitVec 1 := Scalar.cmpi .ne v10 c0_i32_5
  let v15 : BitVec 1 := Scalar.andi v14 v11
  let v16 : BitVec 32 := Scalar.addi v10 v9
  let v17 : BitVec 32 := Scalar.select v15 v16 v10
  let c8_i32_488 : BitVec 32 := 8#32
  let v792 : BitVec 32 := Scalar.muli v17 c8_i32_488
  let c3_i32_501 : BitVec 32 := 3#32
  let v808 : BitVec 32 := Scalar.addi v792 c3_i32_501
  let c4_i32_502 : BitVec 32 := 4#32
  let v809 : BitVec 32 := Scalar.subi v808 c4_i32_502
  let v810 : BitVec 32 := Scalar.maxsi c0_i32_503 v809
  let v811 : BitVec 32 := Scalar.minsi c120_i32_504 v810
  let c64_i32_506 : BitVec 32 := 64#32
  let v814 : BitVec 32 := Scalar.muli v811 c64_i32_506
  let c7168_i32_510 : BitVec 32 := 7168#32
  let c0_i32_509 : BitVec 32 := 0#32
  let c512_i32_507 : BitVec 32 := 512#32
  let v815 : BitVec 32 := Scalar.muli v17 c512_i32_507
  let c256_i32_508 : BitVec 32 := 256#32
  let v816 : BitVec 32 := Scalar.subi v815 c256_i32_508
  let v817 : BitVec 32 := Scalar.maxsi c0_i32_509 v816
  let v818 : BitVec 32 := Scalar.minsi c7168_i32_510 v817
  let v819 : BitVec 32 := Scalar.subi v814 v818
  v819
def k0_mult7 (i : grid0.Coords) : BitVec 32 :=
  let c120_i32_927 : BitVec 32 := 120#32
  let c0_i32_926 : BitVec 32 := 0#32
  let arg0 : BitVec 32 := BitVec.ofNat 32 (i 0).val
  let c127_i32 : BitVec 32 := 127#32
  let v7 : BitVec 32 := Scalar.minsi arg0 c127_i32
  let c16_i32 : BitVec 32 := 16#32
  let c0_i32_4 : BitVec 32 := 0#32
  let v8 : BitVec 1 := Scalar.cmpi .eq c16_i32 c0_i32_4
  let c1_i32 : BitVec 32 := 1#32
  let v9 : BitVec 32 := Scalar.select v8 c1_i32 c16_i32
  let v10 : BitVec 32 := Scalar.remsi v7 v9
  let c0_i32_6 : BitVec 32 := 0#32
  let v12 : BitVec 1 := Scalar.cmpi .slt v10 c0_i32_6
  let c0_i32_7 : BitVec 32 := 0#32
  let v13 : BitVec 1 := Scalar.cmpi .slt v9 c0_i32_7
  let v14 : BitVec 1 := Scalar.xori v12 v13
  let c0_i32_5 : BitVec 32 := 0#32
  let v11 : BitVec 1 := Scalar.cmpi .ne v10 c0_i32_5
  let v15 : BitVec 1 := Scalar.andi v14 v11
  let v16 : BitVec 32 := Scalar.addi v10 v9
  let v17 : BitVec 32 := Scalar.select v15 v16 v10
  let c8_i32_923 : BitVec 32 := 8#32
  let v1434 : BitVec 32 := Scalar.muli v17 c8_i32_923
  let c4_i32_924 : BitVec 32 := 4#32
  let v1435 : BitVec 32 := Scalar.addi v1434 c4_i32_924
  let c4_i32_925 : BitVec 32 := 4#32
  let v1436 : BitVec 32 := Scalar.subi v1435 c4_i32_925
  let v1437 : BitVec 32 := Scalar.maxsi c0_i32_926 v1436
  let v1438 : BitVec 32 := Scalar.minsi c120_i32_927 v1437
  let c64_i32_929 : BitVec 32 := 64#32
  let v1441 : BitVec 32 := Scalar.muli v1438 c64_i32_929
  let c7168_i32_933 : BitVec 32 := 7168#32
  let c0_i32_932 : BitVec 32 := 0#32
  let c512_i32_930 : BitVec 32 := 512#32
  let v1442 : BitVec 32 := Scalar.muli v17 c512_i32_930
  let c256_i32_931 : BitVec 32 := 256#32
  let v1443 : BitVec 32 := Scalar.subi v1442 c256_i32_931
  let v1444 : BitVec 32 := Scalar.maxsi c0_i32_932 v1443
  let v1445 : BitVec 32 := Scalar.minsi c7168_i32_933 v1444
  let v1446 : BitVec 32 := Scalar.subi v1441 v1445
  v1446
def k0_mult8 (i : grid0.Coords) : BitVec 32 :=
  let c120_i32_938 : BitVec 32 := 120#32
  let c0_i32_937 : BitVec 32 := 0#32
  let arg0 : BitVec 32 := BitVec.ofNat 32 (i 0).val
  let c127_i32 : BitVec 32 := 127#32
  let v7 : BitVec 32 := Scalar.minsi arg0 c127_i32
  let c16_i32 : BitVec 32 := 16#32
  let c0_i32_4 : BitVec 32 := 0#32
  let v8 : BitVec 1 := Scalar.cmpi .eq c16_i32 c0_i32_4
  let c1_i32 : BitVec 32 := 1#32
  let v9 : BitVec 32 := Scalar.select v8 c1_i32 c16_i32
  let v10 : BitVec 32 := Scalar.remsi v7 v9
  let c0_i32_6 : BitVec 32 := 0#32
  let v12 : BitVec 1 := Scalar.cmpi .slt v10 c0_i32_6
  let c0_i32_7 : BitVec 32 := 0#32
  let v13 : BitVec 1 := Scalar.cmpi .slt v9 c0_i32_7
  let v14 : BitVec 1 := Scalar.xori v12 v13
  let c0_i32_5 : BitVec 32 := 0#32
  let v11 : BitVec 1 := Scalar.cmpi .ne v10 c0_i32_5
  let v15 : BitVec 1 := Scalar.andi v14 v11
  let v16 : BitVec 32 := Scalar.addi v10 v9
  let v17 : BitVec 32 := Scalar.select v15 v16 v10
  let c8_i32_923 : BitVec 32 := 8#32
  let v1434 : BitVec 32 := Scalar.muli v17 c8_i32_923
  let c5_i32 : BitVec 32 := 5#32
  let v1450 : BitVec 32 := Scalar.addi v1434 c5_i32
  let c4_i32_936 : BitVec 32 := 4#32
  let v1451 : BitVec 32 := Scalar.subi v1450 c4_i32_936
  let v1452 : BitVec 32 := Scalar.maxsi c0_i32_937 v1451
  let v1453 : BitVec 32 := Scalar.minsi c120_i32_938 v1452
  let c64_i32_940 : BitVec 32 := 64#32
  let v1456 : BitVec 32 := Scalar.muli v1453 c64_i32_940
  let c7168_i32_944 : BitVec 32 := 7168#32
  let c0_i32_943 : BitVec 32 := 0#32
  let c512_i32_941 : BitVec 32 := 512#32
  let v1457 : BitVec 32 := Scalar.muli v17 c512_i32_941
  let c256_i32_942 : BitVec 32 := 256#32
  let v1458 : BitVec 32 := Scalar.subi v1457 c256_i32_942
  let v1459 : BitVec 32 := Scalar.maxsi c0_i32_943 v1458
  let v1460 : BitVec 32 := Scalar.minsi c7168_i32_944 v1459
  let v1461 : BitVec 32 := Scalar.subi v1456 v1460
  v1461
def k0_mult9 (i : grid0.Coords) : BitVec 32 :=
  let c120_i32_1360 : BitVec 32 := 120#32
  let c0_i32_1359 : BitVec 32 := 0#32
  let arg0 : BitVec 32 := BitVec.ofNat 32 (i 0).val
  let c127_i32 : BitVec 32 := 127#32
  let v7 : BitVec 32 := Scalar.minsi arg0 c127_i32
  let c16_i32 : BitVec 32 := 16#32
  let c0_i32_4 : BitVec 32 := 0#32
  let v8 : BitVec 1 := Scalar.cmpi .eq c16_i32 c0_i32_4
  let c1_i32 : BitVec 32 := 1#32
  let v9 : BitVec 32 := Scalar.select v8 c1_i32 c16_i32
  let v10 : BitVec 32 := Scalar.remsi v7 v9
  let c0_i32_6 : BitVec 32 := 0#32
  let v12 : BitVec 1 := Scalar.cmpi .slt v10 c0_i32_6
  let c0_i32_7 : BitVec 32 := 0#32
  let v13 : BitVec 1 := Scalar.cmpi .slt v9 c0_i32_7
  let v14 : BitVec 1 := Scalar.xori v12 v13
  let c0_i32_5 : BitVec 32 := 0#32
  let v11 : BitVec 1 := Scalar.cmpi .ne v10 c0_i32_5
  let v15 : BitVec 1 := Scalar.andi v14 v11
  let v16 : BitVec 32 := Scalar.addi v10 v9
  let v17 : BitVec 32 := Scalar.select v15 v16 v10
  let c8_i32_1357 : BitVec 32 := 8#32
  let v2076 : BitVec 32 := Scalar.muli v17 c8_i32_1357
  let c6_i32 : BitVec 32 := 6#32
  let v2077 : BitVec 32 := Scalar.addi v2076 c6_i32
  let c4_i32_1358 : BitVec 32 := 4#32
  let v2078 : BitVec 32 := Scalar.subi v2077 c4_i32_1358
  let v2079 : BitVec 32 := Scalar.maxsi c0_i32_1359 v2078
  let v2080 : BitVec 32 := Scalar.minsi c120_i32_1360 v2079
  let c64_i32_1362 : BitVec 32 := 64#32
  let v2083 : BitVec 32 := Scalar.muli v2080 c64_i32_1362
  let c7168_i32_1366 : BitVec 32 := 7168#32
  let c0_i32_1365 : BitVec 32 := 0#32
  let c512_i32_1363 : BitVec 32 := 512#32
  let v2084 : BitVec 32 := Scalar.muli v17 c512_i32_1363
  let c256_i32_1364 : BitVec 32 := 256#32
  let v2085 : BitVec 32 := Scalar.subi v2084 c256_i32_1364
  let v2086 : BitVec 32 := Scalar.maxsi c0_i32_1365 v2085
  let v2087 : BitVec 32 := Scalar.minsi c7168_i32_1366 v2086
  let v2088 : BitVec 32 := Scalar.subi v2083 v2087
  v2088
def k0_mult10 (i : grid0.Coords) : BitVec 32 :=
  let c120_i32_1372 : BitVec 32 := 120#32
  let c0_i32_1371 : BitVec 32 := 0#32
  let arg0 : BitVec 32 := BitVec.ofNat 32 (i 0).val
  let c127_i32 : BitVec 32 := 127#32
  let v7 : BitVec 32 := Scalar.minsi arg0 c127_i32
  let c16_i32 : BitVec 32 := 16#32
  let c0_i32_4 : BitVec 32 := 0#32
  let v8 : BitVec 1 := Scalar.cmpi .eq c16_i32 c0_i32_4
  let c1_i32 : BitVec 32 := 1#32
  let v9 : BitVec 32 := Scalar.select v8 c1_i32 c16_i32
  let v10 : BitVec 32 := Scalar.remsi v7 v9
  let c0_i32_6 : BitVec 32 := 0#32
  let v12 : BitVec 1 := Scalar.cmpi .slt v10 c0_i32_6
  let c0_i32_7 : BitVec 32 := 0#32
  let v13 : BitVec 1 := Scalar.cmpi .slt v9 c0_i32_7
  let v14 : BitVec 1 := Scalar.xori v12 v13
  let c0_i32_5 : BitVec 32 := 0#32
  let v11 : BitVec 1 := Scalar.cmpi .ne v10 c0_i32_5
  let v15 : BitVec 1 := Scalar.andi v14 v11
  let v16 : BitVec 32 := Scalar.addi v10 v9
  let v17 : BitVec 32 := Scalar.select v15 v16 v10
  let c8_i32_1357 : BitVec 32 := 8#32
  let v2076 : BitVec 32 := Scalar.muli v17 c8_i32_1357
  let c7_i32_1369 : BitVec 32 := 7#32
  let v2092 : BitVec 32 := Scalar.addi v2076 c7_i32_1369
  let c4_i32_1370 : BitVec 32 := 4#32
  let v2093 : BitVec 32 := Scalar.subi v2092 c4_i32_1370
  let v2094 : BitVec 32 := Scalar.maxsi c0_i32_1371 v2093
  let v2095 : BitVec 32 := Scalar.minsi c120_i32_1372 v2094
  let c64_i32_1374 : BitVec 32 := 64#32
  let v2098 : BitVec 32 := Scalar.muli v2095 c64_i32_1374
  let c7168_i32_1378 : BitVec 32 := 7168#32
  let c0_i32_1377 : BitVec 32 := 0#32
  let c512_i32_1375 : BitVec 32 := 512#32
  let v2099 : BitVec 32 := Scalar.muli v17 c512_i32_1375
  let c256_i32_1376 : BitVec 32 := 256#32
  let v2100 : BitVec 32 := Scalar.subi v2099 c256_i32_1376
  let v2101 : BitVec 32 := Scalar.maxsi c0_i32_1377 v2100
  let v2102 : BitVec 32 := Scalar.minsi c7168_i32_1378 v2101
  let v2103 : BitVec 32 := Scalar.subi v2098 v2102
  v2103
def cc0_transform_0 (i : grid0.Coords) : Fin 3 → Nat :=
  let arg0 : BitVec 32 := BitVec.ofNat 32 (i 0).val
  let c127_i32 : BitVec 32 := 127#32
  let v0 : BitVec 32 := Scalar.minsi arg0 c127_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c16_i32_4 : BitVec 32 := 16#32
  let c0_i32_5 : BitVec 32 := 0#32
  let v18 : BitVec 1 := Scalar.cmpi .eq c16_i32_4 c0_i32_5
  let c1_i32_6 : BitVec 32 := 1#32
  let v19 : BitVec 32 := Scalar.select v18 c1_i32_6 c16_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, v27.toNat, c0_i32_10.toNat]

def cc0_transform_1 (i : grid0.Coords) : Fin 3 → Nat :=
  let arg0 : BitVec 32 := BitVec.ofNat 32 (i 0).val
  let c127_i32 : BitVec 32 := 127#32
  let v0 : BitVec 32 := Scalar.minsi arg0 c127_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c16_i32_4 : BitVec 32 := 16#32
  let c0_i32_5 : BitVec 32 := 0#32
  let v18 : BitVec 1 := Scalar.cmpi .eq c16_i32_4 c0_i32_5
  let c1_i32_6 : BitVec 32 := 1#32
  let v19 : BitVec 32 := Scalar.select v18 c1_i32_6 c16_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c512_i32 : BitVec 32 := 512#32
  let v28 : BitVec 32 := Scalar.muli v27 c512_i32
  let c256_i32 : BitVec 32 := 256#32
  let v29 : BitVec 32 := Scalar.subi v28 c256_i32
  let c0_i32_10 : BitVec 32 := 0#32
  let c7168_i32 : BitVec 32 := 7168#32
  let v30 : BitVec 32 := Scalar.maxsi c0_i32_10 v29
  let v31 : BitVec 32 := Scalar.minsi c7168_i32 v30
  let v32 : BitVec 32 := v31
  let c0_i32_11 : BitVec 32 := 0#32
  let c0_i32_12 : BitVec 32 := 0#32
  ![v17.toNat, v32.toNat, c0_i32_11.toNat]

def cc0_transform_2 (i : grid0.Coords) : Fin 3 → Nat :=
  let arg0 : BitVec 32 := BitVec.ofNat 32 (i 0).val
  let c127_i32 : BitVec 32 := 127#32
  let v0 : BitVec 32 := Scalar.minsi arg0 c127_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c16_i32_4 : BitVec 32 := 16#32
  let c0_i32_5 : BitVec 32 := 0#32
  let v18 : BitVec 1 := Scalar.cmpi .eq c16_i32_4 c0_i32_5
  let c1_i32_6 : BitVec 32 := 1#32
  let v19 : BitVec 32 := Scalar.select v18 c1_i32_6 c16_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c512_i32 : BitVec 32 := 512#32
  let v28 : BitVec 32 := Scalar.muli v27 c512_i32
  let c256_i32 : BitVec 32 := 256#32
  let v29 : BitVec 32 := Scalar.subi v28 c256_i32
  let c0_i32_10 : BitVec 32 := 0#32
  let c7168_i32 : BitVec 32 := 7168#32
  let v30 : BitVec 32 := Scalar.maxsi c0_i32_10 v29
  let v31 : BitVec 32 := Scalar.minsi c7168_i32 v30
  let v32 : BitVec 32 := v31
  let c0_i32_11 : BitVec 32 := 0#32
  let c0_i32_12 : BitVec 32 := 0#32
  ![v17.toNat, v32.toNat, c0_i32_11.toNat]

def cc0_transform_3 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, c0_i32_0.toNat, c0_i32_1.toNat, c0_i32_2.toNat, c0_i32_3.toNat]

def cc0_transform_4 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let v2 : BitVec 32 := Scalar.divsi v1 c16_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c16_i32_6 : BitVec 32 := 16#32
  let c0_i32_7 : BitVec 32 := 0#32
  let v19 : BitVec 1 := Scalar.cmpi .eq c16_i32_6 c0_i32_7
  let c1_i32_8 : BitVec 32 := 1#32
  let v20 : BitVec 32 := Scalar.select v19 c1_i32_8 c16_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v18.toNat, v28.toNat, c0_i32_12.toNat]

def cc0_transform_5 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let v2 : BitVec 32 := Scalar.divsi v1 c16_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c16_i32_6 : BitVec 32 := 16#32
  let c0_i32_7 : BitVec 32 := 0#32
  let v19 : BitVec 1 := Scalar.cmpi .eq c16_i32_6 c0_i32_7
  let c1_i32_8 : BitVec 32 := 1#32
  let v20 : BitVec 32 := Scalar.select v19 c1_i32_8 c16_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v18.toNat, v28.toNat, c0_i32_12.toNat]

def cc0_transform_6 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let v2 : BitVec 32 := Scalar.divsi v1 c16_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c16_i32_6 : BitVec 32 := 16#32
  let c0_i32_7 : BitVec 32 := 0#32
  let v19 : BitVec 1 := Scalar.cmpi .eq c16_i32_6 c0_i32_7
  let c1_i32_8 : BitVec 32 := 1#32
  let v20 : BitVec 32 := Scalar.select v19 c1_i32_8 c16_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c32_i32 : BitVec 32 := 32#32
  let v29 : BitVec 32 := Scalar.muli v28 c32_i32
  let c1_i32_12 : BitVec 32 := 1#32
  let v30 : BitVec 32 := Scalar.subi v29 c1_i32_12
  let c0_i32_13 : BitVec 32 := 0#32
  let v31 : BitVec 32 := Scalar.maxsi v30 c0_i32_13
  let c0_i32_14 : BitVec 32 := 0#32
  let c0_i32_15 : BitVec 32 := 0#32
  ![v18.toNat, v31.toNat, c0_i32_14.toNat]

def cc0_transform_7 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let v2 : BitVec 32 := Scalar.divsi v1 c16_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c16_i32_6 : BitVec 32 := 16#32
  let c0_i32_7 : BitVec 32 := 0#32
  let v19 : BitVec 1 := Scalar.cmpi .eq c16_i32_6 c0_i32_7
  let c1_i32_8 : BitVec 32 := 1#32
  let v20 : BitVec 32 := Scalar.select v19 c1_i32_8 c16_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c1_i32_12 : BitVec 32 := 1#32
  let v29 : BitVec 32 := Scalar.addi v28 c1_i32_12
  let c32_i32 : BitVec 32 := 32#32
  let v30 : BitVec 32 := Scalar.muli v29 c32_i32
  let c511_i32 : BitVec 32 := 511#32
  let v31 : BitVec 32 := Scalar.minsi v30 c511_i32
  let c0_i32_13 : BitVec 32 := 0#32
  let c0_i32_14 : BitVec 32 := 0#32
  ![v18.toNat, v31.toNat, c0_i32_13.toNat]

def cc0_transform_8 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let v2 : BitVec 32 := Scalar.divsi v1 c16_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c16_i32_6 : BitVec 32 := 16#32
  let c0_i32_7 : BitVec 32 := 0#32
  let v19 : BitVec 1 := Scalar.cmpi .eq c16_i32_6 c0_i32_7
  let c1_i32_8 : BitVec 32 := 1#32
  let v20 : BitVec 32 := Scalar.select v19 c1_i32_8 c16_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v18.toNat, v28.toNat, c0_i32_12.toNat]

def cc0_transform_9 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let v2 : BitVec 32 := Scalar.divsi v1 c16_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c16_i32_6 : BitVec 32 := 16#32
  let c0_i32_7 : BitVec 32 := 0#32
  let v19 : BitVec 1 := Scalar.cmpi .eq c16_i32_6 c0_i32_7
  let c1_i32_8 : BitVec 32 := 1#32
  let v20 : BitVec 32 := Scalar.select v19 c1_i32_8 c16_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v18.toNat, v28.toNat, c0_i32_12.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let v2 : BitVec 32 := Scalar.divsi v1 c16_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c16_i32_6 : BitVec 32 := 16#32
  let c0_i32_7 : BitVec 32 := 0#32
  let v19 : BitVec 1 := Scalar.cmpi .eq c16_i32_6 c0_i32_7
  let c1_i32_8 : BitVec 32 := 1#32
  let v20 : BitVec 32 := Scalar.select v19 c1_i32_8 c16_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v18.toNat, v28.toNat, c0_i32_12.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x4x7x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x16x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x16x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S3x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1024x5632 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S2816x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S1x512x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== Kernel3Ideal.lean ====
variable {F : FTy → Type} [FloatOps F] [Named F]
def κ : String → Option EReal := fun
  | "log2e" => some (((Real.log 2)⁻¹ : ℝ) : EReal)
  | "q_scale" => some (((8 * (Real.log 2))⁻¹ : ℝ) : EReal)
  | _ => none
-- ==== Reference3Ideal.lean ====
abbrev S8x8192x1024 : Shape := ⟨3, ![8, 8192, 1024]⟩
abbrev S8x8192x512 : Shape := ⟨3, ![8, 8192, 512]⟩
abbrev S8x8192x2048 : Shape := ⟨3, ![8, 8192, 2048]⟩
abbrev S1x2048 : Shape := ⟨2, ![1, 2048]⟩
abbrev S1x8x15x31 : Shape := ⟨4, ![1, 8, 15, 31]⟩
abbrev S1x3x512 : Shape := ⟨3, ![1, 3, 512]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S8x15x31 : Shape := ⟨3, ![8, 15, 31]⟩
abbrev S8x128x4x16x8x64 : Shape := ⟨6, ![8, 128, 4, 16, 8, 64]⟩
abbrev S8x128x64x8x64 : Shape := ⟨5, ![8, 128, 64, 8, 64]⟩
abbrev S4 : Shape := ⟨1, ![4]⟩
abbrev S_ : Shape := ⟨0, ![]⟩
abbrev S4x1 : Shape := ⟨2, ![4, 1]⟩
abbrev S32 : Shape := ⟨1, ![32]⟩
abbrev S1x32 : Shape := ⟨2, ![1, 32]⟩
abbrev S4x32 : Shape := ⟨2, ![4, 32]⟩
abbrev S16 : Shape := ⟨1, ![16]⟩
abbrev S1x16 : Shape := ⟨2, ![1, 16]⟩
abbrev S4x16 : Shape := ⟨2, ![4, 16]⟩
abbrev S4x1x32 : Shape := ⟨3, ![4, 1, 32]⟩
abbrev S4x16x1 : Shape := ⟨3, ![4, 16, 1]⟩
abbrev S4x16x32 : Shape := ⟨3, ![4, 16, 32]⟩
abbrev S128 : Shape := ⟨1, ![128]⟩
abbrev S128x1 : Shape := ⟨2, ![128, 1]⟩
abbrev S8 : Shape := ⟨1, ![8]⟩
abbrev S1x8 : Shape := ⟨2, ![1, 8]⟩
abbrev S128x8 : Shape := ⟨2, ![128, 8]⟩
abbrev S128x8x1 : Shape := ⟨3, ![128, 8, 1]⟩
abbrev S8x128x8x64x8x64 : Shape := ⟨6, ![8, 128, 8, 64, 8, 64]⟩
abbrev S4x32x1 : Shape := ⟨3, ![4, 32, 1]⟩
abbrev S8x128x8x4x32x8x64 : Shape := ⟨7, ![8, 128, 8, 4, 32, 8, 64]⟩
abbrev S8x128x8x4x16x8x32 : Shape := ⟨7, ![8, 128, 8, 4, 16, 8, 32]⟩
abbrev S4x16x32x1 : Shape := ⟨4, ![4, 16, 32, 1]⟩
abbrev S8x15x4x16x32 : Shape := ⟨5, ![8, 15, 4, 16, 32]⟩
abbrev S8x128x8x4x16x32 : Shape := ⟨6, ![8, 128, 8, 4, 16, 32]⟩
abbrev S128x8x4x16x8x32 : Shape := ⟨6, ![128, 8, 4, 16, 8, 32]⟩
abbrev S1x128x8x4x16x8x32 : Shape := ⟨7, ![1, 128, 8, 4, 16, 8, 32]⟩
abbrev S1x1x1x4x16x1x32 : Shape := ⟨7, ![1, 1, 1, 4, 16, 1, 32]⟩
abbrev S8x128x8x4x16x256 : Shape := ⟨6, ![8, 128, 8, 4, 16, 256]⟩
abbrev S8x128x8x4x16 : Shape := ⟨5, ![8, 128, 8, 4, 16]⟩
abbrev S8x128x8x4x16x1 : Shape := ⟨6, ![8, 128, 8, 4, 16, 1]⟩
abbrev S8x128x4x8x64x16 : Shape := ⟨6, ![8, 128, 4, 8, 64, 16]⟩
abbrev S3x512 : Shape := ⟨2, ![3, 512]⟩
abbrev S8x8194x512 : Shape := ⟨3, ![8, 8194, 512]⟩
abbrev S1x512 : Shape := ⟨2, ![1, 512]⟩
abbrev S512 : Shape := ⟨1, ![512]⟩
abbrev S1x1x512 : Shape := ⟨3, ![1, 1, 512]⟩
abbrev S2048 : Shape := ⟨1, ![2048]⟩
abbrev S1x1x2048 : Shape := ⟨3, ![1, 1, 2048]⟩
abbrev S512x1024 : Shape := ⟨2, ![512, 1024]⟩
abbrev S1024x1024 : Shape := ⟨2, ![1024, 1024]⟩
abbrev S8x8192 : Shape := ⟨2, ![8, 8192]⟩
abbrev S8x8192x1 : Shape := ⟨3, ![8, 8192, 1]⟩
abbrev S1x1x1024 : Shape := ⟨3, ![1, 1, 1024]⟩
abbrev S1024x5632 : Shape := ⟨2, ![1024, 5632]⟩
abbrev S2816x1024 : Shape := ⟨2, ![2816, 1024]⟩
abbrev S8x8192x5632 : Shape := ⟨3, ![8, 8192, 5632]⟩
abbrev S8x8192x2816 : Shape := ⟨3, ![8, 8192, 2816]⟩

abbrev nBuf : Space → Nat
  | .hbm => 305
  | .vmem => 0
  | .smem => 0
  | _ => 0

abbrev hbmTy0_0 (i : Nat) : BufTy := match i % 128 with
  | 0 => ⟨S8x8192x1024, .f32⟩
  | 1 => ⟨S8x8192x512, .f32⟩
  | 2 => ⟨S8x8192x512, .f32⟩
  | 3 => ⟨S8x8192x512, .f32⟩
  | 4 => ⟨S8x8192x512, .f32⟩
  | 5 => ⟨S8x8192x512, .f32⟩
  | 6 => ⟨S8x8192x2048, .f32⟩
  | 7 => ⟨S1x2048, .f32⟩
  | 8 => ⟨S1x8x15x31, .f32⟩
  | 9 => ⟨S1x3x512, .f32⟩
  | 10 => ⟨S1x512x1024, .f32⟩
  | 11 => ⟨S1x512x1024, .f32⟩
  | 12 => ⟨S1x1024x1024, .f32⟩
  | 13 => ⟨S1x1024, .f32⟩
  | 14 => ⟨S1x1024x5632, .f32⟩
  | 15 => ⟨S1x2816x1024, .f32⟩
  | 16 => ⟨S1024, .f32⟩
  | 17 => ⟨S8x15x31, .f32⟩
  | 18 => ⟨S8x128x4x16x8x64, .f32⟩
  | 19 => ⟨S8x128x64x8x64, .f32⟩
  | 20 => ⟨S8x128x64x8x64, .f32⟩
  | 21 => ⟨S4, .i32⟩
  | 22 => ⟨S_, .i32⟩
  | 23 => ⟨S4, .i32⟩
  | 24 => ⟨S4, .i32⟩
  | 25 => ⟨S_, .i32⟩
  | 26 => ⟨S4, .i32⟩
  | 27 => ⟨S4, .i32⟩
  | 28 => ⟨S_, .i32⟩
  | 29 => ⟨S_, .i32⟩
  | 30 => ⟨S_, .i32⟩
  | 31 => ⟨S4, .i32⟩
  | 32 => ⟨S4, .i32⟩
  | 33 => ⟨S_, .i32⟩
  | 34 => ⟨S4, .i32⟩
  | 35 => ⟨S4, .i32⟩
  | 36 => ⟨S4x1, .i32⟩
  | 37 => ⟨S32, .i32⟩
  | 38 => ⟨S1x32, .i32⟩
  | 39 => ⟨S4x32, .i32⟩
  | 40 => ⟨S4x32, .i32⟩
  | 41 => ⟨S4x32, .i32⟩
  | 42 => ⟨S4x1, .i32⟩
  | 43 => ⟨S_, .i32⟩
  | 44 => ⟨S4x1, .i32⟩
  | 45 => ⟨S4x1, .i32⟩
  | 46 => ⟨S16, .i32⟩
  | 47 => ⟨S1x16, .i32⟩
  | 48 => ⟨S4x16, .i32⟩
  | 49 => ⟨S4x16, .i32⟩
  | 50 => ⟨S4x16, .i32⟩
  | 51 => ⟨S_, .i32⟩
  | 52 => ⟨S4x16, .i32⟩
  | 53 => ⟨S4x16, .i32⟩
  | 54 => ⟨S_, .i32⟩
  | 55 => ⟨S_, .i32⟩
  | 56 => ⟨S_, .i32⟩
  | 57 => ⟨S4x16, .i32⟩
  | 58 => ⟨S4x16, .i32⟩
  | 59 => ⟨S_, .i32⟩
  | 60 => ⟨S4x16, .i32⟩
  | 61 => ⟨S4x16, .i32⟩
  | 62 => ⟨S4x1x32, .i32⟩
  | 63 => ⟨S4x16x1, .i32⟩
  | 64 => ⟨S4x16x32, .i32⟩
  | 65 => ⟨S4x16x32, .i32⟩
  | 66 => ⟨S4x16x32, .i1⟩
  | 67 => ⟨S4x1x32, .i32⟩
  | 68 => ⟨S4x16x1, .i32⟩
  | 69 => ⟨S_, .i32⟩
  | 70 => ⟨S4x16x1, .i32⟩
  | 71 => ⟨S4x16x1, .i32⟩
  | 72 => ⟨S4x16x32, .i32⟩
  | 73 => ⟨S4x16x32, .i32⟩
  | 74 => ⟨S4x16x32, .i1⟩
  | 75 => ⟨S4x16x32, .i1⟩
  | 76 => ⟨S4x1x32, .i32⟩
  | 77 => ⟨S4x16x1, .i32⟩
  | 78 => ⟨S4x16x32, .i32⟩
  | 79 => ⟨S4x16x32, .i32⟩
  | 80 => ⟨S4x16x32, .i32⟩
  | 81 => ⟨S_, .i32⟩
  | 82 => ⟨S4x16x32, .i32⟩
  | 83 => ⟨S4x16x32, .i32⟩
  | 84 => ⟨S_, .i32⟩
  | 85 => ⟨S4x16x32, .i32⟩
  | 86 => ⟨S4x16x32, .i32⟩
  | 87 => ⟨S_, .i32⟩
  | 88 => ⟨S_, .i32⟩
  | 89 => ⟨S_, .i32⟩
  | 90 => ⟨S4x16x32, .i32⟩
  | 91 => ⟨S4x16x32, .i32⟩
  | 92 => ⟨S_, .i32⟩
  | 93 => ⟨S4x16x32, .i32⟩
  | 94 => ⟨S4x16x32, .i32⟩
  | 95 => ⟨S128, .i32⟩
  | 96 => ⟨S_, .i32⟩
  | 97 => ⟨S128, .i32⟩
  | 98 => ⟨S128, .i32⟩
  | 99 => ⟨S_, .i32⟩
  | 100 => ⟨S_, .i32⟩
  | 101 => ⟨S_, .i32⟩
  | 102 => ⟨S128, .i32⟩
  | 103 => ⟨S128, .i32⟩
  | 104 => ⟨S_, .i32⟩
  | 105 => ⟨S128, .i32⟩
  | 106 => ⟨S128, .i32⟩
  | 107 => ⟨S128x1, .i32⟩
  | 108 => ⟨S8, .i32⟩
  | 109 => ⟨S1x8, .i32⟩
  | 110 => ⟨S128x8, .i32⟩
  | 111 => ⟨S128x8, .i32⟩
  | 112 => ⟨S128x8, .i32⟩
  | 113 => ⟨S128x1, .i32⟩
  | 114 => ⟨S128x8, .i32⟩
  | 115 => ⟨S128x8, .i32⟩
  | 116 => ⟨S_, .i32⟩
  | 117 => ⟨S128x8, .i32⟩
  | 118 => ⟨S128x8, .i32⟩
  | 119 => ⟨S_, .i32⟩
  | 120 => ⟨S128x8, .i32⟩
  | 121 => ⟨S128x8, .i1⟩
  | 122 => ⟨S_, .i32⟩
  | 123 => ⟨S128x8, .i32⟩
  | 124 => ⟨S128x8, .i32⟩
  | 125 => ⟨S128x8, .i32⟩
  | 126 => ⟨S128x8x1, .i32⟩
  | 127 => ⟨S8x128x8x64x8x64, .f32⟩
  | _ => ⟨S8x8192x1024, .f32⟩

abbrev hbmTy0_1 (i : Nat) : BufTy := match i % 128 with
  | 0 => ⟨S_, .i32⟩
  | 1 => ⟨S4x32, .i32⟩
  | 2 => ⟨S4x32, .i1⟩
  | 3 => ⟨S_, .i32⟩
  | 4 => ⟨S4x32, .i32⟩
  | 5 => ⟨S4x32, .i32⟩
  | 6 => ⟨S4x32, .i32⟩
  | 7 => ⟨S4x32x1, .i32⟩
  | 8 => ⟨S8x128x8x4x32x8x64, .f32⟩
  | 9 => ⟨S_, .i32⟩
  | 10 => ⟨S128x8, .i32⟩
  | 11 => ⟨S128x8, .i1⟩
  | 12 => ⟨S_, .i32⟩
  | 13 => ⟨S128x8, .i32⟩
  | 14 => ⟨S128x8, .i32⟩
  | 15 => ⟨S128x8, .i32⟩
  | 16 => ⟨S128x8x1, .i32⟩
  | 17 => ⟨S8x128x8x64x8x64, .f32⟩
  | 18 => ⟨S_, .i32⟩
  | 19 => ⟨S4x32, .i32⟩
  | 20 => ⟨S4x32, .i1⟩
  | 21 => ⟨S_, .i32⟩
  | 22 => ⟨S4x32, .i32⟩
  | 23 => ⟨S4x32, .i32⟩
  | 24 => ⟨S4x32, .i32⟩
  | 25 => ⟨S4x32x1, .i32⟩
  | 26 => ⟨S8x128x8x4x32x8x64, .f32⟩
  | 27 => ⟨S8x128x8x4x16x8x32, .f32⟩
  | 28 => ⟨S_, .f32⟩
  | 29 => ⟨S8x128x8x4x16x8x32, .f32⟩
  | 30 => ⟨S8x128x8x4x16x8x32, .f32⟩
  | 31 => ⟨S_, .i32⟩
  | 32 => ⟨S4x16x32, .i32⟩
  | 33 => ⟨S4x16x32, .i1⟩
  | 34 => ⟨S_, .i32⟩
  | 35 => ⟨S4x16x32, .i32⟩
  | 36 => ⟨S4x16x32, .i32⟩
  | 37 => ⟨S4x16x32, .i32⟩
  | 38 => ⟨S4x16x32x1, .i32⟩
  | 39 => ⟨S8x15x4x16x32, .f32⟩
  | 40 => ⟨S_, .i32⟩
  | 41 => ⟨S128x8, .i32⟩
  | 42 => ⟨S128x8, .i1⟩
  | 43 => ⟨S_, .i32⟩
  | 44 => ⟨S128x8, .i32⟩
  | 45 => ⟨S128x8, .i32⟩
  | 46 => ⟨S128x8, .i32⟩
  | 47 => ⟨S128x8x1, .i32⟩
  | 48 => ⟨S8x128x8x4x16x32, .f32⟩
  | 49 => ⟨S128x8x4x16x8x32, .f32⟩
  | 50 => ⟨S1x128x8x4x16x8x32, .f32⟩
  | 51 => ⟨S8x128x8x4x16x8x32, .f32⟩
  | 52 => ⟨S8x128x8x4x16x8x32, .f32⟩
  | 53 => ⟨S1x1x1x4x16x1x32, .i1⟩
  | 54 => ⟨S_, .f32⟩
  | 55 => ⟨S_, .f32⟩
  | 56 => ⟨S8x128x8x4x16x8x32, .i1⟩
  | 57 => ⟨S8x128x8x4x16x8x32, .f32⟩
  | 58 => ⟨S8x128x8x4x16x8x32, .f32⟩
  | 59 => ⟨S8x128x8x4x16x256, .f32⟩
  | 60 => ⟨S_, .f32⟩
  | 61 => ⟨S8x128x8x4x16, .f32⟩
  | 62 => ⟨S_, .f32⟩
  | 63 => ⟨S8x128x8x4x16, .f32⟩
  | 64 => ⟨S8x128x8x4x16, .f32⟩
  | 65 => ⟨S8x128x8x4x16x1, .f32⟩
  | 66 => ⟨S8x128x8x4x16x256, .f32⟩
  | 67 => ⟨S8x128x8x4x16x256, .f32⟩
  | 68 => ⟨S8x128x8x4x16x256, .f32⟩
  | 69 => ⟨S_, .f32⟩
  | 70 => ⟨S8x128x8x4x16, .f32⟩
  | 71 => ⟨S8x128x8x4x16x1, .f32⟩
  | 72 => ⟨S8x128x8x4x16x256, .f32⟩
  | 73 => ⟨S8x128x8x4x16x256, .f32⟩
  | 74 => ⟨S8x128x8x4x16x8x32, .f32⟩
  | 75 => ⟨S8x128x4x8x64x16, .f32⟩
  | 76 => ⟨S8x128x4x16x8x64, .f32⟩
  | 77 => ⟨S8x8192x512, .f32⟩
  | 78 => ⟨S3x512, .f32⟩
  | 79 => ⟨S_, .i32⟩
  | 80 => ⟨S_, .f32⟩
  | 81 => ⟨S8x8194x512, .f32⟩
  | 82 => ⟨S8x8192x512, .f32⟩
  | 83 => ⟨S1x512, .f32⟩
  | 84 => ⟨S512, .f32⟩
  | 85 => ⟨S1x1x512, .f32⟩
  | 86 => ⟨S8x8192x512, .f32⟩
  | 87 => ⟨S8x8192x512, .f32⟩
  | 88 => ⟨S8x8192x512, .f32⟩
  | 89 => ⟨S1x512, .f32⟩
  | 90 => ⟨S512, .f32⟩
  | 91 => ⟨S1x1x512, .f32⟩
  | 92 => ⟨S8x8192x512, .f32⟩
  | 93 => ⟨S8x8192x512, .f32⟩
  | 94 => ⟨S8x8192x512, .f32⟩
  | 95 => ⟨S8x8192x512, .f32⟩
  | 96 => ⟨S1x512, .f32⟩
  | 97 => ⟨S512, .f32⟩
  | 98 => ⟨S1x1x512, .f32⟩
  | 99 => ⟨S8x8192x512, .f32⟩
  | 100 => ⟨S8x8192x512, .f32⟩
  | 101 => ⟨S8x8192x512, .f32⟩
  | 102 => ⟨S8x8192x512, .f32⟩
  | 103 => ⟨S2048, .f32⟩
  | 104 => ⟨S1x1x2048, .f32⟩
  | 105 => ⟨S8x8192x2048, .f32⟩
  | 106 => ⟨S8x8192x2048, .f32⟩
  | 107 => ⟨S8x8192x2048, .f32⟩
  | 108 => ⟨S8x8192x2048, .f32⟩
  | 109 => ⟨S_, .f32⟩
  | 110 => ⟨S8x8192x2048, .f32⟩
  | 111 => ⟨S8x8192x2048, .f32⟩
  | 112 => ⟨S_, .f32⟩
  | 113 => ⟨S8x8192x2048, .f32⟩
  | 114 => ⟨S8x8192x2048, .f32⟩
  | 115 => ⟨S8x8192x1024, .f32⟩
  | 116 => ⟨S8x8192x1024, .f32⟩
  | 117 => ⟨S512x1024, .f32⟩
  | 118 => ⟨S8x8192x1024, .f32⟩
  | 119 => ⟨S8x8192x1024, .f32⟩
  | 120 => ⟨S512x1024, .f32⟩
  | 121 => ⟨S8x8192x1024, .f32⟩
  | 122 => ⟨S8x8192x1024, .f32⟩
  | 123 => ⟨S8x8192x1024, .f32⟩
  | 124 => ⟨S1024x1024, .f32⟩
  | 125 => ⟨S8x8192x1024, .f32⟩
  | 126 => ⟨S8x8192x1024, .f32⟩
  | 127 => ⟨S1024, .f32⟩
  | _ => ⟨S8x8192x1024, .f32⟩

abbrev hbmTy0_2 (i : Nat) : BufTy := match i % 128 with
  | 0 => ⟨S8x8192x1024, .f32⟩
  | 1 => ⟨S_, .f32⟩
  | 2 => ⟨S8x8192, .f32⟩
  | 3 => ⟨S8x8192x1, .f32⟩
  | 4 => ⟨S_, .f32⟩
  | 5 => ⟨S8x8192x1, .f32⟩
  | 6 => ⟨S8x8192x1, .f32⟩
  | 7 => ⟨S_, .f32⟩
  | 8 => ⟨S8x8192x1, .f32⟩
  | 9 => ⟨S8x8192x1, .f32⟩
  | 10 => ⟨S8x8192x1, .f32⟩
  | 11 => ⟨S8x8192x1024, .f32⟩
  | 12 => ⟨S8x8192x1024, .f32⟩
  | 13 => ⟨S1x1x1024, .f32⟩
  | 14 => ⟨S8x8192x1024, .f32⟩
  | 15 => ⟨S8x8192x1024, .f32⟩
  | 16 => ⟨S1024x5632, .f32⟩
  | 17 => ⟨S2816x1024, .f32⟩
  | 18 => ⟨S8x8192x5632, .f32⟩
  | 19 => ⟨S8x8192x2816, .f32⟩
  | 20 => ⟨S8x8192x2816, .f32⟩
  | 21 => ⟨S8x8192x2816, .f32⟩
  | 22 => ⟨S8x8192x2816, .f32⟩
  | 23 => ⟨S_, .f32⟩
  | 24 => ⟨S8x8192x2816, .f32⟩
  | 25 => ⟨S8x8192x2816, .f32⟩
  | 26 => ⟨S_, .f32⟩
  | 27 => ⟨S8x8192x2816, .f32⟩
  | 28 => ⟨S8x8192x2816, .f32⟩
  | 29 => ⟨S8x8192x2816, .f32⟩
  | 30 => ⟨S8x8192x2816, .f32⟩
  | 31 => ⟨S8x8192x1024, .f32⟩
  | 32 => ⟨S8x8192x1024, .f32⟩
  | 33 => ⟨S8x8192x1024, .f32⟩
  | 34 => ⟨S_, .f32⟩
  | 35 => ⟨S8x8192, .f32⟩
  | 36 => ⟨S8x8192x1, .f32⟩
  | 37 => ⟨S_, .f32⟩
  | 38 => ⟨S8x8192x1, .f32⟩
  | 39 => ⟨S8x8192x1, .f32⟩
  | 40 => ⟨S_, .f32⟩
  | 41 => ⟨S8x8192x1, .f32⟩
  | 42 => ⟨S8x8192x1, .f32⟩
  | 43 => ⟨S8x8192x1, .f32⟩
  | 44 => ⟨S8x8192x1024, .f32⟩
  | 45 => ⟨S8x8192x1024, .f32⟩
  | 46 => ⟨S1x1x1024, .f32⟩
  | 47 => ⟨S8x8192x1024, .f32⟩
  | 48 => ⟨S8x8192x1024, .f32⟩
  | _ => ⟨S8x8192x1024, .f32⟩

abbrev hbmTy (i : Nat) : BufTy := match i / 128 with
  | 0 => hbmTy0_0 i
  | 1 => hbmTy0_1 i
  | 2 => hbmTy0_2 i
  | _ => ⟨S8x8192x1024, .f32⟩

abbrev bufTy : (tb : Table) → Fin (tcTables nBuf tb) → BufTy
  | .hbm, ⟨i, _⟩ => hbmTy i
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_c : Ref sig .tc := ⟨.hbm, 22, rfl⟩
abbrev main_v5 : Ref sig .tc := ⟨.hbm, 23, rfl⟩
abbrev main_v6 : Ref sig .tc := ⟨.hbm, 24, rfl⟩
abbrev main_c_0 : Ref sig .tc := ⟨.hbm, 25, rfl⟩
abbrev main_v7 : Ref sig .tc := ⟨.hbm, 26, rfl⟩
abbrev main_v8 : Ref sig .tc := ⟨.hbm, 27, rfl⟩
abbrev main_c_1 : Ref sig .tc := ⟨.hbm, 28, rfl⟩
abbrev main_c_2 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_c_3 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_c_4 : Ref sig .tc := ⟨.hbm, 51, rfl⟩
abbrev main_v24 : Ref sig .tc := ⟨.hbm, 52, rfl⟩
abbrev main_v25 : Ref sig .tc := ⟨.hbm, 53, rfl⟩
abbrev main_c_5 : Ref sig .tc := ⟨.hbm, 54, rfl⟩
abbrev main_c_6 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_c_7 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_c_8 : Ref sig .tc := ⟨.hbm, 81, rfl⟩
abbrev main_v45 : Ref sig .tc := ⟨.hbm, 82, rfl⟩
abbrev main_v46 : Ref sig .tc := ⟨.hbm, 83, rfl⟩
abbrev main_c_9 : Ref sig .tc := ⟨.hbm, 84, rfl⟩
abbrev main_v47 : Ref sig .tc := ⟨.hbm, 85, rfl⟩
abbrev main_v48 : Ref sig .tc := ⟨.hbm, 86, rfl⟩
abbrev main_c_10 : Ref sig .tc := ⟨.hbm, 87, rfl⟩
abbrev main_c_11 : Ref sig .tc := ⟨.hbm, 88, rfl⟩
abbrev main_call2_v0 : Ref sig .tc := ⟨.hbm, 89, rfl⟩
abbrev main_call2_v1 : Ref sig .tc := ⟨.hbm, 90, rfl⟩
abbrev main_call2_v2 : Ref sig .tc := ⟨.hbm, 91, rfl⟩
abbrev main_call2_v3 : Ref sig .tc := ⟨.hbm, 92, rfl⟩
abbrev main_call2_v4 : Ref sig .tc := ⟨.hbm, 93, rfl⟩
abbrev main_v49 : Ref sig .tc := ⟨.hbm, 94, rfl⟩
abbrev main_v50 : Ref sig .tc := ⟨.hbm, 95, rfl⟩
abbrev main_c_12 : Ref sig .tc := ⟨.hbm, 96, rfl⟩
abbrev main_v51 : Ref sig .tc := ⟨.hbm, 97, rfl⟩
abbrev main_v52 : Ref sig .tc := ⟨.hbm, 98, rfl⟩
abbrev main_c_13 : Ref sig .tc := ⟨.hbm, 99, rfl⟩
abbrev main_c_14 : Ref sig .tc := ⟨.hbm, 100, rfl⟩
abbrev main_call3_v0 : Ref sig .tc := ⟨.hbm, 101, rfl⟩
abbrev main_call3_v1 : Ref sig .tc := ⟨.hbm, 102, rfl⟩
abbrev main_call3_v2 : Ref sig .tc := ⟨.hbm, 103, rfl⟩
abbrev main_call3_v3 : Ref sig .tc := ⟨.hbm, 104, rfl⟩
abbrev main_call3_v4 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_c_15 : Ref sig .tc := ⟨.hbm, 116, rfl⟩
abbrev main_v63 : Ref sig .tc := ⟨.hbm, 117, rfl⟩
abbrev main_v64 : Ref sig .tc := ⟨.hbm, 118, rfl⟩
abbrev main_c_16 : Ref sig .tc := ⟨.hbm, 119, rfl⟩
abbrev main_v65 : Ref sig .tc := ⟨.hbm, 120, rfl⟩
abbrev main_v66 : Ref sig .tc := ⟨.hbm, 121, rfl⟩
abbrev main_c_17 : Ref sig .tc := ⟨.hbm, 122, rfl⟩
abbrev main_v67 : Ref sig .tc := ⟨.hbm, 123, rfl⟩
abbrev main_v68 : Ref sig .tc := ⟨.hbm, 124, rfl⟩
abbrev main_v69 : Ref sig .tc := ⟨.hbm, 125, rfl⟩
abbrev main_v70 : Ref sig .tc := ⟨.hbm, 126, rfl⟩
abbrev main_v71 : Ref sig .tc := ⟨.hbm, 127, rfl⟩
abbrev main_c_18 : Ref sig .tc := ⟨.hbm, 128, rfl⟩
abbrev main_v72 : Ref sig .tc := ⟨.hbm, 129, rfl⟩
abbrev main_v73 : Ref sig .tc := ⟨.hbm, 130, rfl⟩
abbrev main_c_19 : Ref sig .tc := ⟨.hbm, 131, rfl⟩
abbrev main_v74 : Ref sig .tc := ⟨.hbm, 132, rfl⟩
abbrev main_v75 : Ref sig .tc := ⟨.hbm, 133, rfl⟩
abbrev main_v76 : Ref sig .tc := ⟨.hbm, 134, rfl⟩
abbrev main_v77 : Ref sig .tc := ⟨.hbm, 135, rfl⟩
abbrev main_v78 : Ref sig .tc := ⟨.hbm, 136, rfl⟩
abbrev main_c_20 : Ref sig .tc := ⟨.hbm, 137, rfl⟩
abbrev main_v79 : Ref sig .tc := ⟨.hbm, 138, rfl⟩
abbrev main_v80 : Ref sig .tc := ⟨.hbm, 139, rfl⟩
abbrev main_c_21 : Ref sig .tc := ⟨.hbm, 140, rfl⟩
abbrev main_v81 : Ref sig .tc := ⟨.hbm, 141, rfl⟩
abbrev main_v82 : Ref sig .tc := ⟨.hbm, 142, rfl⟩
abbrev main_v83 : Ref sig .tc := ⟨.hbm, 143, rfl⟩
abbrev main_v84 : Ref sig .tc := ⟨.hbm, 144, rfl⟩
abbrev main_v85 : Ref sig .tc := ⟨.hbm, 145, rfl⟩
abbrev main_c_22 : Ref sig .tc := ⟨.hbm, 146, rfl⟩
abbrev main_v86 : Ref sig .tc := ⟨.hbm, 147, rfl⟩
abbrev main_v87 : Ref sig .tc := ⟨.hbm, 148, rfl⟩
abbrev main_c_23 : Ref sig .tc := ⟨.hbm, 149, rfl⟩
abbrev main_v88 : Ref sig .tc := ⟨.hbm, 150, rfl⟩
abbrev main_v89 : Ref sig .tc := ⟨.hbm, 151, rfl⟩
abbrev main_v90 : Ref sig .tc := ⟨.hbm, 152, rfl⟩
abbrev main_v91 : Ref sig .tc := ⟨.hbm, 153, rfl⟩
abbrev main_v92 : Ref sig .tc := ⟨.hbm, 154, rfl⟩
abbrev main_v93 : Ref sig .tc := ⟨.hbm, 155, rfl⟩
abbrev main_cst : Ref sig .tc := ⟨.hbm, 156, rfl⟩
abbrev main_v94 : Ref sig .tc := ⟨.hbm, 157, rfl⟩
abbrev main_v95 : Ref sig .tc := ⟨.hbm, 158, rfl⟩
abbrev main_c_24 : Ref sig .tc := ⟨.hbm, 159, rfl⟩
abbrev main_v96 : Ref sig .tc := ⟨.hbm, 160, rfl⟩
abbrev main_v97 : Ref sig .tc := ⟨.hbm, 161, rfl⟩
abbrev main_c_25 : Ref sig .tc := ⟨.hbm, 162, rfl⟩
abbrev main_v98 : Ref sig .tc := ⟨.hbm, 163, rfl⟩
abbrev main_v99 : Ref sig .tc := ⟨.hbm, 164, rfl⟩
abbrev main_v100 : Ref sig .tc := ⟨.hbm, 165, rfl⟩
abbrev main_v101 : Ref sig .tc := ⟨.hbm, 166, rfl⟩
abbrev main_v102 : Ref sig .tc := ⟨.hbm, 167, rfl⟩
abbrev main_c_26 : Ref sig .tc := ⟨.hbm, 168, rfl⟩
abbrev main_v103 : Ref sig .tc := ⟨.hbm, 169, rfl⟩
abbrev main_v104 : Ref sig .tc := ⟨.hbm, 170, rfl⟩
abbrev main_c_27 : Ref sig .tc := ⟨.hbm, 171, rfl⟩
abbrev main_v105 : Ref sig .tc := ⟨.hbm, 172, rfl⟩
abbrev main_v106 : Ref sig .tc := ⟨.hbm, 173, rfl⟩
abbrev main_v107 : Ref sig .tc := ⟨.hbm, 174, rfl⟩
abbrev main_v108 : Ref sig .tc := ⟨.hbm, 175, rfl⟩
abbrev main_v109 : Ref sig .tc := ⟨.hbm, 176, rfl⟩
abbrev main_v110 : Ref sig .tc := ⟨.hbm, 177, rfl⟩
abbrev main_v111 : Ref sig .tc := ⟨.hbm, 178, rfl⟩
abbrev main_v112 : Ref sig .tc := ⟨.hbm, 179, rfl⟩
abbrev main_v113 : Ref sig .tc := ⟨.hbm, 180, rfl⟩
abbrev main_v114 : Ref sig .tc := ⟨.hbm, 181, rfl⟩
abbrev main_cst_28 : Ref sig .tc := ⟨.hbm, 182, rfl⟩
abbrev main_call4_v0 : Ref sig .tc := ⟨.hbm, 183, rfl⟩
abbrev main_call4_v1 : Ref sig .tc := ⟨.hbm, 184, rfl⟩
abbrev main_call4_v2 : Ref sig .tc := ⟨.hbm, 185, rfl⟩
abbrev main_v115 : Ref sig .tc := ⟨.hbm, 186, rfl⟩
abbrev main_v116 : Ref sig .tc := ⟨.hbm, 187, rfl⟩
abbrev main_cst_29 : Ref sig .tc := ⟨.hbm, 188, rfl⟩
abbrev main_v117 : Ref sig .tc := ⟨.hbm, 189, rfl⟩
abbrev main_cst_30 : Ref sig .tc := ⟨.hbm, 190, rfl⟩
abbrev main_v118 : Ref sig .tc := ⟨.hbm, 191, rfl⟩
abbrev main_v119 : Ref sig .tc := ⟨.hbm, 192, rfl⟩
abbrev main_v120 : Ref sig .tc := ⟨.hbm, 193, rfl⟩
abbrev main_v121 : Ref sig .tc := ⟨.hbm, 194, rfl⟩
abbrev main_v122 : Ref sig .tc := ⟨.hbm, 195, rfl⟩
abbrev main_v123 : Ref sig .tc := ⟨.hbm, 196, rfl⟩
abbrev main_cst_31 : Ref sig .tc := ⟨.hbm, 197, rfl⟩
abbrev main_v124 : Ref sig .tc := ⟨.hbm, 198, rfl⟩
abbrev main_v125 : Ref sig .tc := ⟨.hbm, 199, rfl⟩
abbrev main_v126 : Ref sig .tc := ⟨.hbm, 200, rfl⟩
abbrev main_v127 : Ref sig .tc := ⟨.hbm, 201, rfl⟩
abbrev main_v128 : Ref sig .tc := ⟨.hbm, 202, rfl⟩
abbrev main_v129 : Ref sig .tc := ⟨.hbm, 203, rfl⟩
abbrev main_v130 : Ref sig .tc := ⟨.hbm, 204, rfl⟩
abbrev main_v131 : Ref sig .tc := ⟨.hbm, 205, rfl⟩
abbrev main_v132 : Ref sig .tc := ⟨.hbm, 206, rfl⟩
abbrev main_c_32 : Ref sig .tc := ⟨.hbm, 207, rfl⟩
abbrev main_call5_v0 : Ref sig .tc := ⟨.hbm, 208, rfl⟩
abbrev main_v133 : Ref sig .tc := ⟨.hbm, 209, rfl⟩
abbrev main_v134 : Ref sig .tc := ⟨.hbm, 210, rfl⟩
abbrev main_v135 : Ref sig .tc := ⟨.hbm, 211, rfl⟩
abbrev main_v136 : Ref sig .tc := ⟨.hbm, 212, rfl⟩
abbrev main_v137 : Ref sig .tc := ⟨.hbm, 213, rfl⟩
abbrev main_v138 : Ref sig .tc := ⟨.hbm, 214, rfl⟩
abbrev main_v139 : Ref sig .tc := ⟨.hbm, 215, rfl⟩
abbrev main_v140 : Ref sig .tc := ⟨.hbm, 216, rfl⟩
abbrev main_v141 : Ref sig .tc := ⟨.hbm, 217, rfl⟩
abbrev main_v142 : Ref sig .tc := ⟨.hbm, 218, rfl⟩
abbrev main_v143 : Ref sig .tc := ⟨.hbm, 219, rfl⟩
abbrev main_v144 : Ref sig .tc := ⟨.hbm, 220, rfl⟩
abbrev main_v145 : Ref sig .tc := ⟨.hbm, 221, rfl⟩
abbrev main_v146 : Ref sig .tc := ⟨.hbm, 222, rfl⟩
abbrev main_v147 : Ref sig .tc := ⟨.hbm, 223, rfl⟩
abbrev main_v148 : Ref sig .tc := ⟨.hbm, 224, rfl⟩
abbrev main_v149 : Ref sig .tc := ⟨.hbm, 225, rfl⟩
abbrev main_v150 : Ref sig .tc := ⟨.hbm, 226, rfl⟩
abbrev main_v151 : Ref sig .tc := ⟨.hbm, 227, rfl⟩
abbrev main_v152 : Ref sig .tc := ⟨.hbm, 228, rfl⟩
abbrev main_v153 : Ref sig .tc := ⟨.hbm, 229, rfl⟩
abbrev main_v154 : Ref sig .tc := ⟨.hbm, 230, rfl⟩
abbrev main_v155 : Ref sig .tc := ⟨.hbm, 231, rfl⟩
abbrev main_v156 : Ref sig .tc := ⟨.hbm, 232, rfl⟩
abbrev main_v157 : Ref sig .tc := ⟨.hbm, 233, rfl⟩
abbrev main_v158 : Ref sig .tc := ⟨.hbm, 234, rfl⟩
abbrev main_v159 : Ref sig .tc := ⟨.hbm, 235, rfl⟩
abbrev main_v160 : Ref sig .tc := ⟨.hbm, 236, rfl⟩
abbrev main_cst_33 : Ref sig .tc := ⟨.hbm, 237, rfl⟩
abbrev main_v161 : Ref sig .tc := ⟨.hbm, 238, rfl⟩
abbrev main_v162 : Ref sig .tc := ⟨.hbm, 239, rfl⟩
abbrev main_cst_34 : Ref sig .tc := ⟨.hbm, 240, rfl⟩
abbrev main_v163 : Ref sig .tc := ⟨.hbm, 241, rfl⟩
abbrev main_v164 : Ref sig .tc := ⟨.hbm, 242, rfl⟩
abbrev main_v165 : Ref sig .tc := ⟨.hbm, 243, rfl⟩
abbrev main_v166 : Ref sig .tc := ⟨.hbm, 244, rfl⟩
abbrev main_v167 : Ref sig .tc := ⟨.hbm, 245, rfl⟩
abbrev main_v168 : Ref sig .tc := ⟨.hbm, 246, rfl⟩
abbrev main_v169 : Ref sig .tc := ⟨.hbm, 247, rfl⟩
abbrev main_v170 : Ref sig .tc := ⟨.hbm, 248, rfl⟩
abbrev main_v171 : Ref sig .tc := ⟨.hbm, 249, rfl⟩
abbrev main_v172 : Ref sig .tc := ⟨.hbm, 250, rfl⟩
abbrev main_v173 : Ref sig .tc := ⟨.hbm, 251, rfl⟩
abbrev main_v174 : Ref sig .tc := ⟨.hbm, 252, rfl⟩
abbrev main_v175 : Ref sig .tc := ⟨.hbm, 253, rfl⟩
abbrev main_v176 : Ref sig .tc := ⟨.hbm, 254, rfl⟩
abbrev main_v177 : Ref sig .tc := ⟨.hbm, 255, rfl⟩
abbrev main_v178 : Ref sig .tc := ⟨.hbm, 256, rfl⟩
abbrev main_cst_35 : Ref sig .tc := ⟨.hbm, 257, rfl⟩
abbrev main_v179 : Ref sig .tc := ⟨.hbm, 258, rfl⟩
abbrev main_v180 : Ref sig .tc := ⟨.hbm, 259, rfl⟩
abbrev main_cst_36 : Ref sig .tc := ⟨.hbm, 260, rfl⟩
abbrev main_v181 : Ref sig .tc := ⟨.hbm, 261, rfl⟩
abbrev main_v182 : Ref sig .tc := ⟨.hbm, 262, rfl⟩
abbrev main_cst_37 : Ref sig .tc := ⟨.hbm, 263, rfl⟩
abbrev main_v183 : Ref sig .tc := ⟨.hbm, 264, rfl⟩
abbrev main_v184 : Ref sig .tc := ⟨.hbm, 265, rfl⟩
abbrev main_v185 : Ref sig .tc := ⟨.hbm, 266, rfl⟩
abbrev main_v186 : Ref sig .tc := ⟨.hbm, 267, rfl⟩
abbrev main_v187 : Ref sig .tc := ⟨.hbm, 268, rfl⟩
abbrev main_v188 : Ref sig .tc := ⟨.hbm, 269, rfl⟩
abbrev main_v189 : Ref sig .tc := ⟨.hbm, 270, rfl⟩
abbrev main_v190 : Ref sig .tc := ⟨.hbm, 271, rfl⟩
abbrev main_v191 : Ref sig .tc := ⟨.hbm, 272, rfl⟩
abbrev main_v192 : Ref sig .tc := ⟨.hbm, 273, rfl⟩
abbrev main_v193 : Ref sig .tc := ⟨.hbm, 274, rfl⟩
abbrev main_v194 : Ref sig .tc := ⟨.hbm, 275, rfl⟩
abbrev main_v195 : Ref sig .tc := ⟨.hbm, 276, rfl⟩
abbrev main_call6_v0 : Ref sig .tc := ⟨.hbm, 277, rfl⟩
abbrev main_call6_v1 : Ref sig .tc := ⟨.hbm, 278, rfl⟩
abbrev main_call6_cst : Ref sig .tc := ⟨.hbm, 279, rfl⟩
abbrev main_call6_v2 : Ref sig .tc := ⟨.hbm, 280, rfl⟩
abbrev main_call6_v3 : Ref sig .tc := ⟨.hbm, 281, rfl⟩
abbrev main_call6_cst_0 : Ref sig .tc := ⟨.hbm, 282, rfl⟩
abbrev main_call6_v4 : Ref sig .tc := ⟨.hbm, 283, rfl⟩
abbrev main_call6_v5 : Ref sig .tc := ⟨.hbm, 284, rfl⟩
abbrev main_v196 : Ref sig .tc := ⟨.hbm, 285, rfl⟩
abbrev main_v197 : Ref sig .tc := ⟨.hbm, 286, rfl⟩
abbrev main_v198 : Ref sig .tc := ⟨.hbm, 287, rfl⟩
abbrev main_v199 : Ref sig .tc := ⟨.hbm, 288, rfl⟩
abbrev main_v200 : Ref sig .tc := ⟨.hbm, 289, rfl⟩
abbrev main_cst_38 : Ref sig .tc := ⟨.hbm, 290, rfl⟩
abbrev main_v201 : Ref sig .tc := ⟨.hbm, 291, rfl⟩
abbrev main_v202 : Ref sig .tc := ⟨.hbm, 292, rfl⟩
abbrev main_cst_39 : Ref sig .tc := ⟨.hbm, 293, rfl⟩
abbrev main_v203 : Ref sig .tc := ⟨.hbm, 294, rfl⟩
abbrev main_v204 : Ref sig .tc := ⟨.hbm, 295, rfl⟩
abbrev main_cst_40 : Ref sig .tc := ⟨.hbm, 296, rfl⟩
abbrev main_v205 : Ref sig .tc := ⟨.hbm, 297, rfl⟩
abbrev main_v206 : Ref sig .tc := ⟨.hbm, 298, rfl⟩
abbrev main_v207 : Ref sig .tc := ⟨.hbm, 299, rfl⟩
abbrev main_v208 : Ref sig .tc := ⟨.hbm, 300, rfl⟩
abbrev main_v209 : Ref sig .tc := ⟨.hbm, 301, rfl⟩
abbrev main_v210 : Ref sig .tc := ⟨.hbm, 302, rfl⟩
abbrev main_v211 : Ref sig .tc := ⟨.hbm, 303, rfl⟩
abbrev main_v212 : Ref sig .tc := ⟨.hbm, 304, rfl⟩

abbrev nD : Nat := 1
abbrev τ : Topo := Topo.v7x

variable {F : FTy → Type} [FloatOps F]
-- ==== Kernel4.lean ====
abbrev S8x8192x1024 : Shape := ⟨3, ![8, 8192, 1024]⟩
abbrev S1x1024 : Shape := ⟨2, ![1, 1024]⟩
abbrev S1x1024x5120 : Shape := ⟨3, ![1, 1024, 5120]⟩
abbrev S1024 : Shape := ⟨1, ![1024]⟩
abbrev S1024x5120 : Shape := ⟨2, ![1024, 5120]⟩
abbrev S8x8192x512 : Shape := ⟨3, ![8, 8192, 512]⟩
abbrev S8x8192x2048 : Shape := ⟨3, ![8, 8192, 2048]⟩
abbrev S1x1024x1024 : Shape := ⟨3, ![1, 1024, 1024]⟩
abbrev S1x1024x512 : Shape := ⟨3, ![1, 1024, 512]⟩
abbrev S1x1024x2048 : Shape := ⟨3, ![1, 1024, 2048]⟩
abbrev S1024x1024 : Shape := ⟨2, ![1024, 1024]⟩
abbrev S1024x1 : Shape := ⟨2, ![1024, 1]⟩
abbrev S1024x512 : Shape := ⟨2, ![1024, 512]⟩

abbrev nBuf : Space → Nat
  | .hbm => 13
  | .vmem => 16
  | .smem => 0
  | _ => 0

abbrev bufTy : (tb : Table) → Fin (tcTables nBuf tb) → BufTy
  | .hbm, ⟨0, _⟩ => ⟨S8x8192x1024, .f32⟩
  | .hbm, ⟨1, _⟩ => ⟨S1x1024, .f32⟩
  | .hbm, ⟨2, _⟩ => ⟨S1x1024x5120, .f32⟩
  | .hbm, ⟨3, _⟩ => ⟨S1024, .f32⟩
  | .hbm, ⟨4, _⟩ => ⟨S1x1024, .f32⟩
  | .hbm, ⟨5, _⟩ => ⟨S1024x5120, .f32⟩
  | .hbm, ⟨6, _⟩ => ⟨S1024x5120, .bf16⟩
  | .hbm, ⟨7, _⟩ => ⟨S8x8192x512, .bf16⟩
  | .hbm, ⟨8, _⟩ => ⟨S8x8192x512, .bf16⟩
  | .hbm, ⟨9, _⟩ => ⟨S8x8192x512, .bf16⟩
  | .hbm, ⟨10, _⟩ => ⟨S8x8192x512, .bf16⟩
  | .hbm, ⟨11, _⟩ => ⟨S8x8192x512, .bf16⟩
  | .hbm, ⟨12, _⟩ => ⟨S8x8192x2048, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1024x5120, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x1024x512, .bf16⟩
  | .local _ .vmem, ⟨7, _⟩ => ⟨S1x1024x512, .bf16⟩
  | .local _ .vmem, ⟨8, _⟩ => ⟨S1x1024x512, .bf16⟩
  | .local _ .vmem, ⟨9, _⟩ => ⟨S1x1024x512, .bf16⟩
  | .local _ .vmem, ⟨10, _⟩ => ⟨S1x1024x512, .bf16⟩
  | .local _ .vmem, ⟨11, _⟩ => ⟨S1x1024x512, .bf16⟩
  | .local _ .vmem, ⟨12, _⟩ => ⟨S1x1024x512, .bf16⟩
  | .local _ .vmem, ⟨13, _⟩ => ⟨S1x1024x512, .bf16⟩
  | .local _ .vmem, ⟨14, _⟩ => ⟨S1x1024x2048, .bf16⟩
  | .local _ .vmem, ⟨15, _⟩ => ⟨S1x1024x2048, .bf16⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev main_v4_3 : Ref sig .tc := ⟨.hbm, 10, rfl⟩
abbrev main_v4_4 : Ref sig .tc := ⟨.hbm, 11, rfl⟩
abbrev main_v4_5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x5120 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference4Ideal.lean ====
abbrev S8x8192x1024 : Shape := ⟨3, ![8, 8192, 1024]⟩
abbrev S1x1024 : Shape := ⟨2, ![1, 1024]⟩
abbrev S1x1024x5120 : Shape := ⟨3, ![1, 1024, 5120]⟩
abbrev S1024 : Shape := ⟨1, ![1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S1024x5120 : Shape := ⟨2, ![1024, 5120]⟩
abbrev S8x8192x5120 : Shape := ⟨3, ![8, 8192, 5120]⟩
abbrev S8x8192x512 : Shape := ⟨3, ![8, 8192, 512]⟩
abbrev S8x8192x2048 : Shape := ⟨3, ![8, 8192, 2048]⟩

abbrev nBuf : Space → Nat
  | .hbm => 36
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S1x1024, .f32⟩
  | .hbm, ⟨2, _⟩ => ⟨S1x1024x5120, .f32⟩
  | .hbm, ⟨3, _⟩ => ⟨S1024, .f32⟩
  | .hbm, ⟨4, _⟩ => ⟨S8x8192x1024, .f32⟩
  | .hbm, ⟨5, _⟩ => ⟨S_, .f32⟩
  | .hbm, ⟨6, _⟩ => ⟨S8x8192, .f32⟩
  | .hbm, ⟨7, _⟩ => ⟨S8x8192x1, .f32⟩
  | .hbm, ⟨8, _⟩ => ⟨S_, .f32⟩
  | .hbm, ⟨9, _⟩ => ⟨S8x8192x1, .f32⟩
  | .hbm, ⟨10, _⟩ => ⟨S8x8192x1, .f32⟩
  | .hbm, ⟨11, _⟩ => ⟨S_, .f32⟩
  | .hbm, ⟨12, _⟩ => ⟨S8x8192x1, .f32⟩
  | .hbm, ⟨13, _⟩ => ⟨S8x8192x1, .f32⟩
  | .hbm, ⟨14, _⟩ => ⟨S8x8192x1, .f32⟩
  | .hbm, ⟨15, _⟩ => ⟨S8x8192x1024, .f32⟩
  | .hbm, ⟨16, _⟩ => ⟨S8x8192x1024, .f32⟩
  | .hbm, ⟨17, _⟩ => ⟨S1x1x1024, .f32⟩
  | .hbm, ⟨18, _⟩ => ⟨S8x8192x1024, .f32⟩
  | .hbm, ⟨19, _⟩ => ⟨S8x8192x1024, .f32⟩
  | .hbm, ⟨20, _⟩ => ⟨S1024x5120, .f32⟩
  | .hbm, ⟨21, _⟩ => ⟨S8x8192x5120, .f32⟩
  | .hbm, ⟨22, _⟩ => ⟨S8x8192x512, .f32⟩
  | .hbm, ⟨23, _⟩ => ⟨S8x8192x512, .f32⟩
  | .hbm, ⟨24, _⟩ => ⟨S8x8192x512, .f32⟩
  | .hbm, ⟨25, _⟩ => ⟨S8x8192x512, .f32⟩
  | .hbm, ⟨26, _⟩ => ⟨S8x8192x512, .f32⟩
  | .hbm, ⟨27, _⟩ => ⟨S8x8192x512, .f32⟩
  | .hbm, ⟨28, _⟩ => ⟨S8x8192x2048, .f32⟩
  | .hbm, ⟨29, _⟩ => ⟨S8x8192x512, .f32⟩
  | .hbm, ⟨30, _⟩ => ⟨S8x8192x512, .bf16⟩
  | .hbm, ⟨31, _⟩ => ⟨S8x8192x512, .bf16⟩
  | .hbm, ⟨32, _⟩ => ⟨S8x8192x512, .bf16⟩
  | .hbm, ⟨33, _⟩ => ⟨S8x8192x512, .bf16⟩
  | .hbm, ⟨34, _⟩ => ⟨S8x8192x512, .bf16⟩
  | .hbm, ⟨35, _⟩ => ⟨S8x8192x2048, .bf16⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩

abbrev nD : Nat := 1
abbrev τ : Topo := Topo.v7x

variable {F : FTy → Type} [FloatOps F]
-- ==== Proof.Consts.lean ====
/- The numbers that the programs' float constants stand for. -/
module

public import Idealize.ShloMosaic.PureOps.Ideal

@[expose] public section

noncomputable section

namespace Cert.Layer

open Idealize.ShloMosaic

theorem ofBits_ninf : Ideal.ofBits .f32 0xFF800000#32 = ⊥ := by simp [Ideal.ofBits, Ideal.ieee]

theorem ofBits_eighth : Ideal.ofBits .f32 0x3E000000#32 = ((1 / 8 : ℝ) : EReal) := by
  simp [Ideal.ofBits, Ideal.ieee, -EReal.coe_mul]; norm_num

theorem ofBits_one : Ideal.ofBits .f32 0x3F800000#32 = 1 := by
  simp [Ideal.ofBits, Ideal.ieee, -EReal.coe_mul]; norm_num

theorem ofBits_half16 : Ideal.ofBits .bf16 0x3F00#16 = ((1 / 2 : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

theorem ofBits_1024 : Ideal.ofBits .f32 0x44800000#32 = ((1024 : ℝ) : EReal) := by
  simp [Ideal.ofBits, Ideal.ieee, -EReal.coe_mul]; norm_num

theorem ofBits_eps : 0 < Ideal.ofBits .f32 0x358637BD#32 := by
  simp [Ideal.ofBits, Ideal.ieee, -EReal.coe_mul]

end Cert.Layer
-- ==== Proof.Unit.lean ====
/- One unit of the kernel's attention: 64 queries of a head pair against a window of 512 keys. -/
module

public import proofs.«01_k».proof.Proof.Gen.KernelIdeal.Value
public import proofs.«01_k».proof.Proof.Consts
public import Idealize.ShloMosaic.Lib.Pointwise
public import Idealize.ShloMosaic.Lib.Tactic.CleanTypes

@[expose] public section

set_option maxRecDepth 16384

noncomputable section

namespace Cert.Layer.Kern

open Cert.KernelIdeal Cert.KernelIdeal.Gen Idealize.ShloMosaic Idealize.ShloMosaic.TcCoe Idealize.ShloMosaic.Pointwise Idealize.SL.Sem

/-- The lanes of the first head of a pair. -/
abbrev lowLanes : IVec S64x128 1 := cmpi .slt (iota .tc S64x128 32 [1] k0_part4._proof_17) (broadcast S64x128 64#32)

/-- The bias of a head pair's 64 queries and 512 keys, joined from four chunks. -/
def biasU (b0 b1 b2 b3 : FVec Ideal S1x1x1x128x128 .f32) : FVec Ideal S128x512 .f32 :=
  concatenate S128x512 1
        [⟨S128x128, shapeCast S128x128 b0 shapeCasts_S1x1x1x128x128_S128x128⟩,
          ⟨S128x128, shapeCast S128x128 b1 shapeCasts_S1x1x1x128x128_S128x128⟩,
          ⟨S128x128, shapeCast S128x128 b2 shapeCasts_S1x1x1x128x128_S128x128⟩,
          ⟨S128x128, shapeCast S128x128 b3 shapeCasts_S1x1x1x128x128_S128x128⟩]
        concatenates_S128x128_S128x128_S128x128_S128x128_S128x512_d1

/-- One head pair's scores of 64 queries over a window of 512 keys, as the kernel computes them. -/
def scoreU (low : IVec S64x128 1) (q : FVec Ideal S1x64x128 .bf16) (k : FVec Ideal S1x512x128 .bf16)
    (b0 b1 b2 b3 : FVec Ideal S1x1x1x128x128 .f32) : FVec Ideal S128x512 .f32 :=
  addf
    (mulf
      (matmul dot_S128x128_S512x128_S128x512_1_1_0_0_n_n none
        (concatenate S128x128 0
          [⟨S64x128, select low (shapeCast S64x128 q shapeCasts_S1x64x128_S64x128) (broadcast S64x128 (Scalar.ofBits .bf16 0x0000#16))⟩,
            ⟨S64x128, select low (broadcast S64x128 (Scalar.ofBits .bf16 0x0000#16)) (shapeCast S64x128 q shapeCasts_S1x64x128_S64x128)⟩]
          concatenates_S64x128_S64x128_S128x128_d0)
        (shapeCast S512x128 k shapeCasts_S1x512x128_S512x128) (constant S128x512 .f32 0x00000000#32))
      (broadcast S128x512 (Named.named κ "q_scale" 0x3E38AA3B#32)))
    (mulf
      (biasU b0 b1 b2 b3)
      (broadcast S128x512 (Named.named κ "log2e" 0x3FB8AA3B#32)))

/-- The weights of one unit, before they are divided by their sum. -/
def weightU (s : FVec Ideal S1x128x512 .f32) : FVec Ideal S128x512 .f32 :=
  exp2 (subf (shapeCast S128x512 s k0_part6._proof_19) (broadcastTo S128x512 (shapeCast S128x1
    (multiReduction .maximumf [1] S128 (shapeCast S128x512 s k0_part6._proof_19) 0xFF800000#32
      k0_part15._proof_1 k0_part4._proof_6 k0_part15._proof_2) k0_part15._proof_3) k0_part15._proof_4))

/-- The attention of one unit from its weights. -/
def mixU (low : IVec S64x128 1) (p : FVec Ideal S128x512 .f32) (v : FVec Ideal S1x512x128 .bf16) : FVec Ideal S64x128 .bf16 :=
  let o : FVec Ideal S128x128 .f32 :=
    divf (matmul dot_S128x512_S512x128_S128x128_1_0_0_1_n_n none
        (shapeCast S128x512 (shapeCast S1x128x512 (truncf .bf16 p k0_part1._proof_9) k0_part6._proof_20) k0_part6._proof_19)
        (shapeCast S512x128 v k0_part6._proof_4)
        (constant S128x128 .f32 0x00000000#32))
      (shapeCast S128x128 (shapeCast S1x128x128 (broadcastTo S128x128 (shapeCast S128x1 (shapeCast S128x1 (multiReduction .add [1] S128 p 0x00000000#32
        k0_part15._proof_1 k0_part4._proof_6 k0_part4._proof_7) k0_part15._proof_3) k0_part15._proof_5) k0_part15._proof_6) k0_part15._proof_10)
        k0_part15._proof_9)
  shapeCast S64x128 (truncf .bf16 (select low (extractStridedSlice S64x128 ![0, 0] o k0_part19._proof_3)
    (extractStridedSlice S64x128 ![64, 0] o k0_part19._proof_4)) k0_part1._proof_9) k0_part19._proof_7

/-- One unit. -/
def unitU (q : FVec Ideal S1x64x128 .bf16) (k : FVec Ideal S1x512x128 .bf16)
    (b0 b1 b2 b3 : FVec Ideal S1x1x1x128x128 .f32) (v : FVec Ideal S1x512x128 .bf16) : FVec Ideal S64x128 .bf16 :=
  mixU lowLanes (weightU (shapeCast S1x128x512 (scoreU lowLanes q k b0 b1 b2 b3) shapeCasts_S128x512_S1x128x512)) v

theorem cmpi_low (x : Fin 128) : IntOp.cmpi .slt (BitVec.ofNat 32 x.val) 64#32 = if x.val < 64 then 1#1 else 0#1 := by
  revert x; decide +kernel

/-- Lane `d` of a pair's first or second head. -/
abbrev hl (hh : Fin 2) (d : Fin 64) : Fin 128 := ⟨hh.val * 64 + d.val, by omega⟩

/-- A sum over a pair's lanes that only one head's lanes contribute to. -/
theorem sum_low (f : Fin 128 → EReal) :
    (∑ x : Fin 128, Scalar.select (IntOp.cmpi .slt (BitVec.ofNat 32 x.val) 64#32) (f x) 0) = ∑ d : Fin 64, f (hl 0 d) := by
  have h := Fin.sum_univ_add (a := 64) (b := 64) (fun x : Fin 128 => Scalar.select (IntOp.cmpi .slt (BitVec.ofNat 32 x.val) 64#32) (f x) 0)
  rw [h, Finset.sum_eq_zero (s := Finset.univ) (f := fun i : Fin 64 => Scalar.select (IntOp.cmpi .slt (BitVec.ofNat 32 (Fin.natAdd 64 i).val) 64#32) _ 0), add_zero]
  · refine Finset.sum_congr rfl fun d _ => ?_
    rw [cmpi_low, if_pos (by simp)]
    exact congrArg f (Fin.ext (by simp))
  · intro d _
    rw [cmpi_low, if_neg (by simp)]
    rfl

theorem sum_high (f : Fin 128 → EReal) :
    (∑ x : Fin 128, Scalar.select (IntOp.cmpi .slt (BitVec.ofNat 32 x.val) 64#32) 0 (f x)) = ∑ d : Fin 64, f (hl 1 d) := by
  have h := Fin.sum_univ_add (a := 64) (b := 64) (fun x : Fin 128 => Scalar.select (IntOp.cmpi .slt (BitVec.ofNat 32 x.val) 64#32) 0 (f x))
  rw [h, Finset.sum_eq_zero (s := Finset.univ) (f := fun i : Fin 64 => Scalar.select (IntOp.cmpi .slt (BitVec.ofNat 32 (Fin.castAdd 64 i).val) 64#32) 0 _), zero_add]
  · refine Finset.sum_congr rfl fun d _ => ?_
    rw [cmpi_low, if_neg (by simp)]
    exact congrArg f (Fin.ext (by simp [Nat.add_comm]))
  · intro d _
    rw [cmpi_low, if_pos (by simp)]
    rfl

theorem q_scale_val : Named.named (F := Ideal) κ "q_scale" (φ := .f32) 0x3E38AA3B#32 = (((8 * Real.log 2)⁻¹ : ℝ) : EReal) :=
  IdealRules.named_const.ideal_named_scalar _ _ _ _ rfl

theorem log2e_val : Named.named (F := Ideal) κ "log2e" (φ := .f32) 0x3FB8AA3B#32 = (((Real.log 2)⁻¹ : ℝ) : EReal) :=
  IdealRules.named_const.ideal_named_scalar _ _ _ _ rfl

/-- A unit's score of a query and key, in base 2. -/
def sc (Q : Fin 64 → Fin 128 → EReal) (K : Fin 512 → Fin 128 → EReal) (B : Fin 128 → Fin 512 → EReal) (hh : Fin 2)
    (y : Fin 64) (w : Fin 512) : EReal :=
  (∑ d : Fin 64, Q y (hl hh d) * K w (hl hh d)) * (((8 * Real.log 2)⁻¹ : ℝ) : EReal) + B (hl hh y) w * (((Real.log 2)⁻¹ : ℝ) : EReal)

theorem bias_pick (b0 b1 b2 b3 : FVec Ideal S1x1x1x128x128 .f32) (B : Fin 128 → Fin 512 → EReal)
    (h0 : ∀ y (v : Fin 128), b0 (ix5 0 0 0 y v) = B y ⟨v.val, by omega⟩) (h1 : ∀ y (v : Fin 128), b1 (ix5 0 0 0 y v) = B y ⟨128 + v.val, by omega⟩)
    (h2 : ∀ y (v : Fin 128), b2 (ix5 0 0 0 y v) = B y ⟨256 + v.val, by omega⟩) (h3 : ∀ y (v : Fin 128), b3 (ix5 0 0 0 y v) = B y ⟨384 + v.val, by omega⟩)
    (y : Fin 128) (w : Fin 512) : biasU b0 b1 b2 b3 (ix2 y w) = B y w := by
  unfold biasU
  pointwise
  split
  · exact h0 _ _
  · split
    · exact (h1 _ _).trans (congrArg (B y) (Fin.ext (by simp; omega)))
    · split
      · exact (h2 _ _).trans (congrArg (B y) (Fin.ext (by simp; omega)))
      · exact (h3 _ _).trans (congrArg (B y) (Fin.ext (by simp; omega)))

section
variable (q : FVec Ideal S1x64x128 .bf16) (k : FVec Ideal S1x512x128 .bf16) (b0 b1 b2 b3 : FVec Ideal S1x1x1x128x128 .f32)
  (v : FVec Ideal S1x512x128 .bf16)
  (Q : Fin 64 → Fin 128 → EReal) (K W : Fin 512 → Fin 128 → EReal) (B : Fin 128 → Fin 512 → EReal)
  (hq : ∀ y l, q (ix3 0 y l) = Q y l) (hk : ∀ w l, k (ix3 0 w l) = K w l) (hv : ∀ w l, v (ix3 0 w l) = W w l)
  (h0 : ∀ y (v : Fin 128), b0 (ix5 0 0 0 y v) = B y ⟨v.val, by omega⟩) (h1 : ∀ y (v : Fin 128), b1 (ix5 0 0 0 y v) = B y ⟨128 + v.val, by omega⟩)
  (h2 : ∀ y (v : Fin 128), b2 (ix5 0 0 0 y v) = B y ⟨256 + v.val, by omega⟩) (h3 : ∀ y (v : Fin 128), b3 (ix5 0 0 0 y v) = B y ⟨384 + v.val, by omega⟩)

include hq hk h0 h1 h2 h3

theorem score_low (y : Fin 64) (w : Fin 512) :
    scoreU lowLanes q k b0 b1 b2 b3 (ix2 (⟨y.val, by omega⟩ : Fin 128) w) = sc Q K B 0 y w := by
  unfold scoreU
  pointwise
  clean_types
  rw [bias_pick b0 b1 b2 b3 B h0 h1 h2 h3, sum_low, q_scale_val, log2e_val]
  simp only [hq, hk, sc]
  congr 3
  apply Fin.ext; simp

theorem score_high (y : Fin 64) (w : Fin 512) :
    scoreU lowLanes q k b0 b1 b2 b3 (ix2 (⟨64 + y.val, by omega⟩ : Fin 128) w) = sc Q K B 1 y w := by
  unfold scoreU
  pointwise
  clean_types
  rw [bias_pick b0 b1 b2 b3 B h0 h1 h2 h3, sum_high, q_scale_val, log2e_val]
  simp only [hq, hk, sc]
  rfl

theorem score_hl (hh : Fin 2) (y : Fin 64) (w : Fin 512) :
    scoreU lowLanes q k b0 b1 b2 b3 (ix2 (hl hh y) w) = sc Q K B hh y w := by
  match hh with
  | 0 => rw [← score_low q k b0 b1 b2 b3 Q K B hq hk h0 h1 h2 h3]; congr 2; apply Fin.ext; simp
  | 1 => rw [← score_high q k b0 b1 b2 b3 Q K B hq hk h0 h1 h2 h3]; rfl

omit hq hk h0 h1 h2 h3 in
theorem weight_at (s : FVec Ideal S128x512 .f32) (y : Fin 128) (w : Fin 512) :
    weightU (shapeCast S1x128x512 s shapeCasts_S128x512_S1x128x512) (ix2 y w) = Ideal.exp2 (s (ix2 y w) - Finset.univ.sup fun x : Fin 512 => s (ix2 y x)) := by
  unfold weightU
  pointwise
  rw [ofBits_ninf]
  rfl

omit hq hk h0 h1 h2 h3 in
theorem mix_at (p : FVec Ideal S128x512 .f32) (v : FVec Ideal S1x512x128 .bf16) (hh : Fin 2) (y d : Fin 64) :
    mixU lowLanes p v (ix2 y (hl hh d)) =
      Ideal.div (∑ x : Fin 512, p (ix2 (hl hh y) x) * v (ix3 0 x (hl hh d))) (∑ x : Fin 512, p (ix2 (hl hh y) x)) := by
  unfold mixU
  pointwise
  rw [show BitVec.ofNat 32 (hh.val * 64 + d.val) = BitVec.ofNat 32 (hl hh d).val from rfl, cmpi_low]
  match hh with
  | 0 =>
    rw [if_pos (by simp)]
    show Ideal.div (∑ x : Fin 512, p (ix2 ⟨y.val, _⟩ x) * v (ix3 0 x (hl 0 d))) (∑ x : Fin 512, p (ix2 ⟨y.val, _⟩ x)) = _
    have e : (⟨y.val, by omega⟩ : Fin 128) = hl 0 y := Fin.ext (by simp)
    rw [e]
  | 1 =>
    rw [if_neg (by simp)]
    rfl

include hv in
/-- One unit's attention: the softmax in base 2 over the window, the quotient taken last. -/
theorem unit_at (hh : Fin 2) (y d : Fin 64) :
    unitU q k b0 b1 b2 b3 v (ix2 y (hl hh d)) =
      Ideal.div (∑ w : Fin 512, Ideal.exp2 (sc Q K B hh y w - Finset.univ.sup (sc Q K B hh y)) * W w (hl hh d))
        (∑ w : Fin 512, Ideal.exp2 (sc Q K B hh y w - Finset.univ.sup (sc Q K B hh y))) := by
  unfold unitU
  rw [mix_at]
  simp only [weight_at, score_hl q k b0 b1 b2 b3 Q K B hq hk h0 h1 h2 h3, hv]

end

end Cert.Layer.Kern
-- ==== Proof.Offs.lean ====
/- Where a grid step reads its keys, values and bias. -/
module

public import proofs.«01_k».proof.Proof.Gen.KernelIdeal.Value
public import Idealize.ShloMosaic.Lib.Pipeline.ValueKit
public import Idealize.ShloMosaic.Lib.Pipeline.ReadBack

@[expose] public section

set_option maxRecDepth 16384

noncomputable section

namespace Cert.Layer.Kern

open Cert.KernelIdeal Cert.KernelIdeal.Gen Idealize.ShloMosaic Idealize.ShloMosaic.TcCoe Idealize.ShloMosaic.Pointwise Idealize.SL.Sem Idealize.ShloMosaic.Tactic

/-- The tile of its batch whose attention grid step `t` computes. -/
abbrev gt (t : Nat) : Nat := min t 31 % 16
/-- First key row of row `r` of tile `g`. -/
abbrev rs (g r : Nat) : Nat := min 120 (8 * g + r - 4)
/-- Where row `r`'s keys start in the window of 1024 keys that tile `g` reads. -/
abbrev ko (g r : Nat) : Nat := 64 * rs g r - min (512 * g - 256) 7168
/-- How far row `r`'s first key row is above the bias table's first row. -/
abbrev sh (g r : Nat) : Nat := rs g r + 7 - (8 * g + r)

theorem off1_eq : ∀ (t : Fin cfg0.N) (r : Fin 8), k0_off1 (grid0.coords t) (BitVec.ofNat 32 r.val) = ![0, ko (gt t.val) r.val, 0] := by
  decide +kernel
theorem off3_eq : ∀ (t : Fin cfg0.N) (r : Fin 8), k0_off3 (grid0.coords t) (BitVec.ofNat 32 r.val) = ![0, ko (gt t.val) r.val, 128] := by
  decide +kernel
theorem off5_eq : ∀ (t : Fin cfg0.N) (r : Fin 8), k0_off5 (grid0.coords t) (BitVec.ofNat 32 r.val) = ![0, ko (gt t.val) r.val, 256] := by
  decide +kernel
theorem off7_eq : ∀ (t : Fin cfg0.N) (r : Fin 8), k0_off7 (grid0.coords t) (BitVec.ofNat 32 r.val) = ![0, ko (gt t.val) r.val, 384] := by
  decide +kernel
theorem off2_eq : ∀ (t : Fin cfg0.N) (r : Fin 8) (j : Fin 4), k0_off2 (grid0.coords t) (BitVec.ofNat 32 r.val) (BitVec.ofNat 32 j.val)
    = ![sh (gt t.val) r.val % 2, 0, sh (gt t.val) r.val / 2 + j.val, 0, 0] := by
  decide +kernel
theorem off4_eq : ∀ (t : Fin cfg0.N) (r : Fin 8) (j : Fin 4), k0_off4 (grid0.coords t) (BitVec.ofNat 32 r.val) (BitVec.ofNat 32 j.val)
    = ![sh (gt t.val) r.val % 2, 1, sh (gt t.val) r.val / 2 + j.val, 0, 0] := by
  decide +kernel
theorem off6_eq : ∀ (t : Fin cfg0.N) (r : Fin 8) (j : Fin 4), k0_off6 (grid0.coords t) (BitVec.ofNat 32 r.val) (BitVec.ofNat 32 j.val)
    = ![sh (gt t.val) r.val % 2, 2, sh (gt t.val) r.val / 2 + j.val, 0, 0] := by
  decide +kernel
theorem off8_eq : ∀ (t : Fin cfg0.N) (r : Fin 8) (j : Fin 4), k0_off8 (grid0.coords t) (BitVec.ofNat 32 r.val) (BitVec.ofNat 32 j.val)
    = ![sh (gt t.val) r.val % 2, 3, sh (gt t.val) r.val / 2 + j.val, 0, 0] := by
  decide +kernel

end Cert.Layer.Kern
-- ==== Proof.Sweep.lean ====
/- The attention that one grid step leaves in its carried buffer. -/
module

public import proofs.«01_k».proof.Proof.Unit
public import proofs.«01_k».proof.Proof.Offs
public import Idealize.ShloMosaic.Lib.Pipeline.ValueKit
public import Idealize.ShloMosaic.Lib.Pipeline.ReadBack

@[expose] public section

set_option maxRecDepth 16384

noncomputable section

namespace Cert.Layer.Kern

open Cert.KernelIdeal Cert.KernelIdeal.Gen Idealize.ShloMosaic Idealize.ShloMosaic.TcCoe Idealize.ShloMosaic.Pointwise Idealize.SL.Sem Idealize.ShloMosaic.Tactic

/-- The tile of its batch whose attention grid step `t` computes, as a number below 16. -/
abbrev gF (t : Nat) : Fin 16 := ⟨gt t, Nat.mod_lt _ (by decide)⟩

theorem ko_le {g r : Nat} (hg : g < 16) (hr : r < 8) : ko g r ≤ 512 := by
  unfold ko rs; omega

theorem sh_le {g r : Nat} (hg : g < 16) (hr : r < 8) : sh g r ≤ 7 := by
  unfold sh rs; omega

section
variable (x0 : S1x512x512.Idx → EReal) (x1 x2 : S1x1024x512.Idx → EReal) (x3 : S2x4x7x128x128.Idx → EReal)
  (g : Fin 16) (r : Fin 8) (hp : Fin 4)

/-- The queries of row `r` and head pair `hp`. -/
def Qf : Fin 64 → Fin 128 → EReal := fun y l => x0 (ix3 0 (⟨64 * r.val + y.val, by omega⟩ : Fin 512) (⟨128 * hp.val + l.val, by omega⟩ : Fin 512))
/-- The window of keys, or values, of row `r` and head pair `hp`. -/
def Kf : Fin 512 → Fin 128 → EReal := fun w l => x1 (ix3 0 (⟨ko g.val r.val + w.val, by have := ko_le g.isLt r.isLt; omega⟩ : Fin 1024) (⟨128 * hp.val + l.val, by omega⟩ : Fin 512))
/-- The bias of row `r` and head pair `hp`. -/
def Bf : Fin 128 → Fin 512 → EReal := fun y w =>
  x3 (ix5 (⟨sh g.val r.val % 2, by omega⟩ : Fin 2) hp (⟨sh g.val r.val / 2 + w.val / 128, by have := sh_le g.isLt r.isLt; omega⟩ : Fin 7) y (⟨w.val % 128, by omega⟩ : Fin 128))

/-- The attention of a tile: head `2 hp + hh`, lane `d`, of column `y` of row `r`. -/
def attnT (hh : Fin 2) (y d : Fin 64) : EReal :=
  let S := sc (Qf x0 r hp) (Kf x1 g r hp) (Bf x3 g r hp) hh y
  Ideal.div (∑ w : Fin 512, Ideal.exp2 (S w - Finset.univ.sup S) * Kf x2 g r hp w (hl hh d)) (∑ w : Fin 512, Ideal.exp2 (S w - Finset.univ.sup S))

/-- The attention of a tile as an array. -/
def attnArr (y : S512x512.Idx) : EReal :=
  attnT x0 x1 x2 x3 g (⟨(y 0).val / 64, by have : (y 0).val < 512 := (y 0).isLt; omega⟩ : Fin 8) (⟨(y 1).val / 128, by have : (y 1).val < 512 := (y 1).isLt; omega⟩ : Fin 4)
    (⟨(y 1).val % 128 / 64, by omega⟩ : Fin 2) (⟨(y 0).val % 64, by omega⟩ : Fin 64) (⟨(y 1).val % 64, by omega⟩ : Fin 64)

/-- One store of the sweep: the attention of row `r` and head pair `hp`. -/
theorem piece (oq : Fin 3 → Nat) (ok ov : Fin 3 → Nat) (o0 o1 o2 o3 : Fin 5 → Nat) (iq ik iv i0 i1 i2 i3)
    (hq : oq = ![0, 64 * r.val, 128 * hp.val]) (hk : ok = ![0, ko g.val r.val, 128 * hp.val]) (hv : ov = ![0, ko g.val r.val, 128 * hp.val])
    (h0 : o0 = ![sh g.val r.val % 2, hp.val, sh g.val r.val / 2 + 0, 0, 0]) (h1 : o1 = ![sh g.val r.val % 2, hp.val, sh g.val r.val / 2 + 1, 0, 0])
    (h2 : o2 = ![sh g.val r.val % 2, hp.val, sh g.val r.val / 2 + 2, 0, 0]) (h3 : o3 = ![sh g.val r.val % 2, hp.val, sh g.val r.val / 2 + 3, 0, 0])
    (x : S64x128.Idx) (y : S512x512.Idx) (hy0 : (y 0).val = 64 * r.val + (x 0).val) (hy1 : (y 1).val = 128 * hp.val + (x 1).val) :
    unitU (View.ld (Val := Elt Ideal) (e' := .bf16) x0 (Rect.unit (s := S1x512x512) oq ![1, 64, 128] iq))
      (View.ld (Val := Elt Ideal) (e' := .bf16) x1 (Rect.unit (s := S1x1024x512) ok ![1, 512, 128] ik))
      (View.ld (Val := Elt Ideal) (e' := .f32) x3 (Rect.unit (s := S2x4x7x128x128) o0 ![1, 1, 1, 128, 128] i0))
      (View.ld (Val := Elt Ideal) (e' := .f32) x3 (Rect.unit (s := S2x4x7x128x128) o1 ![1, 1, 1, 128, 128] i1))
      (View.ld (Val := Elt Ideal) (e' := .f32) x3 (Rect.unit (s := S2x4x7x128x128) o2 ![1, 1, 1, 128, 128] i2))
      (View.ld (Val := Elt Ideal) (e' := .f32) x3 (Rect.unit (s := S2x4x7x128x128) o3 ![1, 1, 1, 128, 128] i3))
      (View.ld (Val := Elt Ideal) (e' := .bf16) x2 (Rect.unit (s := S1x1024x512) ov ![1, 512, 128] iv)) x
      = attnArr x0 x1 x2 x3 g y := by
  subst hq hk hv h0 h1 h2 h3
  have hx0 : (x 0).val < 64 := (x 0).isLt
  have hx1 : (x 1).val < 128 := (x 1).isLt
  have ex : x = ix2 (⟨(x 0).val, hx0⟩ : Fin 64) (hl (⟨(x 1).val / 64, by omega⟩ : Fin 2) (⟨(x 1).val % 64, by omega⟩ : Fin 64)) := by
    funext a; apply Fin.ext
    match a with
    | ⟨0, _⟩ => rfl
    | ⟨1, _⟩ => show (x 1).val = (x 1).val / 64 * 64 + (x 1).val % 64; omega
  rw [ex, unit_at _ _ _ _ _ _ _ (Qf x0 r hp) (Kf x1 g r hp) (Kf x2 g r hp) (Bf x3 g r hp)]
  · unfold attnArr attnT
    have e0 : (⟨(y 0).val / 64, by have : (y 0).val < 512 := (y 0).isLt; omega⟩ : Fin 8) = r := Fin.ext (by simp only [hy0]; omega)
    have e1 : (⟨(y 1).val / 128, by have : (y 1).val < 512 := (y 1).isLt; omega⟩ : Fin 4) = hp := Fin.ext (by simp only [hy1]; omega)
    have e2 : (⟨(y 1).val % 128 / 64, by omega⟩ : Fin 2) = ⟨(x 1).val / 64, by omega⟩ := Fin.ext (by simp only [hy1]; omega)
    have e3 : (⟨(y 0).val % 64, by omega⟩ : Fin 64) = ⟨(x 0).val, hx0⟩ := Fin.ext (by simp only [hy0]; omega)
    have e4 : (⟨(y 1).val % 64, by omega⟩ : Fin 64) = ⟨(x 1).val % 64, by omega⟩ := Fin.ext (by simp only [hy1]; omega)
    simp only [e0, e1, e2, e3, e4]
  · intro y l
    exact View.ld_unit_apply_of _ _ _ _ _ _ (by intro a; match a with | ⟨0, _⟩ => rfl | ⟨1, _⟩ => rfl | ⟨2, _⟩ => rfl)
  · intro y l
    exact View.ld_unit_apply_of _ _ _ _ _ _ (by intro a; match a with | ⟨0, _⟩ => rfl | ⟨1, _⟩ => rfl | ⟨2, _⟩ => rfl)
  · intro y l
    exact View.ld_unit_apply_of _ _ _ _ _ _ (by intro a; match a with | ⟨0, _⟩ => rfl | ⟨1, _⟩ => rfl | ⟨2, _⟩ => rfl)
  · intro y v
    exact View.ld_unit_apply_of _ _ _ _ _ _ (by
      intro a; match a with
      | ⟨0, _⟩ => rfl
      | ⟨1, _⟩ => rfl
      | ⟨2, _⟩ => show sh g.val r.val / 2 + v.val / 128 = sh g.val r.val / 2 + 0 + 0; omega
      | ⟨3, _⟩ => show y.val = 0 + y.val; omega
      | ⟨4, _⟩ => show v.val % 128 = 0 + v.val; omega)
  · intro y v
    exact View.ld_unit_apply_of _ _ _ _ _ _ (by
      intro a; match a with
      | ⟨0, _⟩ => rfl
      | ⟨1, _⟩ => rfl
      | ⟨2, _⟩ => show sh g.val r.val / 2 + (128 + v.val) / 128 = sh g.val r.val / 2 + 1 + 0; omega
      | ⟨3, _⟩ => show y.val = 0 + y.val; omega
      | ⟨4, _⟩ => show (128 + v.val) % 128 = 0 + v.val; omega)
  · intro y v
    exact View.ld_unit_apply_of _ _ _ _ _ _ (by
      intro a; match a with
      | ⟨0, _⟩ => rfl
      | ⟨1, _⟩ => rfl
      | ⟨2, _⟩ => show sh g.val r.val / 2 + (256 + v.val) / 128 = sh g.val r.val / 2 + 2 + 0; omega
      | ⟨3, _⟩ => show y.val = 0 + y.val; omega
      | ⟨4, _⟩ => show (256 + v.val) % 128 = 0 + v.val; omega)
  · intro y v
    exact View.ld_unit_apply_of _ _ _ _ _ _ (by
      intro a; match a with
      | ⟨0, _⟩ => rfl
      | ⟨1, _⟩ => rfl
      | ⟨2, _⟩ => show sh g.val r.val / 2 + (384 + v.val) / 128 = sh g.val r.val / 2 + 3 + 0; omega
      | ⟨3, _⟩ => show y.val = 0 + y.val; omega
      | ⟨4, _⟩ => show (384 + v.val) % 128 = 0 + v.val; omega)

/-- A list of pieces read at an index that its pieces before the last one cover. -/
theorem canon_dropLast {S : Shape} {e : EltTy} : ∀ (L : List (View.Piece (Elt Ideal) S e)) (y : S.Idx)
    (_ : ∃ p ∈ L.dropLast, y ∈ p.1.set), View.canon L y = View.canon L.dropLast y
  | [], _, h => by obtain ⟨p, hp, _⟩ := h; simp at hp
  | [_], _, h => by obtain ⟨p, hp, _⟩ := h; simp at hp
  | p :: q :: L, y, h => by
    rw [List.dropLast_cons₂] at h ⊢
    by_cases hm : y ∈ p.1.set
    · obtain ⟨x, rfl⟩ := p.1.exists_idx_of_mem hm
      rw [show p.1.idx x = p.1.emb x from rfl, View.canon_cons_emb, View.canon_cons_emb]
    · rw [View.canon_cons_of_not_mem _ _ hm, View.canon_cons_of_not_mem _ _ hm]
      refine canon_dropLast (q :: L) y ?_
      obtain ⟨s, hs, hys⟩ := h
      rcases List.mem_cons.mp hs with rfl | hs'
      · exact absurd hys hm
      · exact ⟨s, hs', hys⟩

end

end Cert.Layer.Kern
-- ==== Proof.Math.lean ====
/-
  The mathematics of the claim, on extended reals alone: no program is mentioned here.
-/
module

public import Idealize.ShloMosaic.PureOps.Ideal
public import Mathlib.Analysis.SpecialFunctions.Pow.Real
public import Mathlib.Analysis.SpecialFunctions.Trigonometric.DerivHyp

@[expose] public section

noncomputable section

namespace Cert.Layer

open Idealize.ShloMosaic

/-! ## Sums and a factor that is neither negative nor infinite -/

/-- A finite sum of reals, read among the extended reals. -/
theorem coe_sum' {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum times a finite factor that is not negative is the sum of the products. -/
theorem sum_mul_of_nonneg {ι : Type} (s : Finset ι) (f : ι → EReal) (c : EReal) (h0 : 0 ≤ c) (ht : c ≠ ⊤) :
    (∑ i ∈ s, f i) * c = ∑ i ∈ s, f i * c := by
  classical
  induction s using Finset.induction_on with
  | empty => simp
  | insert a s ha ih =>
    rw [Finset.sum_insert ha, Finset.sum_insert ha, EReal.right_distrib_of_nonneg_of_ne_top h0 ht, ih]

/-- The norm's factor taken out of a projection: scaling the row before or after the product is the same. -/
theorem sum_mul_rstd {ι : Type} (s : Finset ι) (x g w : ι → EReal) (c : EReal) (h0 : 0 ≤ c) (ht : c ≠ ⊤) :
    (∑ i ∈ s, x i * g i * w i) * c = ∑ i ∈ s, x i * c * g i * w i := by
  rw [sum_mul_of_nonneg s _ c h0 ht]
  refine Finset.sum_congr rfl fun i _ => ?_
  rw [mul_right_comm (x i * g i), mul_right_comm (x i)]

/-- The inverse root of a positive number is not negative. -/
theorem rsqrt_nonneg {y : EReal} (h : 0 < y) : 0 ≤ Ideal.rsqrt y := by
  induction y using EReal.rec with
  | bot => exact absurd h (by simp)
  | top => simp
  | coe r =>
    have hr : 0 < r := by exact_mod_cast h
    rw [Ideal.rsqrt_coe, if_neg (not_lt.mpr hr.le), if_neg hr.ne']
    exact_mod_cast inv_nonneg.mpr (Real.sqrt_nonneg r)

/-- The inverse root of a positive number is finite. -/
theorem rsqrt_ne_top {y : EReal} (h : 0 < y) : Ideal.rsqrt y ≠ ⊤ := by
  induction y using EReal.rec with
  | bot => exact absurd h (by simp)
  | top => simp
  | coe r =>
    have hr : 0 < r := by exact_mod_cast h
    rw [Ideal.rsqrt_coe, if_neg (not_lt.mpr hr.le), if_neg hr.ne']
    exact EReal.coe_ne_top _

/-- A square is not negative. -/
theorem mul_self_nonneg' (x : EReal) : 0 ≤ x * x := by
  induction x using EReal.rec with
  | bot => simp
  | top => simp
  | coe r => exact_mod_cast mul_self_nonneg r

/-! ## The logistic function by the hyperbolic tangent -/

/-- `½ tanh (½ x) + ½` is the logistic function, at the infinities too. -/
theorem half_tanh (x : EReal) :
    ((1 / 2 : ℝ) : EReal) * Ideal.tanh (((1 / 2 : ℝ) : EReal) * x) + ((1 / 2 : ℝ) : EReal)
      = Ideal.div 1 (1 + Ideal.exp (-x)) := by
  have hx : Ideal.div 1 (1 + Ideal.exp (-x)) = Ideal.logistic x := rfl
  rw [hx]
  have hp : (0 : ℝ) < 1 / 2 := by norm_num
  induction x using EReal.rec with
  | bot =>
    rw [EReal.coe_mul_bot_of_pos hp, Ideal.tanh_bot, Ideal.logistic_bot, show (-1 : EReal) = ((-1 : ℝ) : EReal) by simp,
      ← EReal.coe_mul, ← EReal.coe_add]
    norm_num
  | top =>
    rw [EReal.coe_mul_top_of_pos hp, Ideal.tanh_top, Ideal.logistic_top]
    norm_cast; norm_num
  | coe r =>
    rw [← EReal.coe_mul, Ideal.tanh_coe, Ideal.logistic_coe, ← EReal.coe_mul, ← EReal.coe_add]
    congr 1
    rw [Real.tanh_eq_sinh_div_cosh, Real.sinh_eq, Real.cosh_eq]
    have e1 : Real.exp (-r) = Real.exp (-(1 / 2 * r)) * Real.exp (-(1 / 2 * r)) := by
      rw [← Real.exp_add]; ring_nf
    have e2 : Real.exp (1 / 2 * r) * Real.exp (-(1 / 2 * r)) = 1 := by
      rw [← Real.exp_add]; simp
    have p1 := Real.exp_pos (1 / 2 * r)
    have p2 := Real.exp_pos (-(1 / 2 * r))
    rw [e1]
    generalize Real.exp (1 / 2 * r) = a at *
    generalize Real.exp (-(1 / 2 * r)) = b at *
    field_simp
    nlinarith

/-! ## Attention over masked keys -/

theorem exp2_scaled (r m : ℝ) :
    Ideal.exp2 (((r * (Real.log 2)⁻¹ : ℝ) : EReal) - ((m * (Real.log 2)⁻¹ : ℝ) : EReal)) = Ideal.exp ((r : EReal) - (m : EReal)) := by
  rw [← EReal.coe_sub, ← EReal.coe_sub, Ideal.exp2_coe, Ideal.exp_coe]
  congr 1
  have hl : Real.log 2 ≠ 0 := (Real.log_pos (by norm_num)).ne'
  show (2 : ℝ) ^ (r * (Real.log 2)⁻¹ - m * (Real.log 2)⁻¹) = _
  rw [Real.rpow_def_of_pos (by norm_num)]
  congr 1
  field_simp

/-- Division by a positive real is the product with its inverse. -/
theorem div_coe_pos (x : EReal) {l : ℝ} (hl : 0 < l) : Ideal.div x (l : EReal) = x * ((l⁻¹ : ℝ) : EReal) := by
  have h : (l : EReal) ≠ 0 := by exact_mod_cast hl.ne'
  rw [Ideal.div, if_neg h, EReal.coe_inv]

/-- Softmax over the keys `ι` that a query attends to, and the kernel's form of it over the larger set `κ` of the keys
    it reads, where a key outside `ι` scores `-∞`: scores in base 2 on one side, in base `e` on the other, the quotient
    taken after the values are summed on one side and before on the other. -/
theorem attn_core {ι κ : Type} [Fintype ι] [Fintype κ] [DecidableEq κ] (φ : ι → κ) (hφ : Function.Injective φ)
    (t : κ → EReal) (s : ι → EReal) (v : κ → EReal)
    (hout : ∀ x, x ∉ Set.range φ → t x = ⊥)
    (hin : ∀ i, (s i = ⊥ ∧ t (φ i) = ⊥) ∨ ∃ r : ℝ, s i = r ∧ t (φ i) = ((r * (Real.log 2)⁻¹ : ℝ) : EReal))
    (hne : ∃ i, s i ≠ ⊥) :
    Ideal.div (∑ x, Ideal.exp2 (t x - Finset.univ.sup t) * v x) (∑ x, Ideal.exp2 (t x - Finset.univ.sup t))
      = ∑ i, Ideal.div (Ideal.exp (s i - Finset.univ.sup s)) (∑ j, Ideal.exp (s j - Finset.univ.sup s)) * v (φ i) := by
  classical
  have hc : (0 : ℝ) < (Real.log 2)⁻¹ := inv_pos.mpr (Real.log_pos (by norm_num))
  -- the greatest score is a real number, attained at some key
  obtain ⟨i1, h1⟩ := hne
  obtain ⟨i0, -, hi0⟩ := Finset.exists_mem_eq_sup Finset.univ ⟨i1, Finset.mem_univ _⟩ s
  have hle : ∀ i, s i ≤ s i0 := fun i => hi0 ▸ Finset.le_sup (f := s) (Finset.mem_univ i)
  have hb0 : s i0 ≠ ⊥ := fun h => h1 (le_bot_iff.mp (h ▸ hle i1))
  obtain ⟨m, hm, htm⟩ : ∃ r : ℝ, s i0 = r ∧ t (φ i0) = ((r * (Real.log 2)⁻¹ : ℝ) : EReal) := by
    rcases hin i0 with h | h
    · exact absurd h.1 hb0
    · exact h
  have hS : Finset.univ.sup s = (m : EReal) := by rw [hi0, hm]
  have hT : Finset.univ.sup t = ((m * (Real.log 2)⁻¹ : ℝ) : EReal) := by
    apply le_antisymm
    · refine Finset.sup_le fun x _ => ?_
      by_cases hx : x ∈ Set.range φ
      · obtain ⟨i, rfl⟩ := hx
        rcases hin i with ⟨-, h⟩ | ⟨r, hr, h⟩
        · rw [h]; exact bot_le
        · rw [h]
          have : (r : EReal) ≤ m := by rw [← hr, ← hm]; exact hle i
          exact_mod_cast mul_le_mul_of_nonneg_right (by exact_mod_cast this) hc.le
      · rw [hout x hx]; exact bot_le
    · rw [← htm]; exact Finset.le_sup (f := t) (Finset.mem_univ _)
  rw [hS, hT]
  -- each weight is a real number that is not negative
  have hw : ∀ i, Ideal.exp2 (t (φ i) - ((m * (Real.log 2)⁻¹ : ℝ) : EReal)) = Ideal.exp (s i - (m : EReal)) := by
    intro i
    rcases hin i with ⟨h, h'⟩ | ⟨r, h, h'⟩
    · rw [h, h']; simp
    · rw [h, h', exp2_scaled]
  have hz : ∀ x, x ∉ Set.range φ → Ideal.exp2 (t x - ((m * (Real.log 2)⁻¹ : ℝ) : EReal)) = 0 := by
    intro x hx; rw [hout x hx]; simp
  have hre : ∀ i, ∃ p : ℝ, 0 ≤ p ∧ Ideal.exp (s i - (m : EReal)) = p := by
    intro i
    rcases hin i with ⟨h, -⟩ | ⟨r, h, -⟩
    · exact ⟨0, le_rfl, by rw [h]; simp⟩
    · exact ⟨Real.exp (r - m), (Real.exp_pos _).le, by rw [h, ← EReal.coe_sub, Ideal.exp_coe]⟩
  choose p hp0 hp using hre
  have hp1 : p i0 = 1 := by
    have := hp i0
    rw [hm, ← EReal.coe_sub, Ideal.exp_coe, sub_self, Real.exp_zero] at this
    exact_mod_cast this.symm
  have hL : 0 < ∑ i, p i :=
    lt_of_lt_of_le (by rw [hp1]; norm_num : (0 : ℝ) < p i0) (Finset.single_le_sum (fun i _ => hp0 i) (Finset.mem_univ i0))
  have hsum : ∀ g : κ → EReal, (∑ x, Ideal.exp2 (t x - ((m * (Real.log 2)⁻¹ : ℝ) : EReal)) * g x) = ∑ i, (p i : EReal) * g (φ i) := by
    intro g
    rw [← Finset.sum_subset (Finset.subset_univ (Finset.univ.map ⟨φ, hφ⟩)) (fun x _ hx => ?_), Finset.sum_map]
    · exact Finset.sum_congr rfl fun i _ => by rw [← hp i, ← hw i]; rfl
    · rw [hz x (fun ⟨i, hi⟩ => hx (Finset.mem_map.mpr ⟨i, Finset.mem_univ _, hi⟩)), zero_mul]
  have hsum1 : (∑ x, Ideal.exp2 (t x - ((m * (Real.log 2)⁻¹ : ℝ) : EReal))) = ((∑ i, p i : ℝ) : EReal) := by
    have := hsum fun _ => 1
    simp only [mul_one] at this
    rw [this, coe_sum']
  have hsum2 : (∑ j, Ideal.exp (s j - (m : EReal))) = ((∑ i, p i : ℝ) : EReal) := by
    rw [coe_sum']; exact Finset.sum_congr rfl fun i _ => hp i
  rw [hsum v, hsum1, hsum2, div_coe_pos _ hL,
    sum_mul_of_nonneg _ _ _ (by exact_mod_cast (inv_pos.mpr hL).le) (EReal.coe_ne_top _)]
  refine Finset.sum_congr rfl fun i _ => ?_
  rw [div_coe_pos _ hL, hp i, mul_right_comm]

/-- A score of the reference, of real numbers. -/
theorem score_plain {ι : Type} [Fintype ι] (q k : ι → ℝ) (b : ℝ) :
    (∑ d, (q d : EReal) * (k d : EReal)) * (((1 / 8 : ℝ)) : EReal) + (b : EReal)
      = (((∑ d, q d * k d) * (1 / 8) + b : ℝ) : EReal) := by
  simp only [← EReal.coe_mul]
  rw [← coe_sum', ← EReal.coe_mul, ← EReal.coe_add]

end Cert.Layer

end
-- ==== Proof.RowMath.lean ====
/- What the layer does to one token after its attention, as functions of the token's row. -/
module

public import proofs.«01_k».proof.Proof.Math
public import proofs.«01_k».proof.Proof.Consts

@[expose] public section

noncomputable section

namespace Cert.Layer

open Idealize.ShloMosaic

/-- The logistic function. -/
def sigm (a : EReal) : EReal := Ideal.div 1 (1 + Ideal.exp (-a))

/-- The logistic function by the hyperbolic tangent. -/
theorem sigm_tanh (a : EReal) : ((1 / 2 : ℝ) : EReal) * Ideal.tanh (((1 / 2 : ℝ) : EReal) * a) + ((1 / 2 : ℝ) : EReal) = sigm a := half_tanh a

/-- The inverse root mean square of a row. -/
def rstd (x : Fin 1024 → EReal) : EReal :=
  Ideal.rsqrt (Ideal.div (∑ d, x d * x d) (Ideal.ofBits .f32 0x44800000#32) + Ideal.ofBits .f32 0x358637BD#32)

theorem rstd_arg_pos (x : Fin 1024 → EReal) :
    0 < Ideal.div (∑ d, x d * x d) (Ideal.ofBits .f32 0x44800000#32) + Ideal.ofBits .f32 0x358637BD#32 := by
  have h : 0 ≤ Ideal.div (∑ d, x d * x d) (Ideal.ofBits .f32 0x44800000#32) := by
    rw [ofBits_1024, div_coe_pos _ (by norm_num)]
    exact mul_nonneg (Finset.sum_nonneg fun d _ => mul_self_nonneg' (x d)) (by exact_mod_cast (by norm_num : (0 : ℝ) ≤ (1024 : ℝ)⁻¹))
  exact lt_of_lt_of_le ofBits_eps (le_add_of_nonneg_left h)

theorem rstd_nonneg (x : Fin 1024 → EReal) : 0 ≤ rstd x := rsqrt_nonneg (rstd_arg_pos x)

theorem rstd_ne_top (x : Fin 1024 → EReal) : rstd x ≠ ⊤ := rsqrt_ne_top (rstd_arg_pos x)

/-- The short convolution at one token and lane. -/
def convR (bg zm z zp c0 c1 c2 : EReal) : EReal := bg * (zm * c0 + z * c1 + zp * c2)

/-- The residual stream after the two branches. -/
def x1R (x : Fin 1024 → EReal) (a c : Fin 512 → EReal) (ga gc : Fin 1024 → EReal) (wa wc : Fin 512 → Fin 1024 → EReal)
    (wo : Fin 1024 → Fin 1024 → EReal) (e : Fin 1024) : EReal :=
  x e + ∑ d, (ga d * (∑ l, a l * wa l d) + gc d * ∑ l, c l * wc l d) * wo d e

/-- The normed row times the feed-forward part's first matrix. -/
def hidR (x g : Fin 1024 → EReal) (w : Fin 1024 → Fin 5632 → EReal) (f : Fin 5632) : EReal :=
  ∑ d, x d * rstd x * g d * w d f

/-- The same, the inverse root mean square taken after the product. -/
theorem hidR_eq (x g : Fin 1024 → EReal) (w : Fin 1024 → Fin 5632 → EReal) (f : Fin 5632) :
    (∑ d, x d * g d * w d f) * rstd x = hidR x g w f :=
  sum_mul_rstd _ x g (fun d => w d f) _ (rstd_nonneg x) (rstd_ne_top x)

/-- One hidden unit. -/
def actR (x g : Fin 1024 → EReal) (w : Fin 1024 → Fin 5632 → EReal) (f : Fin 2816) : EReal :=
  hidR x g w ⟨f.val, by omega⟩ * sigm (hidR x g w ⟨f.val, by omega⟩) * hidR x g w ⟨2816 + f.val, by omega⟩

/-- The residual stream after the feed-forward part. -/
def x2R (x g : Fin 1024 → EReal) (w : Fin 1024 → Fin 5632 → EReal) (wd : Fin 2816 → Fin 1024 → EReal) (e : Fin 1024) : EReal :=
  x e + ∑ f, actR x g w f * wd f e

/-- The final norm. -/
def outR (x g : Fin 1024 → EReal) (e : Fin 1024) : EReal := x e * rstd x * g e

/-- A sum over the hidden units, a chunk at a time. -/
theorem sum_chunks (f : Fin 2816 → EReal) :
    (∑ k, f k) = (∑ k : Fin 512, f ⟨k.val, by omega⟩) + (∑ k : Fin 512, f ⟨512 + k.val, by omega⟩)
      + (∑ k : Fin 512, f ⟨1024 + k.val, by omega⟩) + (∑ k : Fin 512, f ⟨1536 + k.val, by omega⟩)
      + (∑ k : Fin 512, f ⟨2048 + k.val, by omega⟩) + ∑ k : Fin 256, f ⟨2560 + k.val, by omega⟩ := by
  have h5 := Fin.sum_univ_add (a := 2560) (b := 256) f
  have h4 := Fin.sum_univ_add (a := 2048) (b := 512) fun i : Fin 2560 => f ⟨i.val, by omega⟩
  have h3 := Fin.sum_univ_add (a := 1536) (b := 512) fun i : Fin 2048 => f ⟨i.val, by omega⟩
  have h2 := Fin.sum_univ_add (a := 1024) (b := 512) fun i : Fin 1536 => f ⟨i.val, by omega⟩
  have h1 := Fin.sum_univ_add (a := 512) (b := 512) fun i : Fin 1024 => f ⟨i.val, by omega⟩
  refine h5.trans (congrArg (· + _) (h4.trans (congrArg (· + _) (h3.trans (congrArg (· + _) (h2.trans (congrArg (· + _) h1)))))))

end Cert.Layer
-- ==== Proof.Post.lean ====
/- The kernel's short convolution, gates, feed-forward part and norms of one tile, and their values at an index. -/
module

public import proofs.«01_k».proof.Proof.Gen.KernelIdeal.Value
public import proofs.«01_k».proof.Proof.RowMath
public import Idealize.ShloMosaic.Lib.Pointwise
public import Idealize.ShloMosaic.Lib.KernelVsHost
public import Idealize.ShloMosaic.Lib.Pipeline.ValueKit
public import Idealize.ShloMosaic.Lib.Tactic.CleanTypes

@[expose] public section

set_option maxRecDepth 16384

noncomputable section

namespace Cert.Layer.Kern

open Cert.KernelIdeal Cert.KernelIdeal.Gen Idealize.ShloMosaic Idealize.ShloMosaic.TcCoe Idealize.ShloMosaic.Pointwise Idealize.SL.Sem

/-- The neighbour's row if there is one, else zeros, in every row. -/
def haloU (c : BitVec 1) (row : FVec Ideal S1x1x512 .bf16) : FVec Ideal S512x512 .f32 :=
  broadcastTo S512x512 (shapeCast S1x512 (Scalar.select c
    (extf .f32 (shapeCast S1x512 row k0_part2._proof_3) k0_part1._proof_9)
    (broadcast S1x512 (FloatOps.ofBits .f32 0x00000000#32))) k0_part2._proof_8) k0_part2._proof_9

/-- The tile's rows. -/
abbrev rowsU : IVec S512x512 32 := iota .tc S512x512 32 [0] k0_part2._proof_6

/-- The tile's rows one token earlier. -/
def shiftP (h z : FVec Ideal S512x512 .f32) : FVec Ideal S512x512 .f32 :=
  select (cmpi .eq rowsU (broadcast S512x512 0#32)) h (dynamicRotate 0 1#32 none z k0_part2._proof_7)

/-- The tile's rows one token later. -/
def shiftN (h z : FVec Ideal S512x512 .f32) : FVec Ideal S512x512 .f32 :=
  select (cmpi .eq rowsU (broadcast S512x512 511#32)) h (dynamicRotate 0 511#32 none z k0_part2._proof_7)

/-- The short convolution of a tile. -/
def convU (cp cn : BitVec 1) (z bg : FVec Ideal S1x512x512 .bf16) (zp zn : FVec Ideal S1x1x512 .bf16) (cw : FVec Ideal S3x512 .f32) :
    FVec Ideal S512x512 .f32 :=
  mulf (extf .f32 (shapeCast S512x512 bg k0_part1._proof_8) k0_part1._proof_9)
    (addf (addf
      (mulf (shiftP (haloU cp zp) (extf .f32 (shapeCast S512x512 z k0_part1._proof_8) k0_part1._proof_9))
        (broadcastTo S512x512 (extractStridedSlice S1x512 ![0, 0] (shapeCast S3x512 cw k0_part2._proof_12) k0_part2._proof_13) k0_part2._proof_9))
      (mulf (extf .f32 (shapeCast S512x512 z k0_part1._proof_8) k0_part1._proof_9)
        (broadcastTo S512x512 (extractStridedSlice S1x512 ![1, 0] (shapeCast S3x512 cw k0_part2._proof_12) k0_part2._proof_14) k0_part2._proof_9)))
      (mulf (shiftN (haloU cn zn) (extf .f32 (shapeCast S512x512 z k0_part1._proof_8) k0_part1._proof_9))
        (broadcastTo S512x512 (extractStridedSlice S1x512 ![2, 0] (shapeCast S3x512 cw k0_part2._proof_12) k0_part2._proof_15) k0_part2._proof_9)))

/-- The gates of a tile. -/
def gatesU (gl : FVec Ideal S1x512x2048 .bf16) (bgate : FVec Ideal S1x2048 .f32) : FVec Ideal S512x2048 .bf16 :=
  addf (mulf (broadcast S512x2048 (FloatOps.ofBits .bf16 0x3F00#16))
    (tanh (mulf (broadcast S512x2048 (FloatOps.ofBits .bf16 0x3F00#16))
      (addf (shapeCast S512x2048 gl k0_part3._proof_3)
        (broadcastTo S512x2048 (truncf .bf16 (shapeCast S1x2048 bgate k0_part3._proof_6) k0_part1._proof_9) k0_part3._proof_7)))))
    (broadcast S512x2048 (FloatOps.ofBits .bf16 0x3F00#16))

/-- The residual stream of a tile after the two branches. -/
def x1U (x : FVec Ideal S1x512x1024 .f32) (a : FVec Ideal S512x512 .bf16) (c : FVec Ideal S512x512 .f32) (g : FVec Ideal S512x2048 .bf16)
    (wa wc : FVec Ideal S512x1024 .bf16) (wo : FVec Ideal S1024x1024 .bf16) : FVec Ideal S512x1024 .f32 :=
  addf (shapeCast S512x1024 x k0_part3._proof_15)
    (matmul dot_S512x1024_S1024x1024_S512x1024_1_0_0_1_n_n none
      (addf
        (mulf (extractStridedSlice S512x1024 ![0, 0] g k0_part3._proof_11)
          (truncf .bf16 (matmul dot_S512x512_S512x1024_S512x1024_1_0_0_1_n_n none (shapeCast S512x512 a k0_part1._proof_3)
            (shapeCast S512x1024 wa k0_part3._proof_10) (constant S512x1024 .f32 0x00000000#32)) k0_part1._proof_9))
        (mulf (extractStridedSlice S512x1024 ![0, 1024] g k0_part3._proof_12)
          (truncf .bf16 (matmul dot_S512x512_S512x1024_S512x1024_1_0_0_1_n_n none (truncf .bf16 c k0_part1._proof_9)
            (shapeCast S512x1024 wc k0_part3._proof_10) (constant S512x1024 .f32 0x00000000#32)) k0_part1._proof_9)))
      (shapeCast S1024x1024 wo k0_part3._proof_18) (constant S512x1024 .f32 0x00000000#32))

/-- The inverse root mean square of each row of a tile. -/
def rstdU (x : FVec Ideal S512x1024 .f32) : FVec Ideal S512x1 .f32 :=
  rsqrt (addf (divf (shapeCast S512x1 (multiReduction .add [1] S512 (mulf x x) 0x00000000#32 k0_part4._proof_5 k0_part4._proof_6 k0_part4._proof_7)
    k0_part4._proof_8) (broadcast S512x1 (FloatOps.ofBits .f32 0x44800000#32))) (broadcast S512x1 (FloatOps.ofBits .f32 0x358637BD#32)))

/-- A tile times the norm's gains. -/
def gainU (x : FVec Ideal S512x1024 .f32) (g : FVec Ideal S1x1024 .f32) : FVec Ideal S512x1024 .bf16 :=
  truncf .bf16 (mulf x (broadcastTo S512x1024 (shapeCast S1x1024 g k0_part4._proof_3) k0_part4._proof_4)) k0_part1._proof_9

/-- One chunk of 512 hidden units. -/
def chunkU (xg : FVec Ideal S512x1024 .bf16) (r : FVec Ideal S512x1 .f32) (wg wu : FVec Ideal S1024x512 .bf16) (wd : FVec Ideal S512x1024 .bf16) :
    FVec Ideal S512x1024 .f32 :=
  matmul dot_S512x512_S512x1024_S512x1024_1_0_0_1_n_n none
    (truncf .bf16 (mulf (mulf
      (mulf (matmul dot_S512x1024_S1024x512_S512x512_1_0_0_1_n_n none xg (shapeCast S1024x512 wg k0_part4._proof_11) (constant S512x512 .f32 0x00000000#32)) (broadcastTo S512x512 r k0_part4._proof_12))
      (addf (mulf (broadcast S512x512 (FloatOps.ofBits .f32 0x3F000000#32)) (tanh (mulf (broadcast S512x512 (FloatOps.ofBits .f32 0x3F000000#32))
        (mulf (matmul dot_S512x1024_S1024x512_S512x512_1_0_0_1_n_n none xg (shapeCast S1024x512 wg k0_part4._proof_11) (constant S512x512 .f32 0x00000000#32)) (broadcastTo S512x512 r k0_part4._proof_12)))))
        (broadcast S512x512 (FloatOps.ofBits .f32 0x3F000000#32))))
      (mulf (matmul dot_S512x1024_S1024x512_S512x512_1_0_0_1_n_n none xg (shapeCast S1024x512 wu k0_part4._proof_11) (constant S512x512 .f32 0x00000000#32)) (broadcastTo S512x512 r k0_part4._proof_12)))
      k0_part1._proof_9)
    (shapeCast S512x1024 wd k0_part3._proof_10) (constant S512x1024 .f32 0x00000000#32)

/-- A tile's result from its residual stream after the two branches: the kernel's operations. -/
def postU (x1 : FVec Ideal S512x1024 .f32) (g2 : FVec Ideal S1x1024 .f32) (wgu : FVec Ideal S1024x5632 .bf16) (wd : FVec Ideal S2816x1024 .bf16)
    (g3 : FVec Ideal S1x1024 .f32) : FVec Ideal S1x512x1024 .f32 :=
  k0_pay1 (k0_pay276 (gainU x1 g2) (rstdU x1)
    (k0_pay275 (gainU x1 g2) (rstdU x1)
      (addf (addf (addf (addf x1
        (chunkU (gainU x1 g2) (rstdU x1) (View.ld (Val := Elt Ideal) (e' := .bf16) wgu (Rect.unit ![0, 0] ![1024, 512] k0_part4._proof_9))
          (View.ld (Val := Elt Ideal) (e' := .bf16) wgu (Rect.unit ![0, 2816] ![1024, 512] k0_part4._proof_13))
          (View.ld (Val := Elt Ideal) (e' := .bf16) wd (Rect.unit ![0, 0] ![512, 1024] k0_part4._proof_15))))
        (chunkU (gainU x1 g2) (rstdU x1) (View.ld (Val := Elt Ideal) (e' := .bf16) wgu (Rect.unit ![0, 512] ![1024, 512] k0_part22._proof_9))
          (View.ld (Val := Elt Ideal) (e' := .bf16) wgu (Rect.unit ![0, 3328] ![1024, 512] k0_part22._proof_11))
          (View.ld (Val := Elt Ideal) (e' := .bf16) wd (Rect.unit ![512, 0] ![512, 1024] k0_part23._proof_1))))
        (chunkU (gainU x1 g2) (rstdU x1) (View.ld (Val := Elt Ideal) (e' := .bf16) wgu (Rect.unit ![0, 1024] ![1024, 512] k0_part41._proof_5))
          (View.ld (Val := Elt Ideal) (e' := .bf16) wgu (Rect.unit ![0, 3840] ![1024, 512] k0_part41._proof_7))
          (View.ld (Val := Elt Ideal) (e' := .bf16) wd (Rect.unit ![1024, 0] ![512, 1024] k0_part41._proof_9))))
        (chunkU (gainU x1 g2) (rstdU x1) (View.ld (Val := Elt Ideal) (e' := .bf16) wgu (Rect.unit ![0, 1536] ![1024, 512] k0_part59._proof_9))
          (View.ld (Val := Elt Ideal) (e' := .bf16) wgu (Rect.unit ![0, 4352] ![1024, 512] k0_part60._proof_1))
          (View.ld (Val := Elt Ideal) (e' := .bf16) wd (Rect.unit ![1536, 0] ![512, 1024] k0_part60._proof_3))))
      (View.ld (Val := Elt Ideal) (e' := .bf16) wgu (Rect.unit ![0, 2048] ![1024, 512] inb_S1024x5632_S1024x512_0_2048))
      (View.ld (Val := Elt Ideal) (e' := .bf16) wgu (Rect.unit ![0, 4864] ![1024, 512] inb_S1024x5632_S1024x512_0_4864))
      (View.ld (Val := Elt Ideal) (e' := .bf16) wd (Rect.unit ![2048, 0] ![512, 1024] inb_S2816x1024_S512x1024_2048_0)))
    (View.ld (Val := Elt Ideal) (e' := .bf16) wgu (Rect.unit ![0, 2560] ![1024, 256] inb_S1024x5632_S1024x256_0_2560))
    (View.ld (Val := Elt Ideal) (e' := .bf16) wgu (Rect.unit ![0, 5376] ![1024, 256] inb_S1024x5632_S1024x256_0_5376))
    (View.ld (Val := Elt Ideal) (e' := .bf16) wd (Rect.unit ![2560, 0] ![256, 1024] inb_S2816x1024_S256x1024_2560_0))
    g3)

end Cert.Layer.Kern
-- ==== Proof.OutB.lean ====
/- What a grid step after the first one leaves in the output window. -/
module

public import proofs.«01_k».proof.Proof.Post
public import Idealize.ShloMosaic.Lib.Pipeline.ReadBack

@[expose] public section

set_option maxRecDepth 16384

noncomputable section

namespace Cert.Layer.Kern

open Cert.KernelIdeal Cert.KernelIdeal.Gen Idealize.ShloMosaic Idealize.ShloMosaic.TcCoe Idealize.ShloMosaic.Pointwise Idealize.SL.Sem Idealize.ShloMosaic.Tactic

/-- The word of the tile of its sequence that a grid step finishes, before it is made positive. -/
abbrev remW (t : Fin cfg0.N) : BitVec 32 := Scalar.remsi (Scalar.maxsi (Scalar.subi (BitVec.ofNat 32 (grid0.coords t 0).val) 1#32) 0#32) 16#32

/-- The word of the tile of its sequence that a grid step finishes. -/
abbrev tileW (t : Fin cfg0.N) : BitVec 32 :=
  Scalar.select (Scalar.andi (Scalar.xori (Scalar.cmpi .slt (remW t) 0#32) 0#1) (Scalar.cmpi .ne (remW t) 0#32)) (Scalar.addi (remW t) 16#32) (remW t)

variable (m : (ℓ : Loc nD τ sig) → Buf (Elt Ideal) ℓ)

set_option maxHeartbeats 8000000 in
theorem outB_raw (c : Dev nD) (t : Fin cfg0.N) (h : ¬ t.val % 33 = 0) :
    (outsAt0 m c t.val t.isLt).1
      = postU (x1U (iblk m c 4 t) (View.read (Elt Ideal) (View.whole cc0_scratch3) ((Memref.isWhole_whole cc0_scratch3).unread (outsAt0 m c (t.val - 1) (Nat.lt_of_le_of_lt (Nat.sub_le t.val 1) t.isLt)).2))
          (convU (Scalar.cmpi .sgt (tileW t) 0#32) (Scalar.cmpi .slt (tileW t) 15#32) (iblk m c 5 t) (iblk m c 8 t)
            (View.ld (Val := Elt Ideal) (e' := .bf16) (iblk m c 6 t) (Rect.unit ![0, 15, 0] ![1, 1, 512] k0_part2._proof_1))
            (View.ld (Val := Elt Ideal) (e' := .bf16) (iblk m c 7 t) (Rect.unit ![0, 0, 0] ![1, 1, 512] k0_part2._proof_4)) (iblk m c 11 t))
          (gatesU (iblk m c 9 t) (iblk m c 10 t)) (iblk m c 12 t) (iblk m c 13 t) (iblk m c 14 t))
        (iblk m c 15 t) (iblk m c 16 t) (iblk m c 17 t) (iblk m c 18 t) := by
  rw [outsAt0_B m c t h]
  dsimp only
  frame_open
  simp (disch := decide) only [↓ View.readCov_skip, ↓ View.readCov_cons_toLoadRect, ↓ View.readCov_fill]
  frame_out
  unfold postU
  rfl

theorem outB (c : Dev nD) (t : Fin cfg0.N) (h : ¬ t.val % 33 = 0) :
    (outsAt0 m c t.val t.isLt).1
      = postU (x1U (iblk m c 4 t) (outsAt0 m c (t.val - 1) (Nat.lt_of_le_of_lt (Nat.sub_le t.val 1) t.isLt)).2
          (convU (Scalar.cmpi .sgt (tileW t) 0#32) (Scalar.cmpi .slt (tileW t) 15#32) (iblk m c 5 t) (iblk m c 8 t)
            (View.ld (Val := Elt Ideal) (e' := .bf16) (iblk m c 6 t) (Rect.unit ![0, 15, 0] ![1, 1, 512] k0_part2._proof_1))
            (View.ld (Val := Elt Ideal) (e' := .bf16) (iblk m c 7 t) (Rect.unit ![0, 0, 0] ![1, 1, 512] k0_part2._proof_4)) (iblk m c 11 t))
          (gatesU (iblk m c 9 t) (iblk m c 10 t)) (iblk m c 12 t) (iblk m c 13 t) (iblk m c 14 t))
        (iblk m c 15 t) (iblk m c 16 t) (iblk m c 17 t) (iblk m c 18 t) := by
  rw [outB_raw m c t h, read_unread_whole]

end Cert.Layer.Kern
-- ==== Proof.Blocks.lean ====
/- The blocks that a grid step reads, as parts of the arrays they are staged from. -/
module

public import proofs.«01_k».proof.Proof.Sweep
public import proofs.«01_k».proof.Proof.OutB

@[expose] public section

set_option maxRecDepth 16384

noncomputable section

namespace Cert.Layer.Kern

open Cert.KernelIdeal Cert.KernelIdeal.Gen Idealize.ShloMosaic Idealize.ShloMosaic.TcCoe Idealize.ShloMosaic.Pointwise Idealize.SL.Sem Idealize.ShloMosaic.Tactic

theorem idx0 : ∀ t : Fin cfg0.N, win0_0.index t = ![min t.val 31 / 16, gt t.val, 0] := (by decide +kernel : ∀ t : Fin grid0.N, _)
theorem idx1 : ∀ t : Fin cfg0.N, win0_1.index t = ![min t.val 31 / 16, min (512 * gt t.val - 256) 7168, 0] := (by decide +kernel : ∀ t : Fin grid0.N, _)
theorem idx2 : ∀ t : Fin cfg0.N, win0_2.index t = ![min t.val 31 / 16, min (512 * gt t.val - 256) 7168, 0] := (by decide +kernel : ∀ t : Fin grid0.N, _)
theorem idx3 : ∀ t : Fin cfg0.N, win0_3.index t = ![0, 0, 0, 0, 0] := (by decide +kernel : ∀ t : Fin grid0.N, _)
theorem idx4 : ∀ t : Fin cfg0.N, win0_4.index t = ![(t.val - 1) / 16, (t.val - 1) % 16, 0] := (by decide +kernel : ∀ t : Fin grid0.N, _)
theorem idx5 : ∀ t : Fin cfg0.N, win0_5.index t = ![(t.val - 1) / 16, (t.val - 1) % 16, 0] := (by decide +kernel : ∀ t : Fin grid0.N, _)
theorem idx6 : ∀ t : Fin cfg0.N, win0_6.index t = ![(t.val - 1) / 16, 32 * ((t.val - 1) % 16) - 1, 0] := (by decide +kernel : ∀ t : Fin grid0.N, _)
theorem idx7 : ∀ t : Fin cfg0.N, win0_7.index t = ![(t.val - 1) / 16, min (32 * ((t.val - 1) % 16 + 1)) 511, 0] := (by decide +kernel : ∀ t : Fin grid0.N, _)
theorem idx8 : ∀ t : Fin cfg0.N, win0_8.index t = ![(t.val - 1) / 16, (t.val - 1) % 16, 0] := (by decide +kernel : ∀ t : Fin grid0.N, _)
theorem idx9 : ∀ t : Fin cfg0.N, win0_9.index t = ![(t.val - 1) / 16, (t.val - 1) % 16, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![0, 0] := (by decide +kernel : ∀ t : Fin grid0.N, _)
theorem idx12 : ∀ t : Fin cfg0.N, win0_12.index t = ![0, 0] := (by decide +kernel : ∀ t : Fin grid0.N, _)
theorem idx13 : ∀ t : Fin cfg0.N, win0_13.index t = ![0, 0] := (by decide +kernel : ∀ t : Fin grid0.N, _)
theorem idx14 : ∀ t : Fin cfg0.N, win0_14.index t = ![0, 0] := (by decide +kernel : ∀ t : Fin grid0.N, _)
theorem idx15 : ∀ t : Fin cfg0.N, win0_15.index t = ![0, 0] := (by decide +kernel : ∀ t : Fin grid0.N, _)
theorem idx16 : ∀ t : Fin cfg0.N, win0_16.index t = ![0, 0] := (by decide +kernel : ∀ t : Fin grid0.N, _)
theorem idx17 : ∀ t : Fin cfg0.N, win0_17.index t = ![0, 0] := (by decide +kernel : ∀ t : Fin grid0.N, _)
theorem idx18 : ∀ t : Fin cfg0.N, win0_18.index t = ![0, 0] := (by decide +kernel : ∀ t : Fin grid0.N, _)
theorem idx19 : ∀ t : Fin cfg0.N, win0_19.index t = ![(t.val - 1) / 16, (t.val - 1) % 16, 0] := (by decide +kernel : ∀ t : Fin grid0.N, _)

/-- Row `i` of tile `g` as a token of its batch. -/
abbrev row (g : Fin 16) (i : Fin 512) : Fin 8192 := ⟨512 * g.val + i.val, by omega⟩
/-- The batch whose attention step `t` computes. -/
abbrev bF (t : Nat) : Fin 2 := ⟨min t 31 / 16, by omega⟩
/-- The batch, and the tile of it, that step `t` finishes. -/
abbrev bP (t : Fin cfg0.N) : Fin 2 := ⟨(t.val - 1) / 16, by have : t.val < 33 := t.isLt; omega⟩
abbrev gP (t : Fin cfg0.N) : Fin 16 := ⟨(t.val - 1) % 16, by omega⟩

variable (m : (ℓ : Loc nD τ sig) → Buf (Elt Ideal) ℓ) (c : Dev nD) (t : Fin cfg0.N)

theorem blk0 (i l : Fin 512) : (iblk m c 0 t : S1x512x512.Idx → EReal) (ix3 0 i l) = (V m c main_v38 : S2x8192x512.Idx → EReal) (ix3 (bF t.val) (row (gF t.val) i) l) := by
  blk_ext [iblk, idx0 t]
theorem blk1 (i : Fin 1024) (l : Fin 512) : (iblk m c 1 t : S1x1024x512.Idx → EReal) (ix3 0 i l)
    = (V m c main_v39 : S2x8192x512.Idx → EReal) (ix3 (bF t.val) (⟨min (512 * gt t.val - 256) 7168 + i.val, by omega⟩ : Fin 8192) l) := by
  refine congrArg (V m c main_v39) ?_
  funext a; apply Fin.ext
  refine (Pipeline.Window.rect_emb_val_off win0_1 t (ix3 0 i l) a).trans ?_
  have h : ∀ a, win0_1.kind.off (win0_1.index t a) (win0_1.size a) = (![min t.val 31 / 16, min (512 * gt t.val - 256) 7168, 0] : Fin 3 → Nat) a := fun a => (congrFun (idx1 t) a : _)
  rw [h a]
  match a with
  | ⟨0, _⟩ => exact Nat.add_zero _
  | ⟨1, _⟩ => rfl
  | ⟨2, _⟩ => exact Nat.zero_add _
theorem blk2 (i : Fin 1024) (l : Fin 512) : (iblk m c 2 t : S1x1024x512.Idx → EReal) (ix3 0 i l)
    = (V m c main_v40 : S2x8192x512.Idx → EReal) (ix3 (bF t.val) (⟨min (512 * gt t.val - 256) 7168 + i.val, by omega⟩ : Fin 8192) l) := by
  refine congrArg (V m c main_v40) ?_
  funext a; apply Fin.ext
  refine (Pipeline.Window.rect_emb_val_off win0_2 t (ix3 0 i l) a).trans ?_
  have h : ∀ a, win0_2.kind.off (win0_2.index t a) (win0_2.size a) = (![min t.val 31 / 16, min (512 * gt t.val - 256) 7168, 0] : Fin 3 → Nat) a := fun a => (congrFun (idx2 t) a : _)
  rw [h a]
  match a with
  | ⟨0, _⟩ => exact Nat.add_zero _
  | ⟨1, _⟩ => rfl
  | ⟨2, _⟩ => exact Nat.zero_add _
theorem blk3 : (iblk m c 3 t : S2x4x7x128x128.Idx → EReal) = V m c main_v21 := by
  funext y
  blk_ext [iblk, idx3 t]
theorem blk4 (i : Fin 512) (l : Fin 1024) : (iblk m c 4 t : S1x512x1024.Idx → EReal) (ix3 0 i l) = (V m c main_arg0 : S2x8192x1024.Idx → EReal) (ix3 (bP t) (row (gP t) i) l) := by
  blk_ext [iblk, idx4 t]
theorem blk5 (i l : Fin 512) : (iblk m c 5 t : S1x512x512.Idx → EReal) (ix3 0 i l) = (V m c main_v41 : S2x8192x512.Idx → EReal) (ix3 (bP t) (row (gP t) i) l) := by
  blk_ext [iblk, idx5 t]
theorem blk6 (i : Fin 16) (l : Fin 512) : (iblk m c 6 t : S1x16x512.Idx → EReal) (ix3 0 i l)
    = (V m c main_v41 : S2x8192x512.Idx → EReal) (ix3 (bP t) (⟨16 * (32 * (gP t).val - 1) + i.val, by omega⟩ : Fin 8192) l) := by
  blk_ext [iblk, idx6 t]
theorem blk7 (i : Fin 16) (l : Fin 512) : (iblk m c 7 t : S1x16x512.Idx → EReal) (ix3 0 i l)
    = (V m c main_v41 : S2x8192x512.Idx → EReal) (ix3 (bP t) (⟨16 * min (32 * ((gP t).val + 1)) 511 + i.val, by omega⟩ : Fin 8192) l) := by
  blk_ext [iblk, idx7 t]
theorem blk8 (i l : Fin 512) : (iblk m c 8 t : S1x512x512.Idx → EReal) (ix3 0 i l) = (V m c main_v42 : S2x8192x512.Idx → EReal) (ix3 (bP t) (row (gP t) i) l) := by
  blk_ext [iblk, idx8 t]
theorem blk9 (i : Fin 512) (l : Fin 2048) : (iblk m c 9 t : S1x512x2048.Idx → EReal) (ix3 0 i l) = (V m c main_v43 : S2x8192x2048.Idx → EReal) (ix3 (bP t) (row (gP t) i) l) := by
  blk_ext [iblk, idx9 t]
theorem blk10 : (iblk m c 10 t : S1x2048.Idx → EReal) = V m c main_v23 := by
  funext y
  blk_ext [iblk, idx10 t]
theorem blk11 : (iblk m c 11 t : S3x512.Idx → EReal) = V m c main_v24 := by
  funext y
  blk_ext [iblk, idx11 t]
theorem blk12 : (iblk m c 12 t : S512x1024.Idx → EReal) = V m c main_v26 := by
  funext y
  blk_ext [iblk, idx12 t]
theorem blk13 : (iblk m c 13 t : S512x1024.Idx → EReal) = V m c main_v28 := by
  funext y
  blk_ext [iblk, idx13 t]
theorem blk14 : (iblk m c 14 t : S1024x1024.Idx → EReal) = V m c main_v30 := by
  funext y
  blk_ext [iblk, idx14 t]
theorem blk15 : (iblk m c 15 t : S1x1024.Idx → EReal) = V m c main_v32 := by
  funext y
  blk_ext [iblk, idx15 t]
theorem blk16 : (iblk m c 16 t : S1024x5632.Idx → EReal) = V m c main_v34 := by
  funext y
  blk_ext [iblk, idx16 t]
theorem blk17 : (iblk m c 17 t : S2816x1024.Idx → EReal) = V m c main_v36 := by
  funext y
  blk_ext [iblk, idx17 t]
theorem blk18 : (iblk m c 18 t : S1x1024.Idx → EReal) = V m c main_v37 := by
  funext y
  blk_ext [iblk, idx18 t]

/-- The tile number of a step, as the body compares it with the first and the last tile. -/
theorem tileW_first : ∀ t : Fin cfg0.N, Scalar.cmpi .sgt (tileW t) 0#32 = if (t.val - 1) % 16 = 0 then 0#1 else 1#1 := (by decide +kernel : ∀ t : Fin grid0.N, _)
theorem tileW_last : ∀ t : Fin cfg0.N, Scalar.cmpi .slt (tileW t) 15#32 = if (t.val - 1) % 16 = 15 then 0#1 else 1#1 := (by decide +kernel : ∀ t : Fin grid0.N, _)

end Cert.Layer.Kern
-- ==== Proof.Entry.lean ====
/- The arrays that the kernel's blocks come from, when its grid starts. -/
module

public import proofs.«01_k».proof.Proof.Offs
public import proofs.«01_k».proof.Proof.Consts
public import Idealize.ShloMosaic.Lib.Claim
public import Idealize.ShloMosaic.Lib.Tactic.CleanTypes

@[expose] public section

set_option maxRecDepth 16384

noncomputable section

namespace Cert.Layer.Kern

open Cert.KernelIdeal Cert.KernelIdeal.Gen Idealize.ShloMosaic Idealize.ShloMosaic.TcCoe Idealize.ShloMosaic.Pointwise Idealize.SL.Sem Idealize.ShloMosaic.Tactic

variable (m : (ℓ : Loc nD τ sig) → Buf (Elt Ideal) ℓ) (c : Dev nD)

theorem V38_at (i : S2x8192x512.Idx) : (V m c main_v38 : S2x8192x512.Idx → EReal) i = m ((c : Thread nD τ).loc main_arg1) i := by
  simp only [V, hostOps0, hostOps0_1, hostOps0_2, hostOps0_3, hostOps0_4, List.flatten_cons, List.flatten_nil, List.append_nil, List.cons_append, List.nil_append]
  entry_read
  rfl
theorem V39_at (i : S2x8192x512.Idx) : (V m c main_v39 : S2x8192x512.Idx → EReal) i = m ((c : Thread nD τ).loc main_arg2) i := by
  simp only [V, hostOps0, hostOps0_1, hostOps0_2, hostOps0_3, hostOps0_4, List.flatten_cons, List.flatten_nil, List.append_nil, List.cons_append, List.nil_append]
  entry_read
  rfl
theorem V40_at (i : S2x8192x512.Idx) : (V m c main_v40 : S2x8192x512.Idx → EReal) i = m ((c : Thread nD τ).loc main_arg3) i := by
  simp only [V, hostOps0, hostOps0_1, hostOps0_2, hostOps0_3, hostOps0_4, List.flatten_cons, List.flatten_nil, List.append_nil, List.cons_append, List.nil_append]
  entry_read
  rfl
theorem V41_at (i : S2x8192x512.Idx) : (V m c main_v41 : S2x8192x512.Idx → EReal) i = m ((c : Thread nD τ).loc main_arg4) i := by
  simp only [V, hostOps0, hostOps0_1, hostOps0_2, hostOps0_3, hostOps0_4, List.flatten_cons, List.flatten_nil, List.append_nil, List.cons_append, List.nil_append]
  entry_read
  rfl
theorem V42_at (i : S2x8192x512.Idx) : (V m c main_v42 : S2x8192x512.Idx → EReal) i = m ((c : Thread nD τ).loc main_arg5) i := by
  simp only [V, hostOps0, hostOps0_1, hostOps0_2, hostOps0_3, hostOps0_4, List.flatten_cons, List.flatten_nil, List.append_nil, List.cons_append, List.nil_append]
  entry_read
  rfl
theorem V43_at (i : S2x8192x2048.Idx) : (V m c main_v43 : S2x8192x2048.Idx → EReal) i = m ((c : Thread nD τ).loc main_arg6) i := by
  simp only [V, hostOps0, hostOps0_1, hostOps0_2, hostOps0_3, hostOps0_4, List.flatten_cons, List.flatten_nil, List.append_nil, List.cons_append, List.nil_append]
  entry_read
  rfl

theorem V23_at (e : Fin 2048) : (V m c main_v23 : S1x2048.Idx → EReal) (ix2 0 e) = (m ((c : Thread nD τ).loc main_arg7) : S1x2048.Idx → EReal) (ix2 0 e) := by
  simp only [V, hostOps0, hostOps0_1, hostOps0_2, hostOps0_3, hostOps0_4, List.flatten_cons, List.flatten_nil, List.append_nil, List.cons_append, List.nil_append]
  entry_read
  pointwise
theorem V24_at (i : Fin 3) (e : Fin 512) : (V m c main_v24 : S3x512.Idx → EReal) (ix2 i e) = (m ((c : Thread nD τ).loc main_arg9) : S1x3x512.Idx → EReal) (ix3 0 i e) := by
  simp only [V, hostOps0, hostOps0_1, hostOps0_2, hostOps0_3, hostOps0_4, List.flatten_cons, List.flatten_nil, List.append_nil, List.cons_append, List.nil_append]
  entry_read
  pointwise
theorem V26_at (i : Fin 512) (e : Fin 1024) : (V m c main_v26 : S512x1024.Idx → EReal) (ix2 i e) = (m ((c : Thread nD τ).loc main_arg10) : S1x512x1024.Idx → EReal) (ix3 0 i e) := by
  simp only [V, hostOps0, hostOps0_1, hostOps0_2, hostOps0_3, hostOps0_4, List.flatten_cons, List.flatten_nil, List.append_nil, List.cons_append, List.nil_append]
  entry_read
  pointwise
theorem V28_at (i : Fin 512) (e : Fin 1024) : (V m c main_v28 : S512x1024.Idx → EReal) (ix2 i e) = (m ((c : Thread nD τ).loc main_arg11) : S1x512x1024.Idx → EReal) (ix3 0 i e) := by
  simp only [V, hostOps0, hostOps0_1, hostOps0_2, hostOps0_3, hostOps0_4, List.flatten_cons, List.flatten_nil, List.append_nil, List.cons_append, List.nil_append]
  entry_read
  pointwise
theorem V30_at (i : Fin 1024) (e : Fin 1024) : (V m c main_v30 : S1024x1024.Idx → EReal) (ix2 i e) = (m ((c : Thread nD τ).loc main_arg12) : S1x1024x1024.Idx → EReal) (ix3 0 i e) := by
  simp only [V, hostOps0, hostOps0_1, hostOps0_2, hostOps0_3, hostOps0_4, List.flatten_cons, List.flatten_nil, List.append_nil, List.cons_append, List.nil_append]
  entry_read
  pointwise
theorem V32_at (e : Fin 1024) : (V m c main_v32 : S1x1024.Idx → EReal) (ix2 0 e) = (m ((c : Thread nD τ).loc main_arg13) : S1x1024.Idx → EReal) (ix2 0 e) := by
  simp only [V, hostOps0, hostOps0_1, hostOps0_2, hostOps0_3, hostOps0_4, List.flatten_cons, List.flatten_nil, List.append_nil, List.cons_append, List.nil_append]
  entry_read
  pointwise
theorem V34_at (i : Fin 1024) (e : Fin 5632) : (V m c main_v34 : S1024x5632.Idx → EReal) (ix2 i e) = (m ((c : Thread nD τ).loc main_arg14) : S1x1024x5632.Idx → EReal) (ix3 0 i e) := by
  simp only [V, hostOps0, hostOps0_1, hostOps0_2, hostOps0_3, hostOps0_4, List.flatten_cons, List.flatten_nil, List.append_nil, List.cons_append, List.nil_append]
  entry_read
  pointwise
theorem V36_at (i : Fin 2816) (e : Fin 1024) : (V m c main_v36 : S2816x1024.Idx → EReal) (ix2 i e) = (m ((c : Thread nD τ).loc main_arg15) : S1x2816x1024.Idx → EReal) (ix3 0 i e) := by
  simp only [V, hostOps0, hostOps0_1, hostOps0_2, hostOps0_3, hostOps0_4, List.flatten_cons, List.flatten_nil, List.append_nil, List.cons_append, List.nil_append]
  entry_read
  pointwise
theorem V37_at (e : Fin 1024) : (V m c main_v37 : S1x1024.Idx → EReal) (ix2 0 e) = (m ((c : Thread nD τ).loc main_arg16) : S1024.Idx → EReal) (ix1 e) := by
  simp only [V, hostOps0, hostOps0_1, hostOps0_2, hostOps0_3, hostOps0_4, List.flatten_cons, List.flatten_nil, List.append_nil, List.cons_append, List.nil_append]
  entry_read
  pointwise

end Cert.Layer.Kern
-- ==== Proof.Bias.lean ====
/- The bias table that the host lays out for the kernel, read at an index. -/
module

public import proofs.«01_k».proof.Proof.Offs
public import proofs.«01_k».proof.Proof.Consts
public import Idealize.ShloMosaic.Lib.Claim
public import Idealize.ShloMosaic.Lib.Tactic.CleanTypes

@[expose] public section

set_option maxRecDepth 16384

noncomputable section

namespace Cert.Layer.Kern

open Cert.KernelIdeal Cert.KernelIdeal.Gen Idealize.ShloMosaic Idealize.ShloMosaic.TcCoe Idealize.ShloMosaic.Pointwise Idealize.SL.Sem Idealize.ShloMosaic.Tactic

/-- The learned bias of each row offset, as the host pads it with zeros on both sides. -/
def padU (rpb : S1x8x15x31.Idx → EReal) : S8x15x127.Idx → EReal :=
  pad S8x15x127 ![0, 0, 48] ![0, 0, 48] ![0, 0, 0] (shapeCast S8x15x31 rpb shapeCasts_S1x8x15x31_S8x15x31) (sitofp (F := Ideal) FTy.f32 (constantI S_ 32 0#32)) pads_S8x15x31_S8x15x127_000_000_48480 h_S_

/-- The padded bias repeated once per column. -/
def repU (P : S8x15x127.Idx → EReal) : S8x15x8255.Idx → EReal :=
  shapeCast S8x15x8255 (broadcastInDim S1x8x1x15x65x127 ![0, 1, 2, 3, 4, 5] bcast_S1x8x1x15x1x127_S1x8x1x15x65x127_0_1_2_3_4_5 (shapeCast S1x8x1x15x1x127 P shapeCasts_S8x15x127_S1x8x1x15x1x127)) shapeCasts_S1x8x1x15x65x127_S8x15x8255

/-- The repeated bias cut into rows one longer than the bias, which shifts each column's copy by one. -/
def cutU (R : S8x15x8255.Idx → EReal) : S8x15x64x64.Idx → EReal :=
  Host.reverse [2] (extractStridedSlice S8x15x64x64 ![0, 0, 0, 0] (shapeCast S8x15x64x128 (extractStridedSlice S8x15x8192 ![0, 0, 0] R slices_S8x15x8255_S8x15x8192_0_0_0) shapeCasts_S8x15x8192_S8x15x64x128) slices_S8x15x64x128_S8x15x64x64_0_0_0_0)

/-- The bias, with `-∞` where the key's column is outside the query's window. -/
def maskU (T : S8x15x64x64.Idx → EReal) : S8x15x64x64.Idx → EReal :=
  select (broadcastInDim S8x15x64x64 ![0, 1, 2, 3] bcast_S1x1x64x64_S8x15x64x64_0_1_2_3 (broadcastInDim S1x1x64x64 ![2, 3] bcast_S64x64_S1x1x64x64_2_3 fun i => lit0 (S64x64.rowMajor i))) T
    (broadcastInDim S8x15x64x64 ![] bcast_S_S8x15x64x64 (constant (F := Ideal) S_ FTy.f32 0xFF800000#32))

/-- The masked bias laid out by pairs of heads, then cut into chunks of 128 keys. -/
def flatU (T : S8x15x64x64.Idx → EReal) : S4x128x960.Idx → EReal :=
  shapeCast S4x128x960 (transpose S8x64x15x64 [0, 2, 1, 3] T transposes_S8x15x64x64_S8x64x15x64_0_2_1_3) shapeCasts_S8x64x15x64_S4x128x960
def evenU (X : S4x128x960.Idx → EReal) : S1x4x7x128x128.Idx → EReal :=
  broadcastInDim S1x4x7x128x128 ![1, 2, 3, 4] bcast_S4x7x128x128_S1x4x7x128x128_1_2_3_4 (transpose S4x7x128x128 [0, 2, 1, 3] (shapeCast S4x128x7x128 (extractStridedSlice S4x128x896 ![0, 0, 0] X slices_S4x128x960_S4x128x896_0_0_0) shapeCasts_S4x128x896_S4x128x7x128) transposes_S4x128x7x128_S4x7x128x128_0_2_1_3)
def oddU (X : S4x128x960.Idx → EReal) : S1x4x7x128x128.Idx → EReal :=
  broadcastInDim S1x4x7x128x128 ![1, 2, 3, 4] bcast_S4x7x128x128_S1x4x7x128x128_1_2_3_4 (transpose S4x7x128x128 [0, 2, 1, 3] (shapeCast S4x128x7x128 (extractStridedSlice S4x128x896 ![0, 0, 64] X slices_S4x128x960_S4x128x896_0_0_64) shapeCasts_S4x128x896_S4x128x7x128) transposes_S4x128x7x128_S4x7x128x128_0_2_1_3)
def stackU (a b : S1x4x7x128x128.Idx → EReal) : S2x4x7x128x128.Idx → EReal :=
  concatenate S2x4x7x128x128 0 [⟨S1x4x7x128x128, a⟩, ⟨S1x4x7x128x128, b⟩] concatenates_S1x4x7x128x128_S1x4x7x128x128_S2x4x7x128x128_d0

theorem pad_at (rpb : S1x8x15x31.Idx → EReal) (h : Fin 8) (r : Fin 15) (k : Fin 31) :
    padU rpb (ix3 h r (⟨48 + k.val, by omega⟩ : Fin 127)) = rpb (ix4 0 h r k) := by
  unfold padU
  pointwise

theorem rep_at (P : S8x15x127.Idx → EReal) (h : Fin 8) (r : Fin 15) (a : Fin 65) (n : Fin 127) :
    repU P (ix3 h r (⟨127 * a.val + n.val, by omega⟩ : Fin 8255)) = P (ix3 h r n) := by
  unfold repU
  pointwise

theorem cut_at (R : S8x15x8255.Idx → EReal) (h : Fin 8) (r : Fin 15) (q k : Fin 64) :
    cutU R (ix4 h r q k) = R (ix3 h r (⟨128 * (63 - q.val) + k.val, by omega⟩ : Fin 8255)) := by
  unfold cutU
  pointwise
  refine Eq.trans (b := R (ix3 h r (⟨q.rev.val * 128 + k.val, by have := q.rev.isLt; omega⟩ : Fin 8255))) (by rfl) ?_
  refine congrArg (fun z => R (ix3 h r z)) (Fin.ext ?_)
  show q.rev.val * 128 + k.val = 128 * (63 - q.val) + k.val
  rw [Fin.val_rev]
  omega

theorem mask_at (T : S8x15x64x64.Idx → EReal) (h : Fin 8) (r : Fin 15) (q k : Fin 64) :
    maskU T (ix4 h r q k) = Scalar.select (lit0 (S64x64.rowMajor (ix2 q k))) (T (ix4 h r q k)) (Ideal.ofBits .f32 0xFF800000#32) := by
  unfold maskU
  pointwise

theorem lit_at : ∀ q k : Fin 64, lit0 (S64x64.rowMajor (ix2 q k)) = if min 48 (q.val - 8) ≤ k.val ∧ k.val < min 48 (q.val - 8) + 16 then 1#1 else 0#1 := by
  decide +kernel

theorem flat_at (T : S8x15x64x64.Idx → EReal) (hp : Fin 4) (hh : Fin 2) (q : Fin 64) (r : Fin 15) (k : Fin 64) :
    flatU T (ix3 hp (⟨64 * hh.val + q.val, by omega⟩ : Fin 128) (⟨64 * r.val + k.val, by omega⟩ : Fin 960))
      = T (ix4 (⟨2 * hp.val + hh.val, by omega⟩ : Fin 8) r q k) := by
  unfold flatU
  pointwise
  exact congrArg (fun z => T (ix4 z r q k)) (Fin.ext (by show hp.val * 2 + (64 * hh.val + q.val) / 64 = 2 * hp.val + hh.val; omega))

theorem even_at (X : S4x128x960.Idx → EReal) (hp : Fin 4) (ch : Fin 7) (y v : Fin 128) :
    evenU X (ix5 0 hp ch y v) = X (ix3 hp y (⟨128 * ch.val + v.val, by omega⟩ : Fin 960)) := by
  unfold evenU
  pointwise
  exact congrArg (fun z => X (ix3 hp y z)) (Fin.ext (by show ch.val * 128 + v.val = 128 * ch.val + v.val; omega))

theorem odd_at (X : S4x128x960.Idx → EReal) (hp : Fin 4) (ch : Fin 7) (y v : Fin 128) :
    oddU X (ix5 0 hp ch y v) = X (ix3 hp y (⟨64 + (128 * ch.val + v.val), by omega⟩ : Fin 960)) := by
  unfold oddU
  pointwise
  exact congrArg (fun z => X (ix3 hp y z)) (Fin.ext (by show 64 + (ch.val * 128 + v.val) = 64 + (128 * ch.val + v.val); omega))

theorem stack0_at (a b : S1x4x7x128x128.Idx → EReal) (hp : Fin 4) (ch : Fin 7) (y v : Fin 128) :
    stackU a b (ix5 (0 : Fin 2) hp ch y v) = a (ix5 0 hp ch y v) := by
  unfold stackU
  pointwise

theorem stack1_at (a b : S1x4x7x128x128.Idx → EReal) (hp : Fin 4) (ch : Fin 7) (y v : Fin 128) :
    stackU a b (ix5 (1 : Fin 2) hp ch y v) = b (ix5 0 hp ch y v) := by
  unfold stackU
  pointwise

variable (m : (ℓ : Loc nD τ sig) → Buf (Elt Ideal) ℓ) (c : Dev nD)

/-- The host's bias table, of the learned bias. -/
def tableU (rpb : S1x8x15x31.Idx → EReal) : S2x4x7x128x128.Idx → EReal :=
  stackU (evenU (flatU (maskU (cutU (repU (padU rpb)))))) (oddU (flatU (maskU (cutU (repU (padU rpb))))))

theorem V21 : (V m c main_v21 : S2x4x7x128x128.Idx → EReal) = tableU (m ((c : Thread nD τ).loc main_arg8)) := by
  simp only [V, hostOps0, hostOps0_1, hostOps0_2, hostOps0_3, hostOps0_4, List.flatten_cons, List.flatten_nil, List.append_nil, List.cons_append, List.nil_append]
  entry_read
  rfl

end Cert.Layer.Kern
-- ==== Proof.Table.lean ====
/- The bias table's entry that a query and a key meet. -/
module

public import proofs.«01_k».proof.Proof.Bias

@[expose] public section

noncomputable section

namespace Cert.Layer.Kern

open Cert.KernelIdeal Cert.KernelIdeal.Gen Idealize.ShloMosaic Idealize.ShloMosaic.TcCoe Idealize.ShloMosaic.Pointwise

/-- Whether column `k` is in the window of column `q`. -/
abbrev near (q k : Nat) : Prop := min 48 (q - 8) ≤ k ∧ k < min 48 (q - 8) + 16

variable (rpb : S1x8x15x31.Idx → EReal)

theorem masked_at (h : Fin 8) (r : Fin 15) (q k : Fin 64) :
    maskU (cutU (repU (padU rpb))) (ix4 h r q k)
      = if hn : near q.val k.val then rpb (ix4 0 h r (⟨k.val + 15 - q.val, by obtain ⟨h1, h2⟩ := hn; omega⟩ : Fin 31)) else ⊥ := by
  rw [mask_at, lit_at]
  by_cases hn : near q.val k.val
  · rw [if_pos hn, dif_pos hn]
    show cutU (repU (padU rpb)) (ix4 h r q k) = _
    obtain ⟨h1, h2⟩ := hn
    rw [cut_at, show (⟨128 * (63 - q.val) + k.val, by omega⟩ : Fin 8255) = ⟨127 * (⟨63 - q.val, by omega⟩ : Fin 65).val + (⟨63 - q.val + k.val, by omega⟩ : Fin 127).val, by simp only; omega⟩ from Fin.ext (by simp only; omega),
      rep_at, show (⟨63 - q.val + k.val, by omega⟩ : Fin 127) = ⟨48 + (⟨k.val + 15 - q.val, by omega⟩ : Fin 31).val, by simp only; omega⟩ from Fin.ext (by simp only; omega), pad_at]
  · rw [if_neg hn, dif_neg hn, ofBits_ninf]
    rfl

/-- The bias of head pair `hp`, for a query column and key `w` of a window that starts `s` rows into the table. -/
theorem table_at (s : Nat) (hs : s ≤ 7) (hp : Fin 4) (hh : Fin 2) (y : Fin 64) (w : Fin 512) :
    tableU rpb (ix5 (⟨s % 2, by omega⟩ : Fin 2) hp (⟨s / 2 + w.val / 128, by omega⟩ : Fin 7) (⟨64 * hh.val + y.val, by omega⟩ : Fin 128) (⟨w.val % 128, by omega⟩ : Fin 128))
      = if hn : near y.val (w.val % 64) then rpb (ix4 0 (⟨2 * hp.val + hh.val, by omega⟩ : Fin 8) (⟨s + w.val / 64, by omega⟩ : Fin 15) (⟨w.val % 64 + 15 - y.val, by obtain ⟨h1, h2⟩ := hn; omega⟩ : Fin 31)) else ⊥ := by
  unfold tableU
  have key := masked_at rpb (⟨2 * hp.val + hh.val, by omega⟩ : Fin 8) (⟨s + w.val / 64, by omega⟩ : Fin 15) y (⟨w.val % 64, by omega⟩ : Fin 64)
  rw [← flat_at (maskU (cutU (repU (padU rpb)))) hp hh y] at key
  refine Eq.trans ?_ key
  generalize flatU (maskU (cutU (repU (padU rpb)))) = X
  rcases Nat.mod_two_eq_zero_or_one s with h0 | h0
  · rw [show (⟨s % 2, by omega⟩ : Fin 2) = 0 from Fin.ext h0, stack0_at, even_at]
    exact congrArg (fun z => X (ix3 hp _ z)) (Fin.ext (by simp only; omega))
  · rw [show (⟨s % 2, by omega⟩ : Fin 2) = 1 from Fin.ext h0, stack1_at, odd_at]
    exact congrArg (fun z => X (ix3 hp _ z)) (Fin.ext (by simp only; omega))

end Cert.Layer.Kern
-- ==== Proof.RefIdx.lean ====
/- The reference's integer index arrays and its four gathers, read at an index. -/
module

public import proofs.«01_k».proof.Proof.Gen.ReferenceIdeal.Run
public import Idealize.ShloMosaic.Lib.Pointwise
public import Idealize.ShloMosaic.Lib.WordArith
public import Idealize.ShloMosaic.Lib.Tactic.CleanTypes

@[expose] public section

set_option maxRecDepth 16384

noncomputable section

namespace Cert.Layer.Ref

open Cert.ReferenceIdeal Cert.ReferenceIdeal.Gen Cert.ReferenceIdeal.Value Idealize.ShloMosaic Idealize.ShloMosaic.TcCoe
open Idealize.ShloMosaic.Pointwise

variable {F : FTy → Type} [FloatOps F]

/-- First key column of column block `j`, plus `w`. -/
abbrev kcol (j w : Nat) : Nat := min 32 (16 * j - 8) + w
/-- First key row of the window of row `r`, plus `w`. -/
abbrev krow (r w : Nat) : Nat := min 120 (r - 4) + w
/-- First column of the window of column `c` of block `j`. -/
abbrev cst (j c : Nat) : Nat := min 48 (16 * j + c - 8)
/-- The bias table's column for query column `c` and key `w` of block `j`. -/
abbrev bcol (j c w : Nat) : Nat := min 30 (kcol j w + 15 - (16 * j + c))
/-- The bias table's row for row `r` and key row `w`. -/
abbrev brow (r w : Nat) : Nat := krow r w + 7 - r

theorem v15_at (V : Valuation τ sig (Elt F)) (j : Fin 4) (w : Fin 32) :
    res_main_v15 V (ix2 j w) = BitVec.ofNat 32 (kcol j.val w.val) := by
  unfold res_main_v15 res_main_v4
  clean_types
  pointwise
  revert j w
  decide +kernel

theorem v23_at (V : Valuation τ sig (Elt F)) (j : Fin 4) (c : Fin 16) :
    res_main_v23 V (ix2 j c) = BitVec.ofNat 32 (16 * j.val + c.val) := by
  unfold res_main_v23 res_main_v4
  clean_types
  pointwise
  revert j c
  decide +kernel

theorem v26_at (V : Valuation τ sig (Elt F)) (j : Fin 4) (c : Fin 16) :
    res_main_v26 V (ix2 j c) = BitVec.ofNat 32 (cst j.val c.val) := by
  unfold res_main_v26
  clean_types
  pointwise [v23_at]
  revert j c
  decide +kernel

theorem v49_at (V : Valuation τ sig (Elt F)) (j : Fin 4) (c : Fin 16) (w : Fin 32) :
    res_main_v49 V (ix3 j c w) = BitVec.ofNat 32 (bcol j.val c.val w.val) := by
  unfold res_main_v49
  clean_types
  pointwise [v15_at, v23_at]
  revert j c w
  decide +kernel

theorem v59_at (V : Valuation τ sig (Elt F)) (r : Fin 128) (w : Fin 8) :
    res_main_v59 V (ix2 r w) = BitVec.ofNat 32 (krow r.val w.val) := by
  unfold res_main_v59 res_main_v50
  clean_types
  pointwise
  revert r w
  decide +kernel

theorem v64_at (V : Valuation τ sig (Elt F)) (r : Fin 128) (w : Fin 8) :
    res_main_v64 V (ix2 r w) = BitVec.ofNat 32 (brow r.val w.val) := by
  unfold res_main_v64 res_main_v50
  clean_types
  pointwise [v59_at]
  revert r w
  decide +kernel

variable {α : Type}

theorem krow_lt {r w : Nat} (hw : w < 8) : krow r w < 128 := by unfold krow; omega
theorem kcol_lt {j w : Nat} (hw : w < 32) : kcol j w < 64 := by unfold kcol; omega
theorem bcol_lt (j c w : Nat) : bcol j c w < 31 := by unfold bcol; omega
theorem brow_lt {r w : Nat} (hr : r < 128) (hw : w < 8) : brow r w < 15 := by unfold brow krow; omega

/-- Gathering rows of keys or values. -/
theorem gather_rows (x : S2x128x64x8x64.Idx → α) (idx : IVec S128x8x1 32) (b : Fin 2) (r : Fin 128) (w : Fin 8) (c : Fin 64)
    (h : Fin 8) (d : Fin 64) (k : Fin 128) (hk : idx (ix3 r w 0) = BitVec.ofNat 32 k.val) :
    Host.gather gather_S2x128x64x8x64_S128x8x1_S2x128x8x64x8x64_0345_1_n_n_1_2_2164864 x idx (ix6 b r w c h d)
      = x (ix5 b k c h d) := by
  unfold Host.gather
  refine congrArg x (funext fun a => Fin.ext ?_)
  have hs : (gather_S2x128x64x8x64_S128x8x1_S2x128x8x64x8x64_0345_1_n_n_1_2_2164864).siIdx (ix6 b r w c h d) ⟨0, by decide⟩ = ix3 r w 0 := by
    funext a; match a with
    | ⟨0, _⟩ => rfl
    | ⟨1, _⟩ => rfl
    | ⟨2, _⟩ => rfl
  have hb := k.isLt
  match a with
  | ⟨0, _⟩ => show 0 + 0 + b.val = b.val; omega
  | ⟨1, _⟩ =>
    show min (idx ((gather_S2x128x64x8x64_S128x8x1_S2x128x8x64x8x64_0345_1_n_n_1_2_2164864).siIdx (ix6 b r w c h d) ⟨0, by decide⟩)).toInt.toNat (128 - 1) + 0 + 0 = k.val
    rw [hs, hk, WordArith.toInt_ofNat_small _ (by omega)]
    omega
  | ⟨2, _⟩ => show 0 + 0 + c.val = c.val; omega
  | ⟨3, _⟩ => show 0 + 0 + h.val = h.val; omega
  | ⟨4, _⟩ => show 0 + 0 + d.val = d.val; omega

/-- Gathering columns of keys or values. -/
theorem gather_cols (x : S2x128x8x64x8x64.Idx → α) (idx : IVec S4x32x1 32) (b : Fin 2) (r : Fin 128) (w : Fin 8) (j : Fin 4) (c : Fin 32) (h : Fin 8) (d : Fin 64)
    (k : Fin 64) (hk : idx (ix3 j c 0) = BitVec.ofNat 32 k.val) :
    Host.gather gather_S2x128x8x64x8x64_S4x32x1_S2x128x8x4x32x8x64_01256_3_n_n_3_2_212881864 x idx (ix7 b r w j c h d)
      = x (ix6 b r w k h d) := by
  unfold Host.gather
  refine congrArg x (funext fun a => Fin.ext ?_)
  have hs : (gather_S2x128x8x64x8x64_S4x32x1_S2x128x8x4x32x8x64_01256_3_n_n_3_2_212881864).siIdx (ix7 b r w j c h d) ⟨0, by decide⟩ = ix3 j c 0 := by
    funext a; match a with
    | ⟨0, _⟩ => rfl
    | ⟨1, _⟩ => rfl
    | ⟨2, _⟩ => rfl
  have hb := k.isLt
  match a with
  | ⟨0, _⟩ => show 0 + 0 + b.val = b.val; omega
  | ⟨1, _⟩ => show 0 + 0 + r.val = r.val; omega
  | ⟨2, _⟩ => show 0 + 0 + w.val = w.val; omega
  | ⟨3, _⟩ =>
    show min (idx ((gather_S2x128x8x64x8x64_S4x32x1_S2x128x8x4x32x8x64_01256_3_n_n_3_2_212881864).siIdx (ix7 b r w j c h d) ⟨0, by decide⟩)).toInt.toNat (64 - 1) + 0 + 0 = k.val
    rw [hs, hk, WordArith.toInt_ofNat_small _ (by omega)]
    omega
  | ⟨4, _⟩ => show 0 + 0 + h.val = h.val; omega
  | ⟨5, _⟩ => show 0 + 0 + d.val = d.val; omega

/-- Gathering columns of the bias table. -/
theorem gather_bcols (x : S8x15x31.Idx → α) (idx : IVec S4x16x32x1 32) (h : Fin 8) (e : Fin 15) (j : Fin 4) (c : Fin 16) (w : Fin 32)
    (k : Fin 31) (hk : idx (ix4 j c w 0) = BitVec.ofNat 32 k.val) :
    Host.gather gather_S8x15x31_S4x16x32x1_S8x15x4x16x32_01_2_n_n_2_3_8151 x idx (ix5 h e j c w)
      = x (ix3 h e k) := by
  unfold Host.gather
  refine congrArg x (funext fun a => Fin.ext ?_)
  have hs : (gather_S8x15x31_S4x16x32x1_S8x15x4x16x32_01_2_n_n_2_3_8151).siIdx (ix5 h e j c w) ⟨0, by decide⟩ = ix4 j c w 0 := by
    funext a; match a with
    | ⟨0, _⟩ => rfl
    | ⟨1, _⟩ => rfl
    | ⟨2, _⟩ => rfl
    | ⟨3, _⟩ => rfl
  have hb := k.isLt
  match a with
  | ⟨0, _⟩ => show 0 + 0 + h.val = h.val; omega
  | ⟨1, _⟩ => show 0 + 0 + e.val = e.val; omega
  | ⟨2, _⟩ =>
    show min (idx ((gather_S8x15x31_S4x16x32x1_S8x15x4x16x32_01_2_n_n_2_3_8151).siIdx (ix5 h e j c w) ⟨0, by decide⟩)).toInt.toNat (31 - 1) + 0 + 0 = k.val
    rw [hs, hk, WordArith.toInt_ofNat_small _ (by omega)]
    omega

/-- Gathering rows of the bias table. -/
theorem gather_brows (x : S8x15x4x16x32.Idx → α) (idx : IVec S128x8x1 32) (h : Fin 8) (r : Fin 128) (w : Fin 8) (j : Fin 4) (c : Fin 16) (v : Fin 32)
    (k : Fin 15) (hk : idx (ix3 r w 0) = BitVec.ofNat 32 k.val) :
    Host.gather gather_S8x15x4x16x32_S128x8x1_S8x128x8x4x16x32_0345_1_n_n_1_2_8141632 x idx (ix6 h r w j c v)
      = x (ix5 h k j c v) := by
  unfold Host.gather
  refine congrArg x (funext fun a => Fin.ext ?_)
  have hs : (gather_S8x15x4x16x32_S128x8x1_S8x128x8x4x16x32_0345_1_n_n_1_2_8141632).siIdx (ix6 h r w j c v) ⟨0, by decide⟩ = ix3 r w 0 := by
    funext a; match a with
    | ⟨0, _⟩ => rfl
    | ⟨1, _⟩ => rfl
    | ⟨2, _⟩ => rfl
  have hb := k.isLt
  match a with
  | ⟨0, _⟩ => show 0 + 0 + h.val = h.val; omega
  | ⟨1, _⟩ =>
    show min (idx ((gather_S8x15x4x16x32_S128x8x1_S8x128x8x4x16x32_0345_1_n_n_1_2_8141632).siIdx (ix6 h r w j c v) ⟨0, by decide⟩)).toInt.toNat (15 - 1) + 0 + 0 = k.val
    rw [hs, hk, WordArith.toInt_ofNat_small _ (by omega)]
    omega
  | ⟨2, _⟩ => show 0 + 0 + j.val = j.val; omega
  | ⟨3, _⟩ => show 0 + 0 + c.val = c.val; omega
  | ⟨4, _⟩ => show 0 + 0 + v.val = v.val; omega

/-- An index that is not negative is not wrapped. -/
theorem wrap_small (k : Nat) (n : BitVec 32) (hk : k < 2 ^ 31) :
    Scalar.select (IntOp.cmpi .slt (BitVec.ofNat 32 k) 0#32) (IntOp.addi (BitVec.ofNat 32 k) n) (BitVec.ofNat 32 k)
      = BitVec.ofNat 32 k := by
  have h : IntOp.cmpi .slt (BitVec.ofNat 32 k) 0#32 = 0#1 := by
    have h0 : ¬ (BitVec.ofNat 32 k).slt 0#32 := by
      rw [BitVec.slt_iff_toInt_lt, WordArith.toInt_ofNat_small _ hk]
      simp
    simp [IntOp.cmpi, h0]
  rw [h]
  simp [Scalar.select]

end Cert.Layer.Ref
-- ==== Proof.RefAttn.lean ====
/- The reference's attention read at an index. -/
module

public import proofs.«01_k».proof.Proof.RefIdx
public import proofs.«01_k».proof.Proof.Consts

@[expose] public section

set_option maxRecDepth 16384

noncomputable section

namespace Cert.Layer.Ref

open Cert.ReferenceIdeal Cert.ReferenceIdeal.Gen Cert.ReferenceIdeal.Value Idealize.ShloMosaic Idealize.ShloMosaic.TcCoe
open Idealize.ShloMosaic.Pointwise

variable {F : FTy → Type} [FloatOps F] {α : Type}

/-- Token of grid row `r` and column `c`. -/
abbrev tok (r : Fin 128) (c : Fin 64) : Fin 8192 := ⟨r.val * 64 + c.val, by omega⟩
/-- Lane `d` of head `h`. -/
abbrev lane (h : Fin 8) (d : Fin 64) : Fin 512 := ⟨h.val * 64 + d.val, by omega⟩
/-- Key row `w` of row `r`'s window. -/
abbrev krowF (r : Fin 128) (w : Fin 8) : Fin 128 := ⟨krow r.val w.val, krow_lt w.isLt⟩
/-- Key column `w` of column block `j`. -/
abbrev kcolF (j : Fin 4) (w : Fin 32) : Fin 64 := ⟨kcol j.val w.val, kcol_lt w.isLt⟩
/-- Column `c` of column block `j`. -/
abbrev qcolF (j : Fin 4) (c : Fin 16) : Fin 64 := ⟨j.val * 16 + c.val, by omega⟩
/-- The bias table's row for key row `w` of row `r`. -/
abbrev browF (r : Fin 128) (w : Fin 8) : Fin 15 := ⟨brow r.val w.val, brow_lt r.isLt w.isLt⟩
/-- The bias table's column for query column `c` and key column `w` of block `j`. -/
abbrev bcolF (j : Fin 4) (c : Fin 16) (w : Fin 32) : Fin 31 := ⟨bcol j.val c.val w.val, bcol_lt _ _ _⟩

/-- Keys or values as the reference gathers them. -/
theorem kv_at (V : Valuation τ sig (Elt F)) (x : S2x8192x512.Idx → α) (b : Fin 2) (r : Fin 128) (w : Fin 8) (j : Fin 4)
    (c : Fin 32) (h : Fin 8) (d : Fin 64) :
    Host.gather gather_S2x128x8x64x8x64_S4x32x1_S2x128x8x4x32x8x64_01256_3_n_n_3_2_212881864 (Host.gather gather_S2x128x64x8x64_S128x8x1_S2x128x8x64x8x64_0345_1_n_n_1_2_2164864 (shapeCast _ x shapeCasts_S2x8192x512_S2x128x64x8x64) (broadcastInDim S128x8x1 ![0, 1] bcast_S128x8_S128x8x1_0_1 (select (cmpi .slt (res_main_v59 V) (broadcastInDim S128x8 ![] bcast_S_S128x8 (constantI S_ 32 0#32))) (addi (res_main_v59 V) (broadcastInDim S128x8 ![] bcast_S_S128x8 (constantI S_ 32 128#32))) (res_main_v59 V)))) (broadcastInDim S4x32x1 ![0, 1] bcast_S4x32_S4x32x1_0_1 (select (cmpi .slt (res_main_v15 V) (broadcastInDim S4x32 ![] bcast_S_S4x32 (constantI S_ 32 0#32))) (addi (res_main_v15 V) (broadcastInDim S4x32 ![] bcast_S_S4x32 (constantI S_ 32 64#32))) (res_main_v15 V)))
        (ix7 b r w j c h d)
      = x (ix3 b (tok (krowF r w) (kcolF j c)) (lane h d)) := by
  have h1 := krow_lt (r := r.val) w.isLt
  have h2 := kcol_lt (j := j.val) c.isLt
  rw [gather_cols _ _ _ _ _ _ _ _ _ (kcolF j c), gather_rows _ _ _ _ _ _ _ _ (krowF r w)]
  · pointwise
  · pointwise [v59_at]
    exact wrap_small _ _ (by omega)
  · pointwise [v15_at]
    exact wrap_small _ _ (by omega)

/-- The position bias as the reference gathers it. -/
theorem bias_at (V : Valuation τ sig (Elt F)) (x : S1x8x15x31.Idx → α) (r : Fin 128) (h : Fin 8) (j : Fin 4)
    (c : Fin 16) (w : Fin 8) (v : Fin 32) :
    transpose S128x8x4x16x8x32 [1, 0, 3, 4, 2, 5] (Host.gather gather_S8x15x4x16x32_S128x8x1_S8x128x8x4x16x32_0345_1_n_n_1_2_8141632 (Host.gather gather_S8x15x31_S4x16x32x1_S8x15x4x16x32_01_2_n_n_2_3_8151 (shapeCast _ x shapeCasts_S1x8x15x31_S8x15x31) (broadcastInDim S4x16x32x1 ![0, 1, 2] bcast_S4x16x32_S4x16x32x1_0_1_2 (select (cmpi .slt (res_main_v49 V) (broadcastInDim S4x16x32 ![] bcast_S_S4x16x32 (constantI S_ 32 0#32))) (addi (res_main_v49 V) (broadcastInDim S4x16x32 ![] bcast_S_S4x16x32 (constantI S_ 32 31#32))) (res_main_v49 V)))) (broadcastInDim S128x8x1 ![0, 1] bcast_S128x8_S128x8x1_0_1 (select (cmpi .slt (res_main_v64 V) (broadcastInDim S128x8 ![] bcast_S_S128x8 (constantI S_ 32 0#32))) (addi (res_main_v64 V) (broadcastInDim S128x8 ![] bcast_S_S128x8 (constantI S_ 32 15#32))) (res_main_v64 V)))) transposes_S8x128x8x4x16x32_S128x8x4x16x8x32_1_0_3_4_2_5
        (ix6 r h j c w v)
      = x (ix4 0 h (browF r w) (bcolF j c v)) := by
  have h1 := brow_lt r.isLt w.isLt
  have h2 := bcol_lt j.val c.val v.val
  pointwise
  rw [gather_brows _ _ _ _ _ _ _ _ (browF r w), gather_bcols _ _ _ _ _ _ _ (bcolF j c v)]
  · pointwise
  · pointwise [v49_at]
    exact wrap_small _ _ (by omega)
  · pointwise [v64_at]
    exact wrap_small _ _ (by omega)

/-- The reduced axis of the scores. -/
theorem drop_iff (h' : S2x128x8x4x16x256.ReducesTo [5] S2x128x8x4x16) (b : Fin 2) (r : Fin 128) (h : Fin 8) (j : Fin 4)
    (c : Fin 16) (i : S2x128x8x4x16x256.Idx) :
    h'.drop i = ix5 b r h j c ↔ ∃ k : Fin 256, ix6 b r h j c k = i := by
  constructor
  · intro e
    refine ⟨i 5, ?_⟩
    funext a; apply Fin.ext
    match a with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => exact (congrArg Fin.val (congrFun e 4)).symm
    | ⟨5, _⟩ => rfl
  · rintro ⟨k, rfl⟩
    funext a; apply Fin.ext
    match a with
    | ⟨0, _⟩ => rfl
    | ⟨1, _⟩ => rfl
    | ⟨2, _⟩ => rfl
    | ⟨3, _⟩ => rfl
    | ⟨4, _⟩ => rfl

theorem ix6_inj (b : Fin 2) (r : Fin 128) (h : Fin 8) (j : Fin 4) (c : Fin 16) :
    Function.Injective (fun k : Fin 256 => (ix6 b r h j c k : S2x128x8x4x16x256.Idx)) := fun _ _ e => congrFun e 5

/-- The maximum of the scores of a query. -/
theorem redmax (x : S2x128x8x4x16x256.Idx → EReal) (b : Fin 2) (r : Fin 128) (h : Fin 8) (j : Fin 4) (c : Fin 16) :
    Host.reduce (FloatOps.maximumf (F := Ideal) (φ := .f32)) x (constant (F := Ideal) S_ .f32 0xFF800000#32) reducesTo_S2x128x8x4x16x256_S2x128x8x4x16_d5 h_S_
        (ix5 b r h j c)
      = Finset.univ.sup fun k : Fin 256 => x (ix6 b r h j c k) := by
  rw [Host.reduce_eq_fold, Finset.fold_filter_eq_fold_of_fiber _ _ _ (ix6_inj b r h j c) (drop_iff _ b r h j c)]
  show Finset.fold max (Ideal.ofBits .f32 0xFF800000#32) _ _ = _
  rw [ofBits_ninf]
  rfl

/-- The sum of a query's weights. -/
theorem redadd (x : S2x128x8x4x16x256.Idx → EReal) (b : Fin 2) (r : Fin 128) (h : Fin 8) (j : Fin 4) (c : Fin 16) :
    Host.reduceAdd (F := Ideal) (φ := .f32) x (constant (F := Ideal) S_ .f32 0x00000000#32) reducesTo_S2x128x8x4x16x256_S2x128x8x4x16_d5 h_S_
        (ix5 b r h j c)
      = ∑ k : Fin 256, x (ix6 b r h j c k) := by
  show Ideal.ofBits .f32 0x00000000#32 + ∑ i ∈ Finset.univ.filter (fun i => Shape.ReducesTo.drop _ i = ix5 b r h j c), x i = _
  rw [Finset.sum_filter_eq_sum_of_fiber _ _ (ix6_inj b r h j c) (drop_iff _ b r h j c)]
  simp

end Cert.Layer.Ref
-- ==== Proof.RefSoft.lean ====
/- The reference's attention: its masked scores and their softmax, read at an index. -/
module

public import proofs.«01_k».proof.Proof.RefAttn

@[expose] public section

set_option maxRecDepth 16384

noncomputable section

namespace Cert.Layer.Ref

open Cert.ReferenceIdeal Cert.ReferenceIdeal.Gen Cert.ReferenceIdeal.Value Idealize.ShloMosaic Idealize.ShloMosaic.TcCoe
open Idealize.ShloMosaic.Pointwise

/-- Key row of key number `k` of a query's 256. -/
abbrev kw (k : Fin 256) : Fin 8 := ⟨k.val / 32, by omega⟩
/-- Key column of key number `k` of a query's 256. -/
abbrev kv (k : Fin 256) : Fin 32 := ⟨k.val % 32, by omega⟩

/-- The scores before the reshape, over any gathered keys and bias. -/
theorem scores_gen (C15 : S4x32.Idx → BitVec 32) (C26 : S4x16.Idx → BitVec 32) (Q : S2x8192x512.Idx → EReal)
    (KG : S2x128x8x4x32x8x64.Idx → EReal) (BG : S128x8x4x16x8x32.Idx → EReal)
    (b : Fin 2) (r : Fin 128) (h : Fin 8) (j : Fin 4) (c : Fin 16) (w : Fin 8) (v : Fin 32) :
    (select (broadcastInDim S2x128x8x4x16x8x32 ![0, 1, 2, 3, 4, 5, 6] bcast_S1x1x1x4x16x1x32_S2x128x8x4x16x8x32_0_1_2_3_4_5_6 (broadcastInDim S1x1x1x4x16x1x32 ![3, 4, 6] bcast_S4x16x32_S1x1x1x4x16x1x32_3_4_6 (andi (cmpi .sge (broadcastInDim S4x16x32 ![0, 1, 2] bcast_S4x1x32_S4x16x32_0_1_2 (broadcastInDim S4x1x32 ![0, 2] bcast_S4x32_S4x1x32_0_2 C15)) (broadcastInDim S4x16x32 ![0, 1, 2] bcast_S4x16x1_S4x16x32_0_1_2 (broadcastInDim S4x16x1 ![0, 1] bcast_S4x16_S4x16x1_0_1 C26))) (cmpi .slt (broadcastInDim S4x16x32 ![0, 1, 2] bcast_S4x1x32_S4x16x32_0_1_2 (broadcastInDim S4x1x32 ![0, 2] bcast_S4x32_S4x1x32_0_2 C15)) (broadcastInDim S4x16x32 ![0, 1, 2] bcast_S4x16x1_S4x16x32_0_1_2 (addi (broadcastInDim S4x16x1 ![0, 1] bcast_S4x16_S4x16x1_0_1 C26) (broadcastInDim S4x16x1 ![] bcast_S_S4x16x1 (constantI S_ 32 16#32)))))))) (addf (φ := .f32) (mulf (Host.dotGeneral (F := Ideal) (φ₁ := .f32) (φ₂ := .f32) dot_S2x128x4x16x8x64_S2x128x8x4x32x8x64_S2x128x8x4x16x8x32_5_6_3_24_0142_0153 none (shapeCast _ Q shapeCasts_S2x8192x512_S2x128x4x16x8x64) KG) (broadcastInDim S2x128x8x4x16x8x32 ![] bcast_S_S2x128x8x4x16x8x32 (constant S_ .f32 0x3E000000#32))) (broadcastInDim S2x128x8x4x16x8x32 ![0, 1, 2, 3, 4, 5, 6] bcast_S1x128x8x4x16x8x32_S2x128x8x4x16x8x32_0_1_2_3_4_5_6 (broadcastInDim S1x128x8x4x16x8x32 ![1, 2, 3, 4, 5, 6] bcast_S128x8x4x16x8x32_S1x128x8x4x16x8x32_1_2_3_4_5_6 BG))) (broadcastInDim S2x128x8x4x16x8x32 ![] bcast_S_S2x128x8x4x16x8x32 (id (constant S_ .f32 0xFF800000#32))))
      (ix7 b r h j c w v)
      = Scalar.select (IntOp.andi (IntOp.cmpi .sge (C15 (ix2 j v)) (C26 (ix2 j c))) (IntOp.cmpi .slt (C15 (ix2 j v)) (IntOp.addi (C26 (ix2 j c)) 16#32)))
          ((∑ d : Fin 64, Q (ix3 b (tok r (qcolF j c)) (lane h d)) * KG (ix7 b r w j v h d)) * ((1 / 8 : ℝ) : EReal) + BG (ix6 r h j c w v)) ⊥ := by
  pointwise
  have e : ∀ x : Fin 64, (ix3 b (⟨r.val * 64 + j.val * 16 + c.val, by omega⟩ : Fin 8192) (⟨h.val * 64 + x.val, by omega⟩ : Fin 512) : S2x8192x512.Idx)
      = ix3 b (tok r (qcolF j c)) (lane h x) := fun x => congrArg (fun a => ix3 b a (lane h x)) (Fin.ext (Nat.add_assoc _ _ _))
  simp only [e, ofBits_eighth]
  congr 1

/-- Whether query column `c` of block `j` attends to the block's key column `v`. -/
def inWin (j : Fin 4) (c : Fin 16) (v : Fin 32) : Bool := decide (cst j.val c.val ≤ kcol j.val v.val ∧ kcol j.val v.val < cst j.val c.val + 16)

theorem mask_word : ∀ (j : Fin 4) (c : Fin 16) (v : Fin 32),
    IntOp.andi (IntOp.cmpi .sge (BitVec.ofNat 32 (kcol j.val v.val)) (BitVec.ofNat 32 (cst j.val c.val)))
      (IntOp.cmpi .slt (BitVec.ofNat 32 (kcol j.val v.val)) (IntOp.addi (BitVec.ofNat 32 (cst j.val c.val)) 16#32))
      = if inWin j c v then 1#1 else 0#1 := by
  decide +kernel

section
variable (V : Valuation τ sig (Elt Ideal))

/-- The arguments of the reference's attention. -/
abbrev qA : S2x8192x512.Idx → EReal := V (Proc.devRef .tc main_arg1)
abbrev kA : S2x8192x512.Idx → EReal := V (Proc.devRef .tc main_arg2)
abbrev vA : S2x8192x512.Idx → EReal := V (Proc.devRef .tc main_arg3)
abbrev rpbA : S1x8x15x31.Idx → EReal := V (Proc.devRef .tc main_arg8)

/-- A query's score of its key number `k`. -/
def sR (b : Fin 2) (r : Fin 128) (h : Fin 8) (j : Fin 4) (c : Fin 16) (k : Fin 256) : EReal :=
  if inWin j c (kv k) then
    (∑ d : Fin 64, qA V (ix3 b (tok r (qcolF j c)) (lane h d)) * kA V (ix3 b (tok (krowF r (kw k)) (kcolF j (kv k))) (lane h d))) * ((1 / 8 : ℝ) : EReal)
      + rpbA V (ix4 0 h (browF r (kw k)) (bcolF j c (kv k)))
  else ⊥

theorem merge_at (X : S2x128x8x4x16x8x32.Idx → EReal) (b : Fin 2) (r : Fin 128) (h : Fin 8) (j : Fin 4) (c : Fin 16) (w : Fin 8) (v : Fin 32) :
    (shapeCast S2x128x8x4x16x256 X shapeCasts_S2x128x8x4x16x8x32_S2x128x8x4x16x256) (ix6 b r h j c ⟨32 * w.val + v.val, by omega⟩) = X (ix7 b r h j c w v) := by
  pointwise

theorem v116_at (b : Fin 2) (r : Fin 128) (h : Fin 8) (j : Fin 4) (c : Fin 16) (k : Fin 256) :
    (res_main_v116 V : S2x128x8x4x16x256.Idx → EReal) (ix6 b r h j c k) = sR V b r h j c k := by
  have ek : k = (⟨32 * (kw k).val + (kv k).val, by omega⟩ : Fin 256) := Fin.ext (by simp only; omega)
  have e : ∀ (X : S2x128x8x4x16x8x32.Idx → EReal), (shapeCast S2x128x8x4x16x256 X shapeCasts_S2x128x8x4x16x8x32_S2x128x8x4x16x256) (ix6 b r h j c k) = X (ix7 b r h j c (kw k) (kv k)) :=
    fun X => (congrArg (fun a => (shapeCast S2x128x8x4x16x256 X shapeCasts_S2x128x8x4x16x8x32_S2x128x8x4x16x256) (ix6 b r h j c a)) ek).trans (merge_at X b r h j c (kw k) (kv k))
  unfold res_main_v116
  refine (e _).trans ((scores_gen _ _ _ _ _ b r h j c (kw k) (kv k)).trans ?_)
  rw [v15_at, v26_at, mask_word]
  refine (congrArg (fun z => Scalar.select _ z ⊥) (congrArg₂ (fun a b : EReal => a + b) (congrArg (fun a : EReal => a * _)
    (Finset.sum_congr rfl fun d _ => congrArg (fun a : EReal => qA V (ix3 b (tok r (qcolF j c)) (lane h d)) * a) (kv_at V _ b r (kw k) j (kv k) h d))) (bias_at V _ r h j c (kw k) (kv k)))).trans ?_
  unfold sR
  cases inWin j c (kv k) <;> rfl

theorem v123_at (b : Fin 2) (r : Fin 128) (h : Fin 8) (j : Fin 4) (c : Fin 16) (k : Fin 256) :
    (res_main_v123 V : S2x128x8x4x16x256.Idx → EReal) (ix6 b r h j c k) = Ideal.exp (sR V b r h j c k - Finset.univ.sup (sR V b r h j c)) := by
  unfold res_main_v123
  have e : ∀ (X : S2x128x8x4x16x256.Idx → EReal) (M : S2x128x8x4x16.Idx → EReal),
      (Host.exp (F := Ideal) (φ := .f32) (subf X (broadcastInDim S2x128x8x4x16x256 ![0, 1, 2, 3, 4, 5] bcast_S2x128x8x4x16x1_S2x128x8x4x16x256_0_1_2_3_4_5 (broadcastInDim S2x128x8x4x16x1 ![0, 1, 2, 3, 4] bcast_S2x128x8x4x16_S2x128x8x4x16x1_0_1_2_3_4 (maximumf (broadcastInDim S2x128x8x4x16 ![] bcast_S_S2x128x8x4x16 (constant S_ .f32 0xFF800000#32)) M))))) (ix6 b r h j c k)
        = Ideal.exp (X (ix6 b r h j c k) - max (Ideal.ofBits .f32 0xFF800000#32) (M (ix5 b r h j c))) := by
    intro X M
    pointwise
  refine (e _ _).trans ?_
  rw [redmax, v116_at, ofBits_ninf, max_eq_right bot_le]
  simp only [v116_at]

/-- The reference's attention of a query, lane by lane. -/
def attnR (b : Fin 2) (r : Fin 128) (h : Fin 8) (j : Fin 4) (c : Fin 16) (d : Fin 64) : EReal :=
  ∑ k : Fin 256, Ideal.div (Ideal.exp (sR V b r h j c k - Finset.univ.sup (sR V b r h j c))) (∑ k' : Fin 256, Ideal.exp (sR V b r h j c k' - Finset.univ.sup (sR V b r h j c)))
    * vA V (ix3 b (tok (krowF r (kw k)) (kcolF j (kv k))) (lane h d))

/-- A sum over a window's columns and rows is the sum over its 256 keys. -/
theorem sum256 (f : Fin 8 → Fin 32 → EReal) : ∑ x, ∑ w, f w x = ∑ k : Fin 256, f (kw k) (kv k) := by
  rw [Finset.sum_comm, ← Fintype.sum_prod_type' f]
  exact (Fintype.sum_equiv (finProdFinEquiv (m := 8) (n := 32)).symm (fun k => f (kw k) (kv k)) (fun p => f p.1 p.2) (fun k => rfl)).symm

/-- The product with the values, over any gathered values and weights. -/
theorem mix_gen (VG : S2x128x8x4x32x8x64.Idx → EReal) (P : S2x128x8x4x16x256.Idx → EReal)
    (b : Fin 2) (r : Fin 128) (h : Fin 8) (j : Fin 4) (c : Fin 16) (d : Fin 64) :
    (shapeCast S2x8192x512 (transpose S2x128x4x16x8x64 [0, 1, 2, 5, 3, 4] (Host.dotGeneral (F := Ideal) (φ₁ := .f32) (φ₂ := .f32) dot_S2x128x8x4x32x8x64_S2x128x8x4x16x8x32_S2x128x4x8x64x16_42_65_6_4_0135_0132 none VG (shapeCast _ P shapeCasts_S2x128x8x4x16x256_S2x128x8x4x16x8x32)) transposes_S2x128x4x8x64x16_S2x128x4x16x8x64_0_1_2_5_3_4) shapeCasts_S2x128x4x16x8x64_S2x8192x512)
      (ix3 b (tok r (qcolF j c)) (lane h d))
      = ∑ k : Fin 256, VG (ix7 b r (kw k) j (kv k) h d) * P (ix6 b r h j c k) := by
  rw [show tok r (qcolF j c) = (⟨r.val * 64 + j.val * 16 + c.val, by omega⟩ : Fin 8192) from Fin.ext (Nat.add_assoc _ _ _).symm]
  pointwise
  have e1 : (⟨(h.val * 64 + d.val) / 64, by omega⟩ : Fin 8) = h := Fin.ext (by simp only; omega)
  have e2 : (⟨(h.val * 64 + d.val) % 64, by omega⟩ : Fin 64) = d := Fin.ext (by simp only; omega)
  rw [e1, e2]
  refine (sum256 (fun w x => VG (ix7 b r w j x h d) * P (ix6 b r h j c ⟨w.val * 32 + x.val, by omega⟩))).trans ?_
  refine Finset.sum_congr rfl fun k _ => congrArg (_ * P ·) (congrArg (ix6 b r h j c) (Fin.ext ?_))
  show k.val / 32 * 32 + k.val % 32 = k.val
  omega

/-- The weights divided by their sum. -/
theorem quot_gen (E : S2x128x8x4x16x256.Idx → EReal) (L : S2x128x8x4x16.Idx → EReal)
    (b : Fin 2) (r : Fin 128) (h : Fin 8) (j : Fin 4) (c : Fin 16) (k : Fin 256) :
    (Host.divf (F := Ideal) (φ := .f32) E (broadcastInDim S2x128x8x4x16x256 ![0, 1, 2, 3, 4, 5] bcast_S2x128x8x4x16x1_S2x128x8x4x16x256_0_1_2_3_4_5 (broadcastInDim S2x128x8x4x16x1 ![0, 1, 2, 3, 4] bcast_S2x128x8x4x16_S2x128x8x4x16x1_0_1_2_3_4 L)))
      (ix6 b r h j c k) = Ideal.div (E (ix6 b r h j c k)) (L (ix5 b r h j c)) := by
  pointwise

/-- The array of the reference's attention. -/
abbrev attnTerm : S2x8192x512.Idx → EReal :=
  shapeCast S2x8192x512 (transpose S2x128x4x16x8x64 [0, 1, 2, 5, 3, 4] (Host.dotGeneral (F := Ideal) (φ₁ := .f32) (φ₂ := .f32) dot_S2x128x8x4x32x8x64_S2x128x8x4x16x8x32_S2x128x4x8x64x16_42_65_6_4_0135_0132 none (Host.gather gather_S2x128x8x64x8x64_S4x32x1_S2x128x8x4x32x8x64_01256_3_n_n_3_2_212881864 (Host.gather gather_S2x128x64x8x64_S128x8x1_S2x128x8x64x8x64_0345_1_n_n_1_2_2164864 (shapeCast _ (V (Proc.devRef .tc main_arg3)) shapeCasts_S2x8192x512_S2x128x64x8x64) (broadcastInDim S128x8x1 ![0, 1] bcast_S128x8_S128x8x1_0_1 (select (cmpi .slt (res_main_v59 V) (broadcastInDim S128x8 ![] bcast_S_S128x8 (constantI S_ 32 0#32))) (addi (res_main_v59 V) (broadcastInDim S128x8 ![] bcast_S_S128x8 (constantI S_ 32 128#32))) (res_main_v59 V)))) (broadcastInDim S4x32x1 ![0, 1] bcast_S4x32_S4x32x1_0_1 (select (cmpi .slt (res_main_v15 V) (broadcastInDim S4x32 ![] bcast_S_S4x32 (constantI S_ 32 0#32))) (addi (res_main_v15 V) (broadcastInDim S4x32 ![] bcast_S_S4x32 (constantI S_ 32 64#32))) (res_main_v15 V)))) (shapeCast _ (Host.divf (res_main_v123 V) (broadcastInDim S2x128x8x4x16x256 ![0, 1, 2, 3, 4, 5] bcast_S2x128x8x4x16x1_S2x128x8x4x16x256_0_1_2_3_4_5 (broadcastInDim S2x128x8x4x16x1 ![0, 1, 2, 3, 4] bcast_S2x128x8x4x16_S2x128x8x4x16x1_0_1_2_3_4 (Host.reduceAdd (res_main_v123 V) (constant S_ .f32 0x00000000#32) reducesTo_S2x128x8x4x16x256_S2x128x8x4x16_d5 h_S_)))) shapeCasts_S2x128x8x4x16x256_S2x128x8x4x16x8x32)) transposes_S2x128x4x8x64x16_S2x128x4x16x8x64_0_1_2_5_3_4) shapeCasts_S2x128x4x16x8x64_S2x8192x512

theorem attn_at (b : Fin 2) (r : Fin 128) (h : Fin 8) (j : Fin 4) (c : Fin 16) (d : Fin 64) :
    attnTerm V (ix3 b (tok r (qcolF j c)) (lane h d)) = attnR V b r h j c d := by
  refine (mix_gen _ _ b r h j c d).trans ?_
  unfold attnR
  refine Finset.sum_congr rfl fun k _ => ?_
  rw [mul_comm]
  refine congrArg₂ (· * ·) ((quot_gen _ _ b r h j c k).trans (congrArg₂ Ideal.div (v123_at V b r h j c k) ?_)) (kv_at V _ b r (kw k) j (kv k) h d)
  rw [redadd]
  exact Finset.sum_congr rfl fun k' _ => v123_at V b r h j c k'

end

end Cert.Layer.Ref
-- ==== Proof.Tie.lean ====
/- The kernel's attention of a tile is the reference's attention of its tokens. -/
module

public import proofs.«01_k».proof.Proof.Table
public import proofs.«01_k».proof.Proof.Sweep
public import proofs.«01_k».proof.Proof.RefSoft
public import proofs.«01_k».proof.Proof.Math

@[expose] public section

noncomputable section

namespace Cert.Layer

open Idealize.ShloMosaic Idealize.ShloMosaic.TcCoe Idealize.ShloMosaic.Pointwise Idealize.SL.Sem
open Cert.Layer.Kern Cert.Layer.Ref

/-- A score as the kernel scales it, of real numbers. -/
theorem score_kern {ι : Type} [Fintype ι] (q k : ι → ℝ) (b : ℝ) :
    (∑ d, (q d : EReal) * (k d : EReal)) * (((8 * Real.log 2)⁻¹ : ℝ) : EReal) + (b : EReal) * (((Real.log 2)⁻¹ : ℝ) : EReal)
      = ((((∑ d, q d * k d) * (1 / 8) + b) * (Real.log 2)⁻¹ : ℝ) : EReal) := by
  have hl : Real.log 2 ≠ 0 := (Real.log_pos (by norm_num)).ne'
  simp only [← EReal.coe_mul]
  rw [← coe_sum', ← EReal.coe_mul, ← EReal.coe_add]
  congr 1
  field_simp

/-- The token of row `i` of a tile. -/
abbrev qRow (g : Fin 16) (i : Fin 512) : Fin 8192 := ⟨512 * g.val + i.val, by omega⟩
/-- The token of row `i` of the keys and values of a tile. -/
abbrev kvRow (g : Fin 16) (i : Fin 1024) : Fin 8192 := ⟨min (512 * g.val - 256) 7168 + i.val, by omega⟩

variable (V : Valuation Cert.ReferenceIdeal.τ Cert.ReferenceIdeal.sig (Elt Ideal))
  (x0 : Cert.KernelIdeal.S1x512x512.Idx → EReal) (x1 x2 : Cert.KernelIdeal.S1x1024x512.Idx → EReal) (x3 : Cert.KernelIdeal.S2x4x7x128x128.Idx → EReal)
  (b : Fin 2) (g : Fin 16)

/-- Where key number `k` of a query's 256 is among the 512 keys that the kernel reads for the query's row. -/
abbrev place (j : Fin 4) (k : Fin 256) : Fin 512 := ⟨64 * (kw k).val + kcol j.val (kv k).val, by have := (kw k).isLt; have := (kv k).isLt; unfold kcol; omega⟩

theorem place_inj (j : Fin 4) : Function.Injective (place j) := by
  intro k k' h
  have e : 64 * (k.val / 32) + (min 32 (16 * j.val - 8) + k.val % 32) = 64 * (k'.val / 32) + (min 32 (16 * j.val - 8) + k'.val % 32) := congrArg Fin.val h
  apply Fin.ext
  omega

section
variable (hq : ∀ i l, x0 (ix3 0 i l) = qA V (ix3 b (⟨512 * g.val + i.val, by omega⟩ : Fin 8192) l))
  (hk : ∀ (i : Fin 1024) l, x1 (ix3 0 i l) = kA V (ix3 b (kvRow g i) l))
  (hv : ∀ (i : Fin 1024) l, x2 (ix3 0 i l) = vA V (ix3 b (kvRow g i) l))
  (hb : x3 = tableU (rpbA V))
  (fq : ∀ i, ∃ r : ℝ, qA V i = r) (fk : ∀ i, ∃ r : ℝ, kA V i = r) (fb : ∀ i, ∃ r : ℝ, rpbA V i = r)
  (r : Fin 8) (hp : Fin 4) (hh : Fin 2) (j : Fin 4) (cc : Fin 16)

/-- The row of the grid that is row `r` of tile `g`. -/
abbrev rowG (g : Fin 16) (r : Fin 8) : Fin 128 := ⟨8 * g.val + r.val, by omega⟩
/-- The second or the first head of a pair. -/
abbrev headG (hp : Fin 4) (hh : Fin 2) : Fin 8 := ⟨2 * hp.val + hh.val, by omega⟩

include hq in
theorem Q_at (d : Fin 64) : Qf x0 r hp (qcolF j cc) (hl hh d) = qA V (ix3 b (tok (rowG g r) (qcolF j cc)) (lane (headG hp hh) d)) := by
  unfold Qf
  rw [hq]
  congr 1
  congr 1
  · exact Fin.ext (by simp only; omega)
  · exact Fin.ext (by simp only; omega)

theorem K_gen (X : Cert.KernelIdeal.S1x1024x512.Idx → EReal) (A : Cert.ReferenceIdeal.S2x8192x512.Idx → EReal)
    (h : ∀ (i : Fin 1024) l, X (ix3 0 i l) = A (ix3 b (kvRow g i) l))
    (k : Fin 256) (d : Fin 64) : Kf X g r hp (place j k) (hl hh d) = A (ix3 b (tok (krowF (rowG g r) (kw k)) (kcolF j (kv k))) (lane (headG hp hh) d)) := by
  unfold Kf
  rw [h]
  congr 1
  congr 1
  · refine Fin.ext ?_
    show min (512 * g.val - 256) 7168 + (64 * min 120 (8 * g.val + r.val - 4) - min (512 * g.val - 256) 7168 + (64 * (k.val / 32) + (min 32 (16 * j.val - 8) + k.val % 32)))
      = (min 120 (8 * g.val + r.val - 4) + k.val / 32) * 64 + (min 32 (16 * j.val - 8) + k.val % 32)
    omega
  · exact Fin.ext (by simp only; omega)

include hb in
theorem B_at (y : Fin 64) (w : Fin 512) : Bf x3 g r hp (hl hh y) w
    = if hn : near y.val (w.val % 64) then rpbA V (ix4 0 (headG hp hh) (⟨sh g.val r.val + w.val / 64, by have := sh_le g.isLt r.isLt; omega⟩ : Fin 15)
        (⟨w.val % 64 + 15 - y.val, by obtain ⟨h1, h2⟩ := hn; omega⟩ : Fin 31)) else ⊥ := by
  rw [← table_at (rpbA V) (sh g.val r.val) (sh_le g.isLt r.isLt) hp hh y w]
  unfold Bf
  rw [hb]
  congr 1
  congr 1
  exact Fin.ext (by simp only; omega)

/-- The kernel's scores of one query. -/
abbrev sK (y : Fin 64) : Fin 512 → EReal := sc (Qf x0 r hp) (Kf x1 g r hp) (Bf x3 g r hp) hh y

include hb in
theorem far (y : Fin 64) (w : Fin 512) (hn : ¬ near y.val (w.val % 64)) : sK x0 x1 x3 g r hp hh y w = ⊥ := by
  show (_ : EReal) + Bf x3 g r hp (hl hh y) w * _ = ⊥
  rw [B_at V x3 g hb, dif_neg hn, EReal.bot_mul_coe_of_pos (inv_pos.mpr (Real.log_pos (by norm_num))), EReal.add_bot]

theorem near_iff (k : Fin 256) : inWin j cc (kv k) = true ↔ near (qcolF j cc).val ((place j k).val % 64) := by
  unfold inWin
  rw [decide_eq_true_iff]
  show (min 48 (16 * j.val + cc.val - 8) ≤ min 32 (16 * j.val - 8) + k.val % 32 ∧ min 32 (16 * j.val - 8) + k.val % 32 < min 48 (16 * j.val + cc.val - 8) + 16)
    ↔ (min 48 (j.val * 16 + cc.val - 8) ≤ (64 * (k.val / 32) + (min 32 (16 * j.val - 8) + k.val % 32)) % 64 ∧ (64 * (k.val / 32) + (min 32 (16 * j.val - 8) + k.val % 32)) % 64 < min 48 (j.val * 16 + cc.val - 8) + 16)
  omega

include hq hk hb fq fk fb in
theorem scores (k : Fin 256) (hn : inWin j cc (kv k) = true) : ∃ x : ℝ, sR V b (rowG g r) (headG hp hh) j cc k = x
    ∧ sK x0 x1 x3 g r hp hh (qcolF j cc) (place j k) = ((x * (Real.log 2)⁻¹ : ℝ) : EReal) := by
  choose q' hq' using fq
  choose k' hk' using fk
  choose b' hb' using fb
  have hne := (near_iff j cc k).mp hn
  have e : Bf x3 g r hp (hl hh (qcolF j cc)) (place j k) = rpbA V (ix4 0 (headG hp hh) (browF (rowG g r) (kw k)) (bcolF j cc (kv k))) := by
    rw [B_at V x3 g hb, dif_pos hne]
    congr 1
    obtain ⟨h1, h2⟩ := hne
    have h1' : min 48 (j.val * 16 + cc.val - 8) ≤ (64 * (k.val / 32) + (min 32 (16 * j.val - 8) + k.val % 32)) % 64 := h1
    have h2' : (64 * (k.val / 32) + (min 32 (16 * j.val - 8) + k.val % 32)) % 64 < min 48 (j.val * 16 + cc.val - 8) + 16 := h2
    congr 1
    · refine Fin.ext ?_
      show min 120 (8 * g.val + r.val - 4) + 7 - (8 * g.val + r.val) + (64 * (k.val / 32) + (min 32 (16 * j.val - 8) + k.val % 32)) / 64
        = min 120 (8 * g.val + r.val - 4) + k.val / 32 + 7 - (8 * g.val + r.val)
      omega
    · refine Fin.ext ?_
      show (64 * (k.val / 32) + (min 32 (16 * j.val - 8) + k.val % 32)) % 64 + 15 - (j.val * 16 + cc.val) = min 30 (min 32 (16 * j.val - 8) + k.val % 32 + 15 - (16 * j.val + cc.val))
      omega
  refine ⟨(∑ d : Fin 64, q' (ix3 b (tok (rowG g r) (qcolF j cc)) (lane (headG hp hh) d)) * k' (ix3 b (tok (krowF (rowG g r) (kw k)) (kcolF j (kv k))) (lane (headG hp hh) d))) * (1 / 8)
    + b' (ix4 0 (headG hp hh) (browF (rowG g r) (kw k)) (bcolF j cc (kv k))), ?_, ?_⟩
  · unfold sR
    rw [if_pos hn]
    simp only [hq', hk', hb']
    exact score_plain _ _ _
  · show (∑ d : Fin 64, Qf x0 r hp (qcolF j cc) (hl hh d) * Kf x1 g r hp (place j k) (hl hh d)) * _ + Bf x3 g r hp (hl hh (qcolF j cc)) (place j k) * _ = _
    rw [e]
    simp only [Q_at V x0 b g hq r hp hh j cc, K_gen b g r hp hh j x1 (kA V) hk k, hq', hk', hb']
    exact score_kern _ _ _

include hq hk hv hb fq fk fb in
/-- The attention of one query, head and lane. -/
theorem attn_tie (d : Fin 64) : attnT x0 x1 x2 x3 g r hp hh (qcolF j cc) d = attnR V b (rowG g r) (headG hp hh) j cc d := by
  refine (attn_core (place j) (place_inj j) (sK x0 x1 x3 g r hp hh (qcolF j cc)) (sR V b (rowG g r) (headG hp hh) j cc) (fun w => Kf x2 g r hp w (hl hh d)) ?_ ?_ ?_).trans ?_
  · intro w hw
    refine far V x0 x1 x3 g hb r hp hh _ w fun hn => hw ?_
    obtain ⟨h1, h2⟩ := hn
    have h1' : min 48 (j.val * 16 + cc.val - 8) ≤ w.val % 64 := h1
    have h2' : w.val % 64 < min 48 (j.val * 16 + cc.val - 8) + 16 := h2
    refine ⟨(⟨32 * (w.val / 64) + (w.val % 64 - min 32 (16 * j.val - 8)), by omega⟩ : Fin 256), Fin.ext ?_⟩
    show 64 * ((32 * (w.val / 64) + (w.val % 64 - min 32 (16 * j.val - 8))) / 32) + (min 32 (16 * j.val - 8) + (32 * (w.val / 64) + (w.val % 64 - min 32 (16 * j.val - 8))) % 32) = w.val
    omega
  · intro k
    by_cases hn : inWin j cc (kv k) = true
    · obtain ⟨x, h1, h2⟩ := scores V x0 x1 x3 b g hq hk hb fq fk fb r hp hh j cc k hn
      exact Or.inr ⟨x, h1, h2⟩
    · refine Or.inl ⟨?_, far V x0 x1 x3 g hb r hp hh _ _ fun h => hn ((near_iff j cc k).mpr h)⟩
      unfold sR
      rw [if_neg hn]
  · have hn : inWin j cc (kv (⟨min 48 (16 * j.val + cc.val - 8) - min 32 (16 * j.val - 8), by omega⟩ : Fin 256)) = true := by
      unfold inWin
      rw [decide_eq_true_iff]
      show min 48 (16 * j.val + cc.val - 8) ≤ min 32 (16 * j.val - 8) + (min 48 (16 * j.val + cc.val - 8) - min 32 (16 * j.val - 8)) % 32 ∧ min 32 (16 * j.val - 8) + (min 48 (16 * j.val + cc.val - 8) - min 32 (16 * j.val - 8)) % 32 < min 48 (16 * j.val + cc.val - 8) + 16
      omega
    obtain ⟨x, h1, -⟩ := scores V x0 x1 x3 b g hq hk hb fq fk fb r hp hh j cc _ hn
    exact ⟨_, by rw [h1]; exact EReal.coe_ne_bot x⟩
  · unfold attnR
    exact Finset.sum_congr rfl fun k _ => by rw [K_gen b g r hp hh j x2 (vA V) hv k]

include hq hk hv hb fq fk fb in
/-- The attention of a tile, read at a row and a lane. -/
theorem tile_tie (i l : Fin 512) : attnArr x0 x1 x2 x3 g (ix2 i l) = attnTerm V (ix3 b (qRow g i) l) := by
  have e := attn_at V b (rowG g (⟨i.val / 64, by omega⟩ : Fin 8)) (headG (⟨l.val / 128, by omega⟩ : Fin 4) (⟨l.val % 128 / 64, by omega⟩ : Fin 2))
    (⟨i.val % 64 / 16, by omega⟩ : Fin 4) (⟨i.val % 16, by omega⟩ : Fin 16) (⟨l.val % 64, by omega⟩ : Fin 64)
  rw [show (tok (rowG g (⟨i.val / 64, by omega⟩ : Fin 8)) (qcolF (⟨i.val % 64 / 16, by omega⟩ : Fin 4) (⟨i.val % 16, by omega⟩ : Fin 16))) = qRow g i from Fin.ext (by simp only; omega),
    show lane (headG (⟨l.val / 128, by omega⟩ : Fin 4) (⟨l.val % 128 / 64, by omega⟩ : Fin 2)) (⟨l.val % 64, by omega⟩ : Fin 64) = l from Fin.ext (by simp only; omega)] at e
  rw [e, ← attn_tie V x0 x1 x2 x3 b g hq hk hv hb fq fk fb]
  unfold attnArr
  congr 1
  exact Fin.ext (by show i.val % 64 = i.val % 64 / 16 * 16 + i.val % 16; omega)

end

end Cert.Layer
-- ==== Proof.PostAt.lean ====
/- The values of a tile's operations at an index. -/
module

public import proofs.«01_k».proof.Proof.Post

@[expose] public section

set_option maxRecDepth 16384

noncomputable section

namespace Cert.Layer.Kern

open Cert.KernelIdeal Cert.KernelIdeal.Gen Idealize.ShloMosaic Idealize.ShloMosaic.TcCoe Idealize.ShloMosaic.Pointwise Idealize.SL.Sem

theorem halo_at (c : BitVec 1) (row : FVec Ideal S1x1x512 .bf16) (i l : Fin 512) :
    haloU c row (ix2 i l) = if c = 1 then row (ix3 0 0 l) else 0 := by
  unfold haloU
  by_cases h : c = 1
  · rw [if_pos h, show (Scalar.select c (extf (F := Ideal) .f32 (shapeCast S1x512 row k0_part2._proof_3) k0_part1._proof_9) (broadcast S1x512 (FloatOps.ofBits .f32 0x00000000#32))) = _ from if_pos h]
    pointwise
  · rw [if_neg h, show (Scalar.select c (extf (F := Ideal) .f32 (shapeCast S1x512 row k0_part2._proof_3) k0_part1._proof_9) (broadcast S1x512 (FloatOps.ofBits .f32 0x00000000#32))) = _ from if_neg h]
    pointwise

theorem shiftP_at (h z : FVec Ideal S512x512 .f32) (i l : Fin 512) :
    shiftP h z (ix2 i l) = if hi : i.val = 0 then h (ix2 i l) else z (ix2 ⟨i.val - 1, by omega⟩ l) := by
  have hw : ∀ i : Fin 512, IntOp.cmpi .eq (BitVec.ofNat 32 i.val) 0#32 = if i.val = 0 then 1#1 else 0#1 := by decide +kernel
  have hc : cmpi .eq rowsU (broadcast S512x512 0#32) (ix2 i l) = if i.val = 0 then 1#1 else 0#1 := by
    refine Eq.trans ?_ (hw i)
    pointwise
  show Scalar.select (cmpi .eq rowsU (broadcast S512x512 0#32) (ix2 i l)) (h (ix2 i l)) (dynamicRotate 0 1#32 none z k0_part2._proof_7 (ix2 i l)) = _
  rw [hc]
  by_cases hi : i.val = 0
  · rw [if_pos hi, dif_pos hi]; rfl
  · rw [if_neg hi, dif_neg hi]
    refine (if_neg (by decide)).trans (dynamicRotate_apply (0 : Fin 2) 1#32 z _ _ _ fun b => ?_)
    match b with
    | ⟨0, _⟩ => show i.val - 1 = (i.val + 512 - 1 % 512) % 512; omega
    | ⟨1, _⟩ => rfl

theorem shiftN_at (h z : FVec Ideal S512x512 .f32) (i l : Fin 512) :
    shiftN h z (ix2 i l) = if hi : i.val = 511 then h (ix2 i l) else z (ix2 ⟨i.val + 1, by omega⟩ l) := by
  have hw : ∀ i : Fin 512, IntOp.cmpi .eq (BitVec.ofNat 32 i.val) 511#32 = if i.val = 511 then 1#1 else 0#1 := by decide +kernel
  have hc : cmpi .eq rowsU (broadcast S512x512 511#32) (ix2 i l) = if i.val = 511 then 1#1 else 0#1 := by
    refine Eq.trans ?_ (hw i)
    pointwise
  show Scalar.select (cmpi .eq rowsU (broadcast S512x512 511#32) (ix2 i l)) (h (ix2 i l)) (dynamicRotate 0 511#32 none z k0_part2._proof_7 (ix2 i l)) = _
  rw [hc]
  by_cases hi : i.val = 511
  · rw [if_pos hi, dif_pos hi]; rfl
  · rw [if_neg hi, dif_neg hi]
    refine (if_neg (by decide)).trans (dynamicRotate_apply (0 : Fin 2) 511#32 z _ _ _ fun b => ?_)
    match b with
    | ⟨0, _⟩ => show i.val + 1 = (i.val + 512 - 511 % 512) % 512; omega
    | ⟨1, _⟩ => rfl

theorem conv_gen (Z ZP ZN : FVec Ideal S512x512 .f32) (bg : FVec Ideal S1x512x512 .bf16) (cw : FVec Ideal S3x512 .f32) (i l : Fin 512) :
    (mulf (extf .f32 (shapeCast S512x512 bg k0_part1._proof_8) k0_part1._proof_9)
      (addf (addf
        (mulf ZP (broadcastTo S512x512 (extractStridedSlice S1x512 ![0, 0] (shapeCast S3x512 cw k0_part2._proof_12) k0_part2._proof_13) k0_part2._proof_9))
        (mulf Z (broadcastTo S512x512 (extractStridedSlice S1x512 ![1, 0] (shapeCast S3x512 cw k0_part2._proof_12) k0_part2._proof_14) k0_part2._proof_9)))
        (mulf ZN (broadcastTo S512x512 (extractStridedSlice S1x512 ![2, 0] (shapeCast S3x512 cw k0_part2._proof_12) k0_part2._proof_15) k0_part2._proof_9)))) (ix2 i l)
      = convR (bg (ix3 0 i l)) (ZP (ix2 i l)) (Z (ix2 i l)) (ZN (ix2 i l)) (cw (ix2 0 l)) (cw (ix2 1 l)) (cw (ix2 2 l)) := by
  pointwise
  rfl

theorem ext_at (z : FVec Ideal S1x512x512 .bf16) (i l : Fin 512) :
    (extf (F := Ideal) .f32 (shapeCast S512x512 z k0_part1._proof_8) k0_part1._proof_9) (ix2 i l) = z (ix3 0 i l) := by
  pointwise

theorem gates_at (gl : FVec Ideal S1x512x2048 .bf16) (bgate : FVec Ideal S1x2048 .f32) (i : Fin 512) (e : Fin 2048) :
    gatesU gl bgate (ix2 i e) = sigm (gl (ix3 0 i e) + bgate (ix2 0 e)) := by
  unfold gatesU
  pointwise
  rw [ofBits_half16]
  exact sigm_tanh _

theorem x1_at (x : FVec Ideal S1x512x1024 .f32) (a : FVec Ideal S512x512 .bf16) (c : FVec Ideal S512x512 .f32) (g : FVec Ideal S512x2048 .bf16)
    (wa wc : FVec Ideal S512x1024 .bf16) (wo : FVec Ideal S1024x1024 .bf16) (i : Fin 512) (e : Fin 1024) :
    x1U x a c g wa wc wo (ix2 i e)
      = x1R (fun e => x (ix3 0 i e)) (fun l => a (ix2 i l)) (fun l => c (ix2 i l)) (fun d => g (ix2 i ⟨d.val, by omega⟩))
          (fun d => g (ix2 i ⟨1024 + d.val, by omega⟩)) (fun l d => wa (ix2 l d)) (fun l d => wc (ix2 l d)) (fun d e => wo (ix2 d e)) e := by
  unfold x1U x1R
  pointwise

theorem rstd_at (x : FVec Ideal S512x1024 .f32) (i : Fin 512) : rstdU x (ix2 i 0) = rstd fun d => x (ix2 i d) := by
  unfold rstdU rstd
  pointwise

theorem gain_at (x : FVec Ideal S512x1024 .f32) (g : FVec Ideal S1x1024 .f32) (i : Fin 512) (d : Fin 1024) :
    gainU x g (ix2 i d) = x (ix2 i d) * g (ix2 0 d) := by
  unfold gainU
  pointwise

/-- One chunk of 512 hidden units at an index. -/
theorem chunk_at (xg : FVec Ideal S512x1024 .bf16) (r : FVec Ideal S512x1 .f32) (wg wu : FVec Ideal S1024x512 .bf16) (wd : FVec Ideal S512x1024 .bf16)
    (i : Fin 512) (e : Fin 1024) :
    chunkU xg r wg wu wd (ix2 i e)
      = ∑ f : Fin 512, ((∑ d : Fin 1024, xg (ix2 i d) * wg (ix2 d f)) * r (ix2 i 0)) * sigm ((∑ d : Fin 1024, xg (ix2 i d) * wg (ix2 d f)) * r (ix2 i 0))
          * ((∑ d : Fin 1024, xg (ix2 i d) * wu (ix2 d f)) * r (ix2 i 0)) * wd (ix2 f e) := by
  unfold chunkU
  pointwise
  simp only [ofBits_half, sigm_tanh]

/-- The last chunk, of 256 hidden units. -/
def chunkV (xg : FVec Ideal S512x1024 .bf16) (r : FVec Ideal S512x1 .f32) (wg wu : FVec Ideal S1024x256 .bf16) (wd : FVec Ideal S256x1024 .bf16) :
    FVec Ideal S512x1024 .f32 :=
  matmul dot_S512x256_S256x1024_S512x1024_1_0_0_1_n_n none
    (truncf .bf16 (mulf (mulf
      (mulf (matmul dot_S512x1024_S1024x256_S512x256_1_0_0_1_n_n none xg (shapeCast S1024x256 wg shapeCasts_S1024x256_S1024x256) (constant S512x256 .f32 0x00000000#32)) (broadcastTo S512x256 r broadcasts_S512x1_S512x256))
      (addf (mulf (broadcast S512x256 (FloatOps.ofBits .f32 0x3F000000#32)) (tanh (mulf (broadcast S512x256 (FloatOps.ofBits .f32 0x3F000000#32))
        (mulf (matmul dot_S512x1024_S1024x256_S512x256_1_0_0_1_n_n none xg (shapeCast S1024x256 wg shapeCasts_S1024x256_S1024x256) (constant S512x256 .f32 0x00000000#32)) (broadcastTo S512x256 r broadcasts_S512x1_S512x256)))))
        (broadcast S512x256 (FloatOps.ofBits .f32 0x3F000000#32))))
      (mulf (matmul dot_S512x1024_S1024x256_S512x256_1_0_0_1_n_n none xg (shapeCast S1024x256 wu shapeCasts_S1024x256_S1024x256) (constant S512x256 .f32 0x00000000#32)) (broadcastTo S512x256 r broadcasts_S512x1_S512x256)))
      k0_part1._proof_9)
    (shapeCast S256x1024 wd shapeCasts_S256x1024_S256x1024) (constant S512x1024 .f32 0x00000000#32)

theorem chunkV_at (xg : FVec Ideal S512x1024 .bf16) (r : FVec Ideal S512x1 .f32) (wg wu : FVec Ideal S1024x256 .bf16) (wd : FVec Ideal S256x1024 .bf16)
    (i : Fin 512) (e : Fin 1024) :
    chunkV xg r wg wu wd (ix2 i e)
      = ∑ f : Fin 256, ((∑ d : Fin 1024, xg (ix2 i d) * wg (ix2 d f)) * r (ix2 i 0)) * sigm ((∑ d : Fin 1024, xg (ix2 i d) * wg (ix2 d f)) * r (ix2 i 0))
          * ((∑ d : Fin 1024, xg (ix2 i d) * wu (ix2 d f)) * r (ix2 i 0)) * wd (ix2 f e) := by
  unfold chunkV
  pointwise
  simp only [ofBits_half, sigm_tanh]

theorem pay275_eq (xg : FVec Ideal S512x1024 .bf16) (r : FVec Ideal S512x1 .f32) (acc : FVec Ideal S512x1024 .f32) (wg wu : FVec Ideal S1024x512 .bf16)
    (wd : FVec Ideal S512x1024 .bf16) : k0_pay275 xg r acc wg wu wd = addf acc (chunkU xg r wg wu wd) := rfl

/-- The final norm of a tile. -/
def normU (x : FVec Ideal S512x1024 .f32) (g : FVec Ideal S1x1024 .f32) : FVec Ideal S512x1024 .f32 :=
  mulf (mulf x (broadcastTo S512x1024 (rstdU x) broadcasts_S512x1_S512x1024))
    (broadcastTo S512x1024 (shapeCast S1x1024 g shapeCasts_S1x1024_S1x1024) broadcasts_S1x1024_S512x1024)

theorem pay276_eq (xg : FVec Ideal S512x1024 .bf16) (r : FVec Ideal S512x1 .f32) (acc : FVec Ideal S512x1024 .f32) (wg wu : FVec Ideal S1024x256 .bf16)
    (wd : FVec Ideal S256x1024 .bf16) (g : FVec Ideal S1x1024 .f32) :
    k0_pay276 xg r acc wg wu wd g = normU (addf acc (chunkV xg r wg wu wd)) g := rfl

theorem norm_at (x : FVec Ideal S512x1024 .f32) (g : FVec Ideal S1x1024 .f32) (i : Fin 512) (e : Fin 1024) :
    k0_pay1 (normU x g) (ix3 0 i e) = outR (fun e => x (ix2 i e)) (fun e => g (ix2 0 e)) e := by
  have h : k0_pay1 (normU x g) (ix3 0 i e) = x (ix2 i e) * rstdU x (ix2 i 0) * g (ix2 0 e) := by
    unfold k0_pay1 normU
    generalize rstdU x = R
    pointwise
  rw [h, rstd_at]
  rfl

section
variable (x1 : FVec Ideal S512x1024 .f32) (g2 : FVec Ideal S1x1024 .f32) (W : Fin 1024 → Fin 5632 → EReal) (D : Fin 2816 → Fin 1024 → EReal)

theorem hid_at (i : Fin 512) (f : Fin 5632) (w : Fin 1024 → EReal) (hw : ∀ d, w d = W d f) :
    (∑ d : Fin 1024, gainU x1 g2 (ix2 i d) * w d) * rstdU x1 (ix2 i 0) = hidR (fun d => x1 (ix2 i d)) (fun d => g2 (ix2 0 d)) W f := by
  rw [rstd_at, ← hidR_eq]
  refine congrArg (· * _) (Finset.sum_congr rfl fun d _ => ?_)
  rw [gain_at, hw]

theorem chunk_sum (o : Nat) (ho : o + 512 ≤ 2816) (wg wu : FVec Ideal S1024x512 .bf16) (wd : FVec Ideal S512x1024 .bf16)
    (hg : ∀ d (f : Fin 512), wg (ix2 d f) = W d ⟨o + f.val, by omega⟩) (hu : ∀ d (f : Fin 512), wu (ix2 d f) = W d ⟨2816 + (o + f.val), by omega⟩)
    (hd : ∀ (f : Fin 512) e, wd (ix2 f e) = D ⟨o + f.val, by omega⟩ e) (i : Fin 512) (e : Fin 1024) :
    chunkU (gainU x1 g2) (rstdU x1) wg wu wd (ix2 i e)
      = ∑ f : Fin 512, actR (fun d => x1 (ix2 i d)) (fun d => g2 (ix2 0 d)) W ⟨o + f.val, by omega⟩ * D ⟨o + f.val, by omega⟩ e := by
  rw [chunk_at]
  refine Finset.sum_congr rfl fun f _ => ?_
  rw [hid_at x1 g2 W i ⟨o + f.val, by omega⟩ _ (fun d => hg d f), hid_at x1 g2 W i ⟨2816 + (o + f.val), by omega⟩ _ (fun d => hu d f), hd]
  rfl

theorem chunkV_sum (o : Nat) (ho : o + 256 ≤ 2816) (wg wu : FVec Ideal S1024x256 .bf16) (wd : FVec Ideal S256x1024 .bf16)
    (hg : ∀ d (f : Fin 256), wg (ix2 d f) = W d ⟨o + f.val, by omega⟩) (hu : ∀ d (f : Fin 256), wu (ix2 d f) = W d ⟨2816 + (o + f.val), by omega⟩)
    (hd : ∀ (f : Fin 256) e, wd (ix2 f e) = D ⟨o + f.val, by omega⟩ e) (i : Fin 512) (e : Fin 1024) :
    chunkV (gainU x1 g2) (rstdU x1) wg wu wd (ix2 i e)
      = ∑ f : Fin 256, actR (fun d => x1 (ix2 i d)) (fun d => g2 (ix2 0 d)) W ⟨o + f.val, by omega⟩ * D ⟨o + f.val, by omega⟩ e := by
  rw [chunkV_at]
  refine Finset.sum_congr rfl fun f _ => ?_
  rw [hid_at x1 g2 W i ⟨o + f.val, by omega⟩ _ (fun d => hg d f), hid_at x1 g2 W i ⟨2816 + (o + f.val), by omega⟩ _ (fun d => hu d f), hd]
  rfl

end

/-- A load of a matrix's block at an index. -/
theorem ld2_at {A B n m : Nat} (w : FVec Ideal ⟨2, ![A, B]⟩ .bf16) (o p : Nat) (inb : ∀ a, (![o, p] : Fin 2 → Nat) a + (![n, m] : Fin 2 → Nat) a ≤ (![A, B] : Fin 2 → Nat) a)
    (i : Fin n) (j : Fin m) (a : Fin A) (b : Fin B) (ha : a.val = o + i.val) (hb : b.val = p + j.val) :
    View.ld (Val := Elt Ideal) (e' := .bf16) w (Rect.unit (s := ⟨2, ![A, B]⟩) ![o, p] ![n, m] inb) (ix2 i j) = w (ix2 a b) :=
  View.ld_unit_apply_of _ _ _ _ _ _ (by intro x; match x with | ⟨0, _⟩ => exact ha | ⟨1, _⟩ => exact hb)

/-- A tile's result at an index. -/
theorem post_at (x1 : FVec Ideal S512x1024 .f32) (g2 : FVec Ideal S1x1024 .f32) (wgu : FVec Ideal S1024x5632 .bf16) (wd : FVec Ideal S2816x1024 .bf16)
    (g3 : FVec Ideal S1x1024 .f32) (i : Fin 512) (e : Fin 1024) :
    postU x1 g2 wgu wd g3 (ix3 0 i e)
      = outR (x2R (fun d => x1 (ix2 i d)) (fun d => g2 (ix2 0 d)) (fun d f => wgu (ix2 d f)) (fun f e => wd (ix2 f e))) (fun e => g3 (ix2 0 e)) e := by
  unfold postU
  rw [pay276_eq, norm_at]
  refine congrArg (outR · _ e) (funext fun e => ?_)
  rw [pay275_eq]
  show ((((_ + _) + _) + _) + _) + _ + _ = _
  unfold x2R
  rw [sum_chunks,
    chunk_sum x1 g2 (fun d f => wgu (ix2 d f)) (fun f e => wd (ix2 f e)) 0 (by omega),
    chunk_sum x1 g2 (fun d f => wgu (ix2 d f)) (fun f e => wd (ix2 f e)) 512 (by omega),
    chunk_sum x1 g2 (fun d f => wgu (ix2 d f)) (fun f e => wd (ix2 f e)) 1024 (by omega),
    chunk_sum x1 g2 (fun d f => wgu (ix2 d f)) (fun f e => wd (ix2 f e)) 1536 (by omega),
    chunk_sum x1 g2 (fun d f => wgu (ix2 d f)) (fun f e => wd (ix2 f e)) 2048 (by omega),
    chunkV_sum x1 g2 (fun d f => wgu (ix2 d f)) (fun f e => wd (ix2 f e)) 2560 (by omega)]
  · simp only [Nat.zero_add, add_assoc]
  all_goals (intro a b; exact ld2_at _ _ _ _ _ _ _ _ (by simp; try omega) (by simp; try omega))

end Cert.Layer.Kern
-- ==== Proof.RefPost.lean ====
/- The reference's result at a token, from its attention at the token. -/
module

public import proofs.«01_k».proof.Proof.RefSoft
public import proofs.«01_k».proof.Proof.RowMath

@[expose] public section

set_option maxRecDepth 16384

noncomputable section

namespace Cert.Layer.Ref

open Cert.ReferenceIdeal Cert.ReferenceIdeal.Gen Cert.ReferenceIdeal.Value Idealize.ShloMosaic Idealize.ShloMosaic.TcCoe Idealize.ShloMosaic.Pointwise

variable (V : Valuation τ sig (Elt Ideal))

abbrev xA : S2x8192x1024.Idx → EReal := V (Proc.devRef .tc main_arg0)
abbrev zA : S2x8192x512.Idx → EReal := V (Proc.devRef .tc main_arg4)
abbrev bgA : S2x8192x512.Idx → EReal := V (Proc.devRef .tc main_arg5)
abbrev glA : S2x8192x2048.Idx → EReal := V (Proc.devRef .tc main_arg6)
abbrev bgateA : S1x2048.Idx → EReal := V (Proc.devRef .tc main_arg7)
abbrev cwA : S1x3x512.Idx → EReal := V (Proc.devRef .tc main_arg9)
abbrev waA : S1x512x1024.Idx → EReal := V (Proc.devRef .tc main_arg10)
abbrev wcA : S1x512x1024.Idx → EReal := V (Proc.devRef .tc main_arg11)
abbrev woA : S1x1024x1024.Idx → EReal := V (Proc.devRef .tc main_arg12)
abbrev g2A : S1x1024.Idx → EReal := V (Proc.devRef .tc main_arg13)
abbrev wguA : S1x1024x5632.Idx → EReal := V (Proc.devRef .tc main_arg14)
abbrev wdA : S1x2816x1024.Idx → EReal := V (Proc.devRef .tc main_arg15)
abbrev g3A : S1024.Idx → EReal := V (Proc.devRef .tc main_arg16)

/-- The token before, zeros before the first. -/
def zmR (b : Fin 2) (t : Fin 8192) (l : Fin 512) : EReal := if h : t.val = 0 then 0 else zA V (ix3 b ⟨t.val - 1, by omega⟩ l)

/-- The token after, zeros after the last. -/
def zpR (b : Fin 2) (t : Fin 8192) (l : Fin 512) : EReal := if h : t.val = 8191 then 0 else zA V (ix3 b ⟨t.val + 1, by omega⟩ l)

/-- The short convolution at a token. -/
def cR (b : Fin 2) (t : Fin 8192) (l : Fin 512) : EReal :=
  convR (bgA V (ix3 b t l)) (zmR V b t l) (zA V (ix3 b t l)) (zpR V b t l) (cwA V (ix3 0 0 l)) (cwA V (ix3 0 1 l)) (cwA V (ix3 0 2 l))

/-- The residual stream after the two branches, from a token's attention. -/
def x1A (a : Fin 512 → EReal) (b : Fin 2) (t : Fin 8192) : Fin 1024 → EReal :=
  x1R (fun e => xA V (ix3 b t e)) a (cR V b t)
    (fun d => sigm (glA V (ix3 b t ⟨d.val, by omega⟩) + bgateA V (ix2 0 ⟨d.val, by omega⟩)))
    (fun d => sigm (glA V (ix3 b t ⟨1024 + d.val, by omega⟩) + bgateA V (ix2 0 ⟨1024 + d.val, by omega⟩)))
    (fun l d => waA V (ix3 0 l d)) (fun l d => wcA V (ix3 0 l d)) (fun d e => woA V (ix3 0 d e))

/-- The layer's result at a token, from the token's attention. -/
def layerR (a : Fin 512 → EReal) (b : Fin 2) (t : Fin 8192) (e : Fin 1024) : EReal :=
  outR (x2R (x1A V a b t) (fun d => g2A V (ix2 0 d)) (fun d f => wguA V (ix3 0 d f)) (fun f e => wdA V (ix3 0 f e))) (fun e => g3A V (ix1 e)) e

theorem pad_at (b : Fin 2) (s : Fin 8194) (l : Fin 512) :
    (res_main_v133 V : S2x8194x512.Idx → EReal) (ix3 b s l) = if h : 1 ≤ s.val ∧ s.val ≤ 8192 then zA V (ix3 b ⟨s.val - 1, by omega⟩ l) else 0 := by
  unfold res_main_v133
  pointwise
  have hb : b.val < 2 := b.isLt
  have hl : l.val < 512 := l.isLt
  by_cases h : 1 ≤ s.val ∧ s.val ≤ 8192
  · rw [dif_pos h, dif_pos]
    intro a
    match a with
    | ⟨0, _⟩ => exact ⟨Nat.zero_le _, Nat.mod_one _, show (b.val - 0) / 1 < 2 by omega⟩
    | ⟨1, _⟩ => exact ⟨h.1, Nat.mod_one _, show (s.val - 1) / 1 < 8192 by omega⟩
    | ⟨2, _⟩ => exact ⟨Nat.zero_le _, Nat.mod_one _, show (l.val - 0) / 1 < 512 by omega⟩
  · rw [dif_neg h, dif_neg]
    · show ((((0#32 : BitVec 32).toInt : ℝ)) : EReal) = 0
      simp
    · intro ha
      have h1 := ha 1
      exact h ⟨h1.1, by have h2 : (s.val - 1) / 1 < 8192 := h1.2.2; omega⟩

theorem gates_at (b : Fin 2) (t : Fin 8192) (d : Fin 2048) :
    (res_main_v164 V : S2x8192x2048.Idx → EReal) (ix3 b t d) = sigm (glA V (ix3 b t d) + bgateA V (ix2 0 d)) := by
  unfold res_main_v164 sigm
  pointwise

theorem x1_gen (X : S2x8192x1024.Idx → EReal) (G : S2x8192x2048.Idx → EReal) (A C : S2x8192x512.Idx → EReal)
    (wa wc : S1x512x1024.Idx → EReal) (wo : S1x1024x1024.Idx → EReal) (b : Fin 2) (t : Fin 8192) (e : Fin 1024) :
    (addf (F := Ideal) (φ := .f32) X (Host.dotGeneral (F := Ideal) (φ₁ := .f32) (φ₂ := .f32) dot_S2x8192x1024_S1024x1024_S2x8192x1024_2_0_01_1_n_n none
      (addf (F := Ideal) (φ := .f32)
        (mulf (F := Ideal) (φ := .f32) (extractStridedSlice S2x8192x1024 ![0, 0, 0] G slices_S2x8192x2048_S2x8192x1024_0_0_0)
          (Host.dotGeneral (F := Ideal) (φ₁ := .f32) (φ₂ := .f32) dot_S2x8192x512_S512x1024_S2x8192x1024_2_0_01_1_n_n none A (shapeCast _ wa shapeCasts_S1x512x1024_S512x1024)))
        (mulf (F := Ideal) (φ := .f32) (extractStridedSlice S2x8192x1024 ![0, 0, 1024] G slices_S2x8192x2048_S2x8192x1024_0_0_1024)
          (Host.dotGeneral (F := Ideal) (φ₁ := .f32) (φ₂ := .f32) dot_S2x8192x512_S512x1024_S2x8192x1024_2_0_01_1_n_n none C (shapeCast _ wc shapeCasts_S1x512x1024_S512x1024))))
      (shapeCast _ wo shapeCasts_S1x1024x1024_S1024x1024)) : S2x8192x1024.Idx → EReal) (ix3 b t e)
      = x1R (fun e => X (ix3 b t e)) (fun l => A (ix3 b t l)) (fun l => C (ix3 b t l)) (fun d => G (ix3 b t ⟨d.val, by omega⟩))
          (fun d => G (ix3 b t ⟨1024 + d.val, by omega⟩)) (fun l d => wa (ix3 0 l d)) (fun l d => wc (ix3 0 l d)) (fun d e => wo (ix3 0 d e)) e := by
  unfold x1R
  pointwise

theorem conv_gen (BG : S2x8192x512.Idx → EReal) (Z : S2x8194x512.Idx → EReal) (cw : S3x512.Idx → EReal) (b : Fin 2) (t : Fin 8192) (l : Fin 512) :
    (mulf (F := Ideal) (φ := .f32) BG (addf (F := Ideal) (φ := .f32) (addf (F := Ideal) (φ := .f32)
      (mulf (F := Ideal) (φ := .f32) (extractStridedSlice S2x8192x512 ![0, 0, 0] Z slices_S2x8194x512_S2x8192x512_0_0_0) (broadcastInDim S2x8192x512 ![0, 1, 2] bcast_S1x1x512_S2x8192x512_0_1_2 (broadcastInDim S1x1x512 ![2] bcast_S512_S1x1x512_2 (shapeCast _ (extractStridedSlice S1x512 ![0, 0] cw slices_S3x512_S1x512_0_0) shapeCasts_S1x512_S512))))
      (mulf (F := Ideal) (φ := .f32) (extractStridedSlice S2x8192x512 ![0, 1, 0] Z slices_S2x8194x512_S2x8192x512_0_1_0) (broadcastInDim S2x8192x512 ![0, 1, 2] bcast_S1x1x512_S2x8192x512_0_1_2 (broadcastInDim S1x1x512 ![2] bcast_S512_S1x1x512_2 (shapeCast _ (extractStridedSlice S1x512 ![1, 0] cw slices_S3x512_S1x512_1_0) shapeCasts_S1x512_S512)))))
      (mulf (F := Ideal) (φ := .f32) (extractStridedSlice S2x8192x512 ![0, 2, 0] Z slices_S2x8194x512_S2x8192x512_0_2_0) (broadcastInDim S2x8192x512 ![0, 1, 2] bcast_S1x1x512_S2x8192x512_0_1_2 (broadcastInDim S1x1x512 ![2] bcast_S512_S1x1x512_2 (shapeCast _ (extractStridedSlice S1x512 ![2, 0] cw slices_S3x512_S1x512_2_0) shapeCasts_S1x512_S512))))) : S2x8192x512.Idx → EReal) (ix3 b t l)
      = convR (BG (ix3 b t l)) (Z (ix3 b ⟨t.val, by omega⟩ l)) (Z (ix3 b ⟨1 + t.val, by omega⟩ l)) (Z (ix3 b ⟨2 + t.val, by omega⟩ l))
          (cw (ix2 0 l)) (cw (ix2 1 l)) (cw (ix2 2 l)) := by
  unfold convR
  pointwise

theorem cw_at (k : Fin 3) (l : Fin 512) : (res_main_v132 V : S3x512.Idx → EReal) (ix2 k l) = cwA V (ix3 0 k l) := by
  unfold res_main_v132
  pointwise

theorem v176_at (b : Fin 2) (t : Fin 8192) (e : Fin 1024) :
    (res_main_v176 V : S2x8192x1024.Idx → EReal) (ix3 b t e) = x1A V (fun l => attnTerm V (ix3 b t l)) b t e := by
  unfold res_main_v176
  refine (x1_gen _ _ _ _ _ _ _ b t e).trans ?_
  unfold x1A
  congr 1
  · funext l
    refine (conv_gen _ _ _ b t l).trans ?_
    rw [cw_at, cw_at, cw_at, pad_at, pad_at, pad_at]
    unfold cR
    congr 1
    · unfold zmR
      by_cases h : t.val = 0
      · rw [dif_neg (by simp [h]), dif_pos h]
      · rw [dif_pos (by simp; omega), dif_neg h]
    · rw [dif_pos (by simp; omega)]
      exact congrArg (fun s => zA V (ix3 b s l)) (Fin.ext (by simp))
    · unfold zpR
      by_cases h : t.val = 8191
      · rw [dif_neg (by simp; omega), dif_pos h]
      · rw [dif_pos (by simp; omega), dif_neg h]
        exact congrArg (fun s => zA V (ix3 b s l)) (Fin.ext (by simp; omega))
  · funext d; exact gates_at V b t _
  · funext d; exact gates_at V b t _

theorem hid_gen (X : S2x8192x1024.Idx → EReal) (g : S1x1024.Idx → EReal) (w : S1x1024x5632.Idx → EReal) (b : Fin 2) (t : Fin 8192) (f : Fin 5632) :
    (Host.dotGeneral (F := Ideal) (φ₁ := .f32) (φ₂ := .f32) dot_S2x8192x1024_S1024x5632_S2x8192x5632_2_0_01_1_n_n none (mulf (F := Ideal) (φ := .f32) (mulf (F := Ideal) (φ := .f32) X (broadcastInDim S2x8192x1024 ![0, 1, 2] bcast_S2x8192x1_S2x8192x1024_0_1_2 (Host.rsqrt (F := Ideal) (φ := .f32) (addf (F := Ideal) (φ := .f32) (Host.divf (F := Ideal) (φ := .f32) (broadcastInDim S2x8192x1 ![0, 1] bcast_S2x8192_S2x8192x1_0_1 (Host.reduceAdd (F := Ideal) (φ := .f32) (mulf (F := Ideal) (φ := .f32) X X) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 (shapeCast _ g shapeCasts_S1x1024_S1024)))) (shapeCast _ w shapeCasts_S1x1024x5632_S1024x5632) : S2x8192x5632.Idx → EReal) (ix3 b t f)
      = hidR (fun d => X (ix3 b t d)) (fun d => g (ix2 0 d)) (fun d f => w (ix3 0 d f)) f := by
  unfold hidR rstd
  pointwise

theorem out_gen (X : S2x8192x1024.Idx → EReal) (g : S1024.Idx → EReal) (b : Fin 2) (t : Fin 8192) (e : Fin 1024) :
    (mulf (F := Ideal) (φ := .f32) (mulf (F := Ideal) (φ := .f32) X (broadcastInDim S2x8192x1024 ![0, 1, 2] bcast_S2x8192x1_S2x8192x1024_0_1_2 (Host.rsqrt (F := Ideal) (φ := .f32) (addf (F := Ideal) (φ := .f32) (Host.divf (F := Ideal) (φ := .f32) (broadcastInDim S2x8192x1 ![0, 1] bcast_S2x8192_S2x8192x1_0_1 (Host.reduceAdd (F := Ideal) (φ := .f32) (mulf (F := Ideal) (φ := .f32) X X) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 g)) : S2x8192x1024.Idx → EReal) (ix3 b t e)
      = outR (fun d => X (ix3 b t d)) (fun d => g (ix1 d)) e := by
  unfold outR rstd
  pointwise

theorem ffn_gen (X : S2x8192x1024.Idx → EReal) (H : S2x8192x5632.Idx → EReal) (N : S2x8192x2816.Idx → EReal) (wd : S1x2816x1024.Idx → EReal) (b : Fin 2) (t : Fin 8192) (e : Fin 1024) :
    (addf (F := Ideal) (φ := .f32) X (Host.dotGeneral (F := Ideal) (φ₁ := .f32) (φ₂ := .f32) dot_S2x8192x2816_S2816x1024_S2x8192x1024_2_0_01_1_n_n none (mulf (F := Ideal) (φ := .f32) (mulf (F := Ideal) (φ := .f32) N (Host.divf (F := Ideal) (φ := .f32) (broadcastInDim S2x8192x2816 ![] bcast_S_S2x8192x2816 (constant S_ .f32 0x3F800000#32)) (addf (F := Ideal) (φ := .f32) (broadcastInDim S2x8192x2816 ![] bcast_S_S2x8192x2816 (constant S_ .f32 0x3F800000#32)) (Host.exp (F := Ideal) (φ := .f32) (Host.negf (F := Ideal) (φ := .f32) N))))) (extractStridedSlice S2x8192x2816 ![0, 0, 2816] H slices_S2x8192x5632_S2x8192x2816_0_0_2816)) (shapeCast _ wd shapeCasts_S1x2816x1024_S2816x1024)) : S2x8192x1024.Idx → EReal) (ix3 b t e)
      = X (ix3 b t e) + ∑ f : Fin 2816, N (ix3 b t f) * sigm (N (ix3 b t f)) * H (ix3 b t ⟨2816 + f.val, by omega⟩) * wd (ix3 0 f e) := by
  unfold sigm
  rw [← ofBits_one]
  pointwise

theorem v193_at (b : Fin 2) (t : Fin 8192) (f : Fin 5632) :
    (res_main_v193 V : S2x8192x5632.Idx → EReal) (ix3 b t f)
      = hidR (x1A V (fun l => attnTerm V (ix3 b t l)) b t) (fun d => g2A V (ix2 0 d)) (fun d f => wguA V (ix3 0 d f)) f := by
  unfold res_main_v193
  refine (hid_gen _ _ _ b t f).trans ?_
  rw [show (fun d => (res_main_v176 V : S2x8192x1024.Idx → EReal) (ix3 b t d)) = _ from funext fun d => v176_at V b t d]

theorem v194_at (b : Fin 2) (t : Fin 8192) (f : Fin 2816) :
    (res_main_v194 V : S2x8192x2816.Idx → EReal) (ix3 b t f) = (res_main_v193 V : S2x8192x5632.Idx → EReal) (ix3 b t ⟨f.val, by omega⟩) := by
  unfold res_main_v194
  generalize (res_main_v193 V : S2x8192x5632.Idx → EReal) = H
  pointwise

theorem v199_at (b : Fin 2) (t : Fin 8192) (e : Fin 1024) :
    (res_main_v199 V : S2x8192x1024.Idx → EReal) (ix3 b t e)
      = x2R (x1A V (fun l => attnTerm V (ix3 b t l)) b t) (fun d => g2A V (ix2 0 d)) (fun d f => wguA V (ix3 0 d f)) (fun f e => wdA V (ix3 0 f e)) e := by
  unfold res_main_v199
  refine (ffn_gen _ _ _ _ b t e).trans ?_
  rw [v176_at]
  unfold x2R actR
  simp only [v194_at, v193_at]

/-- The layer's result as one array. -/
def layerArr : S2x8192x1024.Idx → EReal := fun j =>
  layerR V (fun l => attnTerm V (ix3 (j 0) (j 1) l)) (j 0) (j 1) (j 2)

/-- The array that the reference leaves. -/
theorem ref_arr :
    ((mulf (mulf (res_main_v199 V) (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf (res_main_v199 V) (res_main_v199 V)) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 (V (Proc.devRef .tc main_arg16)))) : FVec Ideal S2x8192x1024 .f32))
      = layerArr V := by
  refine funext fun j => ?_
  obtain ⟨b, t, e, rfl⟩ : ∃ (b : Fin 2) (t : Fin 8192) (e : Fin 1024), j = ix3 b t e := ⟨j 0, j 1, j 2, by funext a; match a with | ⟨0, _⟩ => rfl | ⟨1, _⟩ => rfl | ⟨2, _⟩ => rfl⟩
  refine (out_gen _ _ b t e).trans ?_
  show _ = layerR V (fun l => attnTerm V (ix3 b t l)) b t e
  unfold layerR
  rw [show (fun d => (res_main_v199 V : S2x8192x1024.Idx → EReal) (ix3 b t d)) = _ from funext fun d => v199_at V b t d]

end Cert.Layer.Ref
-- ==== Proof.SweepA.lean ====
/- The attention that a grid step leaves in its carried buffer, at the first step. -/
module

public import proofs.«01_k».proof.Proof.Sweep

@[expose] public section

set_option maxRecDepth 16384

noncomputable section

namespace Cert.Layer.Kern

open Cert.KernelIdeal Cert.KernelIdeal.Gen Idealize.ShloMosaic Idealize.ShloMosaic.TcCoe Idealize.ShloMosaic.Pointwise Idealize.SL.Sem Idealize.ShloMosaic.Tactic

variable (m : (ℓ : Loc nD τ sig) → Buf (Elt Ideal) ℓ)

set_option maxHeartbeats 8000000 in
theorem sweepA (c : Dev nD) (t : Fin cfg0.N) (h : t.val % 33 = 0) (y : S512x512.Idx) :
    (outsAt0 m c t.val t.isLt).2 y = attnArr (iblk m c 0 t) (iblk m c 1 t) (iblk m c 2 t) (iblk m c 3 t) (gF t.val) y := by
  rw [outsAt0_A m c t h]
  dsimp only
  frame_open
  simp (disch := decide) only [↓ View.readCov_skip, ↓ View.readCov_cons_toLoadRect, ↓ View.readCov_fill]
  frame_out
  refine (canon_dropLast _ _ ?_).trans ?_
  · simp only [List.dropLast_cons₂, List.dropLast_singleton]
    exact View.cover_of_tiled_head _ _ _ (by rfl) y
  simp only [List.dropLast_cons₂, List.dropLast_singleton]
  canon_tiles x e
  · exact piece _ _ _ _ (gF t.val) 7 3 _ _ _ _ _ _ _ _ _ _ _ _ _ _ rfl (off7_eq t 7) (off7_eq t 7) (off8_eq t 7 0) (off8_eq t 7 1) (off8_eq t 7 2) (off8_eq t 7 3) x y e0 e1
  · exact piece _ _ _ _ (gF t.val) 7 2 _ _ _ _ _ _ _ _ _ _ _ _ _ _ rfl (off5_eq t 7) (off5_eq t 7) (off6_eq t 7 0) (off6_eq t 7 1) (off6_eq t 7 2) (off6_eq t 7 3) x y e0 e1
  · exact piece _ _ _ _ (gF t.val) 7 1 _ _ _ _ _ _ _ _ _ _ _ _ _ _ rfl (off3_eq t 7) (off3_eq t 7) (off4_eq t 7 0) (off4_eq t 7 1) (off4_eq t 7 2) (off4_eq t 7 3) x y e0 e1
  · exact piece _ _ _ _ (gF t.val) 7 0 _ _ _ _ _ _ _ _ _ _ _ _ _ _ rfl (off1_eq t 7) (off1_eq t 7) (off2_eq t 7 0) (off2_eq t 7 1) (off2_eq t 7 2) (off2_eq t 7 3) x y e0 (e1.trans (Nat.zero_add _).symm)
  · exact piece _ _ _ _ (gF t.val) 6 3 _ _ _ _ _ _ _ _ _ _ _ _ _ _ rfl (off7_eq t 6) (off7_eq t 6) (off8_eq t 6 0) (off8_eq t 6 1) (off8_eq t 6 2) (off8_eq t 6 3) x y e0 e1
  · exact piece _ _ _ _ (gF t.val) 6 2 _ _ _ _ _ _ _ _ _ _ _ _ _ _ rfl (off5_eq t 6) (off5_eq t 6) (off6_eq t 6 0) (off6_eq t 6 1) (off6_eq t 6 2) (off6_eq t 6 3) x y e0 e1
  · exact piece _ _ _ _ (gF t.val) 6 1 _ _ _ _ _ _ _ _ _ _ _ _ _ _ rfl (off3_eq t 6) (off3_eq t 6) (off4_eq t 6 0) (off4_eq t 6 1) (off4_eq t 6 2) (off4_eq t 6 3) x y e0 e1
  · exact piece _ _ _ _ (gF t.val) 6 0 _ _ _ _ _ _ _ _ _ _ _ _ _ _ rfl (off1_eq t 6) (off1_eq t 6) (off2_eq t 6 0) (off2_eq t 6 1) (off2_eq t 6 2) (off2_eq t 6 3) x y e0 (e1.trans (Nat.zero_add _).symm)
  · exact piece _ _ _ _ (gF t.val) 5 3 _ _ _ _ _ _ _ _ _ _ _ _ _ _ rfl (off7_eq t 5) (off7_eq t 5) (off8_eq t 5 0) (off8_eq t 5 1) (off8_eq t 5 2) (off8_eq t 5 3) x y e0 e1
  · exact piece _ _ _ _ (gF t.val) 5 2 _ _ _ _ _ _ _ _ _ _ _ _ _ _ rfl (off5_eq t 5) (off5_eq t 5) (off6_eq t 5 0) (off6_eq t 5 1) (off6_eq t 5 2) (off6_eq t 5 3) x y e0 e1
  · exact piece _ _ _ _ (gF t.val) 5 1 _ _ _ _ _ _ _ _ _ _ _ _ _ _ rfl (off3_eq t 5) (off3_eq t 5) (off4_eq t 5 0) (off4_eq t 5 1) (off4_eq t 5 2) (off4_eq t 5 3) x y e0 e1
  · exact piece _ _ _ _ (gF t.val) 5 0 _ _ _ _ _ _ _ _ _ _ _ _ _ _ rfl (off1_eq t 5) (off1_eq t 5) (off2_eq t 5 0) (off2_eq t 5 1) (off2_eq t 5 2) (off2_eq t 5 3) x y e0 (e1.trans (Nat.zero_add _).symm)
  · exact piece _ _ _ _ (gF t.val) 4 3 _ _ _ _ _ _ _ _ _ _ _ _ _ _ rfl (off7_eq t 4) (off7_eq t 4) (off8_eq t 4 0) (off8_eq t 4 1) (off8_eq t 4 2) (off8_eq t 4 3) x y e0 e1
  · exact piece _ _ _ _ (gF t.val) 4 2 _ _ _ _ _ _ _ _ _ _ _ _ _ _ rfl (off5_eq t 4) (off5_eq t 4) (off6_eq t 4 0) (off6_eq t 4 1) (off6_eq t 4 2) (off6_eq t 4 3) x y e0 e1
  · exact piece _ _ _ _ (gF t.val) 4 1 _ _ _ _ _ _ _ _ _ _ _ _ _ _ rfl (off3_eq t 4) (off3_eq t 4) (off4_eq t 4 0) (off4_eq t 4 1) (off4_eq t 4 2) (off4_eq t 4 3) x y e0 e1
  · exact piece _ _ _ _ (gF t.val) 4 0 _ _ _ _ _ _ _ _ _ _ _ _ _ _ rfl (off1_eq t 4) (off1_eq t 4) (off2_eq t 4 0) (off2_eq t 4 1) (off2_eq t 4 2) (off2_eq t 4 3) x y e0 (e1.trans (Nat.zero_add _).symm)
  · exact piece _ _ _ _ (gF t.val) 3 3 _ _ _ _ _ _ _ _ _ _ _ _ _ _ rfl (off7_eq t 3) (off7_eq t 3) (off8_eq t 3 0) (off8_eq t 3 1) (off8_eq t 3 2) (off8_eq t 3 3) x y e0 e1
  · exact piece _ _ _ _ (gF t.val) 3 2 _ _ _ _ _ _ _ _ _ _ _ _ _ _ rfl (off5_eq t 3) (off5_eq t 3) (off6_eq t 3 0) (off6_eq t 3 1) (off6_eq t 3 2) (off6_eq t 3 3) x y e0 e1
  · exact piece _ _ _ _ (gF t.val) 3 1 _ _ _ _ _ _ _ _ _ _ _ _ _ _ rfl (off3_eq t 3) (off3_eq t 3) (off4_eq t 3 0) (off4_eq t 3 1) (off4_eq t 3 2) (off4_eq t 3 3) x y e0 e1
  · exact piece _ _ _ _ (gF t.val) 3 0 _ _ _ _ _ _ _ _ _ _ _ _ _ _ rfl (off1_eq t 3) (off1_eq t 3) (off2_eq t 3 0) (off2_eq t 3 1) (off2_eq t 3 2) (off2_eq t 3 3) x y e0 (e1.trans (Nat.zero_add _).symm)
  · exact piece _ _ _ _ (gF t.val) 2 3 _ _ _ _ _ _ _ _ _ _ _ _ _ _ rfl (off7_eq t 2) (off7_eq t 2) (off8_eq t 2 0) (off8_eq t 2 1) (off8_eq t 2 2) (off8_eq t 2 3) x y e0 e1
  · exact piece _ _ _ _ (gF t.val) 2 2 _ _ _ _ _ _ _ _ _ _ _ _ _ _ rfl (off5_eq t 2) (off5_eq t 2) (off6_eq t 2 0) (off6_eq t 2 1) (off6_eq t 2 2) (off6_eq t 2 3) x y e0 e1
  · exact piece _ _ _ _ (gF t.val) 2 1 _ _ _ _ _ _ _ _ _ _ _ _ _ _ rfl (off3_eq t 2) (off3_eq t 2) (off4_eq t 2 0) (off4_eq t 2 1) (off4_eq t 2 2) (off4_eq t 2 3) x y e0 e1
  · have hX := (hs0_0 t).read_unread (iblk m c 0 t)
    generalize View.read (Elt Ideal) (ms0_0 t).view ((hs0_0 t).unread (iblk m c 0 t)) = X at hX ⊢
    subst hX
    exact piece _ _ _ _ (gF t.val) 2 0 _ _ _ _ _ _ _ _ _ _ _ _ _ _ rfl (off1_eq t 2) (off1_eq t 2) (off2_eq t 2 0) (off2_eq t 2 1) (off2_eq t 2 2) (off2_eq t 2 3) x y e0 (e1.trans (Nat.zero_add _).symm)
  · exact piece _ _ _ _ (gF t.val) 1 3 _ _ _ _ _ _ _ _ _ _ _ _ _ _ rfl (off7_eq t 1) (off7_eq t 1) (off8_eq t 1 0) (off8_eq t 1 1) (off8_eq t 1 2) (off8_eq t 1 3) x y e0 e1
  · exact piece _ _ _ _ (gF t.val) 1 2 _ _ _ _ _ _ _ _ _ _ _ _ _ _ rfl (off5_eq t 1) (off5_eq t 1) (off6_eq t 1 0) (off6_eq t 1 1) (off6_eq t 1 2) (off6_eq t 1 3) x y e0 e1
  · exact piece _ _ _ _ (gF t.val) 1 1 _ _ _ _ _ _ _ _ _ _ _ _ _ _ rfl (off3_eq t 1) (off3_eq t 1) (off4_eq t 1 0) (off4_eq t 1 1) (off4_eq t 1 2) (off4_eq t 1 3) x y e0 e1
  · exact piece _ _ _ _ (gF t.val) 1 0 _ _ _ _ _ _ _ _ _ _ _ _ _ _ rfl (off1_eq t 1) (off1_eq t 1) (off2_eq t 1 0) (off2_eq t 1 1) (off2_eq t 1 2) (off2_eq t 1 3) x y e0 (e1.trans (Nat.zero_add _).symm)
  · exact piece _ _ _ _ (gF t.val) 0 3 _ _ _ _ _ _ _ _ _ _ _ _ _ _ rfl (off7_eq t 0) (off7_eq t 0) (off8_eq t 0 0) (off8_eq t 0 1) (off8_eq t 0 2) (off8_eq t 0 3) x y (e0.trans (Nat.zero_add _).symm) e1
  · have hX := (hs0_0 t).read_unread (iblk m c 0 t)
    generalize View.read (Elt Ideal) (ms0_0 t).view ((hs0_0 t).unread (iblk m c 0 t)) = X at hX ⊢
    subst hX
    exact piece _ _ _ _ (gF t.val) 0 2 _ _ _ _ _ _ _ _ _ _ _ _ _ _ rfl (off5_eq t 0) (off5_eq t 0) (off6_eq t 0 0) (off6_eq t 0 1) (off6_eq t 0 2) (off6_eq t 0 3) x y (e0.trans (Nat.zero_add _).symm) e1
  · exact piece _ _ _ _ (gF t.val) 0 1 _ _ _ _ _ _ _ _ _ _ _ _ _ _ rfl (off3_eq t 0) (off3_eq t 0) (off4_eq t 0 0) (off4_eq t 0 1) (off4_eq t 0 2) (off4_eq t 0 3) x y (e0.trans (Nat.zero_add _).symm) e1
  · exact piece _ _ _ _ (gF t.val) 0 0 _ _ _ _ _ _ _ _ _ _ _ _ _ _ rfl (off1_eq t 0) (off1_eq t 0) (off2_eq t 0 0) (off2_eq t 0 1) (off2_eq t 0 2) (off2_eq t 0 3) x y (e0.trans (Nat.zero_add _).symm) (e1.trans (Nat.zero_add _).symm)

end Cert.Layer.Kern
-- ==== Proof.SweepB.lean ====
/- The attention that a grid step leaves in its carried buffer, after the first step. -/
module

public import proofs.«01_k».proof.Proof.Sweep

@[expose] public section

set_option maxRecDepth 16384

noncomputable section

namespace Cert.Layer.Kern

open Cert.KernelIdeal Cert.KernelIdeal.Gen Idealize.ShloMosaic Idealize.ShloMosaic.TcCoe Idealize.ShloMosaic.Pointwise Idealize.SL.Sem Idealize.ShloMosaic.Tactic

variable (m : (ℓ : Loc nD τ sig) → Buf (Elt Ideal) ℓ)

set_option maxHeartbeats 8000000 in
theorem sweepB (c : Dev nD) (t : Fin cfg0.N) (h : ¬ t.val % 33 = 0) (y : S512x512.Idx) :
    (outsAt0 m c t.val t.isLt).2 y = attnArr (iblk m c 0 t) (iblk m c 1 t) (iblk m c 2 t) (iblk m c 3 t) (gF t.val) y := by
  rw [outsAt0_B m c t h]
  dsimp only
  frame_open
  simp (disch := decide) only [↓ View.readCov_skip, ↓ View.readCov_cons_toLoadRect, ↓ View.readCov_fill]
  frame_out
  canon_tiles x e
  · exact piece _ _ _ _ (gF t.val) 7 3 _ _ _ _ _ _ _ _ _ _ _ _ _ _ rfl (off7_eq t 7) (off7_eq t 7) (off8_eq t 7 0) (off8_eq t 7 1) (off8_eq t 7 2) (off8_eq t 7 3) x y e0 e1
  · exact piece _ _ _ _ (gF t.val) 7 2 _ _ _ _ _ _ _ _ _ _ _ _ _ _ rfl (off5_eq t 7) (off5_eq t 7) (off6_eq t 7 0) (off6_eq t 7 1) (off6_eq t 7 2) (off6_eq t 7 3) x y e0 e1
  · exact piece _ _ _ _ (gF t.val) 7 1 _ _ _ _ _ _ _ _ _ _ _ _ _ _ rfl (off3_eq t 7) (off3_eq t 7) (off4_eq t 7 0) (off4_eq t 7 1) (off4_eq t 7 2) (off4_eq t 7 3) x y e0 e1
  · exact piece _ _ _ _ (gF t.val) 7 0 _ _ _ _ _ _ _ _ _ _ _ _ _ _ rfl (off1_eq t 7) (off1_eq t 7) (off2_eq t 7 0) (off2_eq t 7 1) (off2_eq t 7 2) (off2_eq t 7 3) x y e0 (e1.trans (Nat.zero_add _).symm)
  · exact piece _ _ _ _ (gF t.val) 6 3 _ _ _ _ _ _ _ _ _ _ _ _ _ _ rfl (off7_eq t 6) (off7_eq t 6) (off8_eq t 6 0) (off8_eq t 6 1) (off8_eq t 6 2) (off8_eq t 6 3) x y e0 e1
  · exact piece _ _ _ _ (gF t.val) 6 2 _ _ _ _ _ _ _ _ _ _ _ _ _ _ rfl (off5_eq t 6) (off5_eq t 6) (off6_eq t 6 0) (off6_eq t 6 1) (off6_eq t 6 2) (off6_eq t 6 3) x y e0 e1
  · exact piece _ _ _ _ (gF t.val) 6 1 _ _ _ _ _ _ _ _ _ _ _ _ _ _ rfl (off3_eq t 6) (off3_eq t 6) (off4_eq t 6 0) (off4_eq t 6 1) (off4_eq t 6 2) (off4_eq t 6 3) x y e0 e1
  · exact piece _ _ _ _ (gF t.val) 6 0 _ _ _ _ _ _ _ _ _ _ _ _ _ _ rfl (off1_eq t 6) (off1_eq t 6) (off2_eq t 6 0) (off2_eq t 6 1) (off2_eq t 6 2) (off2_eq t 6 3) x y e0 (e1.trans (Nat.zero_add _).symm)
  · exact piece _ _ _ _ (gF t.val) 5 3 _ _ _ _ _ _ _ _ _ _ _ _ _ _ rfl (off7_eq t 5) (off7_eq t 5) (off8_eq t 5 0) (off8_eq t 5 1) (off8_eq t 5 2) (off8_eq t 5 3) x y e0 e1
  · exact piece _ _ _ _ (gF t.val) 5 2 _ _ _ _ _ _ _ _ _ _ _ _ _ _ rfl (off5_eq t 5) (off5_eq t 5) (off6_eq t 5 0) (off6_eq t 5 1) (off6_eq t 5 2) (off6_eq t 5 3) x y e0 e1
  · exact piece _ _ _ _ (gF t.val) 5 1 _ _ _ _ _ _ _ _ _ _ _ _ _ _ rfl (off3_eq t 5) (off3_eq t 5) (off4_eq t 5 0) (off4_eq t 5 1) (off4_eq t 5 2) (off4_eq t 5 3) x y e0 e1
  · exact piece _ _ _ _ (gF t.val) 5 0 _ _ _ _ _ _ _ _ _ _ _ _ _ _ rfl (off1_eq t 5) (off1_eq t 5) (off2_eq t 5 0) (off2_eq t 5 1) (off2_eq t 5 2) (off2_eq t 5 3) x y e0 (e1.trans (Nat.zero_add _).symm)
  · exact piece _ _ _ _ (gF t.val) 4 3 _ _ _ _ _ _ _ _ _ _ _ _ _ _ rfl (off7_eq t 4) (off7_eq t 4) (off8_eq t 4 0) (off8_eq t 4 1) (off8_eq t 4 2) (off8_eq t 4 3) x y e0 e1
  · exact piece _ _ _ _ (gF t.val) 4 2 _ _ _ _ _ _ _ _ _ _ _ _ _ _ rfl (off5_eq t 4) (off5_eq t 4) (off6_eq t 4 0) (off6_eq t 4 1) (off6_eq t 4 2) (off6_eq t 4 3) x y e0 e1
  · exact piece _ _ _ _ (gF t.val) 4 1 _ _ _ _ _ _ _ _ _ _ _ _ _ _ rfl (off3_eq t 4) (off3_eq t 4) (off4_eq t 4 0) (off4_eq t 4 1) (off4_eq t 4 2) (off4_eq t 4 3) x y e0 e1
  · exact piece _ _ _ _ (gF t.val) 4 0 _ _ _ _ _ _ _ _ _ _ _ _ _ _ rfl (off1_eq t 4) (off1_eq t 4) (off2_eq t 4 0) (off2_eq t 4 1) (off2_eq t 4 2) (off2_eq t 4 3) x y e0 (e1.trans (Nat.zero_add _).symm)
  · exact piece _ _ _ _ (gF t.val) 3 3 _ _ _ _ _ _ _ _ _ _ _ _ _ _ rfl (off7_eq t 3) (off7_eq t 3) (off8_eq t 3 0) (off8_eq t 3 1) (off8_eq t 3 2) (off8_eq t 3 3) x y e0 e1
  · exact piece _ _ _ _ (gF t.val) 3 2 _ _ _ _ _ _ _ _ _ _ _ _ _ _ rfl (off5_eq t 3) (off5_eq t 3) (off6_eq t 3 0) (off6_eq t 3 1) (off6_eq t 3 2) (off6_eq t 3 3) x y e0 e1
  · exact piece _ _ _ _ (gF t.val) 3 1 _ _ _ _ _ _ _ _ _ _ _ _ _ _ rfl (off3_eq t 3) (off3_eq t 3) (off4_eq t 3 0) (off4_eq t 3 1) (off4_eq t 3 2) (off4_eq t 3 3) x y e0 e1
  · exact piece _ _ _ _ (gF t.val) 3 0 _ _ _ _ _ _ _ _ _ _ _ _ _ _ rfl (off1_eq t 3) (off1_eq t 3) (off2_eq t 3 0) (off2_eq t 3 1) (off2_eq t 3 2) (off2_eq t 3 3) x y e0 (e1.trans (Nat.zero_add _).symm)
  · exact piece _ _ _ _ (gF t.val) 2 3 _ _ _ _ _ _ _ _ _ _ _ _ _ _ rfl (off7_eq t 2) (off7_eq t 2) (off8_eq t 2 0) (off8_eq t 2 1) (off8_eq t 2 2) (off8_eq t 2 3) x y e0 e1
  · exact piece _ _ _ _ (gF t.val) 2 2 _ _ _ _ _ _ _ _ _ _ _ _ _ _ rfl (off5_eq t 2) (off5_eq t 2) (off6_eq t 2 0) (off6_eq t 2 1) (off6_eq t 2 2) (off6_eq t 2 3) x y e0 e1
  · exact piece _ _ _ _ (gF t.val) 2 1 _ _ _ _ _ _ _ _ _ _ _ _ _ _ rfl (off3_eq t 2) (off3_eq t 2) (off4_eq t 2 0) (off4_eq t 2 1) (off4_eq t 2 2) (off4_eq t 2 3) x y e0 e1
  · have hX := (hs0_0 t).read_unread (iblk m c 0 t)
    generalize View.read (Elt Ideal) (ms0_0 t).view ((hs0_0 t).unread (iblk m c 0 t)) = X at hX ⊢
    subst hX
    exact piece _ _ _ _ (gF t.val) 2 0 _ _ _ _ _ _ _ _ _ _ _ _ _ _ rfl (off1_eq t 2) (off1_eq t 2) (off2_eq t 2 0) (off2_eq t 2 1) (off2_eq t 2 2) (off2_eq t 2 3) x y e0 (e1.trans (Nat.zero_add _).symm)
  · exact piece _ _ _ _ (gF t.val) 1 3 _ _ _ _ _ _ _ _ _ _ _ _ _ _ rfl (off7_eq t 1) (off7_eq t 1) (off8_eq t 1 0) (off8_eq t 1 1) (off8_eq t 1 2) (off8_eq t 1 3) x y e0 e1
  · exact piece _ _ _ _ (gF t.val) 1 2 _ _ _ _ _ _ _ _ _ _ _ _ _ _ rfl (off5_eq t 1) (off5_eq t 1) (off6_eq t 1 0) (off6_eq t 1 1) (off6_eq t 1 2) (off6_eq t 1 3) x y e0 e1
  · exact piece _ _ _ _ (gF t.val) 1 1 _ _ _ _ _ _ _ _ _ _ _ _ _ _ rfl (off3_eq t 1) (off3_eq t 1) (off4_eq t 1 0) (off4_eq t 1 1) (off4_eq t 1 2) (off4_eq t 1 3) x y e0 e1
  · exact piece _ _ _ _ (gF t.val) 1 0 _ _ _ _ _ _ _ _ _ _ _ _ _ _ rfl (off1_eq t 1) (off1_eq t 1) (off2_eq t 1 0) (off2_eq t 1 1) (off2_eq t 1 2) (off2_eq t 1 3) x y e0 (e1.trans (Nat.zero_add _).symm)
  · exact piece _ _ _ _ (gF t.val) 0 3 _ _ _ _ _ _ _ _ _ _ _ _ _ _ rfl (off7_eq t 0) (off7_eq t 0) (off8_eq t 0 0) (off8_eq t 0 1) (off8_eq t 0 2) (off8_eq t 0 3) x y (e0.trans (Nat.zero_add _).symm) e1
  · have hX := (hs0_0 t).read_unread (iblk m c 0 t)
    generalize View.read (Elt Ideal) (ms0_0 t).view ((hs0_0 t).unread (iblk m c 0 t)) = X at hX ⊢
    subst hX
    exact piece _ _ _ _ (gF t.val) 0 2 _ _ _ _ _ _ _ _ _ _ _ _ _ _ rfl (off5_eq t 0) (off5_eq t 0) (off6_eq t 0 0) (off6_eq t 0 1) (off6_eq t 0 2) (off6_eq t 0 3) x y (e0.trans (Nat.zero_add _).symm) e1
  · exact piece _ _ _ _ (gF t.val) 0 1 _ _ _ _ _ _ _ _ _ _ _ _ _ _ rfl (off3_eq t 0) (off3_eq t 0) (off4_eq t 0 0) (off4_eq t 0 1) (off4_eq t 0 2) (off4_eq t 0 3) x y (e0.trans (Nat.zero_add _).symm) e1
  · exact piece _ _ _ _ (gF t.val) 0 0 _ _ _ _ _ _ _ _ _ _ _ _ _ _ rfl (off1_eq t 0) (off1_eq t 0) (off2_eq t 0 0) (off2_eq t 0 1) (off2_eq t 0 2) (off2_eq t 0 3) x y (e0.trans (Nat.zero_add _).symm) (e1.trans (Nat.zero_add _).symm)

end Cert.Layer.Kern
-- ==== Proof.KernVal.lean ====
/- What a grid step writes back, in terms of the layer's arguments. -/
module

public import proofs.«01_k».proof.Proof.Blocks
public import proofs.«01_k».proof.Proof.Entry
public import proofs.«01_k».proof.Proof.Tie
public import proofs.«01_k».proof.Proof.PostAt
public import proofs.«01_k».proof.Proof.RefPost
public import proofs.«01_k».proof.Proof.SweepA
public import proofs.«01_k».proof.Proof.SweepB

@[expose] public section

set_option maxRecDepth 16384

noncomputable section

namespace Cert.Layer.Kern

open Cert.KernelIdeal Cert.KernelIdeal.Gen Idealize.ShloMosaic Idealize.ShloMosaic.TcCoe Idealize.ShloMosaic.Pointwise Idealize.SL.Sem Idealize.ShloMosaic.Tactic
open Cert.Layer.Ref (xA zA bgA glA bgateA cwA waA wcA woA g2A wguA wdA g3A qA kA vA rpbA attnTerm layerR x1A cR zmR zpR)

theorem x1R_congr {x x' : Fin 1024 → EReal} {a a' c c' : Fin 512 → EReal} {ga ga' gc gc' : Fin 1024 → EReal} {wa wa' wc wc' : Fin 512 → Fin 1024 → EReal}
    {wo wo' : Fin 1024 → Fin 1024 → EReal} (h1 : ∀ e, x e = x' e) (h2 : ∀ l, a l = a' l) (h3 : ∀ l, c l = c' l) (h4 : ∀ d, ga d = ga' d)
    (h5 : ∀ d, gc d = gc' d) (h6 : ∀ l d, wa l d = wa' l d) (h7 : ∀ l d, wc l d = wc' l d) (h8 : ∀ d e, wo d e = wo' d e) (e : Fin 1024) :
    x1R x a c ga gc wa wc wo e = x1R x' a' c' ga' gc' wa' wc' wo' e := by
  obtain rfl := funext h1; obtain rfl := funext h2; obtain rfl := funext h3; obtain rfl := funext h4; obtain rfl := funext h5
  obtain rfl := funext fun l => funext (h6 l); obtain rfl := funext fun l => funext (h7 l); obtain rfl := funext fun l => funext (h8 l)
  rfl

theorem x2R_congr {x x' g g' : Fin 1024 → EReal} {w w' : Fin 1024 → Fin 5632 → EReal} {wd wd' : Fin 2816 → Fin 1024 → EReal}
    (h1 : ∀ e, x e = x' e) (h2 : ∀ d, g d = g' d) (h3 : ∀ d f, w d f = w' d f) (h4 : ∀ f e, wd f e = wd' f e) (e : Fin 1024) :
    x2R x g w wd e = x2R x' g' w' wd' e := by
  obtain rfl := funext h1; obtain rfl := funext h2
  obtain rfl := funext fun l => funext (h3 l); obtain rfl := funext fun l => funext (h4 l)
  rfl

theorem outR_congr {x x' g g' : Fin 1024 → EReal} (h1 : ∀ e, x e = x' e) (h2 : ∀ e, g e = g' e) (e : Fin 1024) : outR x g e = outR x' g' e := by
  obtain rfl := funext h1; obtain rfl := funext h2
  rfl

/-- The convolution of a tile at an index. -/
theorem conv_at (cp cn : BitVec 1) (z bg : FVec Ideal S1x512x512 .bf16) (zp zn : FVec Ideal S1x1x512 .bf16) (cw : FVec Ideal S3x512 .f32) (i l : Fin 512) :
    convU cp cn z bg zp zn cw (ix2 i l)
      = convR (bg (ix3 0 i l)) (if hi : i.val = 0 then (if cp = 1 then zp (ix3 0 0 l) else 0) else z (ix3 0 ⟨i.val - 1, by omega⟩ l)) (z (ix3 0 i l))
          (if hi : i.val = 511 then (if cn = 1 then zn (ix3 0 0 l) else 0) else z (ix3 0 ⟨i.val + 1, by omega⟩ l)) (cw (ix2 0 l)) (cw (ix2 1 l)) (cw (ix2 2 l)) := by
  unfold convU
  refine (conv_gen _ _ _ bg cw i l).trans ?_
  rw [shiftP_at, shiftN_at, halo_at, halo_at, ext_at]
  simp only [ext_at]

/-- The reference's arguments are the kernel's. -/
structure Agree (m : (ℓ : Loc nD τ sig) → Buf (Elt Ideal) ℓ) (c : Dev nD) (V : Valuation Cert.ReferenceIdeal.τ Cert.ReferenceIdeal.sig (Elt Ideal)) : Prop where
  a0 : xA V = m ((c : Thread nD τ).loc main_arg0)
  a1 : qA V = m ((c : Thread nD τ).loc main_arg1)
  a2 : kA V = m ((c : Thread nD τ).loc main_arg2)
  a3 : vA V = m ((c : Thread nD τ).loc main_arg3)
  a4 : zA V = m ((c : Thread nD τ).loc main_arg4)
  a5 : bgA V = m ((c : Thread nD τ).loc main_arg5)
  a6 : glA V = m ((c : Thread nD τ).loc main_arg6)
  a7 : bgateA V = m ((c : Thread nD τ).loc main_arg7)
  a8 : rpbA V = m ((c : Thread nD τ).loc main_arg8)
  a9 : cwA V = m ((c : Thread nD τ).loc main_arg9)
  a10 : waA V = m ((c : Thread nD τ).loc main_arg10)
  a11 : wcA V = m ((c : Thread nD τ).loc main_arg11)
  a12 : woA V = m ((c : Thread nD τ).loc main_arg12)
  a13 : g2A V = m ((c : Thread nD τ).loc main_arg13)
  a14 : wguA V = m ((c : Thread nD τ).loc main_arg14)
  a15 : wdA V = m ((c : Thread nD τ).loc main_arg15)
  a16 : g3A V = m ((c : Thread nD τ).loc main_arg16)
  fq : ∀ i, ∃ r : ℝ, qA V i = r
  fk : ∀ i, ∃ r : ℝ, kA V i = r
  fb : ∀ i, ∃ r : ℝ, rpbA V i = r

variable {m : (ℓ : Loc nD τ sig) → Buf (Elt Ideal) ℓ} {c : Dev nD} {V : Valuation Cert.ReferenceIdeal.τ Cert.ReferenceIdeal.sig (Elt Ideal)} (ag : Agree m c V)

include ag in
/-- The attention that a step leaves in its carried buffer. -/
theorem carried (t : Fin cfg0.N) (i l : Fin 512) :
    (outsAt0 m c t.val t.isLt).2 (ix2 i l) = attnTerm V (ix3 (bF t.val) (row (gF t.val) i) l) := by
  have e : (outsAt0 m c t.val t.isLt).2 (ix2 i l) = attnArr (iblk m c 0 t) (iblk m c 1 t) (iblk m c 2 t) (iblk m c 3 t) (gF t.val) (ix2 i l) := by
    by_cases h : t.val % 33 = 0
    · exact sweepA m c t h _
    · exact sweepB m c t h _
  refine e.trans (tile_tie V _ _ _ _ (bF t.val) (gF t.val) ?_ ?_ ?_ ?_ ag.fq ag.fk ag.fb i l)
  · intro i l
    rw [blk0, V38_at, ag.a1]
  · intro i l
    rw [blk1, V39_at, ag.a2]
  · intro i l
    rw [blk2, V40_at, ag.a3]
  · rw [blk3, V21, ag.a8]

include ag in
/-- The convolution of the tile that a step finishes. -/
theorem conv_tile (t : Fin cfg0.N) (i l : Fin 512) :
    convU (Scalar.cmpi .sgt (tileW t) 0#32) (Scalar.cmpi .slt (tileW t) 15#32) (iblk m c 5 t) (iblk m c 8 t)
      (View.ld (Val := Elt Ideal) (e' := .bf16) (iblk m c 6 t) (Rect.unit ![0, 15, 0] ![1, 1, 512] k0_part2._proof_1))
      (View.ld (Val := Elt Ideal) (e' := .bf16) (iblk m c 7 t) (Rect.unit ![0, 0, 0] ![1, 1, 512] k0_part2._proof_4)) (iblk m c 11 t) (ix2 i l)
      = cR V (bP t) (row (gP t) i) l := by
  have e6 : (View.ld (Val := Elt Ideal) (e' := .bf16) (iblk m c 6 t) (Rect.unit (s := S1x16x512) ![0, 15, 0] ![1, 1, 512] k0_part2._proof_1)) (ix3 (0 : Fin 1) (0 : Fin 1) l)
      = (iblk m c 6 t : S1x16x512.Idx → EReal) (ix3 0 15 l) :=
    View.ld_unit_apply_of _ _ _ _ _ _ (by intro a; match a with | ⟨0, _⟩ => rfl | ⟨1, _⟩ => rfl | ⟨2, _⟩ => exact (Nat.zero_add _).symm)
  have e7 : (View.ld (Val := Elt Ideal) (e' := .bf16) (iblk m c 7 t) (Rect.unit (s := S1x16x512) ![0, 0, 0] ![1, 1, 512] k0_part2._proof_4)) (ix3 (0 : Fin 1) (0 : Fin 1) l)
      = (iblk m c 7 t : S1x16x512.Idx → EReal) (ix3 0 0 l) :=
    View.ld_unit_apply_of _ _ _ _ _ _ (by intro a; match a with | ⟨0, _⟩ => rfl | ⟨1, _⟩ => rfl | ⟨2, _⟩ => exact (Nat.zero_add _).symm)
  rw [conv_at, e6, e7, tileW_first, tileW_last, blk6, blk7, blk8, blk11, V24_at, V24_at, V24_at]
  rw [V42_at]
  simp only [blk5]
  rw [show (Gen.V m c main_v41 : S2x8192x512.Idx → EReal) = m ((c : Thread nD τ).loc main_arg4) from funext (V41_at m c)]
  unfold cR
  rw [ag.a5, ag.a9, ag.a4]
  congr 1
  · unfold zmR
    rw [ag.a4]
    by_cases hi : i.val = 0
    · rw [dif_pos hi]
      by_cases hg : (t.val - 1) % 16 = 0
      · rw [if_pos hg, dif_pos (show 512 * ((t.val - 1) % 16) + i.val = 0 by omega)]
        rfl
      · rw [if_neg hg, dif_neg (show ¬ 512 * ((t.val - 1) % 16) + i.val = 0 by omega)]
        refine (if_pos (by decide)).trans ?_
        exact congrArg (fun z => (m ((c : Thread nD τ).loc main_arg4) : S2x8192x512.Idx → EReal) (ix3 (bP t) z l))
          (Fin.ext (by show 16 * (32 * ((t.val - 1) % 16) - 1) + 15 = 512 * ((t.val - 1) % 16) + i.val - 1; omega))
    · rw [dif_neg hi, dif_neg (show ¬ 512 * ((t.val - 1) % 16) + i.val = 0 by omega)]
      exact congrArg (fun z => (m ((c : Thread nD τ).loc main_arg4) : S2x8192x512.Idx → EReal) (ix3 (bP t) z l))
        (Fin.ext (by show 512 * ((t.val - 1) % 16) + (i.val - 1) = 512 * ((t.val - 1) % 16) + i.val - 1; omega))
  · unfold zpR
    rw [ag.a4]
    by_cases hi : i.val = 511
    · rw [dif_pos hi]
      by_cases hg : (t.val - 1) % 16 = 15
      · rw [if_pos hg, dif_pos (show 512 * ((t.val - 1) % 16) + i.val = 8191 by omega)]
        rfl
      · rw [if_neg hg, dif_neg (show ¬ 512 * ((t.val - 1) % 16) + i.val = 8191 by omega)]
        refine (if_pos (by decide)).trans ?_
        exact congrArg (fun z => (m ((c : Thread nD τ).loc main_arg4) : S2x8192x512.Idx → EReal) (ix3 (bP t) z l))
          (Fin.ext (by show 16 * min (32 * ((t.val - 1) % 16 + 1)) 511 + 0 = 512 * ((t.val - 1) % 16) + i.val + 1; omega))
    · rw [dif_neg hi, dif_neg (show ¬ 512 * ((t.val - 1) % 16) + i.val = 8191 by omega)]
      rfl

include ag in
/-- The residual stream of the tile that a step finishes, after the two branches. -/
theorem x1_tile (t : Fin cfg0.N) (h : ¬ t.val % 33 = 0) (i : Fin 512) (e : Fin 1024) :
    x1U (iblk m c 4 t) (outsAt0 m c (t.val - 1) (Nat.lt_of_le_of_lt (Nat.sub_le t.val 1) t.isLt)).2
          (convU (Scalar.cmpi .sgt (tileW t) 0#32) (Scalar.cmpi .slt (tileW t) 15#32) (iblk m c 5 t) (iblk m c 8 t)
            (View.ld (Val := Elt Ideal) (e' := .bf16) (iblk m c 6 t) (Rect.unit ![0, 15, 0] ![1, 1, 512] k0_part2._proof_1))
            (View.ld (Val := Elt Ideal) (e' := .bf16) (iblk m c 7 t) (Rect.unit ![0, 0, 0] ![1, 1, 512] k0_part2._proof_4)) (iblk m c 11 t))
          (gatesU (iblk m c 9 t) (iblk m c 10 t)) (iblk m c 12 t) (iblk m c 13 t) (iblk m c 14 t) (ix2 i e)
      = x1A V (fun l => attnTerm V (ix3 (bP t) (row (gP t) i) l)) (bP t) (row (gP t) i) e := by
  have ht : t.val < 33 := t.isLt
  rw [x1_at]
  unfold x1A
  refine x1R_congr ?_ ?_ ?_ ?_ ?_ ?_ ?_ ?_ e
  · intro e
    rw [blk4, ag.a0]
    exact congrFun (V_main_arg0 m c) _
  · intro l
    refine (carried ag ⟨t.val - 1, Nat.lt_of_le_of_lt (Nat.sub_le t.val 1) t.isLt⟩ i l).trans ?_
    congr 1
    congr 1
    · exact Fin.ext (by show min (t.val - 1) 31 / 16 = (t.val - 1) / 16; omega)
    · exact Fin.ext (by show 512 * (min (t.val - 1) 31 % 16) + i.val = 512 * ((t.val - 1) % 16) + i.val; omega)
  · exact conv_tile ag t i
  · intro d
    rw [gates_at, blk9, blk10, V43_at, V23_at, ag.a6, ag.a7]
  · intro d
    rw [gates_at, blk9, blk10, V43_at, V23_at, ag.a6, ag.a7]
  · intro l d
    rw [blk12, V26_at, ag.a10]
  · intro l d
    rw [blk13, V28_at, ag.a11]
  · intro d e
    rw [blk14, V30_at, ag.a12]

include ag in
/-- What a step writes back, at an index. -/
theorem out_at (t : Fin cfg0.N) (h : ¬ t.val % 33 = 0) (i : Fin 512) (e : Fin 1024) :
    (outsAt0 m c t.val t.isLt).1 (ix3 0 i e) = layerR V (fun l => attnTerm V (ix3 (bP t) (row (gP t) i) l)) (bP t) (row (gP t) i) e := by
  rw [outB m c t h, post_at]
  unfold layerR
  refine outR_congr (x2R_congr (x1_tile ag t h i) ?_ ?_ ?_) ?_ e
  · intro d
    rw [blk15, V32_at, ag.a13]
  · intro d f
    rw [blk16, V34_at, ag.a14]
  · intro f e
    rw [blk17, V36_at, ag.a15]
  · intro e
    rw [blk18, V37_at, ag.a16]

end Cert.Layer.Kern
-- ==== Proof.Final.lean ====
/- The array that the kernel leaves is the array that the reference leaves. -/
module

public import proofs.«01_k».proof.Defs
public import proofs.«01_k».proof.Proof.Gen.Pre_finite
public import proofs.«01_k».proof.Proof.Gen.KernelIdeal.Value
public import proofs.«01_k».proof.Proof.Gen.ReferenceIdeal.Run
public import proofs.«01_k».proof.Proof.KernVal
public import Idealize.ShloMosaic.Lib.Claim

@[expose] public section

set_option maxRecDepth 16384

noncomputable section

namespace Cert.Layer.Kern

open Cert.KernelIdeal Cert.KernelIdeal.Gen Idealize.ShloMosaic Idealize.ShloMosaic.TcCoe Idealize.ShloMosaic.Pointwise Idealize.SL.Sem Idealize.ShloMosaic.Tactic
open Cert.Layer.Ref (xA zA bgA glA bgateA cwA waA wcA woA g2A wguA wdA g3A qA kA vA rpbA attnTerm layerR x1A cR zmR zpR layerArr)

theorem ne_first : ∀ t : Fin cfg0.N, (cfg0.win 19).flush t = true → ¬ t.val % 33 = 0 := (by decide +kernel : ∀ t : Fin grid0.N, _)

/-- The array that the kernel leaves. -/
theorem final {m : (ℓ : Loc nD τ sig) → Buf (Elt Ideal) ℓ} {c : Dev nD} {V : Valuation Cert.ReferenceIdeal.τ Cert.ReferenceIdeal.sig (Elt Ideal)} (ag : Agree m c V) :
    (dats m 0 c).arrAt 19 (cfgs 0).N = layerArr V := by
  refine (dats m 0 c).arrAt_eq_of_covers 19 _ (by decide +kernel) fun t hf y => ?_
  have h := ne_first t hf
  blk_simp
  rw [after0_19]
  obtain ⟨i, e, rfl⟩ : ∃ (i : Fin 512) (e : Fin 1024), (y : S1x512x1024.Idx) = ix3 0 i e :=
    ⟨y 1, y 2, by funext a; match a with | ⟨0, _⟩ => exact Fin.ext (Nat.lt_one_iff.mp (y 0).isLt) | ⟨1, _⟩ => rfl | ⟨2, _⟩ => rfl⟩
  refine (out_at ag t h i e).trans ?_
  have hy : (win0_19.blk t).view.emb (ix3 0 i e) = (ix3 (bP t) (row (gP t) i) e : S2x8192x1024.Idx) := by
    blk_ext [idx19 t]
  exact (congrArg (layerArr V) hy).symm

/-- A number whose absolute value is below infinity is a real number. -/
theorem real_of_abs {x : EReal} (h : max x (-x) < ⊤) : ∃ r : ℝ, x = r := by
  induction x using EReal.rec with
  | bot => simp at h
  | coe r => exact ⟨r, rfl⟩
  | top => simp at h

theorem ofBits_pinf : Ideal.ofBits .f32 0x7F800000#32 = ⊤ := by simp [Ideal.ofBits, Ideal.ieee]

/-- What the precondition says of an array, at an index. -/
theorem real_of_pre {s : Shape} (x : FVec Ideal s .f32) (hb : (⟨0, ![]⟩ : Shape).BroadcastsInDim s (![] : Fin 0 → Fin s.rank))
    (h : cmpf (F := Ideal) (φ := .f32) .olt (Host.absf x) (broadcastInDim s ![] hb (constant (F := Ideal) ⟨0, ![]⟩ .f32 0x7F800000#32)) = fun _ => 1#1) (i : s.Idx) :
    ∃ r : ℝ, (x i : EReal) = r := by
  have h2 : BitVec.ofBool (decide (max (x i : EReal) (-(x i : EReal)) < Ideal.ofBits .f32 0x7F800000#32)) = 1#1 := congrFun h i
  rw [ofBits_pinf] at h2
  by_cases h3 : max (x i : EReal) (-(x i : EReal)) < ⊤
  · exact real_of_abs h3
  · rw [decide_eq_false h3] at h2
    exact absurd h2 (by decide)

/-- The two programs' arguments agree, and the scores' arguments are real. -/
theorem agree [Cert.Pre_finite.Facts] {m : (ℓ : Loc nD τ sig) → Buf (Elt Ideal) ℓ} {m' : (ℓ : Loc Cert.ReferenceIdeal.nD Cert.ReferenceIdeal.τ Cert.ReferenceIdeal.sig) → Buf (Elt Ideal) ℓ}
    (hpre : Pre_KernelIdeal_finite m) (c : Dev nD)
    (h : m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3)
      ∧ m' ((c.tc : Thread Cert.ReferenceIdeal.nD Cert.ReferenceIdeal.τ).loc Cert.ReferenceIdeal.main_arg4) = m ((c.tc : Thread nD τ).loc main_arg4)
      ∧ m' ((c.tc : Thread Cert.ReferenceIdeal.nD Cert.ReferenceIdeal.τ).loc Cert.ReferenceIdeal.main_arg5) = m ((c.tc : Thread nD τ).loc main_arg5)
      ∧ m' ((c.tc : Thread Cert.ReferenceIdeal.nD Cert.ReferenceIdeal.τ).loc Cert.ReferenceIdeal.main_arg6) = m ((c.tc : Thread nD τ).loc main_arg6)
      ∧ m' ((c.tc : Thread Cert.ReferenceIdeal.nD Cert.ReferenceIdeal.τ).loc Cert.ReferenceIdeal.main_arg7) = m ((c.tc : Thread nD τ).loc main_arg7)
      ∧ m' ((c.tc : Thread Cert.ReferenceIdeal.nD Cert.ReferenceIdeal.τ).loc Cert.ReferenceIdeal.main_arg8) = m ((c.tc : Thread nD τ).loc main_arg8)
      ∧ m' ((c.tc : Thread Cert.ReferenceIdeal.nD Cert.ReferenceIdeal.τ).loc Cert.ReferenceIdeal.main_arg9) = m ((c.tc : Thread nD τ).loc main_arg9)
      ∧ m' ((c.tc : Thread Cert.ReferenceIdeal.nD Cert.ReferenceIdeal.τ).loc Cert.ReferenceIdeal.main_arg10) = m ((c.tc : Thread nD τ).loc main_arg10)
      ∧ m' ((c.tc : Thread Cert.ReferenceIdeal.nD Cert.ReferenceIdeal.τ).loc Cert.ReferenceIdeal.main_arg11) = m ((c.tc : Thread nD τ).loc main_arg11)
      ∧ m' ((c.tc : Thread Cert.ReferenceIdeal.nD Cert.ReferenceIdeal.τ).loc Cert.ReferenceIdeal.main_arg12) = m ((c.tc : Thread nD τ).loc main_arg12)
      ∧ m' ((c.tc : Thread Cert.ReferenceIdeal.nD Cert.ReferenceIdeal.τ).loc Cert.ReferenceIdeal.main_arg13) = m ((c.tc : Thread nD τ).loc main_arg13)
      ∧ m' ((c.tc : Thread Cert.ReferenceIdeal.nD Cert.ReferenceIdeal.τ).loc Cert.ReferenceIdeal.main_arg14) = m ((c.tc : Thread nD τ).loc main_arg14)
      ∧ m' ((c.tc : Thread Cert.ReferenceIdeal.nD Cert.ReferenceIdeal.τ).loc Cert.ReferenceIdeal.main_arg15) = m ((c.tc : Thread nD τ).loc main_arg15)
      ∧ m' ((c.tc : Thread Cert.ReferenceIdeal.nD Cert.ReferenceIdeal.τ).loc Cert.ReferenceIdeal.main_arg16) = m ((c.tc : Thread nD τ).loc main_arg16)) :
    Agree m c (StableHlo.launchContents m' c) where
  a0 := h.1
  a1 := h.2.1
  a2 := h.2.2.1
  a3 := h.2.2.2.1
  a4 := h.2.2.2.2.1
  a5 := h.2.2.2.2.2.1
  a6 := h.2.2.2.2.2.2.1
  a7 := h.2.2.2.2.2.2.2.1
  a8 := h.2.2.2.2.2.2.2.2.1
  a9 := h.2.2.2.2.2.2.2.2.2.1
  a10 := h.2.2.2.2.2.2.2.2.2.2.1
  a11 := h.2.2.2.2.2.2.2.2.2.2.2.1
  a12 := h.2.2.2.2.2.2.2.2.2.2.2.2.1
  a13 := h.2.2.2.2.2.2.2.2.2.2.2.2.2.1
  a14 := h.2.2.2.2.2.2.2.2.2.2.2.2.2.2.1
  a15 := h.2.2.2.2.2.2.2.2.2.2.2.2.2.2.2.1
  a16 := h.2.2.2.2.2.2.2.2.2.2.2.2.2.2.2.2
  fq := fun i => by rw [show qA (StableHlo.launchContents m' c) = _ from h.2.1]; exact real_of_pre _ _ (hpre c).1 i
  fk := fun i => by rw [show kA (StableHlo.launchContents m' c) = _ from h.2.2.1]; exact real_of_pre _ _ (hpre c).2.1 i
  fb := fun i => by rw [show rpbA (StableHlo.launchContents m' c) = _ from h.2.2.2.2.2.2.2.2.1]; exact real_of_pre _ _ (hpre c).2.2 i

end Cert.Layer.Kern
-- ==== Proof.RowProj.lean ====
/- The first call's arithmetic on one token: the normed row times a matrix of weights. -/
module

public import proofs.«01_k».proof.Proof.RowMath
public import Idealize.ShloMosaic.Lib.Pointwise

@[expose] public section

noncomputable section

namespace Cert.Layer

open Idealize.ShloMosaic Idealize.ShloMosaic.Pointwise

/-- The normed row times column `e` of the combined projection. -/
def projR (x g : Fin 1024 → EReal) (w : Fin 1024 → Fin 5120 → EReal) (e : Fin 5120) : EReal :=
  ∑ d, x d * rstd x * g d * w d e

/-- The same, the inverse root mean square taken after the product. -/
theorem projR_eq (x g : Fin 1024 → EReal) (w : Fin 1024 → Fin 5120 → EReal) (e : Fin 5120) :
    (∑ d, x d * g d * w d e) * rstd x = projR x g w e :=
  sum_mul_rstd _ x g (fun d => w d e) _ (rstd_nonneg x) (rstd_ne_top x)

abbrev SX (n : Nat) : Shape := ⟨3, ![n, 8192, 1024]⟩
abbrev SG : Shape := ⟨2, ![1, 1024]⟩
abbrev SW : Shape := ⟨3, ![1, 1024, 5120]⟩
abbrev SH (n : Nat) : Shape := ⟨3, ![n, 8192, 512]⟩
abbrev SL (n : Nat) : Shape := ⟨3, ![n, 8192, 2048]⟩

/-- The combined projection of token `t` of batch `b`, column `e`. -/
def projT {n : Nat} (X : (SX n).Idx → EReal) (G : SG.Idx → EReal) (W : SW.Idx → EReal) (b : Fin n) (t : Fin 8192) (e : Fin 5120) : EReal :=
  projR (fun d => X (ix3 b t d)) (fun d => G (ix2 0 d)) (fun d e => W (ix3 0 d e)) e

/-- The columns' places in the combined projection: queries, keys, values, the convolution's input, its two gates, the mixing gates. -/
abbrev colQ (e : Fin 512) : Fin 5120 := ⟨e.val, by omega⟩
abbrev colK (e : Fin 512) : Fin 5120 := ⟨512 + e.val, by omega⟩
abbrev colV (e : Fin 512) : Fin 5120 := ⟨1024 + e.val, by omega⟩
abbrev colU (e : Fin 512) : Fin 5120 := ⟨1536 + e.val, by omega⟩
abbrev colB (e : Fin 512) : Fin 5120 := ⟨2048 + e.val, by omega⟩
abbrev colC (e : Fin 512) : Fin 5120 := ⟨2560 + e.val, by omega⟩
abbrev colG (e : Fin 2048) : Fin 5120 := ⟨3072 + e.val, by omega⟩

variable {n : Nat} (X : (SX n).Idx → EReal) (G : SG.Idx → EReal) (W : SW.Idx → EReal)

/-- A block of 512 columns of the projection as one array. -/
def partArr (col : Fin 512 → Fin 5120) : (SH n).Idx → EReal := fun j => projT X G W (j 0) (j 1) (col (j 2))

/-- The convolution's gated input as one array. -/
def zArr : (SH n).Idx → EReal := fun j => projT X G W (j 0) (j 1) (colC (j 2)) * projT X G W (j 0) (j 1) (colU (j 2))

/-- The mixing gates as one array. -/
def glArr : (SL n).Idx → EReal := fun j => projT X G W (j 0) (j 1) (colG (j 2))

end Cert.Layer
-- ==== Proof.Proj.lean ====
/- The values that the first call's kernel stores, at an index. -/
module

public import proofs.«01_k».proof.Proof.Gen.Kernel2Ideal.Value
public import proofs.«01_k».proof.Proof.RowProj
public import Idealize.ShloMosaic.Lib.Pipeline.ValueKit

@[expose] public section

set_option maxRecDepth 16384

noncomputable section

namespace Cert.Layer.Proj

open Cert.Kernel2Ideal Cert.Kernel2Ideal.Gen Idealize.ShloMosaic Idealize.ShloMosaic.TcCoe Idealize.ShloMosaic.Pointwise Idealize.SL.Sem Idealize.ShloMosaic.Tactic

theorem rstd_at (x : FVec Ideal S1x1024x1024 .f32) (i : Fin 1024) : k0_pay5 (F := Ideal) x (ix2 i 0) = rstd fun d => x (ix3 0 i d) := by
  unfold rstd
  pointwise [k0_pay5, k0_pay3]

theorem gain_at (x : FVec Ideal S1x1024x1024 .f32) (g : FVec Ideal S1x1024 .f32) (i d : Fin 1024) :
    k0_pay4 (F := Ideal) x g (ix2 i d) = x (ix3 0 i d) * g (ix2 0 d) := by
  pointwise [k0_pay4, k0_pay3]

theorem pay6_at (x : FVec Ideal S1x1024x1024 .f32) (g : FVec Ideal S1x1024 .f32) (w : FVec Ideal S1024x512 .bf16) (i : Fin 1024) (e : Fin 512) :
    k0_pay6 (F := Ideal) x g w (ix3 0 i e) = (∑ d, k0_pay4 (F := Ideal) x g (ix2 i d) * w (ix2 d e)) * k0_pay5 (F := Ideal) x (ix2 i 0) := by
  unfold k0_pay6
  generalize k0_pay4 (F := Ideal) x g = a
  generalize k0_pay5 (F := Ideal) x = r
  pointwise

theorem pay8_at (a : FVec Ideal S1024x1024 .bf16) (r : FVec Ideal S1024x1 .f32) (w : FVec Ideal S1024x512 .bf16) (i : Fin 1024) (e : Fin 512) :
    k0_pay8 a r w (ix3 0 i e) = (∑ d, a (ix2 i d) * w (ix2 d e)) * r (ix2 i 0) := by
  pointwise [k0_pay8]

theorem pay9_at (a : FVec Ideal S1024x1024 .bf16) (r : FVec Ideal S1024x1 .f32) (w : FVec Ideal S1024x512 .bf16) (i : Fin 1024) (e : Fin 512) :
    k0_pay9 a r w (ix3 0 i e) = (∑ d, a (ix2 i d) * w (ix2 d e)) * r (ix2 i 0) := by
  pointwise [k0_pay9]

theorem pay10_at (a : FVec Ideal S1024x1024 .bf16) (r : FVec Ideal S1024x1 .f32) (u w : FVec Ideal S1024x512 .bf16) (i : Fin 1024) (e : Fin 512) :
    k0_pay10 a r u w (ix3 0 i e) = ((∑ d, a (ix2 i d) * w (ix2 d e)) * r (ix2 i 0)) * ((∑ d, a (ix2 i d) * u (ix2 d e)) * r (ix2 i 0)) := by
  pointwise [k0_pay10]

theorem pay2_at (a : FVec Ideal S1024x1024 .bf16) (r : FVec Ideal S1024x1 .f32) (w : FVec Ideal S1024x1024 .bf16) (i : Fin 1024) (e : Fin 1024) :
    k0_pay2 a r w (ix3 0 i e) = (∑ d, a (ix2 i d) * w (ix2 d e)) * r (ix2 i 0) := by
  pointwise [k0_pay2]

theorem pay1_at (a : FVec Ideal S1024x1024 .bf16) (r : FVec Ideal S1024x1 .f32) (w : FVec Ideal S1024x1024 .bf16) (i : Fin 1024) (e : Fin 1024) :
    k0_pay1 r (k0_pay11 a w) (ix3 0 i e) = (∑ d, a (ix2 i d) * w (ix2 d e)) * r (ix2 i 0) := by
  pointwise [k0_pay1, k0_pay11]

end Cert.Layer.Proj
-- ==== Proof.ProjVal.lean ====
/- The arrays that the first call's kernel leaves. -/
module

public import proofs.«01_k».proof.Proof.Proj
public import Idealize.ShloMosaic.Lib.Claim

@[expose] public section

set_option maxRecDepth 16384

noncomputable section

namespace Cert.Layer.Proj

open Cert.Kernel2Ideal Cert.Kernel2Ideal.Gen Idealize.ShloMosaic Idealize.ShloMosaic.TcCoe Idealize.ShloMosaic.Pointwise Idealize.SL.Sem Idealize.ShloMosaic.Tactic

theorem idx : ∀ t : Fin cfg0.N, win0_0.index t = ![t.val / 8, t.val % 8, 0] ∧ win0_1.index t = ![0, 0] ∧ win0_2.index t = ![0, 0]
    ∧ win0_3.index t = ![t.val / 8, t.val % 8, 0] ∧ win0_4.index t = ![t.val / 8, t.val % 8, 0] ∧ win0_5.index t = ![t.val / 8, t.val % 8, 0]
    ∧ win0_6.index t = ![t.val / 8, t.val % 8, 0] ∧ win0_7.index t = ![t.val / 8, t.val % 8, 0] ∧ win0_8.index t = ![t.val / 8, t.val % 8, 0] :=
  (by decide +kernel : ∀ t : Fin grid0.N, _)

variable (m : (ℓ : Loc nD τ sig) → Buf (Elt Ideal) ℓ) (c : Dev nD) (t : Fin cfg0.N)

/-- The batch and the token of row `i` of grid step `t`'s tile. -/
abbrev bT : Fin 2 := ⟨t.val / 8, by have : t.val < 16 := t.isLt; omega⟩
abbrev rT (i : Fin 1024) : Fin 8192 := ⟨1024 * (t.val % 8) + i.val, by omega⟩

abbrev xM : (SX 2).Idx → EReal := m ((c : Thread nD τ).loc main_arg0)
abbrev gM : SG.Idx → EReal := m ((c : Thread nD τ).loc main_arg1)
abbrev wM : SW.Idx → EReal := m ((c : Thread nD τ).loc main_arg2)

theorem blk0 (i d : Fin 1024) : (iblk m c 0 t : S1x1024x1024.Idx → EReal) (ix3 0 i d) = xM m c (ix3 (bT t) (rT t i) d) := by
  blk_ext [iblk, V, idx t]

theorem V1_at (d : Fin 1024) : (V m c main_v1 : S1x1024.Idx → EReal) (ix2 0 d) = gM m c (ix2 0 d) := by
  simp only [V, hostOps0, List.flatten_cons, List.flatten_nil, List.append_nil, List.cons_append, List.nil_append]
  entry_read
  pointwise

theorem V3_at (d : Fin 1024) (e : Fin 5120) : (V m c main_v3 : S1024x5120.Idx → EReal) (ix2 d e) = wM m c (ix3 0 d e) := by
  simp only [V, hostOps0, List.flatten_cons, List.flatten_nil, List.append_nil, List.cons_append, List.nil_append]
  entry_read
  pointwise

theorem blk1 (d : Fin 1024) : (iblk m c 1 t : S1x1024.Idx → EReal) (ix2 0 d) = gM m c (ix2 0 d) := by
  refine Eq.trans ?_ (V1_at m c d)
  blk_ext [iblk, idx t]

theorem blk2 (d : Fin 1024) (e : Fin 5120) : (iblk m c 2 t : S1024x5120.Idx → EReal) (ix2 d e) = wM m c (ix3 0 d e) := by
  refine Eq.trans ?_ (V3_at m c d e)
  blk_ext [iblk, idx t]

/-- The product with a block of columns, the inverse root mean square taken after it, is the projection there. -/
theorem col_at (i : Fin 1024) (e : Fin 5120) :
    (∑ d, k0_pay4 (F := Ideal) (iblk m c 0 t) (iblk m c 1 t) (ix2 i d) * (iblk m c 2 t : S1024x5120.Idx → EReal) (ix2 d e)) * k0_pay5 (F := Ideal) (iblk m c 0 t) (ix2 i 0)
      = projT (xM m c) (gM m c) (wM m c) (bT t) (rT t i) e := by
  rw [rstd_at]
  refine Eq.trans ?_ (projR_eq _ _ _ e)
  refine congrArg₂ (fun p q : EReal => p * q) (Finset.sum_congr rfl fun d _ => ?_) (congrArg rstd (funext fun d => blk0 m c t i d))
  rw [gain_at, blk0, blk1, blk2]

theorem ld_at (B : FVec Ideal S1024x5120 .bf16) (n off : Nat) (h : ∀ a, (![0, off] : Fin 2 → Nat) a + (![1024, n] : Fin 2 → Nat) a ≤ S1024x5120.size a)
    (d : Fin 1024) (e : Fin n) (e' : Fin 5120) (he : off + e.val = e'.val) :
    (View.ld (Val := Elt Ideal) (e' := .bf16) B (Rect.unit (s := S1024x5120) ![0, off] ![1024, n] h) : (⟨2, ![1024, n]⟩ : Shape).Idx → EReal) (ix2 d e) = B (ix2 d e') := by
  refine congrArg B ?_
  funext a
  match a with
  | ⟨0, _⟩ => exact Fin.ext (by show 0 + 1 * d.val = d.val; omega)
  | ⟨1, _⟩ => exact Fin.ext (by show off + 1 * e.val = e'.val; omega)

/-- The same for a block of columns that was loaded from the matrix. -/
theorem part_at (n off : Nat) (h : ∀ a, (![0, off] : Fin 2 → Nat) a + (![1024, n] : Fin 2 → Nat) a ≤ S1024x5120.size a)
    (i : Fin 1024) (e : Fin n) (e' : Fin 5120) (he : off + e.val = e'.val) :
    (∑ d : Fin 1024, k0_pay4 (F := Ideal) (iblk m c 0 t) (iblk m c 1 t) (ix2 i d)
        * (View.ld (Val := Elt Ideal) (e' := .bf16) (iblk m c 2 t) (Rect.unit (s := S1024x5120) ![0, off] ![1024, n] h) : (⟨2, ![1024, n]⟩ : Shape).Idx → EReal) (ix2 d e))
        * k0_pay5 (F := Ideal) (iblk m c 0 t) (ix2 i 0)
      = projT (xM m c) (gM m c) (wM m c) (bT t) (rT t i) e' := by
  refine Eq.trans ?_ (col_at m c t i e')
  refine congrArg (fun p : EReal => p * k0_pay5 (F := Ideal) (iblk m c 0 t) (ix2 i 0)) (Finset.sum_congr rfl fun d _ => ?_)
  rw [ld_at (iblk m c 2 t) n off h d e e' he]

theorem blk_split {n : Nat} (y : (⟨3, ![1, 1024, n]⟩ : Shape).Idx) : ∃ (i : Fin 1024) (e : Fin n), y = ix3 0 i e :=
  ⟨y 1, y 2, by funext a; match a with | ⟨0, _⟩ => exact Fin.ext (Nat.lt_one_iff.mp (y 0).isLt) | ⟨1, _⟩ => rfl | ⟨2, _⟩ => rfl⟩

theorem gains_eq : k0_pay12 (F := Ideal) (iblk m c 0 t) (iblk m c 1 t) (iblk m c 2 t) = k0_pay4 (iblk m c 0 t) (iblk m c 1 t) := by
  unfold k0_pay12
  frame_out

theorem rstds_eq : k0_pay13 (F := Ideal) (iblk m c 0 t) (iblk m c 1 t) (iblk m c 2 t) = k0_pay5 (iblk m c 0 t) := by
  unfold k0_pay13
  frame_out

theorem final3 : (dats m 0 c).arrAt 3 cfg0.N = partArr (xM m c) (gM m c) (wM m c) colQ := by
  refine (dats m 0 c).arrAt_eq_of_covers 3 _ (by decide +kernel) fun t _ y => ?_
  blk_simp
  rw [after0_3]
  frame_out
  obtain ⟨i, e, rfl⟩ := blk_split (n := 512) y
  have hy : (win0_3.blk t).view.emb (ix3 0 i e) = (ix3 (bT t) (rT t i) e : S2x8192x512.Idx) := by
    blk_ext [idx t]
  refine Eq.trans ?_ (congrArg (partArr (xM m c) (gM m c) (wM m c) colQ) hy).symm
  exact (pay6_at _ _ _ i e).trans (part_at m c t 512 0 _ i e (colQ e) (Nat.zero_add _))

theorem final4 : (dats m 0 c).arrAt 4 cfg0.N = partArr (xM m c) (gM m c) (wM m c) colK := by
  refine (dats m 0 c).arrAt_eq_of_covers 4 _ (by decide +kernel) fun t _ y => ?_
  blk_simp
  rw [after0_4]
  frame_out
  obtain ⟨i, e, rfl⟩ := blk_split (n := 512) y
  have hy : (win0_4.blk t).view.emb (ix3 0 i e) = (ix3 (bT t) (rT t i) e : S2x8192x512.Idx) := by
    blk_ext [idx t]
  refine Eq.trans ?_ (congrArg (partArr (xM m c) (gM m c) (wM m c) colK) hy).symm
  exact (pay6_at _ _ _ i e).trans (part_at m c t 512 512 _ i e (colK e) rfl)

theorem final5 : (dats m 0 c).arrAt 5 cfg0.N = partArr (xM m c) (gM m c) (wM m c) colV := by
  refine (dats m 0 c).arrAt_eq_of_covers 5 _ (by decide +kernel) fun t _ y => ?_
  blk_simp
  rw [after0_5]
  frame_out
  obtain ⟨i, e, rfl⟩ := blk_split (n := 512) y
  have hy : (win0_5.blk t).view.emb (ix3 0 i e) = (ix3 (bT t) (rT t i) e : S2x8192x512.Idx) := by
    blk_ext [idx t]
  refine Eq.trans ?_ (congrArg (partArr (xM m c) (gM m c) (wM m c) colV) hy).symm
  rw [gains_eq, rstds_eq]
  exact (pay8_at _ _ _ i e).trans (part_at m c t 512 1024 _ i e (colV e) rfl)

theorem final6 : (dats m 0 c).arrAt 6 cfg0.N = zArr (xM m c) (gM m c) (wM m c) := by
  refine (dats m 0 c).arrAt_eq_of_covers 6 _ (by decide +kernel) fun t _ y => ?_
  blk_simp
  rw [after0_6]
  frame_out
  obtain ⟨i, e, rfl⟩ := blk_split (n := 512) y
  have hy : (win0_6.blk t).view.emb (ix3 0 i e) = (ix3 (bT t) (rT t i) e : S2x8192x512.Idx) := by
    blk_ext [idx t]
  refine Eq.trans ?_ (congrArg (zArr (xM m c) (gM m c) (wM m c)) hy).symm
  rw [gains_eq, rstds_eq]
  exact (pay10_at _ _ _ _ i e).trans (congrArg₂ (fun p q : EReal => p * q) (part_at m c t 512 2560 _ i e (colC e) rfl) (part_at m c t 512 1536 _ i e (colU e) rfl))

theorem final7 : (dats m 0 c).arrAt 7 cfg0.N = partArr (xM m c) (gM m c) (wM m c) colB := by
  refine (dats m 0 c).arrAt_eq_of_covers 7 _ (by decide +kernel) fun t _ y => ?_
  blk_simp
  rw [after0_7]
  frame_out
  obtain ⟨i, e, rfl⟩ := blk_split (n := 512) y
  have hy : (win0_7.blk t).view.emb (ix3 0 i e) = (ix3 (bT t) (rT t i) e : S2x8192x512.Idx) := by
    blk_ext [idx t]
  refine Eq.trans ?_ (congrArg (partArr (xM m c) (gM m c) (wM m c) colB) hy).symm
  rw [gains_eq, rstds_eq]
  exact (pay9_at _ _ _ i e).trans (part_at m c t 512 2048 _ i e (colB e) rfl)

theorem final8 : (dats m 0 c).arrAt 8 cfg0.N = glArr (xM m c) (gM m c) (wM m c) := by
  refine (dats m 0 c).arrAt_eq_of_covers 8 _ (by decide +kernel) fun t _ y => ?_
  blk_simp
  rw [after0_8]
  obtain ⟨i, e, rfl⟩ := blk_split (n := 2048) y
  have hy : (win0_8.blk t).view.emb (ix3 0 i e) = (ix3 (bT t) (rT t i) e : S2x8192x2048.Idx) := by
    blk_ext [idx t]
  refine Eq.trans ?_ (congrArg (glArr (xM m c) (gM m c) (wM m c)) hy).symm
  unfold out0_8
  rw [gains_eq, rstds_eq]
  canon_tiles x h
  · obtain ⟨i', e', rfl⟩ := blk_split (n := 1024) x
    obtain rfl : i = i' := Fin.ext h1
    exact (pay2_at _ _ _ i e').trans (part_at m c t 1024 4096 _ i e' (colG e) (by have h3 : e.val = 1024 + e'.val := h2; show 4096 + e'.val = 3072 + e.val; omega))
  · obtain ⟨i', e', rfl⟩ := blk_split (n := 1024) x
    obtain rfl : i = i' := Fin.ext h1
    exact (pay1_at _ _ _ i e').trans (part_at m c t 1024 3072 _ i e' (colG e) (by have h3 : e.val = e'.val := h2; show 3072 + e'.val = 3072 + e.val; omega))

end Cert.Layer.Proj
-- ==== Proof.RefProj.lean ====
/- The reference's six results of the first call, each as one array. -/
module

public import proofs.«01_k».proof.Proof.Gen.Reference2Ideal.Run
public import proofs.«01_k».proof.Proof.RowProj
public import Idealize.ShloMosaic.Lib.Pointwise

@[expose] public section

set_option maxRecDepth 16384

noncomputable section

namespace Cert.Layer.RefProj

open Cert.Reference2Ideal Cert.Reference2Ideal.Gen Cert.Reference2Ideal.Value Idealize.ShloMosaic Idealize.ShloMosaic.TcCoe Idealize.ShloMosaic.Pointwise

/-- The whole combined projection, as the reference computes it. -/
abbrev allU (X : FVec Ideal S2x8192x1024 .f32) (G : FVec Ideal S1x1024 .f32) (W : FVec Ideal S1x1024x5120 .f32) : FVec Ideal S2x8192x5120 .f32 :=
  (Host.dotGeneral (F := Ideal) (φ₁ := .f32) (φ₂ := .f32) dot_S2x8192x1024_S1024x5120_S2x8192x5120_2_0_01_1_n_n none (mulf (F := Ideal) (φ := .f32) (mulf (F := Ideal) (φ := .f32) X (broadcastInDim S2x8192x1024 ![0, 1, 2] bcast_S2x8192x1_S2x8192x1024_0_1_2 (Host.rsqrt (F := Ideal) (φ := .f32) (addf (F := Ideal) (φ := .f32) (Host.divf (F := Ideal) (φ := .f32) (broadcastInDim S2x8192x1 ![0, 1] bcast_S2x8192_S2x8192x1_0_1 (Host.reduceAdd (F := Ideal) (φ := .f32) (mulf (F := Ideal) (φ := .f32) X X) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 (shapeCast _ G shapeCasts_S1x1024_S1024)))) (shapeCast _ W shapeCasts_S1x1024x5120_S1024x5120))

variable (X : FVec Ideal S2x8192x1024 .f32) (G : FVec Ideal S1x1024 .f32) (W : FVec Ideal S1x1024x5120 .f32)

theorem all_at (b : Fin 2) (t : Fin 8192) (e : Fin 5120) : (allU X G W : S2x8192x5120.Idx → EReal) (ix3 b t e) = projT X G W b t e := by
  unfold projT projR rstd
  pointwise

theorem cut_at (Y : FVec Ideal S2x8192x5120 .f32) (off : Nat) (h : S2x8192x5120.Slices ![0, 0, off] S2x8192x512) (b : Fin 2) (t : Fin 8192) (e : Fin 512) (e' : Fin 5120) (he : off + e.val = e'.val) :
    (extractStridedSlice S2x8192x512 ![0, 0, off] Y h : S2x8192x512.Idx → EReal) (ix3 b t e) = Y (ix3 b t e') := by
  refine congrArg Y ?_
  funext a
  match a with
  | ⟨0, _⟩ => exact Fin.ext (Nat.zero_add _)
  | ⟨1, _⟩ => exact Fin.ext (Nat.zero_add _)
  | ⟨2, _⟩ => exact Fin.ext he

theorem idx_split {n : Nat} (j : (⟨3, ![2, 8192, n]⟩ : Shape).Idx) : ∃ (b : Fin 2) (t : Fin 8192) (e : Fin n), j = ix3 b t e :=
  ⟨j 0, j 1, j 2, by funext a; match a with | ⟨0, _⟩ => rfl | ⟨1, _⟩ => rfl | ⟨2, _⟩ => rfl⟩

theorem q_arr : (truncf .bf16 (extractStridedSlice S2x8192x512 ![0, 0, 0] (allU X G W) slices_S2x8192x5120_S2x8192x512_0_0_0) bitsLt_bf16_f32 : FVec Ideal S2x8192x512 .bf16) = partArr X G W colQ := by
  refine funext fun j => ?_
  obtain ⟨b, t, e, rfl⟩ := idx_split j
  exact (cut_at _ 0 slices_S2x8192x5120_S2x8192x512_0_0_0 b t e (colQ e) (Nat.zero_add _)).trans (all_at X G W b t _)

theorem k_arr : (truncf .bf16 (extractStridedSlice S2x8192x512 ![0, 0, 512] (allU X G W) slices_S2x8192x5120_S2x8192x512_0_0_512) bitsLt_bf16_f32 : FVec Ideal S2x8192x512 .bf16) = partArr X G W colK := by
  refine funext fun j => ?_
  obtain ⟨b, t, e, rfl⟩ := idx_split j
  exact (cut_at _ 512 slices_S2x8192x5120_S2x8192x512_0_0_512 b t e (colK e) rfl).trans (all_at X G W b t _)

theorem v_arr : (truncf .bf16 (extractStridedSlice S2x8192x512 ![0, 0, 1024] (allU X G W) slices_S2x8192x5120_S2x8192x512_0_0_1024) bitsLt_bf16_f32 : FVec Ideal S2x8192x512 .bf16) = partArr X G W colV := by
  refine funext fun j => ?_
  obtain ⟨b, t, e, rfl⟩ := idx_split j
  exact (cut_at _ 1024 slices_S2x8192x5120_S2x8192x512_0_0_1024 b t e (colV e) rfl).trans (all_at X G W b t _)

theorem bg_arr : (truncf .bf16 (extractStridedSlice S2x8192x512 ![0, 0, 2048] (allU X G W) slices_S2x8192x5120_S2x8192x512_0_0_2048) bitsLt_bf16_f32 : FVec Ideal S2x8192x512 .bf16) = partArr X G W colB := by
  refine funext fun j => ?_
  obtain ⟨b, t, e, rfl⟩ := idx_split j
  exact (cut_at _ 2048 slices_S2x8192x5120_S2x8192x512_0_0_2048 b t e (colB e) rfl).trans (all_at X G W b t _)

theorem z_arr : (truncf .bf16 (mulf (extractStridedSlice S2x8192x512 ![0, 0, 2560] (allU X G W) slices_S2x8192x5120_S2x8192x512_0_0_2560) (extractStridedSlice S2x8192x512 ![0, 0, 1536] (allU X G W) slices_S2x8192x5120_S2x8192x512_0_0_1536)) bitsLt_bf16_f32 : FVec Ideal S2x8192x512 .bf16) = zArr X G W := by
  refine funext fun j => ?_
  obtain ⟨b, t, e, rfl⟩ := idx_split j
  exact congrArg₂ (fun p q : EReal => p * q) ((cut_at _ 2560 slices_S2x8192x5120_S2x8192x512_0_0_2560 b t e (colC e) rfl).trans (all_at X G W b t _)) ((cut_at _ 1536 slices_S2x8192x5120_S2x8192x512_0_0_1536 b t e (colU e) rfl).trans (all_at X G W b t _))

theorem gl_arr : (truncf .bf16 (extractStridedSlice S2x8192x2048 ![0, 0, 3072] (allU X G W) slices_S2x8192x5120_S2x8192x2048_0_0_3072) bitsLt_bf16_f32 : FVec Ideal S2x8192x2048 .bf16) = glArr X G W := by
  refine funext fun j => ?_
  obtain ⟨b, t, e, rfl⟩ := idx_split j
  refine Eq.trans ?_ (all_at X G W b t (colG e))
  refine congrArg (allU X G W) ?_
  funext a
  match a with
  | ⟨0, _⟩ => exact Fin.ext (Nat.zero_add _)
  | ⟨1, _⟩ => exact Fin.ext (Nat.zero_add _)
  | ⟨2, _⟩ => rfl

end Cert.Layer.RefProj
-- ==== Proof.PromptOffs.lean ====
/- For the prompt batch: where a grid step reads its keys, values and bias. -/
module

public import proofs.«01_k».proof.Proof.Gen.Kernel3Ideal.Value
public import proofs.«01_k».proof.Proof.Sweep
public import Idealize.ShloMosaic.Lib.Pipeline.ValueKit
public import Idealize.ShloMosaic.Lib.Pipeline.ReadBack

@[expose] public section

set_option maxRecDepth 16384

noncomputable section

namespace Cert.Layer.PKern

open Cert.Layer.Kern
open Cert.Kernel3Ideal Cert.Kernel3Ideal.Gen Idealize.ShloMosaic Idealize.ShloMosaic.TcCoe Idealize.ShloMosaic.Pointwise Idealize.SL.Sem Idealize.ShloMosaic.Tactic

/-- The tile of its batch whose attention grid step `t` computes. -/
abbrev gt (t : Nat) : Nat := min t 127 % 16
/-- The same as a number below 16. -/
abbrev gF (t : Nat) : Fin 16 := ⟨gt t, Nat.mod_lt _ (by decide)⟩

theorem off1_eq : ∀ (t : Fin cfg0.N) (r : Fin 8), k0_off1 (grid0.coords t) (BitVec.ofNat 32 r.val) = ![0, ko (gt t.val) r.val, 0] := by
  decide +kernel
theorem off3_eq : ∀ (t : Fin cfg0.N) (r : Fin 8), k0_off3 (grid0.coords t) (BitVec.ofNat 32 r.val) = ![0, ko (gt t.val) r.val, 128] := by
  decide +kernel
theorem off5_eq : ∀ (t : Fin cfg0.N) (r : Fin 8), k0_off5 (grid0.coords t) (BitVec.ofNat 32 r.val) = ![0, ko (gt t.val) r.val, 256] := by
  decide +kernel
theorem off7_eq : ∀ (t : Fin cfg0.N) (r : Fin 8), k0_off7 (grid0.coords t) (BitVec.ofNat 32 r.val) = ![0, ko (gt t.val) r.val, 384] := by
  decide +kernel
theorem off2_eq : ∀ (t : Fin cfg0.N) (r : Fin 8) (j : Fin 4), k0_off2 (grid0.coords t) (BitVec.ofNat 32 r.val) (BitVec.ofNat 32 j.val)
    = ![sh (gt t.val) r.val % 2, 0, sh (gt t.val) r.val / 2 + j.val, 0, 0] := by
  decide +kernel
theorem off4_eq : ∀ (t : Fin cfg0.N) (r : Fin 8) (j : Fin 4), k0_off4 (grid0.coords t) (BitVec.ofNat 32 r.val) (BitVec.ofNat 32 j.val)
    = ![sh (gt t.val) r.val % 2, 1, sh (gt t.val) r.val / 2 + j.val, 0, 0] := by
  decide +kernel
theorem off6_eq : ∀ (t : Fin cfg0.N) (r : Fin 8) (j : Fin 4), k0_off6 (grid0.coords t) (BitVec.ofNat 32 r.val) (BitVec.ofNat 32 j.val)
    = ![sh (gt t.val) r.val % 2, 2, sh (gt t.val) r.val / 2 + j.val, 0, 0] := by
  decide +kernel
theorem off8_eq : ∀ (t : Fin cfg0.N) (r : Fin 8) (j : Fin 4), k0_off8 (grid0.coords t) (BitVec.ofNat 32 r.val) (BitVec.ofNat 32 j.val)
    = ![sh (gt t.val) r.val % 2, 3, sh (gt t.val) r.val / 2 + j.val, 0, 0] := by
  decide +kernel

end Cert.Layer.PKern
-- ==== Proof.PromptOutB.lean ====
/- For the prompt batch: what a grid step after the first one leaves in the output window. -/
module

public import proofs.«01_k».proof.Proof.PromptOffs
public import proofs.«01_k».proof.Proof.OutB
public import proofs.«01_k».proof.Proof.Post
public import Idealize.ShloMosaic.Lib.Pipeline.ReadBack

@[expose] public section

set_option maxRecDepth 16384

noncomputable section

namespace Cert.Layer.PKern

open Cert.Layer.Kern
open Cert.Kernel3Ideal Cert.Kernel3Ideal.Gen Idealize.ShloMosaic Idealize.ShloMosaic.TcCoe Idealize.ShloMosaic.Pointwise Idealize.SL.Sem Idealize.ShloMosaic.Tactic

/-- The word of the tile of its sequence that a grid step finishes, before it is made positive. -/
abbrev remW (t : Fin cfg0.N) : BitVec 32 := Scalar.remsi (Scalar.maxsi (Scalar.subi (BitVec.ofNat 32 (grid0.coords t 0).val) 1#32) 0#32) 16#32

/-- The word of the tile of its sequence that a grid step finishes. -/
abbrev tileW (t : Fin cfg0.N) : BitVec 32 :=
  Scalar.select (Scalar.andi (Scalar.xori (Scalar.cmpi .slt (remW t) 0#32) 0#1) (Scalar.cmpi .ne (remW t) 0#32)) (Scalar.addi (remW t) 16#32) (remW t)

variable (m : (ℓ : Loc nD τ sig) → Buf (Elt Ideal) ℓ)

set_option maxHeartbeats 8000000 in
theorem outB_raw (c : Dev nD) (t : Fin cfg0.N) (h : ¬ t.val % 129 = 0) :
    (outsAt0 m c t.val t.isLt).1
      = postU (x1U (iblk m c 4 t) (View.read (Elt Ideal) (View.whole cc0_scratch3) ((Memref.isWhole_whole cc0_scratch3).unread (outsAt0 m c (t.val - 1) (Nat.lt_of_le_of_lt (Nat.sub_le t.val 1) t.isLt)).2))
          (convU (Scalar.cmpi .sgt (tileW t) 0#32) (Scalar.cmpi .slt (tileW t) 15#32) (iblk m c 5 t) (iblk m c 8 t)
            (View.ld (Val := Elt Ideal) (e' := .bf16) (iblk m c 6 t) (Rect.unit ![0, 15, 0] ![1, 1, 512] k0_part2._proof_1))
            (View.ld (Val := Elt Ideal) (e' := .bf16) (iblk m c 7 t) (Rect.unit ![0, 0, 0] ![1, 1, 512] k0_part2._proof_4)) (iblk m c 11 t))
          (gatesU (iblk m c 9 t) (iblk m c 10 t)) (iblk m c 12 t) (iblk m c 13 t) (iblk m c 14 t))
        (iblk m c 15 t) (iblk m c 16 t) (iblk m c 17 t) (iblk m c 18 t) := by
  rw [outsAt0_B m c t h]
  dsimp only
  frame_open
  simp (disch := decide) only [↓ View.readCov_skip, ↓ View.readCov_cons_toLoadRect, ↓ View.readCov_fill]
  frame_out
  unfold postU
  rfl

theorem outB (c : Dev nD) (t : Fin cfg0.N) (h : ¬ t.val % 129 = 0) :
    (outsAt0 m c t.val t.isLt).1
      = postU (x1U (iblk m c 4 t) (outsAt0 m c (t.val - 1) (Nat.lt_of_le_of_lt (Nat.sub_le t.val 1) t.isLt)).2
          (convU (Scalar.cmpi .sgt (tileW t) 0#32) (Scalar.cmpi .slt (tileW t) 15#32) (iblk m c 5 t) (iblk m c 8 t)
            (View.ld (Val := Elt Ideal) (e' := .bf16) (iblk m c 6 t) (Rect.unit ![0, 15, 0] ![1, 1, 512] k0_part2._proof_1))
            (View.ld (Val := Elt Ideal) (e' := .bf16) (iblk m c 7 t) (Rect.unit ![0, 0, 0] ![1, 1, 512] k0_part2._proof_4)) (iblk m c 11 t))
          (gatesU (iblk m c 9 t) (iblk m c 10 t)) (iblk m c 12 t) (iblk m c 13 t) (iblk m c 14 t))
        (iblk m c 15 t) (iblk m c 16 t) (iblk m c 17 t) (iblk m c 18 t) := by
  rw [outB_raw m c t h, read_unread_whole]

end Cert.Layer.PKern
-- ==== Proof.PromptBlocks.lean ====
/- For the prompt batch: the blocks that a grid step reads, as parts of the arrays they are staged from. -/
module

public import proofs.«01_k».proof.Proof.Blocks
public import proofs.«01_k».proof.Proof.PromptOffs
public import proofs.«01_k».proof.Proof.PromptOutB

@[expose] public section

set_option maxRecDepth 16384

noncomputable section

namespace Cert.Layer.PKern

open Cert.Layer.Kern
open Cert.Kernel3Ideal Cert.Kernel3Ideal.Gen Idealize.ShloMosaic Idealize.ShloMosaic.TcCoe Idealize.ShloMosaic.Pointwise Idealize.SL.Sem Idealize.ShloMosaic.Tactic

theorem idx0 : ∀ t : Fin cfg0.N, win0_0.index t = ![min t.val 127 / 16, gt t.val, 0] := (by decide +kernel : ∀ t : Fin grid0.N, _)
theorem idx1 : ∀ t : Fin cfg0.N, win0_1.index t = ![min t.val 127 / 16, min (512 * gt t.val - 256) 7168, 0] := (by decide +kernel : ∀ t : Fin grid0.N, _)
theorem idx2 : ∀ t : Fin cfg0.N, win0_2.index t = ![min t.val 127 / 16, min (512 * gt t.val - 256) 7168, 0] := (by decide +kernel : ∀ t : Fin grid0.N, _)
theorem idx3 : ∀ t : Fin cfg0.N, win0_3.index t = ![0, 0, 0, 0, 0] := (by decide +kernel : ∀ t : Fin grid0.N, _)
theorem idx4 : ∀ t : Fin cfg0.N, win0_4.index t = ![(t.val - 1) / 16, (t.val - 1) % 16, 0] := (by decide +kernel : ∀ t : Fin grid0.N, _)
theorem idx5 : ∀ t : Fin cfg0.N, win0_5.index t = ![(t.val - 1) / 16, (t.val - 1) % 16, 0] := (by decide +kernel : ∀ t : Fin grid0.N, _)
theorem idx6 : ∀ t : Fin cfg0.N, win0_6.index t = ![(t.val - 1) / 16, 32 * ((t.val - 1) % 16) - 1, 0] := (by decide +kernel : ∀ t : Fin grid0.N, _)
theorem idx7 : ∀ t : Fin cfg0.N, win0_7.index t = ![(t.val - 1) / 16, min (32 * ((t.val - 1) % 16 + 1)) 511, 0] := (by decide +kernel : ∀ t : Fin grid0.N, _)
theorem idx8 : ∀ t : Fin cfg0.N, win0_8.index t = ![(t.val - 1) / 16, (t.val - 1) % 16, 0] := (by decide +kernel : ∀ t : Fin grid0.N, _)
theorem idx9 : ∀ t : Fin cfg0.N, win0_9.index t = ![(t.val - 1) / 16, (t.val - 1) % 16, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![0, 0] := (by decide +kernel : ∀ t : Fin grid0.N, _)
theorem idx12 : ∀ t : Fin cfg0.N, win0_12.index t = ![0, 0] := (by decide +kernel : ∀ t : Fin grid0.N, _)
theorem idx13 : ∀ t : Fin cfg0.N, win0_13.index t = ![0, 0] := (by decide +kernel : ∀ t : Fin grid0.N, _)
theorem idx14 : ∀ t : Fin cfg0.N, win0_14.index t = ![0, 0] := (by decide +kernel : ∀ t : Fin grid0.N, _)
theorem idx15 : ∀ t : Fin cfg0.N, win0_15.index t = ![0, 0] := (by decide +kernel : ∀ t : Fin grid0.N, _)
theorem idx16 : ∀ t : Fin cfg0.N, win0_16.index t = ![0, 0] := (by decide +kernel : ∀ t : Fin grid0.N, _)
theorem idx17 : ∀ t : Fin cfg0.N, win0_17.index t = ![0, 0] := (by decide +kernel : ∀ t : Fin grid0.N, _)
theorem idx18 : ∀ t : Fin cfg0.N, win0_18.index t = ![0, 0] := (by decide +kernel : ∀ t : Fin grid0.N, _)
theorem idx19 : ∀ t : Fin cfg0.N, win0_19.index t = ![(t.val - 1) / 16, (t.val - 1) % 16, 0] := (by decide +kernel : ∀ t : Fin grid0.N, _)

/-- The batch whose attention step `t` computes. -/
abbrev bF (t : Nat) : Fin 8 := ⟨min t 127 / 16, by omega⟩
/-- The batch, and the tile of it, that step `t` finishes. -/
abbrev bP (t : Fin cfg0.N) : Fin 8 := ⟨(t.val - 1) / 16, by have : t.val < 129 := t.isLt; omega⟩
abbrev gP (t : Fin cfg0.N) : Fin 16 := ⟨(t.val - 1) % 16, by omega⟩

variable (m : (ℓ : Loc nD τ sig) → Buf (Elt Ideal) ℓ) (c : Dev nD) (t : Fin cfg0.N)

theorem blk0 (i l : Fin 512) : (iblk m c 0 t : S1x512x512.Idx → EReal) (ix3 0 i l) = (V m c main_v38 : S8x8192x512.Idx → EReal) (ix3 (bF t.val) (row (gF t.val) i) l) := by
  blk_ext [iblk, idx0 t]
theorem blk1 (i : Fin 1024) (l : Fin 512) : (iblk m c 1 t : S1x1024x512.Idx → EReal) (ix3 0 i l)
    = (V m c main_v39 : S8x8192x512.Idx → EReal) (ix3 (bF t.val) (⟨min (512 * gt t.val - 256) 7168 + i.val, by omega⟩ : Fin 8192) l) := by
  refine congrArg (V m c main_v39) ?_
  funext a; apply Fin.ext
  refine (Pipeline.Window.rect_emb_val_off win0_1 t (ix3 0 i l) a).trans ?_
  have h : ∀ a, win0_1.kind.off (win0_1.index t a) (win0_1.size a) = (![min t.val 127 / 16, min (512 * gt t.val - 256) 7168, 0] : Fin 3 → Nat) a := fun a => (congrFun (idx1 t) a : _)
  rw [h a]
  match a with
  | ⟨0, _⟩ => exact Nat.add_zero _
  | ⟨1, _⟩ => rfl
  | ⟨2, _⟩ => exact Nat.zero_add _
theorem blk2 (i : Fin 1024) (l : Fin 512) : (iblk m c 2 t : S1x1024x512.Idx → EReal) (ix3 0 i l)
    = (V m c main_v40 : S8x8192x512.Idx → EReal) (ix3 (bF t.val) (⟨min (512 * gt t.val - 256) 7168 + i.val, by omega⟩ : Fin 8192) l) := by
  refine congrArg (V m c main_v40) ?_
  funext a; apply Fin.ext
  refine (Pipeline.Window.rect_emb_val_off win0_2 t (ix3 0 i l) a).trans ?_
  have h : ∀ a, win0_2.kind.off (win0_2.index t a) (win0_2.size a) = (![min t.val 127 / 16, min (512 * gt t.val - 256) 7168, 0] : Fin 3 → Nat) a := fun a => (congrFun (idx2 t) a : _)
  rw [h a]
  match a with
  | ⟨0, _⟩ => exact Nat.add_zero _
  | ⟨1, _⟩ => rfl
  | ⟨2, _⟩ => exact Nat.zero_add _
theorem blk3 : (iblk m c 3 t : S2x4x7x128x128.Idx → EReal) = V m c main_v21 := by
  funext y
  blk_ext [iblk, idx3 t]
theorem blk4 (i : Fin 512) (l : Fin 1024) : (iblk m c 4 t : S1x512x1024.Idx → EReal) (ix3 0 i l) = (V m c main_arg0 : S8x8192x1024.Idx → EReal) (ix3 (bP t) (row (gP t) i) l) := by
  blk_ext [iblk, idx4 t]
theorem blk5 (i l : Fin 512) : (iblk m c 5 t : S1x512x512.Idx → EReal) (ix3 0 i l) = (V m c main_v41 : S8x8192x512.Idx → EReal) (ix3 (bP t) (row (gP t) i) l) := by
  blk_ext [iblk, idx5 t]
theorem blk6 (i : Fin 16) (l : Fin 512) : (iblk m c 6 t : S1x16x512.Idx → EReal) (ix3 0 i l)
    = (V m c main_v41 : S8x8192x512.Idx → EReal) (ix3 (bP t) (⟨16 * (32 * (gP t).val - 1) + i.val, by omega⟩ : Fin 8192) l) := by
  blk_ext [iblk, idx6 t]
theorem blk7 (i : Fin 16) (l : Fin 512) : (iblk m c 7 t : S1x16x512.Idx → EReal) (ix3 0 i l)
    = (V m c main_v41 : S8x8192x512.Idx → EReal) (ix3 (bP t) (⟨16 * min (32 * ((gP t).val + 1)) 511 + i.val, by omega⟩ : Fin 8192) l) := by
  blk_ext [iblk, idx7 t]
theorem blk8 (i l : Fin 512) : (iblk m c 8 t : S1x512x512.Idx → EReal) (ix3 0 i l) = (V m c main_v42 : S8x8192x512.Idx → EReal) (ix3 (bP t) (row (gP t) i) l) := by
  blk_ext [iblk, idx8 t]
theorem blk9 (i : Fin 512) (l : Fin 2048) : (iblk m c 9 t : S1x512x2048.Idx → EReal) (ix3 0 i l) = (V m c main_v43 : S8x8192x2048.Idx → EReal) (ix3 (bP t) (row (gP t) i) l) := by
  blk_ext [iblk, idx9 t]
theorem blk10 : (iblk m c 10 t : S1x2048.Idx → EReal) = V m c main_v23 := by
  funext y
  blk_ext [iblk, idx10 t]
theorem blk11 : (iblk m c 11 t : S3x512.Idx → EReal) = V m c main_v24 := by
  funext y
  blk_ext [iblk, idx11 t]
theorem blk12 : (iblk m c 12 t : S512x1024.Idx → EReal) = V m c main_v26 := by
  funext y
  blk_ext [iblk, idx12 t]
theorem blk13 : (iblk m c 13 t : S512x1024.Idx → EReal) = V m c main_v28 := by
  funext y
  blk_ext [iblk, idx13 t]
theorem blk14 : (iblk m c 14 t : S1024x1024.Idx → EReal) = V m c main_v30 := by
  funext y
  blk_ext [iblk, idx14 t]
theorem blk15 : (iblk m c 15 t : S1x1024.Idx → EReal) = V m c main_v32 := by
  funext y
  blk_ext [iblk, idx15 t]
theorem blk16 : (iblk m c 16 t : S1024x5632.Idx → EReal) = V m c main_v34 := by
  funext y
  blk_ext [iblk, idx16 t]
theorem blk17 : (iblk m c 17 t : S2816x1024.Idx → EReal) = V m c main_v36 := by
  funext y
  blk_ext [iblk, idx17 t]
theorem blk18 : (iblk m c 18 t : S1x1024.Idx → EReal) = V m c main_v37 := by
  funext y
  blk_ext [iblk, idx18 t]

/-- The tile number of a step, as the body compares it with the first and the last tile. -/
theorem tileW_first : ∀ t : Fin cfg0.N, Scalar.cmpi .sgt (tileW t) 0#32 = if (t.val - 1) % 16 = 0 then 0#1 else 1#1 := (by decide +kernel : ∀ t : Fin grid0.N, _)
theorem tileW_last : ∀ t : Fin cfg0.N, Scalar.cmpi .slt (tileW t) 15#32 = if (t.val - 1) % 16 = 15 then 0#1 else 1#1 := (by decide +kernel : ∀ t : Fin grid0.N, _)

end Cert.Layer.PKern
-- ==== Proof.PromptEntry.lean ====
/- For the prompt batch: the arrays that the kernel's blocks come from, when its grid starts. -/
module

public import proofs.«01_k».proof.Proof.PromptOffs
public import proofs.«01_k».proof.Proof.Consts
public import proofs.«01_k».proof.Proof.Bias
public import Idealize.ShloMosaic.Lib.Claim
public import Idealize.ShloMosaic.Lib.Tactic.CleanTypes

@[expose] public section

set_option maxRecDepth 16384

noncomputable section

namespace Cert.Layer.PKern

open Cert.Layer.Kern
open Cert.Kernel3Ideal Cert.Kernel3Ideal.Gen Idealize.ShloMosaic Idealize.ShloMosaic.TcCoe Idealize.ShloMosaic.Pointwise Idealize.SL.Sem Idealize.ShloMosaic.Tactic

variable (m : (ℓ : Loc nD τ sig) → Buf (Elt Ideal) ℓ) (c : Dev nD)

theorem V38_at (i : S8x8192x512.Idx) : (V m c main_v38 : S8x8192x512.Idx → EReal) i = m ((c : Thread nD τ).loc main_arg1) i := by
  simp only [V, hostOps0, hostOps0_1, hostOps0_2, hostOps0_3, hostOps0_4, List.flatten_cons, List.flatten_nil, List.append_nil, List.cons_append, List.nil_append]
  entry_read
  rfl
theorem V39_at (i : S8x8192x512.Idx) : (V m c main_v39 : S8x8192x512.Idx → EReal) i = m ((c : Thread nD τ).loc main_arg2) i := by
  simp only [V, hostOps0, hostOps0_1, hostOps0_2, hostOps0_3, hostOps0_4, List.flatten_cons, List.flatten_nil, List.append_nil, List.cons_append, List.nil_append]
  entry_read
  rfl
theorem V40_at (i : S8x8192x512.Idx) : (V m c main_v40 : S8x8192x512.Idx → EReal) i = m ((c : Thread nD τ).loc main_arg3) i := by
  simp only [V, hostOps0, hostOps0_1, hostOps0_2, hostOps0_3, hostOps0_4, List.flatten_cons, List.flatten_nil, List.append_nil, List.cons_append, List.nil_append]
  entry_read
  rfl
theorem V41_at (i : S8x8192x512.Idx) : (V m c main_v41 : S8x8192x512.Idx → EReal) i = m ((c : Thread nD τ).loc main_arg4) i := by
  simp only [V, hostOps0, hostOps0_1, hostOps0_2, hostOps0_3, hostOps0_4, List.flatten_cons, List.flatten_nil, List.append_nil, List.cons_append, List.nil_append]
  entry_read
  rfl
theorem V42_at (i : S8x8192x512.Idx) : (V m c main_v42 : S8x8192x512.Idx → EReal) i = m ((c : Thread nD τ).loc main_arg5) i := by
  simp only [V, hostOps0, hostOps0_1, hostOps0_2, hostOps0_3, hostOps0_4, List.flatten_cons, List.flatten_nil, List.append_nil, List.cons_append, List.nil_append]
  entry_read
  rfl
theorem V43_at (i : S8x8192x2048.Idx) : (V m c main_v43 : S8x8192x2048.Idx → EReal) i = m ((c : Thread nD τ).loc main_arg6) i := by
  simp only [V, hostOps0, hostOps0_1, hostOps0_2, hostOps0_3, hostOps0_4, List.flatten_cons, List.flatten_nil, List.append_nil, List.cons_append, List.nil_append]
  entry_read
  rfl

theorem V23_at (e : Fin 2048) : (V m c main_v23 : S1x2048.Idx → EReal) (ix2 0 e) = (m ((c : Thread nD τ).loc main_arg7) : S1x2048.Idx → EReal) (ix2 0 e) := by
  simp only [V, hostOps0, hostOps0_1, hostOps0_2, hostOps0_3, hostOps0_4, List.flatten_cons, List.flatten_nil, List.append_nil, List.cons_append, List.nil_append]
  entry_read
  pointwise
theorem V24_at (i : Fin 3) (e : Fin 512) : (V m c main_v24 : S3x512.Idx → EReal) (ix2 i e) = (m ((c : Thread nD τ).loc main_arg9) : S1x3x512.Idx → EReal) (ix3 0 i e) := by
  simp only [V, hostOps0, hostOps0_1, hostOps0_2, hostOps0_3, hostOps0_4, List.flatten_cons, List.flatten_nil, List.append_nil, List.cons_append, List.nil_append]
  entry_read
  pointwise
theorem V26_at (i : Fin 512) (e : Fin 1024) : (V m c main_v26 : S512x1024.Idx → EReal) (ix2 i e) = (m ((c : Thread nD τ).loc main_arg10) : S1x512x1024.Idx → EReal) (ix3 0 i e) := by
  simp only [V, hostOps0, hostOps0_1, hostOps0_2, hostOps0_3, hostOps0_4, List.flatten_cons, List.flatten_nil, List.append_nil, List.cons_append, List.nil_append]
  entry_read
  pointwise
theorem V28_at (i : Fin 512) (e : Fin 1024) : (V m c main_v28 : S512x1024.Idx → EReal) (ix2 i e) = (m ((c : Thread nD τ).loc main_arg11) : S1x512x1024.Idx → EReal) (ix3 0 i e) := by
  simp only [V, hostOps0, hostOps0_1, hostOps0_2, hostOps0_3, hostOps0_4, List.flatten_cons, List.flatten_nil, List.append_nil, List.cons_append, List.nil_append]
  entry_read
  pointwise
theorem V30_at (i : Fin 1024) (e : Fin 1024) : (V m c main_v30 : S1024x1024.Idx → EReal) (ix2 i e) = (m ((c : Thread nD τ).loc main_arg12) : S1x1024x1024.Idx → EReal) (ix3 0 i e) := by
  simp only [V, hostOps0, hostOps0_1, hostOps0_2, hostOps0_3, hostOps0_4, List.flatten_cons, List.flatten_nil, List.append_nil, List.cons_append, List.nil_append]
  entry_read
  pointwise
theorem V32_at (e : Fin 1024) : (V m c main_v32 : S1x1024.Idx → EReal) (ix2 0 e) = (m ((c : Thread nD τ).loc main_arg13) : S1x1024.Idx → EReal) (ix2 0 e) := by
  simp only [V, hostOps0, hostOps0_1, hostOps0_2, hostOps0_3, hostOps0_4, List.flatten_cons, List.flatten_nil, List.append_nil, List.cons_append, List.nil_append]
  entry_read
  pointwise
theorem V34_at (i : Fin 1024) (e : Fin 5632) : (V m c main_v34 : S1024x5632.Idx → EReal) (ix2 i e) = (m ((c : Thread nD τ).loc main_arg14) : S1x1024x5632.Idx → EReal) (ix3 0 i e) := by
  simp only [V, hostOps0, hostOps0_1, hostOps0_2, hostOps0_3, hostOps0_4, List.flatten_cons, List.flatten_nil, List.append_nil, List.cons_append, List.nil_append]
  entry_read
  pointwise
theorem V36_at (i : Fin 2816) (e : Fin 1024) : (V m c main_v36 : S2816x1024.Idx → EReal) (ix2 i e) = (m ((c : Thread nD τ).loc main_arg15) : S1x2816x1024.Idx → EReal) (ix3 0 i e) := by
  simp only [V, hostOps0, hostOps0_1, hostOps0_2, hostOps0_3, hostOps0_4, List.flatten_cons, List.flatten_nil, List.append_nil, List.cons_append, List.nil_append]
  entry_read
  pointwise
theorem V37_at (e : Fin 1024) : (V m c main_v37 : S1x1024.Idx → EReal) (ix2 0 e) = (m ((c : Thread nD τ).loc main_arg16) : S1024.Idx → EReal) (ix1 e) := by
  simp only [V, hostOps0, hostOps0_1, hostOps0_2, hostOps0_3, hostOps0_4, List.flatten_cons, List.flatten_nil, List.append_nil, List.cons_append, List.nil_append]
  entry_read
  pointwise

theorem V21 : (V m c main_v21 : S2x4x7x128x128.Idx → EReal) = tableU (m ((c : Thread nD τ).loc main_arg8)) := by
  simp only [V, hostOps0, hostOps0_1, hostOps0_2, hostOps0_3, hostOps0_4, List.flatten_cons, List.flatten_nil, List.append_nil, List.cons_append, List.nil_append]
  entry_read
  rfl

end Cert.Layer.PKern
-- ==== Proof.PromptRefIdx.lean ====
/- For the prompt batch: the reference's integer index arrays and its four gathers, read at an index. -/
module

public import proofs.«01_k».proof.Proof.Gen.Reference3Ideal.Run
public import proofs.«01_k».proof.Proof.RefIdx
public import Idealize.ShloMosaic.Lib.Pointwise
public import Idealize.ShloMosaic.Lib.WordArith
public import Idealize.ShloMosaic.Lib.Tactic.CleanTypes

@[expose] public section

set_option maxRecDepth 16384

noncomputable section

namespace Cert.Layer.PRef

open Cert.Layer.Ref
open Cert.Reference3Ideal Cert.Reference3Ideal.Gen Cert.Reference3Ideal.Value Idealize.ShloMosaic Idealize.ShloMosaic.TcCoe
open Idealize.ShloMosaic.Pointwise

variable {F : FTy → Type} [FloatOps F]

theorem v15_at (V : Valuation τ sig (Elt F)) (j : Fin 4) (w : Fin 32) :
    res_main_v15 V (ix2 j w) = BitVec.ofNat 32 (kcol j.val w.val) := by
  unfold res_main_v15 res_main_v4
  clean_types
  pointwise
  revert j w
  decide +kernel

theorem v23_at (V : Valuation τ sig (Elt F)) (j : Fin 4) (c : Fin 16) :
    res_main_v23 V (ix2 j c) = BitVec.ofNat 32 (16 * j.val + c.val) := by
  unfold res_main_v23 res_main_v4
  clean_types
  pointwise
  revert j c
  decide +kernel

theorem v26_at (V : Valuation τ sig (Elt F)) (j : Fin 4) (c : Fin 16) :
    res_main_v26 V (ix2 j c) = BitVec.ofNat 32 (cst j.val c.val) := by
  unfold res_main_v26
  clean_types
  pointwise [v23_at]
  revert j c
  decide +kernel

theorem v49_at (V : Valuation τ sig (Elt F)) (j : Fin 4) (c : Fin 16) (w : Fin 32) :
    res_main_v49 V (ix3 j c w) = BitVec.ofNat 32 (bcol j.val c.val w.val) := by
  unfold res_main_v49
  clean_types
  pointwise [v15_at, v23_at]
  revert j c w
  decide +kernel

theorem v59_at (V : Valuation τ sig (Elt F)) (r : Fin 128) (w : Fin 8) :
    res_main_v59 V (ix2 r w) = BitVec.ofNat 32 (krow r.val w.val) := by
  unfold res_main_v59 res_main_v50
  clean_types
  pointwise
  revert r w
  decide +kernel

theorem v64_at (V : Valuation τ sig (Elt F)) (r : Fin 128) (w : Fin 8) :
    res_main_v64 V (ix2 r w) = BitVec.ofNat 32 (brow r.val w.val) := by
  unfold res_main_v64 res_main_v50
  clean_types
  pointwise [v59_at]
  revert r w
  decide +kernel

variable {α : Type}

/-- Gathering rows of keys or values. -/
theorem gather_rows (x : S8x128x64x8x64.Idx → α) (idx : IVec S128x8x1 32) (b : Fin 8) (r : Fin 128) (w : Fin 8) (c : Fin 64)
    (h : Fin 8) (d : Fin 64) (k : Fin 128) (hk : idx (ix3 r w 0) = BitVec.ofNat 32 k.val) :
    Host.gather gather_S8x128x64x8x64_S128x8x1_S8x128x8x64x8x64_0345_1_n_n_1_2_8164864 x idx (ix6 b r w c h d)
      = x (ix5 b k c h d) := by
  unfold Host.gather
  refine congrArg x (funext fun a => Fin.ext ?_)
  have hs : (gather_S8x128x64x8x64_S128x8x1_S8x128x8x64x8x64_0345_1_n_n_1_2_8164864).siIdx (ix6 b r w c h d) ⟨0, by decide⟩ = ix3 r w 0 := by
    funext a; match a with
    | ⟨0, _⟩ => rfl
    | ⟨1, _⟩ => rfl
    | ⟨2, _⟩ => rfl
  have hb := k.isLt
  match a with
  | ⟨0, _⟩ => show 0 + 0 + b.val = b.val; omega
  | ⟨1, _⟩ =>
    show min (idx ((gather_S8x128x64x8x64_S128x8x1_S8x128x8x64x8x64_0345_1_n_n_1_2_8164864).siIdx (ix6 b r w c h d) ⟨0, by decide⟩)).toInt.toNat (128 - 1) + 0 + 0 = k.val
    rw [hs, hk, WordArith.toInt_ofNat_small _ (by omega)]
    omega
  | ⟨2, _⟩ => show 0 + 0 + c.val = c.val; omega
  | ⟨3, _⟩ => show 0 + 0 + h.val = h.val; omega
  | ⟨4, _⟩ => show 0 + 0 + d.val = d.val; omega

/-- Gathering columns of keys or values. -/
theorem gather_cols (x : S8x128x8x64x8x64.Idx → α) (idx : IVec S4x32x1 32) (b : Fin 8) (r : Fin 128) (w : Fin 8) (j : Fin 4) (c : Fin 32) (h : Fin 8) (d : Fin 64)
    (k : Fin 64) (hk : idx (ix3 j c 0) = BitVec.ofNat 32 k.val) :
    Host.gather gather_S8x128x8x64x8x64_S4x32x1_S8x128x8x4x32x8x64_01256_3_n_n_3_2_812881864 x idx (ix7 b r w j c h d)
      = x (ix6 b r w k h d) := by
  unfold Host.gather
  refine congrArg x (funext fun a => Fin.ext ?_)
  have hs : (gather_S8x128x8x64x8x64_S4x32x1_S8x128x8x4x32x8x64_01256_3_n_n_3_2_812881864).siIdx (ix7 b r w j c h d) ⟨0, by decide⟩ = ix3 j c 0 := by
    funext a; match a with
    | ⟨0, _⟩ => rfl
    | ⟨1, _⟩ => rfl
    | ⟨2, _⟩ => rfl
  have hb := k.isLt
  match a with
  | ⟨0, _⟩ => show 0 + 0 + b.val = b.val; omega
  | ⟨1, _⟩ => show 0 + 0 + r.val = r.val; omega
  | ⟨2, _⟩ => show 0 + 0 + w.val = w.val; omega
  | ⟨3, _⟩ =>
    show min (idx ((gather_S8x128x8x64x8x64_S4x32x1_S8x128x8x4x32x8x64_01256_3_n_n_3_2_812881864).siIdx (ix7 b r w j c h d) ⟨0, by decide⟩)).toInt.toNat (64 - 1) + 0 + 0 = k.val
    rw [hs, hk, WordArith.toInt_ofNat_small _ (by omega)]
    omega
  | ⟨4, _⟩ => show 0 + 0 + h.val = h.val; omega
  | ⟨5, _⟩ => show 0 + 0 + d.val = d.val; omega

/-- Gathering columns of the bias table. -/
theorem gather_bcols (x : S8x15x31.Idx → α) (idx : IVec S4x16x32x1 32) (h : Fin 8) (e : Fin 15) (j : Fin 4) (c : Fin 16) (w : Fin 32)
    (k : Fin 31) (hk : idx (ix4 j c w 0) = BitVec.ofNat 32 k.val) :
    Host.gather gather_S8x15x31_S4x16x32x1_S8x15x4x16x32_01_2_n_n_2_3_8151 x idx (ix5 h e j c w)
      = x (ix3 h e k) := by
  unfold Host.gather
  refine congrArg x (funext fun a => Fin.ext ?_)
  have hs : (gather_S8x15x31_S4x16x32x1_S8x15x4x16x32_01_2_n_n_2_3_8151).siIdx (ix5 h e j c w) ⟨0, by decide⟩ = ix4 j c w 0 := by
    funext a; match a with
    | ⟨0, _⟩ => rfl
    | ⟨1, _⟩ => rfl
    | ⟨2, _⟩ => rfl
    | ⟨3, _⟩ => rfl
  have hb := k.isLt
  match a with
  | ⟨0, _⟩ => show 0 + 0 + h.val = h.val; omega
  | ⟨1, _⟩ => show 0 + 0 + e.val = e.val; omega
  | ⟨2, _⟩ =>
    show min (idx ((gather_S8x15x31_S4x16x32x1_S8x15x4x16x32_01_2_n_n_2_3_8151).siIdx (ix5 h e j c w) ⟨0, by decide⟩)).toInt.toNat (31 - 1) + 0 + 0 = k.val
    rw [hs, hk, WordArith.toInt_ofNat_small _ (by omega)]
    omega

/-- Gathering rows of the bias table. -/
theorem gather_brows (x : S8x15x4x16x32.Idx → α) (idx : IVec S128x8x1 32) (h : Fin 8) (r : Fin 128) (w : Fin 8) (j : Fin 4) (c : Fin 16) (v : Fin 32)
    (k : Fin 15) (hk : idx (ix3 r w 0) = BitVec.ofNat 32 k.val) :
    Host.gather gather_S8x15x4x16x32_S128x8x1_S8x128x8x4x16x32_0345_1_n_n_1_2_8141632 x idx (ix6 h r w j c v)
      = x (ix5 h k j c v) := by
  unfold Host.gather
  refine congrArg x (funext fun a => Fin.ext ?_)
  have hs : (gather_S8x15x4x16x32_S128x8x1_S8x128x8x4x16x32_0345_1_n_n_1_2_8141632).siIdx (ix6 h r w j c v) ⟨0, by decide⟩ = ix3 r w 0 := by
    funext a; match a with
    | ⟨0, _⟩ => rfl
    | ⟨1, _⟩ => rfl
    | ⟨2, _⟩ => rfl
  have hb := k.isLt
  match a with
  | ⟨0, _⟩ => show 0 + 0 + h.val = h.val; omega
  | ⟨1, _⟩ =>
    show min (idx ((gather_S8x15x4x16x32_S128x8x1_S8x128x8x4x16x32_0345_1_n_n_1_2_8141632).siIdx (ix6 h r w j c v) ⟨0, by decide⟩)).toInt.toNat (15 - 1) + 0 + 0 = k.val
    rw [hs, hk, WordArith.toInt_ofNat_small _ (by omega)]
    omega
  | ⟨2, _⟩ => show 0 + 0 + j.val = j.val; omega
  | ⟨3, _⟩ => show 0 + 0 + c.val = c.val; omega
  | ⟨4, _⟩ => show 0 + 0 + v.val = v.val; omega

end Cert.Layer.PRef
-- ==== Proof.PromptRefAttn.lean ====
/- For the prompt batch: the reference's attention read at an index. -/
module

public import proofs.«01_k».proof.Proof.RefAttn
public import proofs.«01_k».proof.Proof.PromptRefIdx
public import proofs.«01_k».proof.Proof.Consts

@[expose] public section

set_option maxRecDepth 16384

noncomputable section

namespace Cert.Layer.PRef

open Cert.Layer.Ref
open Cert.Reference3Ideal Cert.Reference3Ideal.Gen Cert.Reference3Ideal.Value Idealize.ShloMosaic Idealize.ShloMosaic.TcCoe
open Idealize.ShloMosaic.Pointwise

variable {F : FTy → Type} [FloatOps F] {α : Type}

/-- Keys or values as the reference gathers them. -/
theorem kv_at (V : Valuation τ sig (Elt F)) (x : S8x8192x512.Idx → α) (b : Fin 8) (r : Fin 128) (w : Fin 8) (j : Fin 4)
    (c : Fin 32) (h : Fin 8) (d : Fin 64) :
    Host.gather gather_S8x128x8x64x8x64_S4x32x1_S8x128x8x4x32x8x64_01256_3_n_n_3_2_812881864 (Host.gather gather_S8x128x64x8x64_S128x8x1_S8x128x8x64x8x64_0345_1_n_n_1_2_8164864 (shapeCast _ x shapeCasts_S8x8192x512_S8x128x64x8x64) (broadcastInDim S128x8x1 ![0, 1] bcast_S128x8_S128x8x1_0_1 (select (cmpi .slt (res_main_v59 V) (broadcastInDim S128x8 ![] bcast_S_S128x8 (constantI S_ 32 0#32))) (addi (res_main_v59 V) (broadcastInDim S128x8 ![] bcast_S_S128x8 (constantI S_ 32 128#32))) (res_main_v59 V)))) (broadcastInDim S4x32x1 ![0, 1] bcast_S4x32_S4x32x1_0_1 (select (cmpi .slt (res_main_v15 V) (broadcastInDim S4x32 ![] bcast_S_S4x32 (constantI S_ 32 0#32))) (addi (res_main_v15 V) (broadcastInDim S4x32 ![] bcast_S_S4x32 (constantI S_ 32 64#32))) (res_main_v15 V)))
        (ix7 b r w j c h d)
      = x (ix3 b (tok (krowF r w) (kcolF j c)) (lane h d)) := by
  have h1 := krow_lt (r := r.val) w.isLt
  have h2 := kcol_lt (j := j.val) c.isLt
  rw [gather_cols _ _ _ _ _ _ _ _ _ (kcolF j c), gather_rows _ _ _ _ _ _ _ _ (krowF r w)]
  · pointwise
  · pointwise [v59_at]
    exact wrap_small _ _ (by omega)
  · pointwise [v15_at]
    exact wrap_small _ _ (by omega)

/-- The position bias as the reference gathers it. -/
theorem bias_at (V : Valuation τ sig (Elt F)) (x : S1x8x15x31.Idx → α) (r : Fin 128) (h : Fin 8) (j : Fin 4)
    (c : Fin 16) (w : Fin 8) (v : Fin 32) :
    transpose S128x8x4x16x8x32 [1, 0, 3, 4, 2, 5] (Host.gather gather_S8x15x4x16x32_S128x8x1_S8x128x8x4x16x32_0345_1_n_n_1_2_8141632 (Host.gather gather_S8x15x31_S4x16x32x1_S8x15x4x16x32_01_2_n_n_2_3_8151 (shapeCast _ x shapeCasts_S1x8x15x31_S8x15x31) (broadcastInDim S4x16x32x1 ![0, 1, 2] bcast_S4x16x32_S4x16x32x1_0_1_2 (select (cmpi .slt (res_main_v49 V) (broadcastInDim S4x16x32 ![] bcast_S_S4x16x32 (constantI S_ 32 0#32))) (addi (res_main_v49 V) (broadcastInDim S4x16x32 ![] bcast_S_S4x16x32 (constantI S_ 32 31#32))) (res_main_v49 V)))) (broadcastInDim S128x8x1 ![0, 1] bcast_S128x8_S128x8x1_0_1 (select (cmpi .slt (res_main_v64 V) (broadcastInDim S128x8 ![] bcast_S_S128x8 (constantI S_ 32 0#32))) (addi (res_main_v64 V) (broadcastInDim S128x8 ![] bcast_S_S128x8 (constantI S_ 32 15#32))) (res_main_v64 V)))) transposes_S8x128x8x4x16x32_S128x8x4x16x8x32_1_0_3_4_2_5
        (ix6 r h j c w v)
      = x (ix4 0 h (browF r w) (bcolF j c v)) := by
  have h1 := brow_lt r.isLt w.isLt
  have h2 := bcol_lt j.val c.val v.val
  pointwise
  rw [gather_brows _ _ _ _ _ _ _ _ (browF r w), gather_bcols _ _ _ _ _ _ _ (bcolF j c v)]
  · pointwise
  · pointwise [v49_at]
    exact wrap_small _ _ (by omega)
  · pointwise [v64_at]
    exact wrap_small _ _ (by omega)

/-- The reduced axis of the scores. -/
theorem drop_iff (h' : S8x128x8x4x16x256.ReducesTo [5] S8x128x8x4x16) (b : Fin 8) (r : Fin 128) (h : Fin 8) (j : Fin 4)
    (c : Fin 16) (i : S8x128x8x4x16x256.Idx) :
    h'.drop i = ix5 b r h j c ↔ ∃ k : Fin 256, ix6 b r h j c k = i := by
  constructor
  · intro e
    refine ⟨i 5, ?_⟩
    funext a; apply Fin.ext
    match a with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => exact (congrArg Fin.val (congrFun e 4)).symm
    | ⟨5, _⟩ => rfl
  · rintro ⟨k, rfl⟩
    funext a; apply Fin.ext
    match a with
    | ⟨0, _⟩ => rfl
    | ⟨1, _⟩ => rfl
    | ⟨2, _⟩ => rfl
    | ⟨3, _⟩ => rfl
    | ⟨4, _⟩ => rfl

theorem ix6_inj (b : Fin 8) (r : Fin 128) (h : Fin 8) (j : Fin 4) (c : Fin 16) :
    Function.Injective (fun k : Fin 256 => (ix6 b r h j c k : S8x128x8x4x16x256.Idx)) := fun _ _ e => congrFun e 5

/-- The maximum of the scores of a query. -/
theorem redmax (x : S8x128x8x4x16x256.Idx → EReal) (b : Fin 8) (r : Fin 128) (h : Fin 8) (j : Fin 4) (c : Fin 16) :
    Host.reduce (FloatOps.maximumf (F := Ideal) (φ := .f32)) x (constant (F := Ideal) S_ .f32 0xFF800000#32) reducesTo_S8x128x8x4x16x256_S8x128x8x4x16_d5 h_S_
        (ix5 b r h j c)
      = Finset.univ.sup fun k : Fin 256 => x (ix6 b r h j c k) := by
  rw [Host.reduce_eq_fold, Finset.fold_filter_eq_fold_of_fiber _ _ _ (ix6_inj b r h j c) (drop_iff _ b r h j c)]
  show Finset.fold max (Ideal.ofBits .f32 0xFF800000#32) _ _ = _
  rw [ofBits_ninf]
  rfl

/-- The sum of a query's weights. -/
theorem redadd (x : S8x128x8x4x16x256.Idx → EReal) (b : Fin 8) (r : Fin 128) (h : Fin 8) (j : Fin 4) (c : Fin 16) :
    Host.reduceAdd (F := Ideal) (φ := .f32) x (constant (F := Ideal) S_ .f32 0x00000000#32) reducesTo_S8x128x8x4x16x256_S8x128x8x4x16_d5 h_S_
        (ix5 b r h j c)
      = ∑ k : Fin 256, x (ix6 b r h j c k) := by
  show Ideal.ofBits .f32 0x00000000#32 + ∑ i ∈ Finset.univ.filter (fun i => Shape.ReducesTo.drop _ i = ix5 b r h j c), x i = _
  rw [Finset.sum_filter_eq_sum_of_fiber _ _ (ix6_inj b r h j c) (drop_iff _ b r h j c)]
  simp

end Cert.Layer.PRef
-- ==== Proof.PromptRefSoft.lean ====
/- For the prompt batch: the reference's attention: its masked scores and their softmax, read at an index. -/
module

public import proofs.«01_k».proof.Proof.RefSoft
public import proofs.«01_k».proof.Proof.PromptRefAttn

@[expose] public section

set_option maxRecDepth 16384

noncomputable section

namespace Cert.Layer.PRef

open Cert.Layer.Ref
open Cert.Reference3Ideal Cert.Reference3Ideal.Gen Cert.Reference3Ideal.Value Idealize.ShloMosaic Idealize.ShloMosaic.TcCoe
open Idealize.ShloMosaic.Pointwise

/-- The scores before the reshape, over any gathered keys and bias. -/
theorem scores_gen (C15 : S4x32.Idx → BitVec 32) (C26 : S4x16.Idx → BitVec 32) (Q : S8x8192x512.Idx → EReal)
    (KG : S8x128x8x4x32x8x64.Idx → EReal) (BG : S128x8x4x16x8x32.Idx → EReal)
    (b : Fin 8) (r : Fin 128) (h : Fin 8) (j : Fin 4) (c : Fin 16) (w : Fin 8) (v : Fin 32) :
    (select (broadcastInDim S8x128x8x4x16x8x32 ![0, 1, 2, 3, 4, 5, 6] bcast_S1x1x1x4x16x1x32_S8x128x8x4x16x8x32_0_1_2_3_4_5_6 (broadcastInDim S1x1x1x4x16x1x32 ![3, 4, 6] bcast_S4x16x32_S1x1x1x4x16x1x32_3_4_6 (andi (cmpi .sge (broadcastInDim S4x16x32 ![0, 1, 2] bcast_S4x1x32_S4x16x32_0_1_2 (broadcastInDim S4x1x32 ![0, 2] bcast_S4x32_S4x1x32_0_2 C15)) (broadcastInDim S4x16x32 ![0, 1, 2] bcast_S4x16x1_S4x16x32_0_1_2 (broadcastInDim S4x16x1 ![0, 1] bcast_S4x16_S4x16x1_0_1 C26))) (cmpi .slt (broadcastInDim S4x16x32 ![0, 1, 2] bcast_S4x1x32_S4x16x32_0_1_2 (broadcastInDim S4x1x32 ![0, 2] bcast_S4x32_S4x1x32_0_2 C15)) (broadcastInDim S4x16x32 ![0, 1, 2] bcast_S4x16x1_S4x16x32_0_1_2 (addi (broadcastInDim S4x16x1 ![0, 1] bcast_S4x16_S4x16x1_0_1 C26) (broadcastInDim S4x16x1 ![] bcast_S_S4x16x1 (constantI S_ 32 16#32)))))))) (addf (φ := .f32) (mulf (Host.dotGeneral (F := Ideal) (φ₁ := .f32) (φ₂ := .f32) dot_S8x128x4x16x8x64_S8x128x8x4x32x8x64_S8x128x8x4x16x8x32_5_6_3_24_0142_0153 none (shapeCast _ Q shapeCasts_S8x8192x512_S8x128x4x16x8x64) KG) (broadcastInDim S8x128x8x4x16x8x32 ![] bcast_S_S8x128x8x4x16x8x32 (constant S_ .f32 0x3E000000#32))) (broadcastInDim S8x128x8x4x16x8x32 ![0, 1, 2, 3, 4, 5, 6] bcast_S1x128x8x4x16x8x32_S8x128x8x4x16x8x32_0_1_2_3_4_5_6 (broadcastInDim S1x128x8x4x16x8x32 ![1, 2, 3, 4, 5, 6] bcast_S128x8x4x16x8x32_S1x128x8x4x16x8x32_1_2_3_4_5_6 BG))) (broadcastInDim S8x128x8x4x16x8x32 ![] bcast_S_S8x128x8x4x16x8x32 (id (constant S_ .f32 0xFF800000#32))))
      (ix7 b r h j c w v)
      = Scalar.select (IntOp.andi (IntOp.cmpi .sge (C15 (ix2 j v)) (C26 (ix2 j c))) (IntOp.cmpi .slt (C15 (ix2 j v)) (IntOp.addi (C26 (ix2 j c)) 16#32)))
          ((∑ d : Fin 64, Q (ix3 b (tok r (qcolF j c)) (lane h d)) * KG (ix7 b r w j v h d)) * ((1 / 8 : ℝ) : EReal) + BG (ix6 r h j c w v)) ⊥ := by
  pointwise
  have e : ∀ x : Fin 64, (ix3 b (⟨r.val * 64 + j.val * 16 + c.val, by omega⟩ : Fin 8192) (⟨h.val * 64 + x.val, by omega⟩ : Fin 512) : S8x8192x512.Idx)
      = ix3 b (tok r (qcolF j c)) (lane h x) := fun x => congrArg (fun a => ix3 b a (lane h x)) (Fin.ext (Nat.add_assoc _ _ _))
  simp only [e, ofBits_eighth]
  congr 1

section
variable (V : Valuation τ sig (Elt Ideal))

/-- The arguments of the reference's attention. -/
abbrev qA : S8x8192x512.Idx → EReal := V (Proc.devRef .tc main_arg1)
abbrev kA : S8x8192x512.Idx → EReal := V (Proc.devRef .tc main_arg2)
abbrev vA : S8x8192x512.Idx → EReal := V (Proc.devRef .tc main_arg3)
abbrev rpbA : S1x8x15x31.Idx → EReal := V (Proc.devRef .tc main_arg8)

/-- A query's score of its key number `k`. -/
def sR (b : Fin 8) (r : Fin 128) (h : Fin 8) (j : Fin 4) (c : Fin 16) (k : Fin 256) : EReal :=
  if inWin j c (kv k) then
    (∑ d : Fin 64, qA V (ix3 b (tok r (qcolF j c)) (lane h d)) * kA V (ix3 b (tok (krowF r (kw k)) (kcolF j (kv k))) (lane h d))) * ((1 / 8 : ℝ) : EReal)
      + rpbA V (ix4 0 h (browF r (kw k)) (bcolF j c (kv k)))
  else ⊥

theorem merge_at (X : S8x128x8x4x16x8x32.Idx → EReal) (b : Fin 8) (r : Fin 128) (h : Fin 8) (j : Fin 4) (c : Fin 16) (w : Fin 8) (v : Fin 32) :
    (shapeCast S8x128x8x4x16x256 X shapeCasts_S8x128x8x4x16x8x32_S8x128x8x4x16x256) (ix6 b r h j c ⟨32 * w.val + v.val, by omega⟩) = X (ix7 b r h j c w v) := by
  pointwise

theorem v116_at (b : Fin 8) (r : Fin 128) (h : Fin 8) (j : Fin 4) (c : Fin 16) (k : Fin 256) :
    (res_main_v116 V : S8x128x8x4x16x256.Idx → EReal) (ix6 b r h j c k) = sR V b r h j c k := by
  have ek : k = (⟨32 * (kw k).val + (kv k).val, by omega⟩ : Fin 256) := Fin.ext (by simp only; omega)
  have e : ∀ (X : S8x128x8x4x16x8x32.Idx → EReal), (shapeCast S8x128x8x4x16x256 X shapeCasts_S8x128x8x4x16x8x32_S8x128x8x4x16x256) (ix6 b r h j c k) = X (ix7 b r h j c (kw k) (kv k)) :=
    fun X => (congrArg (fun a => (shapeCast S8x128x8x4x16x256 X shapeCasts_S8x128x8x4x16x8x32_S8x128x8x4x16x256) (ix6 b r h j c a)) ek).trans (merge_at X b r h j c (kw k) (kv k))
  unfold res_main_v116
  refine (e _).trans ((scores_gen _ _ _ _ _ b r h j c (kw k) (kv k)).trans ?_)
  rw [v15_at, v26_at, mask_word]
  refine (congrArg (fun z => Scalar.select _ z ⊥) (congrArg₂ (fun a b : EReal => a + b) (congrArg (fun a : EReal => a * _)
    (Finset.sum_congr rfl fun d _ => congrArg (fun a : EReal => qA V (ix3 b (tok r (qcolF j c)) (lane h d)) * a) (kv_at V _ b r (kw k) j (kv k) h d))) (bias_at V _ r h j c (kw k) (kv k)))).trans ?_
  unfold sR
  cases inWin j c (kv k) <;> rfl

theorem v123_at (b : Fin 8) (r : Fin 128) (h : Fin 8) (j : Fin 4) (c : Fin 16) (k : Fin 256) :
    (res_main_v123 V : S8x128x8x4x16x256.Idx → EReal) (ix6 b r h j c k) = Ideal.exp (sR V b r h j c k - Finset.univ.sup (sR V b r h j c)) := by
  unfold res_main_v123
  have e : ∀ (X : S8x128x8x4x16x256.Idx → EReal) (M : S8x128x8x4x16.Idx → EReal),
      (Host.exp (F := Ideal) (φ := .f32) (subf X (broadcastInDim S8x128x8x4x16x256 ![0, 1, 2, 3, 4, 5] bcast_S8x128x8x4x16x1_S8x128x8x4x16x256_0_1_2_3_4_5 (broadcastInDim S8x128x8x4x16x1 ![0, 1, 2, 3, 4] bcast_S8x128x8x4x16_S8x128x8x4x16x1_0_1_2_3_4 (maximumf (broadcastInDim S8x128x8x4x16 ![] bcast_S_S8x128x8x4x16 (constant S_ .f32 0xFF800000#32)) M))))) (ix6 b r h j c k)
        = Ideal.exp (X (ix6 b r h j c k) - max (Ideal.ofBits .f32 0xFF800000#32) (M (ix5 b r h j c))) := by
    intro X M
    pointwise
  refine (e _ _).trans ?_
  rw [redmax, v116_at, ofBits_ninf, max_eq_right bot_le]
  simp only [v116_at]

/-- The reference's attention of a query, lane by lane. -/
def attnR (b : Fin 8) (r : Fin 128) (h : Fin 8) (j : Fin 4) (c : Fin 16) (d : Fin 64) : EReal :=
  ∑ k : Fin 256, Ideal.div (Ideal.exp (sR V b r h j c k - Finset.univ.sup (sR V b r h j c))) (∑ k' : Fin 256, Ideal.exp (sR V b r h j c k' - Finset.univ.sup (sR V b r h j c)))
    * vA V (ix3 b (tok (krowF r (kw k)) (kcolF j (kv k))) (lane h d))

/-- The product with the values, over any gathered values and weights. -/
theorem mix_gen (VG : S8x128x8x4x32x8x64.Idx → EReal) (P : S8x128x8x4x16x256.Idx → EReal)
    (b : Fin 8) (r : Fin 128) (h : Fin 8) (j : Fin 4) (c : Fin 16) (d : Fin 64) :
    (shapeCast S8x8192x512 (transpose S8x128x4x16x8x64 [0, 1, 2, 5, 3, 4] (Host.dotGeneral (F := Ideal) (φ₁ := .f32) (φ₂ := .f32) dot_S8x128x8x4x32x8x64_S8x128x8x4x16x8x32_S8x128x4x8x64x16_42_65_6_4_0135_0132 none VG (shapeCast _ P shapeCasts_S8x128x8x4x16x256_S8x128x8x4x16x8x32)) transposes_S8x128x4x8x64x16_S8x128x4x16x8x64_0_1_2_5_3_4) shapeCasts_S8x128x4x16x8x64_S8x8192x512)
      (ix3 b (tok r (qcolF j c)) (lane h d))
      = ∑ k : Fin 256, VG (ix7 b r (kw k) j (kv k) h d) * P (ix6 b r h j c k) := by
  rw [show tok r (qcolF j c) = (⟨r.val * 64 + j.val * 16 + c.val, by omega⟩ : Fin 8192) from Fin.ext (Nat.add_assoc _ _ _).symm]
  pointwise
  have e1 : (⟨(h.val * 64 + d.val) / 64, by omega⟩ : Fin 8) = h := Fin.ext (by simp only; omega)
  have e2 : (⟨(h.val * 64 + d.val) % 64, by omega⟩ : Fin 64) = d := Fin.ext (by simp only; omega)
  rw [e1, e2]
  refine (sum256 (fun w x => VG (ix7 b r w j x h d) * P (ix6 b r h j c ⟨w.val * 32 + x.val, by omega⟩))).trans ?_
  refine Finset.sum_congr rfl fun k _ => congrArg (_ * P ·) (congrArg (ix6 b r h j c) (Fin.ext ?_))
  show k.val / 32 * 32 + k.val % 32 = k.val
  omega

/-- The weights divided by their sum. -/
theorem quot_gen (E : S8x128x8x4x16x256.Idx → EReal) (L : S8x128x8x4x16.Idx → EReal)
    (b : Fin 8) (r : Fin 128) (h : Fin 8) (j : Fin 4) (c : Fin 16) (k : Fin 256) :
    (Host.divf (F := Ideal) (φ := .f32) E (broadcastInDim S8x128x8x4x16x256 ![0, 1, 2, 3, 4, 5] bcast_S8x128x8x4x16x1_S8x128x8x4x16x256_0_1_2_3_4_5 (broadcastInDim S8x128x8x4x16x1 ![0, 1, 2, 3, 4] bcast_S8x128x8x4x16_S8x128x8x4x16x1_0_1_2_3_4 L)))
      (ix6 b r h j c k) = Ideal.div (E (ix6 b r h j c k)) (L (ix5 b r h j c)) := by
  pointwise

/-- The array of the reference's attention. -/
abbrev attnTerm : S8x8192x512.Idx → EReal :=
  shapeCast S8x8192x512 (transpose S8x128x4x16x8x64 [0, 1, 2, 5, 3, 4] (Host.dotGeneral (F := Ideal) (φ₁ := .f32) (φ₂ := .f32) dot_S8x128x8x4x32x8x64_S8x128x8x4x16x8x32_S8x128x4x8x64x16_42_65_6_4_0135_0132 none (Host.gather gather_S8x128x8x64x8x64_S4x32x1_S8x128x8x4x32x8x64_01256_3_n_n_3_2_812881864 (Host.gather gather_S8x128x64x8x64_S128x8x1_S8x128x8x64x8x64_0345_1_n_n_1_2_8164864 (shapeCast _ (V (Proc.devRef .tc main_arg3)) shapeCasts_S8x8192x512_S8x128x64x8x64) (broadcastInDim S128x8x1 ![0, 1] bcast_S128x8_S128x8x1_0_1 (select (cmpi .slt (res_main_v59 V) (broadcastInDim S128x8 ![] bcast_S_S128x8 (constantI S_ 32 0#32))) (addi (res_main_v59 V) (broadcastInDim S128x8 ![] bcast_S_S128x8 (constantI S_ 32 128#32))) (res_main_v59 V)))) (broadcastInDim S4x32x1 ![0, 1] bcast_S4x32_S4x32x1_0_1 (select (cmpi .slt (res_main_v15 V) (broadcastInDim S4x32 ![] bcast_S_S4x32 (constantI S_ 32 0#32))) (addi (res_main_v15 V) (broadcastInDim S4x32 ![] bcast_S_S4x32 (constantI S_ 32 64#32))) (res_main_v15 V)))) (shapeCast _ (Host.divf (res_main_v123 V) (broadcastInDim S8x128x8x4x16x256 ![0, 1, 2, 3, 4, 5] bcast_S8x128x8x4x16x1_S8x128x8x4x16x256_0_1_2_3_4_5 (broadcastInDim S8x128x8x4x16x1 ![0, 1, 2, 3, 4] bcast_S8x128x8x4x16_S8x128x8x4x16x1_0_1_2_3_4 (Host.reduceAdd (res_main_v123 V) (constant S_ .f32 0x00000000#32) reducesTo_S8x128x8x4x16x256_S8x128x8x4x16_d5 h_S_)))) shapeCasts_S8x128x8x4x16x256_S8x128x8x4x16x8x32)) transposes_S8x128x4x8x64x16_S8x128x4x16x8x64_0_1_2_5_3_4) shapeCasts_S8x128x4x16x8x64_S8x8192x512

theorem attn_at (b : Fin 8) (r : Fin 128) (h : Fin 8) (j : Fin 4) (c : Fin 16) (d : Fin 64) :
    attnTerm V (ix3 b (tok r (qcolF j c)) (lane h d)) = attnR V b r h j c d := by
  refine (mix_gen _ _ b r h j c d).trans ?_
  unfold attnR
  refine Finset.sum_congr rfl fun k _ => ?_
  rw [mul_comm]
  refine congrArg₂ (· * ·) ((quot_gen _ _ b r h j c k).trans (congrArg₂ Ideal.div (v123_at V b r h j c k) ?_)) (kv_at V _ b r (kw k) j (kv k) h d)
  rw [redadd]
  exact Finset.sum_congr rfl fun k' _ => v123_at V b r h j c k'

end

end Cert.Layer.PRef
-- ==== Proof.PromptTie.lean ====
/- For the prompt batch: the kernel's attention of a tile is the reference's attention of its tokens. -/
module

public import proofs.«01_k».proof.Proof.Table
public import proofs.«01_k».proof.Proof.Tie
public import proofs.«01_k».proof.Proof.PromptOffs
public import proofs.«01_k».proof.Proof.PromptRefSoft
public import proofs.«01_k».proof.Proof.Math

@[expose] public section

noncomputable section

namespace Cert.Layer.PTie

open Cert.Layer.Ref
open Idealize.ShloMosaic Idealize.ShloMosaic.TcCoe Idealize.ShloMosaic.Pointwise Idealize.SL.Sem
open Cert.Layer.Kern Cert.Layer.PRef

variable (V : Valuation Cert.Reference3Ideal.τ Cert.Reference3Ideal.sig (Elt Ideal))
  (x0 : Cert.KernelIdeal.S1x512x512.Idx → EReal) (x1 x2 : Cert.KernelIdeal.S1x1024x512.Idx → EReal) (x3 : Cert.KernelIdeal.S2x4x7x128x128.Idx → EReal)
  (b : Fin 8) (g : Fin 16)

section
variable (hq : ∀ i l, x0 (ix3 0 i l) = qA V (ix3 b (qRow g i) l))
  (hk : ∀ (i : Fin 1024) l, x1 (ix3 0 i l) = kA V (ix3 b (kvRow g i) l))
  (hv : ∀ (i : Fin 1024) l, x2 (ix3 0 i l) = vA V (ix3 b (kvRow g i) l))
  (hb : x3 = tableU (rpbA V))
  (fq : ∀ i, ∃ r : ℝ, qA V i = r) (fk : ∀ i, ∃ r : ℝ, kA V i = r) (fb : ∀ i, ∃ r : ℝ, rpbA V i = r)
  (r : Fin 8) (hp : Fin 4) (hh : Fin 2) (j : Fin 4) (cc : Fin 16)

include hq in
theorem Q_at (d : Fin 64) : Qf x0 r hp (qcolF j cc) (hl hh d) = qA V (ix3 b (tok (rowG g r) (qcolF j cc)) (lane (headG hp hh) d)) := by
  unfold Qf
  rw [hq]
  congr 1
  congr 1
  · exact Fin.ext (by simp only; omega)
  · exact Fin.ext (by simp only; omega)

theorem K_gen (X : Cert.KernelIdeal.S1x1024x512.Idx → EReal) (A : Cert.Reference3Ideal.S8x8192x512.Idx → EReal)
    (h : ∀ (i : Fin 1024) l, X (ix3 0 i l) = A (ix3 b (kvRow g i) l))
    (k : Fin 256) (d : Fin 64) : Kf X g r hp (place j k) (hl hh d) = A (ix3 b (tok (krowF (rowG g r) (kw k)) (kcolF j (kv k))) (lane (headG hp hh) d)) := by
  unfold Kf
  rw [h]
  congr 1
  congr 1
  · refine Fin.ext ?_
    show min (512 * g.val - 256) 7168 + (64 * min 120 (8 * g.val + r.val - 4) - min (512 * g.val - 256) 7168 + (64 * (k.val / 32) + (min 32 (16 * j.val - 8) + k.val % 32)))
      = (min 120 (8 * g.val + r.val - 4) + k.val / 32) * 64 + (min 32 (16 * j.val - 8) + k.val % 32)
    omega
  · exact Fin.ext (by simp only; omega)

include hb in
theorem B_at (y : Fin 64) (w : Fin 512) : Bf x3 g r hp (hl hh y) w
    = if hn : near y.val (w.val % 64) then rpbA V (ix4 0 (headG hp hh) (⟨sh g.val r.val + w.val / 64, by have := sh_le g.isLt r.isLt; omega⟩ : Fin 15)
        (⟨w.val % 64 + 15 - y.val, by obtain ⟨h1, h2⟩ := hn; omega⟩ : Fin 31)) else ⊥ := by
  rw [← table_at (rpbA V) (sh g.val r.val) (sh_le g.isLt r.isLt) hp hh y w]
  unfold Bf
  rw [hb]
  congr 1
  congr 1
  exact Fin.ext (by simp only; omega)

include hb in
theorem far (y : Fin 64) (w : Fin 512) (hn : ¬ near y.val (w.val % 64)) : sK x0 x1 x3 g r hp hh y w = ⊥ := by
  show (_ : EReal) + Bf x3 g r hp (hl hh y) w * _ = ⊥
  rw [B_at V x3 g hb, dif_neg hn, EReal.bot_mul_coe_of_pos (inv_pos.mpr (Real.log_pos (by norm_num))), EReal.add_bot]

include hq hk hb fq fk fb in
theorem scores (k : Fin 256) (hn : inWin j cc (kv k) = true) : ∃ x : ℝ, sR V b (rowG g r) (headG hp hh) j cc k = x
    ∧ sK x0 x1 x3 g r hp hh (qcolF j cc) (place j k) = ((x * (Real.log 2)⁻¹ : ℝ) : EReal) := by
  choose q' hq' using fq
  choose k' hk' using fk
  choose b' hb' using fb
  have hne := (near_iff j cc k).mp hn
  have e : Bf x3 g r hp (hl hh (qcolF j cc)) (place j k) = rpbA V (ix4 0 (headG hp hh) (browF (rowG g r) (kw k)) (bcolF j cc (kv k))) := by
    rw [B_at V x3 g hb, dif_pos hne]
    congr 1
    obtain ⟨h1, h2⟩ := hne
    have h1' : min 48 (j.val * 16 + cc.val - 8) ≤ (64 * (k.val / 32) + (min 32 (16 * j.val - 8) + k.val % 32)) % 64 := h1
    have h2' : (64 * (k.val / 32) + (min 32 (16 * j.val - 8) + k.val % 32)) % 64 < min 48 (j.val * 16 + cc.val - 8) + 16 := h2
    congr 1
    · refine Fin.ext ?_
      show min 120 (8 * g.val + r.val - 4) + 7 - (8 * g.val + r.val) + (64 * (k.val / 32) + (min 32 (16 * j.val - 8) + k.val % 32)) / 64
        = min 120 (8 * g.val + r.val - 4) + k.val / 32 + 7 - (8 * g.val + r.val)
      omega
    · refine Fin.ext ?_
      show (64 * (k.val / 32) + (min 32 (16 * j.val - 8) + k.val % 32)) % 64 + 15 - (j.val * 16 + cc.val) = min 30 (min 32 (16 * j.val - 8) + k.val % 32 + 15 - (16 * j.val + cc.val))
      omega
  refine ⟨(∑ d : Fin 64, q' (ix3 b (tok (rowG g r) (qcolF j cc)) (lane (headG hp hh) d)) * k' (ix3 b (tok (krowF (rowG g r) (kw k)) (kcolF j (kv k))) (lane (headG hp hh) d))) * (1 / 8)
    + b' (ix4 0 (headG hp hh) (browF (rowG g r) (kw k)) (bcolF j cc (kv k))), ?_, ?_⟩
  · unfold PRef.sR
    rw [if_pos hn]
    simp only [hq', hk', hb']
    exact score_plain _ _ _
  · show (∑ d : Fin 64, Qf x0 r hp (qcolF j cc) (hl hh d) * Kf x1 g r hp (place j k) (hl hh d)) * _ + Bf x3 g r hp (hl hh (qcolF j cc)) (place j k) * _ = _
    rw [e]
    simp only [Q_at V x0 b g hq r hp hh j cc, K_gen b g r hp hh j x1 (kA V) hk k, hq', hk', hb']
    exact score_kern _ _ _

include hq hk hv hb fq fk fb in
/-- The attention of one query, head and lane. -/
theorem attn_tie (d : Fin 64) : attnT x0 x1 x2 x3 g r hp hh (qcolF j cc) d = attnR V b (rowG g r) (headG hp hh) j cc d := by
  refine (attn_core (place j) (place_inj j) (sK x0 x1 x3 g r hp hh (qcolF j cc)) (sR V b (rowG g r) (headG hp hh) j cc) (fun w => Kf x2 g r hp w (hl hh d)) ?_ ?_ ?_).trans ?_
  · intro w hw
    refine far V x0 x1 x3 g hb r hp hh _ w fun hn => hw ?_
    obtain ⟨h1, h2⟩ := hn
    have h1' : min 48 (j.val * 16 + cc.val - 8) ≤ w.val % 64 := h1
    have h2' : w.val % 64 < min 48 (j.val * 16 + cc.val - 8) + 16 := h2
    refine ⟨(⟨32 * (w.val / 64) + (w.val % 64 - min 32 (16 * j.val - 8)), by omega⟩ : Fin 256), Fin.ext ?_⟩
    show 64 * ((32 * (w.val / 64) + (w.val % 64 - min 32 (16 * j.val - 8))) / 32) + (min 32 (16 * j.val - 8) + (32 * (w.val / 64) + (w.val % 64 - min 32 (16 * j.val - 8))) % 32) = w.val
    omega
  · intro k
    by_cases hn : inWin j cc (kv k) = true
    · obtain ⟨x, h1, h2⟩ := scores V x0 x1 x3 b g hq hk hb fq fk fb r hp hh j cc k hn
      exact Or.inr ⟨x, h1, h2⟩
    · refine Or.inl ⟨?_, far V x0 x1 x3 g hb r hp hh _ _ fun h => hn ((near_iff j cc k).mpr h)⟩
      unfold PRef.sR
      rw [if_neg hn]
  · have hn : inWin j cc (kv (⟨min 48 (16 * j.val + cc.val - 8) - min 32 (16 * j.val - 8), by omega⟩ : Fin 256)) = true := by
      unfold inWin
      rw [decide_eq_true_iff]
      show min 48 (16 * j.val + cc.val - 8) ≤ min 32 (16 * j.val - 8) + (min 48 (16 * j.val + cc.val - 8) - min 32 (16 * j.val - 8)) % 32 ∧ min 32 (16 * j.val - 8) + (min 48 (16 * j.val + cc.val - 8) - min 32 (16 * j.val - 8)) % 32 < min 48 (16 * j.val + cc.val - 8) + 16
      omega
    obtain ⟨x, h1, -⟩ := scores V x0 x1 x3 b g hq hk hb fq fk fb r hp hh j cc _ hn
    exact ⟨_, by rw [h1]; exact EReal.coe_ne_bot x⟩
  · unfold PRef.attnR
    exact Finset.sum_congr rfl fun k _ => by rw [K_gen b g r hp hh j x2 (vA V) hv k]

include hq hk hv hb fq fk fb in
/-- The attention of a tile, read at a row and a lane. -/
theorem tile_tie (i l : Fin 512) : attnArr x0 x1 x2 x3 g (ix2 i l) = attnTerm V (ix3 b (qRow g i) l) := by
  have e := attn_at V b (rowG g (⟨i.val / 64, by omega⟩ : Fin 8)) (headG (⟨l.val / 128, by omega⟩ : Fin 4) (⟨l.val % 128 / 64, by omega⟩ : Fin 2))
    (⟨i.val % 64 / 16, by omega⟩ : Fin 4) (⟨i.val % 16, by omega⟩ : Fin 16) (⟨l.val % 64, by omega⟩ : Fin 64)
  rw [show (tok (rowG g (⟨i.val / 64, by omega⟩ : Fin 8)) (qcolF (⟨i.val % 64 / 16, by omega⟩ : Fin 4) (⟨i.val % 16, by omega⟩ : Fin 16))) = qRow g i from Fin.ext (by simp only; omega),
    show lane (headG (⟨l.val / 128, by omega⟩ : Fin 4) (⟨l.val % 128 / 64, by omega⟩ : Fin 2)) (⟨l.val % 64, by omega⟩ : Fin 64) = l from Fin.ext (by simp only; omega)] at e
  rw [e, ← attn_tie V x0 x1 x2 x3 b g hq hk hv hb fq fk fb]
  unfold attnArr
  congr 1
  exact Fin.ext (by show i.val % 64 = i.val % 64 / 16 * 16 + i.val % 16; omega)

end

end Cert.Layer.PTie
-- ==== Proof.PromptRefPost.lean ====
/- For the prompt batch: the reference's result at a token, from its attention at the token. -/
module

public import proofs.«01_k».proof.Proof.RefPost
public import proofs.«01_k».proof.Proof.PromptRefSoft
public import proofs.«01_k».proof.Proof.RowMath

@[expose] public section

set_option maxRecDepth 16384

noncomputable section

namespace Cert.Layer.PRef

open Cert.Layer.Ref
open Cert.Reference3Ideal Cert.Reference3Ideal.Gen Cert.Reference3Ideal.Value Idealize.ShloMosaic Idealize.ShloMosaic.TcCoe Idealize.ShloMosaic.Pointwise

variable (V : Valuation τ sig (Elt Ideal))

abbrev xA : S8x8192x1024.Idx → EReal := V (Proc.devRef .tc main_arg0)
abbrev zA : S8x8192x512.Idx → EReal := V (Proc.devRef .tc main_arg4)
abbrev bgA : S8x8192x512.Idx → EReal := V (Proc.devRef .tc main_arg5)
abbrev glA : S8x8192x2048.Idx → EReal := V (Proc.devRef .tc main_arg6)
abbrev bgateA : S1x2048.Idx → EReal := V (Proc.devRef .tc main_arg7)
abbrev cwA : S1x3x512.Idx → EReal := V (Proc.devRef .tc main_arg9)
abbrev waA : S1x512x1024.Idx → EReal := V (Proc.devRef .tc main_arg10)
abbrev wcA : S1x512x1024.Idx → EReal := V (Proc.devRef .tc main_arg11)
abbrev woA : S1x1024x1024.Idx → EReal := V (Proc.devRef .tc main_arg12)
abbrev g2A : S1x1024.Idx → EReal := V (Proc.devRef .tc main_arg13)
abbrev wguA : S1x1024x5632.Idx → EReal := V (Proc.devRef .tc main_arg14)
abbrev wdA : S1x2816x1024.Idx → EReal := V (Proc.devRef .tc main_arg15)
abbrev g3A : S1024.Idx → EReal := V (Proc.devRef .tc main_arg16)

/-- The token before, zeros before the first. -/
def zmR (b : Fin 8) (t : Fin 8192) (l : Fin 512) : EReal := if h : t.val = 0 then 0 else zA V (ix3 b ⟨t.val - 1, by omega⟩ l)

/-- The token after, zeros after the last. -/
def zpR (b : Fin 8) (t : Fin 8192) (l : Fin 512) : EReal := if h : t.val = 8191 then 0 else zA V (ix3 b ⟨t.val + 1, by omega⟩ l)

/-- The short convolution at a token. -/
def cR (b : Fin 8) (t : Fin 8192) (l : Fin 512) : EReal :=
  convR (bgA V (ix3 b t l)) (zmR V b t l) (zA V (ix3 b t l)) (zpR V b t l) (cwA V (ix3 0 0 l)) (cwA V (ix3 0 1 l)) (cwA V (ix3 0 2 l))

/-- The residual stream after the two branches, from a token's attention. -/
def x1A (a : Fin 512 → EReal) (b : Fin 8) (t : Fin 8192) : Fin 1024 → EReal :=
  x1R (fun e => xA V (ix3 b t e)) a (cR V b t)
    (fun d => sigm (glA V (ix3 b t ⟨d.val, by omega⟩) + bgateA V (ix2 0 ⟨d.val, by omega⟩)))
    (fun d => sigm (glA V (ix3 b t ⟨1024 + d.val, by omega⟩) + bgateA V (ix2 0 ⟨1024 + d.val, by omega⟩)))
    (fun l d => waA V (ix3 0 l d)) (fun l d => wcA V (ix3 0 l d)) (fun d e => woA V (ix3 0 d e))

/-- The layer's result at a token, from the token's attention. -/
def layerR (a : Fin 512 → EReal) (b : Fin 8) (t : Fin 8192) (e : Fin 1024) : EReal :=
  outR (x2R (x1A V a b t) (fun d => g2A V (ix2 0 d)) (fun d f => wguA V (ix3 0 d f)) (fun f e => wdA V (ix3 0 f e))) (fun e => g3A V (ix1 e)) e

theorem pad_at (b : Fin 8) (s : Fin 8194) (l : Fin 512) :
    (res_main_v133 V : S8x8194x512.Idx → EReal) (ix3 b s l) = if h : 1 ≤ s.val ∧ s.val ≤ 8192 then zA V (ix3 b ⟨s.val - 1, by omega⟩ l) else 0 := by
  unfold res_main_v133
  pointwise
  have hb : b.val < 8 := b.isLt
  have hl : l.val < 512 := l.isLt
  by_cases h : 1 ≤ s.val ∧ s.val ≤ 8192
  · rw [dif_pos h, dif_pos]
    intro a
    match a with
    | ⟨0, _⟩ => exact ⟨Nat.zero_le _, Nat.mod_one _, show (b.val - 0) / 1 < 8 by omega⟩
    | ⟨1, _⟩ => exact ⟨h.1, Nat.mod_one _, show (s.val - 1) / 1 < 8192 by omega⟩
    | ⟨2, _⟩ => exact ⟨Nat.zero_le _, Nat.mod_one _, show (l.val - 0) / 1 < 512 by omega⟩
  · rw [dif_neg h, dif_neg]
    · show ((((0#32 : BitVec 32).toInt : ℝ)) : EReal) = 0
      simp
    · intro ha
      have h1 := ha 1
      exact h ⟨h1.1, by have h2 : (s.val - 1) / 1 < 8192 := h1.2.2; omega⟩

theorem gates_at (b : Fin 8) (t : Fin 8192) (d : Fin 2048) :
    (res_main_v164 V : S8x8192x2048.Idx → EReal) (ix3 b t d) = sigm (glA V (ix3 b t d) + bgateA V (ix2 0 d)) := by
  unfold res_main_v164 sigm
  pointwise

theorem x1_gen (X : S8x8192x1024.Idx → EReal) (G : S8x8192x2048.Idx → EReal) (A C : S8x8192x512.Idx → EReal)
    (wa wc : S1x512x1024.Idx → EReal) (wo : S1x1024x1024.Idx → EReal) (b : Fin 8) (t : Fin 8192) (e : Fin 1024) :
    (addf (F := Ideal) (φ := .f32) X (Host.dotGeneral (F := Ideal) (φ₁ := .f32) (φ₂ := .f32) dot_S8x8192x1024_S1024x1024_S8x8192x1024_2_0_01_1_n_n none
      (addf (F := Ideal) (φ := .f32)
        (mulf (F := Ideal) (φ := .f32) (extractStridedSlice S8x8192x1024 ![0, 0, 0] G slices_S8x8192x2048_S8x8192x1024_0_0_0)
          (Host.dotGeneral (F := Ideal) (φ₁ := .f32) (φ₂ := .f32) dot_S8x8192x512_S512x1024_S8x8192x1024_2_0_01_1_n_n none A (shapeCast _ wa shapeCasts_S1x512x1024_S512x1024)))
        (mulf (F := Ideal) (φ := .f32) (extractStridedSlice S8x8192x1024 ![0, 0, 1024] G slices_S8x8192x2048_S8x8192x1024_0_0_1024)
          (Host.dotGeneral (F := Ideal) (φ₁ := .f32) (φ₂ := .f32) dot_S8x8192x512_S512x1024_S8x8192x1024_2_0_01_1_n_n none C (shapeCast _ wc shapeCasts_S1x512x1024_S512x1024))))
      (shapeCast _ wo shapeCasts_S1x1024x1024_S1024x1024)) : S8x8192x1024.Idx → EReal) (ix3 b t e)
      = x1R (fun e => X (ix3 b t e)) (fun l => A (ix3 b t l)) (fun l => C (ix3 b t l)) (fun d => G (ix3 b t ⟨d.val, by omega⟩))
          (fun d => G (ix3 b t ⟨1024 + d.val, by omega⟩)) (fun l d => wa (ix3 0 l d)) (fun l d => wc (ix3 0 l d)) (fun d e => wo (ix3 0 d e)) e := by
  unfold x1R
  pointwise

theorem conv_gen (BG : S8x8192x512.Idx → EReal) (Z : S8x8194x512.Idx → EReal) (cw : S3x512.Idx → EReal) (b : Fin 8) (t : Fin 8192) (l : Fin 512) :
    (mulf (F := Ideal) (φ := .f32) BG (addf (F := Ideal) (φ := .f32) (addf (F := Ideal) (φ := .f32)
      (mulf (F := Ideal) (φ := .f32) (extractStridedSlice S8x8192x512 ![0, 0, 0] Z slices_S8x8194x512_S8x8192x512_0_0_0) (broadcastInDim S8x8192x512 ![0, 1, 2] bcast_S1x1x512_S8x8192x512_0_1_2 (broadcastInDim S1x1x512 ![2] bcast_S512_S1x1x512_2 (shapeCast _ (extractStridedSlice S1x512 ![0, 0] cw slices_S3x512_S1x512_0_0) shapeCasts_S1x512_S512))))
      (mulf (F := Ideal) (φ := .f32) (extractStridedSlice S8x8192x512 ![0, 1, 0] Z slices_S8x8194x512_S8x8192x512_0_1_0) (broadcastInDim S8x8192x512 ![0, 1, 2] bcast_S1x1x512_S8x8192x512_0_1_2 (broadcastInDim S1x1x512 ![2] bcast_S512_S1x1x512_2 (shapeCast _ (extractStridedSlice S1x512 ![1, 0] cw slices_S3x512_S1x512_1_0) shapeCasts_S1x512_S512)))))
      (mulf (F := Ideal) (φ := .f32) (extractStridedSlice S8x8192x512 ![0, 2, 0] Z slices_S8x8194x512_S8x8192x512_0_2_0) (broadcastInDim S8x8192x512 ![0, 1, 2] bcast_S1x1x512_S8x8192x512_0_1_2 (broadcastInDim S1x1x512 ![2] bcast_S512_S1x1x512_2 (shapeCast _ (extractStridedSlice S1x512 ![2, 0] cw slices_S3x512_S1x512_2_0) shapeCasts_S1x512_S512))))) : S8x8192x512.Idx → EReal) (ix3 b t l)
      = convR (BG (ix3 b t l)) (Z (ix3 b ⟨t.val, by omega⟩ l)) (Z (ix3 b ⟨1 + t.val, by omega⟩ l)) (Z (ix3 b ⟨2 + t.val, by omega⟩ l))
          (cw (ix2 0 l)) (cw (ix2 1 l)) (cw (ix2 2 l)) := by
  unfold convR
  pointwise

theorem cw_at (k : Fin 3) (l : Fin 512) : (res_main_v132 V : S3x512.Idx → EReal) (ix2 k l) = cwA V (ix3 0 k l) := by
  unfold res_main_v132
  pointwise

theorem v176_at (b : Fin 8) (t : Fin 8192) (e : Fin 1024) :
    (res_main_v176 V : S8x8192x1024.Idx → EReal) (ix3 b t e) = x1A V (fun l => attnTerm V (ix3 b t l)) b t e := by
  unfold res_main_v176
  refine (x1_gen _ _ _ _ _ _ _ b t e).trans ?_
  unfold x1A
  congr 1
  · funext l
    refine (conv_gen _ _ _ b t l).trans ?_
    rw [cw_at, cw_at, cw_at, pad_at, pad_at, pad_at]
    unfold cR
    congr 1
    · unfold zmR
      by_cases h : t.val = 0
      · rw [dif_neg (by simp [h]), dif_pos h]
      · rw [dif_pos (by simp; omega), dif_neg h]
    · rw [dif_pos (by simp; omega)]
      exact congrArg (fun s => zA V (ix3 b s l)) (Fin.ext (by simp))
    · unfold zpR
      by_cases h : t.val = 8191
      · rw [dif_neg (by simp; omega), dif_pos h]
      · rw [dif_pos (by simp; omega), dif_neg h]
        exact congrArg (fun s => zA V (ix3 b s l)) (Fin.ext (by simp; omega))
  · funext d; exact gates_at V b t _
  · funext d; exact gates_at V b t _

theorem hid_gen (X : S8x8192x1024.Idx → EReal) (g : S1x1024.Idx → EReal) (w : S1x1024x5632.Idx → EReal) (b : Fin 8) (t : Fin 8192) (f : Fin 5632) :
    (Host.dotGeneral (F := Ideal) (φ₁ := .f32) (φ₂ := .f32) dot_S8x8192x1024_S1024x5632_S8x8192x5632_2_0_01_1_n_n none (mulf (F := Ideal) (φ := .f32) (mulf (F := Ideal) (φ := .f32) X (broadcastInDim S8x8192x1024 ![0, 1, 2] bcast_S8x8192x1_S8x8192x1024_0_1_2 (Host.rsqrt (F := Ideal) (φ := .f32) (addf (F := Ideal) (φ := .f32) (Host.divf (F := Ideal) (φ := .f32) (broadcastInDim S8x8192x1 ![0, 1] bcast_S8x8192_S8x8192x1_0_1 (Host.reduceAdd (F := Ideal) (φ := .f32) (mulf (F := Ideal) (φ := .f32) X X) (constant S_ .f32 0x00000000#32) reducesTo_S8x8192x1024_S8x8192_d2 h_S_)) (broadcastInDim S8x8192x1 ![] bcast_S_S8x8192x1 (constant S_ .f32 0x44800000#32))) (broadcastInDim S8x8192x1 ![] bcast_S_S8x8192x1 (constant S_ .f32 0x358637BD#32)))))) (broadcastInDim S8x8192x1024 ![0, 1, 2] bcast_S1x1x1024_S8x8192x1024_0_1_2 (broadcastInDim S1x1x1024 ![2] bcast_S1024_S1x1x1024_2 (shapeCast _ g shapeCasts_S1x1024_S1024)))) (shapeCast _ w shapeCasts_S1x1024x5632_S1024x5632) : S8x8192x5632.Idx → EReal) (ix3 b t f)
      = hidR (fun d => X (ix3 b t d)) (fun d => g (ix2 0 d)) (fun d f => w (ix3 0 d f)) f := by
  unfold hidR rstd
  pointwise

theorem out_gen (X : S8x8192x1024.Idx → EReal) (g : S1024.Idx → EReal) (b : Fin 8) (t : Fin 8192) (e : Fin 1024) :
    (mulf (F := Ideal) (φ := .f32) (mulf (F := Ideal) (φ := .f32) X (broadcastInDim S8x8192x1024 ![0, 1, 2] bcast_S8x8192x1_S8x8192x1024_0_1_2 (Host.rsqrt (F := Ideal) (φ := .f32) (addf (F := Ideal) (φ := .f32) (Host.divf (F := Ideal) (φ := .f32) (broadcastInDim S8x8192x1 ![0, 1] bcast_S8x8192_S8x8192x1_0_1 (Host.reduceAdd (F := Ideal) (φ := .f32) (mulf (F := Ideal) (φ := .f32) X X) (constant S_ .f32 0x00000000#32) reducesTo_S8x8192x1024_S8x8192_d2 h_S_)) (broadcastInDim S8x8192x1 ![] bcast_S_S8x8192x1 (constant S_ .f32 0x44800000#32))) (broadcastInDim S8x8192x1 ![] bcast_S_S8x8192x1 (constant S_ .f32 0x358637BD#32)))))) (broadcastInDim S8x8192x1024 ![0, 1, 2] bcast_S1x1x1024_S8x8192x1024_0_1_2 (broadcastInDim S1x1x1024 ![2] bcast_S1024_S1x1x1024_2 g)) : S8x8192x1024.Idx → EReal) (ix3 b t e)
      = outR (fun d => X (ix3 b t d)) (fun d => g (ix1 d)) e := by
  unfold outR rstd
  pointwise

theorem ffn_gen (X : S8x8192x1024.Idx → EReal) (H : S8x8192x5632.Idx → EReal) (N : S8x8192x2816.Idx → EReal) (wd : S1x2816x1024.Idx → EReal) (b : Fin 8) (t : Fin 8192) (e : Fin 1024) :
    (addf (F := Ideal) (φ := .f32) X (Host.dotGeneral (F := Ideal) (φ₁ := .f32) (φ₂ := .f32) dot_S8x8192x2816_S2816x1024_S8x8192x1024_2_0_01_1_n_n none (mulf (F := Ideal) (φ := .f32) (mulf (F := Ideal) (φ := .f32) N (Host.divf (F := Ideal) (φ := .f32) (broadcastInDim S8x8192x2816 ![] bcast_S_S8x8192x2816 (constant S_ .f32 0x3F800000#32)) (addf (F := Ideal) (φ := .f32) (broadcastInDim S8x8192x2816 ![] bcast_S_S8x8192x2816 (constant S_ .f32 0x3F800000#32)) (Host.exp (F := Ideal) (φ := .f32) (Host.negf (F := Ideal) (φ := .f32) N))))) (extractStridedSlice S8x8192x2816 ![0, 0, 2816] H slices_S8x8192x5632_S8x8192x2816_0_0_2816)) (shapeCast _ wd shapeCasts_S1x2816x1024_S2816x1024)) : S8x8192x1024.Idx → EReal) (ix3 b t e)
      = X (ix3 b t e) + ∑ f : Fin 2816, N (ix3 b t f) * sigm (N (ix3 b t f)) * H (ix3 b t ⟨2816 + f.val, by omega⟩) * wd (ix3 0 f e) := by
  unfold sigm
  rw [← ofBits_one]
  pointwise

theorem v193_at (b : Fin 8) (t : Fin 8192) (f : Fin 5632) :
    (res_main_v193 V : S8x8192x5632.Idx → EReal) (ix3 b t f)
      = hidR (x1A V (fun l => attnTerm V (ix3 b t l)) b t) (fun d => g2A V (ix2 0 d)) (fun d f => wguA V (ix3 0 d f)) f := by
  unfold res_main_v193
  refine (hid_gen _ _ _ b t f).trans ?_
  rw [show (fun d => (res_main_v176 V : S8x8192x1024.Idx → EReal) (ix3 b t d)) = _ from funext fun d => v176_at V b t d]

theorem v194_at (b : Fin 8) (t : Fin 8192) (f : Fin 2816) :
    (res_main_v194 V : S8x8192x2816.Idx → EReal) (ix3 b t f) = (res_main_v193 V : S8x8192x5632.Idx → EReal) (ix3 b t ⟨f.val, by omega⟩) := by
  unfold res_main_v194
  generalize (res_main_v193 V : S8x8192x5632.Idx → EReal) = H
  pointwise

theorem v199_at (b : Fin 8) (t : Fin 8192) (e : Fin 1024) :
    (res_main_v199 V : S8x8192x1024.Idx → EReal) (ix3 b t e)
      = x2R (x1A V (fun l => attnTerm V (ix3 b t l)) b t) (fun d => g2A V (ix2 0 d)) (fun d f => wguA V (ix3 0 d f)) (fun f e => wdA V (ix3 0 f e)) e := by
  unfold res_main_v199
  refine (ffn_gen _ _ _ _ b t e).trans ?_
  rw [v176_at]
  unfold x2R actR
  simp only [v194_at, v193_at]

/-- The layer's result as one array. -/
def layerArr : S8x8192x1024.Idx → EReal := fun j =>
  layerR V (fun l => attnTerm V (ix3 (j 0) (j 1) l)) (j 0) (j 1) (j 2)

/-- The array that the reference leaves. -/
theorem ref_arr :
    ((mulf (mulf (res_main_v199 V) (broadcastInDim S8x8192x1024 ![0, 1, 2] bcast_S8x8192x1_S8x8192x1024_0_1_2 (Host.rsqrt (addf (Host.divf (broadcastInDim S8x8192x1 ![0, 1] bcast_S8x8192_S8x8192x1_0_1 (Host.reduceAdd (mulf (res_main_v199 V) (res_main_v199 V)) (constant S_ .f32 0x00000000#32) reducesTo_S8x8192x1024_S8x8192_d2 h_S_)) (broadcastInDim S8x8192x1 ![] bcast_S_S8x8192x1 (constant S_ .f32 0x44800000#32))) (broadcastInDim S8x8192x1 ![] bcast_S_S8x8192x1 (constant S_ .f32 0x358637BD#32)))))) (broadcastInDim S8x8192x1024 ![0, 1, 2] bcast_S1x1x1024_S8x8192x1024_0_1_2 (broadcastInDim S1x1x1024 ![2] bcast_S1024_S1x1x1024_2 (V (Proc.devRef .tc main_arg16)))) : FVec Ideal S8x8192x1024 .f32))
      = layerArr V := by
  refine funext fun j => ?_
  obtain ⟨b, t, e, rfl⟩ : ∃ (b : Fin 8) (t : Fin 8192) (e : Fin 1024), j = ix3 b t e := ⟨j 0, j 1, j 2, by funext a; match a with | ⟨0, _⟩ => rfl | ⟨1, _⟩ => rfl | ⟨2, _⟩ => rfl⟩
  refine (out_gen _ _ b t e).trans ?_
  show _ = layerR V (fun l => attnTerm V (ix3 b t l)) b t e
  unfold layerR
  rw [show (fun d => (res_main_v199 V : S8x8192x1024.Idx → EReal) (ix3 b t d)) = _ from funext fun d => v199_at V b t d]

end Cert.Layer.PRef
-- ==== Proof.PromptSweepA.lean ====
/- For the prompt batch: the attention that a grid step leaves in its carried buffer, at the first step. -/
module

public import proofs.«01_k».proof.Proof.Sweep
public import proofs.«01_k».proof.Proof.PromptOffs

@[expose] public section

set_option maxRecDepth 16384

noncomputable section

namespace Cert.Layer.PKern

open Cert.Layer.Kern
open Cert.Kernel3Ideal Cert.Kernel3Ideal.Gen Idealize.ShloMosaic Idealize.ShloMosaic.TcCoe Idealize.ShloMosaic.Pointwise Idealize.SL.Sem Idealize.ShloMosaic.Tactic

variable (m : (ℓ : Loc nD τ sig) → Buf (Elt Ideal) ℓ)

set_option maxHeartbeats 8000000 in
theorem sweepA (c : Dev nD) (t : Fin cfg0.N) (h : t.val % 129 = 0) (y : S512x512.Idx) :
    (outsAt0 m c t.val t.isLt).2 y = attnArr (iblk m c 0 t) (iblk m c 1 t) (iblk m c 2 t) (iblk m c 3 t) (gF t.val) y := by
  rw [outsAt0_A m c t h]
  dsimp only
  frame_open
  simp (disch := decide) only [↓ View.readCov_skip, ↓ View.readCov_cons_toLoadRect, ↓ View.readCov_fill]
  frame_out
  refine (canon_dropLast _ _ ?_).trans ?_
  · simp only [List.dropLast_cons₂, List.dropLast_singleton]
    exact View.cover_of_tiled_head _ _ _ (by rfl) y
  simp only [List.dropLast_cons₂, List.dropLast_singleton]
  canon_tiles x e
  · exact piece _ _ _ _ (gF t.val) 7 3 _ _ _ _ _ _ _ _ _ _ _ _ _ _ rfl (off7_eq t 7) (off7_eq t 7) (off8_eq t 7 0) (off8_eq t 7 1) (off8_eq t 7 2) (off8_eq t 7 3) x y e0 e1
  · exact piece _ _ _ _ (gF t.val) 7 2 _ _ _ _ _ _ _ _ _ _ _ _ _ _ rfl (off5_eq t 7) (off5_eq t 7) (off6_eq t 7 0) (off6_eq t 7 1) (off6_eq t 7 2) (off6_eq t 7 3) x y e0 e1
  · exact piece _ _ _ _ (gF t.val) 7 1 _ _ _ _ _ _ _ _ _ _ _ _ _ _ rfl (off3_eq t 7) (off3_eq t 7) (off4_eq t 7 0) (off4_eq t 7 1) (off4_eq t 7 2) (off4_eq t 7 3) x y e0 e1
  · exact piece _ _ _ _ (gF t.val) 7 0 _ _ _ _ _ _ _ _ _ _ _ _ _ _ rfl (off1_eq t 7) (off1_eq t 7) (off2_eq t 7 0) (off2_eq t 7 1) (off2_eq t 7 2) (off2_eq t 7 3) x y e0 (e1.trans (Nat.zero_add _).symm)
  · exact piece _ _ _ _ (gF t.val) 6 3 _ _ _ _ _ _ _ _ _ _ _ _ _ _ rfl (off7_eq t 6) (off7_eq t 6) (off8_eq t 6 0) (off8_eq t 6 1) (off8_eq t 6 2) (off8_eq t 6 3) x y e0 e1
  · exact piece _ _ _ _ (gF t.val) 6 2 _ _ _ _ _ _ _ _ _ _ _ _ _ _ rfl (off5_eq t 6) (off5_eq t 6) (off6_eq t 6 0) (off6_eq t 6 1) (off6_eq t 6 2) (off6_eq t 6 3) x y e0 e1
  · exact piece _ _ _ _ (gF t.val) 6 1 _ _ _ _ _ _ _ _ _ _ _ _ _ _ rfl (off3_eq t 6) (off3_eq t 6) (off4_eq t 6 0) (off4_eq t 6 1) (off4_eq t 6 2) (off4_eq t 6 3) x y e0 e1
  · exact piece _ _ _ _ (gF t.val) 6 0 _ _ _ _ _ _ _ _ _ _ _ _ _ _ rfl (off1_eq t 6) (off1_eq t 6) (off2_eq t 6 0) (off2_eq t 6 1) (off2_eq t 6 2) (off2_eq t 6 3) x y e0 (e1.trans (Nat.zero_add _).symm)
  · exact piece _ _ _ _ (gF t.val) 5 3 _ _ _ _ _ _ _ _ _ _ _ _ _ _ rfl (off7_eq t 5) (off7_eq t 5) (off8_eq t 5 0) (off8_eq t 5 1) (off8_eq t 5 2) (off8_eq t 5 3) x y e0 e1
  · exact piece _ _ _ _ (gF t.val) 5 2 _ _ _ _ _ _ _ _ _ _ _ _ _ _ rfl (off5_eq t 5) (off5_eq t 5) (off6_eq t 5 0) (off6_eq t 5 1) (off6_eq t 5 2) (off6_eq t 5 3) x y e0 e1
  · exact piece _ _ _ _ (gF t.val) 5 1 _ _ _ _ _ _ _ _ _ _ _ _ _ _ rfl (off3_eq t 5) (off3_eq t 5) (off4_eq t 5 0) (off4_eq t 5 1) (off4_eq t 5 2) (off4_eq t 5 3) x y e0 e1
  · exact piece _ _ _ _ (gF t.val) 5 0 _ _ _ _ _ _ _ _ _ _ _ _ _ _ rfl (off1_eq t 5) (off1_eq t 5) (off2_eq t 5 0) (off2_eq t 5 1) (off2_eq t 5 2) (off2_eq t 5 3) x y e0 (e1.trans (Nat.zero_add _).symm)
  · exact piece _ _ _ _ (gF t.val) 4 3 _ _ _ _ _ _ _ _ _ _ _ _ _ _ rfl (off7_eq t 4) (off7_eq t 4) (off8_eq t 4 0) (off8_eq t 4 1) (off8_eq t 4 2) (off8_eq t 4 3) x y e0 e1
  · exact piece _ _ _ _ (gF t.val) 4 2 _ _ _ _ _ _ _ _ _ _ _ _ _ _ rfl (off5_eq t 4) (off5_eq t 4) (off6_eq t 4 0) (off6_eq t 4 1) (off6_eq t 4 2) (off6_eq t 4 3) x y e0 e1
  · exact piece _ _ _ _ (gF t.val) 4 1 _ _ _ _ _ _ _ _ _ _ _ _ _ _ rfl (off3_eq t 4) (off3_eq t 4) (off4_eq t 4 0) (off4_eq t 4 1) (off4_eq t 4 2) (off4_eq t 4 3) x y e0 e1
  · exact piece _ _ _ _ (gF t.val) 4 0 _ _ _ _ _ _ _ _ _ _ _ _ _ _ rfl (off1_eq t 4) (off1_eq t 4) (off2_eq t 4 0) (off2_eq t 4 1) (off2_eq t 4 2) (off2_eq t 4 3) x y e0 (e1.trans (Nat.zero_add _).symm)
  · exact piece _ _ _ _ (gF t.val) 3 3 _ _ _ _ _ _ _ _ _ _ _ _ _ _ rfl (off7_eq t 3) (off7_eq t 3) (off8_eq t 3 0) (off8_eq t 3 1) (off8_eq t 3 2) (off8_eq t 3 3) x y e0 e1
  · exact piece _ _ _ _ (gF t.val) 3 2 _ _ _ _ _ _ _ _ _ _ _ _ _ _ rfl (off5_eq t 3) (off5_eq t 3) (off6_eq t 3 0) (off6_eq t 3 1) (off6_eq t 3 2) (off6_eq t 3 3) x y e0 e1
  · exact piece _ _ _ _ (gF t.val) 3 1 _ _ _ _ _ _ _ _ _ _ _ _ _ _ rfl (off3_eq t 3) (off3_eq t 3) (off4_eq t 3 0) (off4_eq t 3 1) (off4_eq t 3 2) (off4_eq t 3 3) x y e0 e1
  · exact piece _ _ _ _ (gF t.val) 3 0 _ _ _ _ _ _ _ _ _ _ _ _ _ _ rfl (off1_eq t 3) (off1_eq t 3) (off2_eq t 3 0) (off2_eq t 3 1) (off2_eq t 3 2) (off2_eq t 3 3) x y e0 (e1.trans (Nat.zero_add _).symm)
  · exact piece _ _ _ _ (gF t.val) 2 3 _ _ _ _ _ _ _ _ _ _ _ _ _ _ rfl (off7_eq t 2) (off7_eq t 2) (off8_eq t 2 0) (off8_eq t 2 1) (off8_eq t 2 2) (off8_eq t 2 3) x y e0 e1
  · exact piece _ _ _ _ (gF t.val) 2 2 _ _ _ _ _ _ _ _ _ _ _ _ _ _ rfl (off5_eq t 2) (off5_eq t 2) (off6_eq t 2 0) (off6_eq t 2 1) (off6_eq t 2 2) (off6_eq t 2 3) x y e0 e1
  · exact piece _ _ _ _ (gF t.val) 2 1 _ _ _ _ _ _ _ _ _ _ _ _ _ _ rfl (off3_eq t 2) (off3_eq t 2) (off4_eq t 2 0) (off4_eq t 2 1) (off4_eq t 2 2) (off4_eq t 2 3) x y e0 e1
  · have hX := (hs0_0 t).read_unread (iblk m c 0 t)
    generalize View.read (Elt Ideal) (ms0_0 t).view ((hs0_0 t).unread (iblk m c 0 t)) = X at hX ⊢
    subst hX
    exact piece _ _ _ _ (gF t.val) 2 0 _ _ _ _ _ _ _ _ _ _ _ _ _ _ rfl (off1_eq t 2) (off1_eq t 2) (off2_eq t 2 0) (off2_eq t 2 1) (off2_eq t 2 2) (off2_eq t 2 3) x y e0 (e1.trans (Nat.zero_add _).symm)
  · exact piece _ _ _ _ (gF t.val) 1 3 _ _ _ _ _ _ _ _ _ _ _ _ _ _ rfl (off7_eq t 1) (off7_eq t 1) (off8_eq t 1 0) (off8_eq t 1 1) (off8_eq t 1 2) (off8_eq t 1 3) x y e0 e1
  · exact piece _ _ _ _ (gF t.val) 1 2 _ _ _ _ _ _ _ _ _ _ _ _ _ _ rfl (off5_eq t 1) (off5_eq t 1) (off6_eq t 1 0) (off6_eq t 1 1) (off6_eq t 1 2) (off6_eq t 1 3) x y e0 e1
  · exact piece _ _ _ _ (gF t.val) 1 1 _ _ _ _ _ _ _ _ _ _ _ _ _ _ rfl (off3_eq t 1) (off3_eq t 1) (off4_eq t 1 0) (off4_eq t 1 1) (off4_eq t 1 2) (off4_eq t 1 3) x y e0 e1
  · exact piece _ _ _ _ (gF t.val) 1 0 _ _ _ _ _ _ _ _ _ _ _ _ _ _ rfl (off1_eq t 1) (off1_eq t 1) (off2_eq t 1 0) (off2_eq t 1 1) (off2_eq t 1 2) (off2_eq t 1 3) x y e0 (e1.trans (Nat.zero_add _).symm)
  · exact piece _ _ _ _ (gF t.val) 0 3 _ _ _ _ _ _ _ _ _ _ _ _ _ _ rfl (off7_eq t 0) (off7_eq t 0) (off8_eq t 0 0) (off8_eq t 0 1) (off8_eq t 0 2) (off8_eq t 0 3) x y (e0.trans (Nat.zero_add _).symm) e1
  · have hX := (hs0_0 t).read_unread (iblk m c 0 t)
    generalize View.read (Elt Ideal) (ms0_0 t).view ((hs0_0 t).unread (iblk m c 0 t)) = X at hX ⊢
    subst hX
    exact piece _ _ _ _ (gF t.val) 0 2 _ _ _ _ _ _ _ _ _ _ _ _ _ _ rfl (off5_eq t 0) (off5_eq t 0) (off6_eq t 0 0) (off6_eq t 0 1) (off6_eq t 0 2) (off6_eq t 0 3) x y (e0.trans (Nat.zero_add _).symm) e1
  · exact piece _ _ _ _ (gF t.val) 0 1 _ _ _ _ _ _ _ _ _ _ _ _ _ _ rfl (off3_eq t 0) (off3_eq t 0) (off4_eq t 0 0) (off4_eq t 0 1) (off4_eq t 0 2) (off4_eq t 0 3) x y (e0.trans (Nat.zero_add _).symm) e1
  · exact piece _ _ _ _ (gF t.val) 0 0 _ _ _ _ _ _ _ _ _ _ _ _ _ _ rfl (off1_eq t 0) (off1_eq t 0) (off2_eq t 0 0) (off2_eq t 0 1) (off2_eq t 0 2) (off2_eq t 0 3) x y (e0.trans (Nat.zero_add _).symm) (e1.trans (Nat.zero_add _).symm)

end Cert.Layer.PKern
-- ==== Proof.PromptSweepB.lean ====
/- For the prompt batch: the attention that a grid step leaves in its carried buffer, after the first step. -/
module

public import proofs.«01_k».proof.Proof.Sweep
public import proofs.«01_k».proof.Proof.PromptOffs

@[expose] public section

set_option maxRecDepth 16384

noncomputable section

namespace Cert.Layer.PKern

open Cert.Layer.Kern
open Cert.Kernel3Ideal Cert.Kernel3Ideal.Gen Idealize.ShloMosaic Idealize.ShloMosaic.TcCoe Idealize.ShloMosaic.Pointwise Idealize.SL.Sem Idealize.ShloMosaic.Tactic

variable (m : (ℓ : Loc nD τ sig) → Buf (Elt Ideal) ℓ)

set_option maxHeartbeats 8000000 in
theorem sweepB (c : Dev nD) (t : Fin cfg0.N) (h : ¬ t.val % 129 = 0) (y : S512x512.Idx) :
    (outsAt0 m c t.val t.isLt).2 y = attnArr (iblk m c 0 t) (iblk m c 1 t) (iblk m c 2 t) (iblk m c 3 t) (gF t.val) y := by
  rw [outsAt0_B m c t h]
  dsimp only
  frame_open
  simp (disch := decide) only [↓ View.readCov_skip, ↓ View.readCov_cons_toLoadRect, ↓ View.readCov_fill]
  frame_out
  canon_tiles x e
  · exact piece _ _ _ _ (gF t.val) 7 3 _ _ _ _ _ _ _ _ _ _ _ _ _ _ rfl (off7_eq t 7) (off7_eq t 7) (off8_eq t 7 0) (off8_eq t 7 1) (off8_eq t 7 2) (off8_eq t 7 3) x y e0 e1
  · exact piece _ _ _ _ (gF t.val) 7 2 _ _ _ _ _ _ _ _ _ _ _ _ _ _ rfl (off5_eq t 7) (off5_eq t 7) (off6_eq t 7 0) (off6_eq t 7 1) (off6_eq t 7 2) (off6_eq t 7 3) x y e0 e1
  · exact piece _ _ _ _ (gF t.val) 7 1 _ _ _ _ _ _ _ _ _ _ _ _ _ _ rfl (off3_eq t 7) (off3_eq t 7) (off4_eq t 7 0) (off4_eq t 7 1) (off4_eq t 7 2) (off4_eq t 7 3) x y e0 e1
  · exact piece _ _ _ _ (gF t.val) 7 0 _ _ _ _ _ _ _ _ _ _ _ _ _ _ rfl (off1_eq t 7) (off1_eq t 7) (off2_eq t 7 0) (off2_eq t 7 1) (off2_eq t 7 2) (off2_eq t 7 3) x y e0 (e1.trans (Nat.zero_add _).symm)
  · exact piece _ _ _ _ (gF t.val) 6 3 _ _ _ _ _ _ _ _ _ _ _ _ _ _ rfl (off7_eq t 6) (off7_eq t 6) (off8_eq t 6 0) (off8_eq t 6 1) (off8_eq t 6 2) (off8_eq t 6 3) x y e0 e1
  · exact piece _ _ _ _ (gF t.val) 6 2 _ _ _ _ _ _ _ _ _ _ _ _ _ _ rfl (off5_eq t 6) (off5_eq t 6) (off6_eq t 6 0) (off6_eq t 6 1) (off6_eq t 6 2) (off6_eq t 6 3) x y e0 e1
  · exact piece _ _ _ _ (gF t.val) 6 1 _ _ _ _ _ _ _ _ _ _ _ _ _ _ rfl (off3_eq t 6) (off3_eq t 6) (off4_eq t 6 0) (off4_eq t 6 1) (off4_eq t 6 2) (off4_eq t 6 3) x y e0 e1
  · exact piece _ _ _ _ (gF t.val) 6 0 _ _ _ _ _ _ _ _ _ _ _ _ _ _ rfl (off1_eq t 6) (off1_eq t 6) (off2_eq t 6 0) (off2_eq t 6 1) (off2_eq t 6 2) (off2_eq t 6 3) x y e0 (e1.trans (Nat.zero_add _).symm)
  · exact piece _ _ _ _ (gF t.val) 5 3 _ _ _ _ _ _ _ _ _ _ _ _ _ _ rfl (off7_eq t 5) (off7_eq t 5) (off8_eq t 5 0) (off8_eq t 5 1) (off8_eq t 5 2) (off8_eq t 5 3) x y e0 e1
  · exact piece _ _ _ _ (gF t.val) 5 2 _ _ _ _ _ _ _ _ _ _ _ _ _ _ rfl (off5_eq t 5) (off5_eq t 5) (off6_eq t 5 0) (off6_eq t 5 1) (off6_eq t 5 2) (off6_eq t 5 3) x y e0 e1
  · exact piece _ _ _ _ (gF t.val) 5 1 _ _ _ _ _ _ _ _ _ _ _ _ _ _ rfl (off3_eq t 5) (off3_eq t 5) (off4_eq t 5 0) (off4_eq t 5 1) (off4_eq t 5 2) (off4_eq t 5 3) x y e0 e1
  · exact piece _ _ _ _ (gF t.val) 5 0 _ _ _ _ _ _ _ _ _ _ _ _ _ _ rfl (off1_eq t 5) (off1_eq t 5) (off2_eq t 5 0) (off2_eq t 5 1) (off2_eq t 5 2) (off2_eq t 5 3) x y e0 (e1.trans (Nat.zero_add _).symm)
  · exact piece _ _ _ _ (gF t.val) 4 3 _ _ _ _ _ _ _ _ _ _ _ _ _ _ rfl (off7_eq t 4) (off7_eq t 4) (off8_eq t 4 0) (off8_eq t 4 1) (off8_eq t 4 2) (off8_eq t 4 3) x y e0 e1
  · exact piece _ _ _ _ (gF t.val) 4 2 _ _ _ _ _ _ _ _ _ _ _ _ _ _ rfl (off5_eq t 4) (off5_eq t 4) (off6_eq t 4 0) (off6_eq t 4 1) (off6_eq t 4 2) (off6_eq t 4 3) x y e0 e1
  · exact piece _ _ _ _ (gF t.val) 4 1 _ _ _ _ _ _ _ _ _ _ _ _ _ _ rfl (off3_eq t 4) (off3_eq t 4) (off4_eq t 4 0) (off4_eq t 4 1) (off4_eq t 4 2) (off4_eq t 4 3) x y e0 e1
  · exact piece _ _ _ _ (gF t.val) 4 0 _ _ _ _ _ _ _ _ _ _ _ _ _ _ rfl (off1_eq t 4) (off1_eq t 4) (off2_eq t 4 0) (off2_eq t 4 1) (off2_eq t 4 2) (off2_eq t 4 3) x y e0 (e1.trans (Nat.zero_add _).symm)
  · exact piece _ _ _ _ (gF t.val) 3 3 _ _ _ _ _ _ _ _ _ _ _ _ _ _ rfl (off7_eq t 3) (off7_eq t 3) (off8_eq t 3 0) (off8_eq t 3 1) (off8_eq t 3 2) (off8_eq t 3 3) x y e0 e1
  · exact piece _ _ _ _ (gF t.val) 3 2 _ _ _ _ _ _ _ _ _ _ _ _ _ _ rfl (off5_eq t 3) (off5_eq t 3) (off6_eq t 3 0) (off6_eq t 3 1) (off6_eq t 3 2) (off6_eq t 3 3) x y e0 e1
  · exact piece _ _ _ _ (gF t.val) 3 1 _ _ _ _ _ _ _ _ _ _ _ _ _ _ rfl (off3_eq t 3) (off3_eq t 3) (off4_eq t 3 0) (off4_eq t 3 1) (off4_eq t 3 2) (off4_eq t 3 3) x y e0 e1
  · exact piece _ _ _ _ (gF t.val) 3 0 _ _ _ _ _ _ _ _ _ _ _ _ _ _ rfl (off1_eq t 3) (off1_eq t 3) (off2_eq t 3 0) (off2_eq t 3 1) (off2_eq t 3 2) (off2_eq t 3 3) x y e0 (e1.trans (Nat.zero_add _).symm)
  · exact piece _ _ _ _ (gF t.val) 2 3 _ _ _ _ _ _ _ _ _ _ _ _ _ _ rfl (off7_eq t 2) (off7_eq t 2) (off8_eq t 2 0) (off8_eq t 2 1) (off8_eq t 2 2) (off8_eq t 2 3) x y e0 e1
  · exact piece _ _ _ _ (gF t.val) 2 2 _ _ _ _ _ _ _ _ _ _ _ _ _ _ rfl (off5_eq t 2) (off5_eq t 2) (off6_eq t 2 0) (off6_eq t 2 1) (off6_eq t 2 2) (off6_eq t 2 3) x y e0 e1
  · exact piece _ _ _ _ (gF t.val) 2 1 _ _ _ _ _ _ _ _ _ _ _ _ _ _ rfl (off3_eq t 2) (off3_eq t 2) (off4_eq t 2 0) (off4_eq t 2 1) (off4_eq t 2 2) (off4_eq t 2 3) x y e0 e1
  · have hX := (hs0_0 t).read_unread (iblk m c 0 t)
    generalize View.read (Elt Ideal) (ms0_0 t).view ((hs0_0 t).unread (iblk m c 0 t)) = X at hX ⊢
    subst hX
    exact piece _ _ _ _ (gF t.val) 2 0 _ _ _ _ _ _ _ _ _ _ _ _ _ _ rfl (off1_eq t 2) (off1_eq t 2) (off2_eq t 2 0) (off2_eq t 2 1) (off2_eq t 2 2) (off2_eq t 2 3) x y e0 (e1.trans (Nat.zero_add _).symm)
  · exact piece _ _ _ _ (gF t.val) 1 3 _ _ _ _ _ _ _ _ _ _ _ _ _ _ rfl (off7_eq t 1) (off7_eq t 1) (off8_eq t 1 0) (off8_eq t 1 1) (off8_eq t 1 2) (off8_eq t 1 3) x y e0 e1
  · exact piece _ _ _ _ (gF t.val) 1 2 _ _ _ _ _ _ _ _ _ _ _ _ _ _ rfl (off5_eq t 1) (off5_eq t 1) (off6_eq t 1 0) (off6_eq t 1 1) (off6_eq t 1 2) (off6_eq t 1 3) x y e0 e1
  · exact piece _ _ _ _ (gF t.val) 1 1 _ _ _ _ _ _ _ _ _ _ _ _ _ _ rfl (off3_eq t 1) (off3_eq t 1) (off4_eq t 1 0) (off4_eq t 1 1) (off4_eq t 1 2) (off4_eq t 1 3) x y e0 e1
  · exact piece _ _ _ _ (gF t.val) 1 0 _ _ _ _ _ _ _ _ _ _ _ _ _ _ rfl (off1_eq t 1) (off1_eq t 1) (off2_eq t 1 0) (off2_eq t 1 1) (off2_eq t 1 2) (off2_eq t 1 3) x y e0 (e1.trans (Nat.zero_add _).symm)
  · exact piece _ _ _ _ (gF t.val) 0 3 _ _ _ _ _ _ _ _ _ _ _ _ _ _ rfl (off7_eq t 0) (off7_eq t 0) (off8_eq t 0 0) (off8_eq t 0 1) (off8_eq t 0 2) (off8_eq t 0 3) x y (e0.trans (Nat.zero_add _).symm) e1
  · have hX := (hs0_0 t).read_unread (iblk m c 0 t)
    generalize View.read (Elt Ideal) (ms0_0 t).view ((hs0_0 t).unread (iblk m c 0 t)) = X at hX ⊢
    subst hX
    exact piece _ _ _ _ (gF t.val) 0 2 _ _ _ _ _ _ _ _ _ _ _ _ _ _ rfl (off5_eq t 0) (off5_eq t 0) (off6_eq t 0 0) (off6_eq t 0 1) (off6_eq t 0 2) (off6_eq t 0 3) x y (e0.trans (Nat.zero_add _).symm) e1
  · exact piece _ _ _ _ (gF t.val) 0 1 _ _ _ _ _ _ _ _ _ _ _ _ _ _ rfl (off3_eq t 0) (off3_eq t 0) (off4_eq t 0 0) (off4_eq t 0 1) (off4_eq t 0 2) (off4_eq t 0 3) x y (e0.trans (Nat.zero_add _).symm) e1
  · exact piece _ _ _ _ (gF t.val) 0 0 _ _ _ _ _ _ _ _ _ _ _ _ _ _ rfl (off1_eq t 0) (off1_eq t 0) (off2_eq t 0 0) (off2_eq t 0 1) (off2_eq t 0 2) (off2_eq t 0 3) x y (e0.trans (Nat.zero_add _).symm) (e1.trans (Nat.zero_add _).symm)

end Cert.Layer.PKern
-- ==== Proof.PromptKernVal.lean ====
/- For the prompt batch: what a grid step writes back, in terms of the layer's arguments. -/
module

public import proofs.«01_k».proof.Proof.PromptBlocks
public import proofs.«01_k».proof.Proof.PromptEntry
public import proofs.«01_k».proof.Proof.PromptTie
public import proofs.«01_k».proof.Proof.KernVal
public import proofs.«01_k».proof.Proof.PromptRefPost
public import proofs.«01_k».proof.Proof.PromptSweepA
public import proofs.«01_k».proof.Proof.PromptSweepB

@[expose] public section

set_option maxRecDepth 16384

noncomputable section

namespace Cert.Layer.PKern

open Cert.Layer.Kern
open Cert.Kernel3Ideal Cert.Kernel3Ideal.Gen Idealize.ShloMosaic Idealize.ShloMosaic.TcCoe Idealize.ShloMosaic.Pointwise Idealize.SL.Sem Idealize.ShloMosaic.Tactic
open Cert.Layer.PRef (xA zA bgA glA bgateA cwA waA wcA woA g2A wguA wdA g3A qA kA vA rpbA attnTerm layerR x1A cR zmR zpR)

/-- The reference's arguments are the kernel's. -/
structure Agree (m : (ℓ : Loc nD τ sig) → Buf (Elt Ideal) ℓ) (c : Dev nD) (V : Valuation Cert.Reference3Ideal.τ Cert.Reference3Ideal.sig (Elt Ideal)) : Prop where
  a0 : xA V = m ((c : Thread nD τ).loc main_arg0)
  a1 : qA V = m ((c : Thread nD τ).loc main_arg1)
  a2 : kA V = m ((c : Thread nD τ).loc main_arg2)
  a3 : vA V = m ((c : Thread nD τ).loc main_arg3)
  a4 : zA V = m ((c : Thread nD τ).loc main_arg4)
  a5 : bgA V = m ((c : Thread nD τ).loc main_arg5)
  a6 : glA V = m ((c : Thread nD τ).loc main_arg6)
  a7 : bgateA V = m ((c : Thread nD τ).loc main_arg7)
  a8 : rpbA V = m ((c : Thread nD τ).loc main_arg8)
  a9 : cwA V = m ((c : Thread nD τ).loc main_arg9)
  a10 : waA V = m ((c : Thread nD τ).loc main_arg10)
  a11 : wcA V = m ((c : Thread nD τ).loc main_arg11)
  a12 : woA V = m ((c : Thread nD τ).loc main_arg12)
  a13 : g2A V = m ((c : Thread nD τ).loc main_arg13)
  a14 : wguA V = m ((c : Thread nD τ).loc main_arg14)
  a15 : wdA V = m ((c : Thread nD τ).loc main_arg15)
  a16 : g3A V = m ((c : Thread nD τ).loc main_arg16)
  fq : ∀ i, ∃ r : ℝ, qA V i = r
  fk : ∀ i, ∃ r : ℝ, kA V i = r
  fb : ∀ i, ∃ r : ℝ, rpbA V i = r

variable {m : (ℓ : Loc nD τ sig) → Buf (Elt Ideal) ℓ} {c : Dev nD} {V : Valuation Cert.Reference3Ideal.τ Cert.Reference3Ideal.sig (Elt Ideal)} (ag : Agree m c V)

include ag in
/-- The attention that a step leaves in its carried buffer. -/
theorem carried (t : Fin cfg0.N) (i l : Fin 512) :
    (outsAt0 m c t.val t.isLt).2 (ix2 i l) = attnTerm V (ix3 (bF t.val) (row (gF t.val) i) l) := by
  have e : (outsAt0 m c t.val t.isLt).2 (ix2 i l) = attnArr (iblk m c 0 t) (iblk m c 1 t) (iblk m c 2 t) (iblk m c 3 t) (gF t.val) (ix2 i l) := by
    by_cases h : t.val % 129 = 0
    · exact sweepA m c t h _
    · exact sweepB m c t h _
  refine e.trans (PTie.tile_tie V _ _ _ _ (bF t.val) (gF t.val) ?_ ?_ ?_ ?_ ag.fq ag.fk ag.fb i l)
  · intro i l
    rw [blk0, V38_at, ag.a1]
  · intro i l
    rw [blk1, V39_at, ag.a2]
  · intro i l
    rw [blk2, V40_at, ag.a3]
  · rw [blk3, V21, ag.a8]

include ag in
/-- The convolution of the tile that a step finishes. -/
theorem conv_tile (t : Fin cfg0.N) (i l : Fin 512) :
    convU (Scalar.cmpi .sgt (tileW t) 0#32) (Scalar.cmpi .slt (tileW t) 15#32) (iblk m c 5 t) (iblk m c 8 t)
      (View.ld (Val := Elt Ideal) (e' := .bf16) (iblk m c 6 t) (Rect.unit ![0, 15, 0] ![1, 1, 512] k0_part2._proof_1))
      (View.ld (Val := Elt Ideal) (e' := .bf16) (iblk m c 7 t) (Rect.unit ![0, 0, 0] ![1, 1, 512] k0_part2._proof_4)) (iblk m c 11 t) (ix2 i l)
      = cR V (bP t) (row (gP t) i) l := by
  have e6 : (View.ld (Val := Elt Ideal) (e' := .bf16) (iblk m c 6 t) (Rect.unit (s := S1x16x512) ![0, 15, 0] ![1, 1, 512] k0_part2._proof_1)) (ix3 (0 : Fin 1) (0 : Fin 1) l)
      = (iblk m c 6 t : S1x16x512.Idx → EReal) (ix3 0 15 l) :=
    View.ld_unit_apply_of _ _ _ _ _ _ (by intro a; match a with | ⟨0, _⟩ => rfl | ⟨1, _⟩ => rfl | ⟨2, _⟩ => exact (Nat.zero_add _).symm)
  have e7 : (View.ld (Val := Elt Ideal) (e' := .bf16) (iblk m c 7 t) (Rect.unit (s := S1x16x512) ![0, 0, 0] ![1, 1, 512] k0_part2._proof_4)) (ix3 (0 : Fin 1) (0 : Fin 1) l)
      = (iblk m c 7 t : S1x16x512.Idx → EReal) (ix3 0 0 l) :=
    View.ld_unit_apply_of _ _ _ _ _ _ (by intro a; match a with | ⟨0, _⟩ => rfl | ⟨1, _⟩ => rfl | ⟨2, _⟩ => exact (Nat.zero_add _).symm)
  rw [conv_at, e6, e7, tileW_first, tileW_last, blk6, blk7, blk8, blk11, V24_at, V24_at, V24_at]
  rw [V42_at]
  simp only [blk5]
  rw [show (Gen.V m c main_v41 : S8x8192x512.Idx → EReal) = m ((c : Thread nD τ).loc main_arg4) from funext (V41_at m c)]
  unfold cR
  rw [ag.a5, ag.a9, ag.a4]
  congr 1
  · unfold zmR
    rw [ag.a4]
    by_cases hi : i.val = 0
    · rw [dif_pos hi]
      by_cases hg : (t.val - 1) % 16 = 0
      · rw [if_pos hg, dif_pos (show 512 * ((t.val - 1) % 16) + i.val = 0 by omega)]
        rfl
      · rw [if_neg hg, dif_neg (show ¬ 512 * ((t.val - 1) % 16) + i.val = 0 by omega)]
        refine (if_pos (by decide)).trans ?_
        exact congrArg (fun z => (m ((c : Thread nD τ).loc main_arg4) : S8x8192x512.Idx → EReal) (ix3 (bP t) z l))
          (Fin.ext (by show 16 * (32 * ((t.val - 1) % 16) - 1) + 15 = 512 * ((t.val - 1) % 16) + i.val - 1; omega))
    · rw [dif_neg hi, dif_neg (show ¬ 512 * ((t.val - 1) % 16) + i.val = 0 by omega)]
      exact congrArg (fun z => (m ((c : Thread nD τ).loc main_arg4) : S8x8192x512.Idx → EReal) (ix3 (bP t) z l))
        (Fin.ext (by show 512 * ((t.val - 1) % 16) + (i.val - 1) = 512 * ((t.val - 1) % 16) + i.val - 1; omega))
  · unfold zpR
    rw [ag.a4]
    by_cases hi : i.val = 511
    · rw [dif_pos hi]
      by_cases hg : (t.val - 1) % 16 = 15
      · rw [if_pos hg, dif_pos (show 512 * ((t.val - 1) % 16) + i.val = 8191 by omega)]
        rfl
      · rw [if_neg hg, dif_neg (show ¬ 512 * ((t.val - 1) % 16) + i.val = 8191 by omega)]
        refine (if_pos (by decide)).trans ?_
        exact congrArg (fun z => (m ((c : Thread nD τ).loc main_arg4) : S8x8192x512.Idx → EReal) (ix3 (bP t) z l))
          (Fin.ext (by show 16 * min (32 * ((t.val - 1) % 16 + 1)) 511 + 0 = 512 * ((t.val - 1) % 16) + i.val + 1; omega))
    · rw [dif_neg hi, dif_neg (show ¬ 512 * ((t.val - 1) % 16) + i.val = 8191 by omega)]
      rfl

include ag in
/-- The residual stream of the tile that a step finishes, after the two branches. -/
theorem x1_tile (t : Fin cfg0.N) (h : ¬ t.val % 129 = 0) (i : Fin 512) (e : Fin 1024) :
    x1U (iblk m c 4 t) (outsAt0 m c (t.val - 1) (Nat.lt_of_le_of_lt (Nat.sub_le t.val 1) t.isLt)).2
          (convU (Scalar.cmpi .sgt (tileW t) 0#32) (Scalar.cmpi .slt (tileW t) 15#32) (iblk m c 5 t) (iblk m c 8 t)
            (View.ld (Val := Elt Ideal) (e' := .bf16) (iblk m c 6 t) (Rect.unit ![0, 15, 0] ![1, 1, 512] k0_part2._proof_1))
            (View.ld (Val := Elt Ideal) (e' := .bf16) (iblk m c 7 t) (Rect.unit ![0, 0, 0] ![1, 1, 512] k0_part2._proof_4)) (iblk m c 11 t))
          (gatesU (iblk m c 9 t) (iblk m c 10 t)) (iblk m c 12 t) (iblk m c 13 t) (iblk m c 14 t) (ix2 i e)
      = x1A V (fun l => attnTerm V (ix3 (bP t) (row (gP t) i) l)) (bP t) (row (gP t) i) e := by
  have ht : t.val < 129 := t.isLt
  rw [x1_at]
  unfold x1A
  refine x1R_congr ?_ ?_ ?_ ?_ ?_ ?_ ?_ ?_ e
  · intro e
    rw [blk4, ag.a0]
    exact congrFun (V_main_arg0 m c) _
  · intro l
    refine (carried ag ⟨t.val - 1, Nat.lt_of_le_of_lt (Nat.sub_le t.val 1) t.isLt⟩ i l).trans ?_
    congr 1
    congr 1
    · exact Fin.ext (by show min (t.val - 1) 127 / 16 = (t.val - 1) / 16; omega)
    · exact Fin.ext (by show 512 * (min (t.val - 1) 127 % 16) + i.val = 512 * ((t.val - 1) % 16) + i.val; omega)
  · exact conv_tile ag t i
  · intro d
    rw [gates_at, blk9, blk10, V43_at, V23_at, ag.a6, ag.a7]
  · intro d
    rw [gates_at, blk9, blk10, V43_at, V23_at, ag.a6, ag.a7]
  · intro l d
    rw [blk12, V26_at, ag.a10]
  · intro l d
    rw [blk13, V28_at, ag.a11]
  · intro d e
    rw [blk14, V30_at, ag.a12]

include ag in
/-- What a step writes back, at an index. -/
theorem out_at (t : Fin cfg0.N) (h : ¬ t.val % 129 = 0) (i : Fin 512) (e : Fin 1024) :
    (outsAt0 m c t.val t.isLt).1 (ix3 0 i e) = layerR V (fun l => attnTerm V (ix3 (bP t) (row (gP t) i) l)) (bP t) (row (gP t) i) e := by
  rw [outB m c t h, post_at]
  unfold layerR
  refine outR_congr (x2R_congr (x1_tile ag t h i) ?_ ?_ ?_) ?_ e
  · intro d
    rw [blk15, V32_at, ag.a13]
  · intro d f
    rw [blk16, V34_at, ag.a14]
  · intro f e
    rw [blk17, V36_at, ag.a15]
  · intro e
    rw [blk18, V37_at, ag.a16]

end Cert.Layer.PKern
-- ==== Proof.PromptFinal.lean ====
/- For the prompt batch: the array that the kernel leaves is the array that the reference leaves. -/
module

public import proofs.«01_k».proof.Defs
public import proofs.«01_k».proof.Proof.Gen.Pre_finite_prompt
public import proofs.«01_k».proof.Proof.Gen.Kernel3Ideal.Value
public import proofs.«01_k».proof.Proof.Gen.Reference3Ideal.Run
public import proofs.«01_k».proof.Proof.PromptKernVal
public import proofs.«01_k».proof.Proof.Final
public import Idealize.ShloMosaic.Lib.Claim

@[expose] public section

set_option maxRecDepth 16384

noncomputable section

namespace Cert.Layer.PKern

open Cert.Layer.Kern
open Cert.Kernel3Ideal Cert.Kernel3Ideal.Gen Idealize.ShloMosaic Idealize.ShloMosaic.TcCoe Idealize.ShloMosaic.Pointwise Idealize.SL.Sem Idealize.ShloMosaic.Tactic
open Cert.Layer.PRef (xA zA bgA glA bgateA cwA waA wcA woA g2A wguA wdA g3A qA kA vA rpbA attnTerm layerR x1A cR zmR zpR layerArr)

theorem ne_first : ∀ t : Fin cfg0.N, (cfg0.win 19).flush t = true → ¬ t.val % 129 = 0 := (by decide +kernel : ∀ t : Fin grid0.N, _)

/-- The array that the kernel leaves. -/
theorem final {m : (ℓ : Loc nD τ sig) → Buf (Elt Ideal) ℓ} {c : Dev nD} {V : Valuation Cert.Reference3Ideal.τ Cert.Reference3Ideal.sig (Elt Ideal)} (ag : Agree m c V) :
    (dats m 0 c).arrAt 19 (cfgs 0).N = layerArr V := by
  refine (dats m 0 c).arrAt_eq_of_covers 19 _ (by decide +kernel) fun t hf y => ?_
  have h := ne_first t hf
  blk_simp
  rw [after0_19]
  obtain ⟨i, e, rfl⟩ : ∃ (i : Fin 512) (e : Fin 1024), (y : S1x512x1024.Idx) = ix3 0 i e :=
    ⟨y 1, y 2, by funext a; match a with | ⟨0, _⟩ => exact Fin.ext (Nat.lt_one_iff.mp (y 0).isLt) | ⟨1, _⟩ => rfl | ⟨2, _⟩ => rfl⟩
  refine (out_at ag t h i e).trans ?_
  have hy : (win0_19.blk t).view.emb (ix3 0 i e) = (ix3 (bP t) (row (gP t) i) e : S8x8192x1024.Idx) := by
    blk_ext [idx19 t]
  exact (congrArg (layerArr V) hy).symm

/-- The two programs' arguments agree, and the scores' arguments are real. -/
theorem agree [Cert.Pre_finite_prompt.Facts] {m : (ℓ : Loc nD τ sig) → Buf (Elt Ideal) ℓ} {m' : (ℓ : Loc Cert.Reference3Ideal.nD Cert.Reference3Ideal.τ Cert.Reference3Ideal.sig) → Buf (Elt Ideal) ℓ}
    (hpre : Pre_Kernel3Ideal_finite_prompt m) (c : Dev nD)
    (h : m' ((c.tc : Thread Cert.Reference3Ideal.nD Cert.Reference3Ideal.τ).loc Cert.Reference3Ideal.main_arg0) = m ((c.tc : Thread nD τ).loc main_arg0)
      ∧ m' ((c.tc : Thread Cert.Reference3Ideal.nD Cert.Reference3Ideal.τ).loc Cert.Reference3Ideal.main_arg1) = m ((c.tc : Thread nD τ).loc main_arg1)
      ∧ m' ((c.tc : Thread Cert.Reference3Ideal.nD Cert.Reference3Ideal.τ).loc Cert.Reference3Ideal.main_arg2) = m ((c.tc : Thread nD τ).loc main_arg2)
      ∧ m' ((c.tc : Thread Cert.Reference3Ideal.nD Cert.Reference3Ideal.τ).loc Cert.Reference3Ideal.main_arg3) = m ((c.tc : Thread nD τ).loc main_arg3)
      ∧ m' ((c.tc : Thread Cert.Reference3Ideal.nD Cert.Reference3Ideal.τ).loc Cert.Reference3Ideal.main_arg4) = m ((c.tc : Thread nD τ).loc main_arg4)
      ∧ m' ((c.tc : Thread Cert.Reference3Ideal.nD Cert.Reference3Ideal.τ).loc Cert.Reference3Ideal.main_arg5) = m ((c.tc : Thread nD τ).loc main_arg5)
      ∧ m' ((c.tc : Thread Cert.Reference3Ideal.nD Cert.Reference3Ideal.τ).loc Cert.Reference3Ideal.main_arg6) = m ((c.tc : Thread nD τ).loc main_arg6)
      ∧ m' ((c.tc : Thread Cert.Reference3Ideal.nD Cert.Reference3Ideal.τ).loc Cert.Reference3Ideal.main_arg7) = m ((c.tc : Thread nD τ).loc main_arg7)
      ∧ m' ((c.tc : Thread Cert.Reference3Ideal.nD Cert.Reference3Ideal.τ).loc Cert.Reference3Ideal.main_arg8) = m ((c.tc : Thread nD τ).loc main_arg8)
      ∧ m' ((c.tc : Thread Cert.Reference3Ideal.nD Cert.Reference3Ideal.τ).loc Cert.Reference3Ideal.main_arg9) = m ((c.tc : Thread nD τ).loc main_arg9)
      ∧ m' ((c.tc : Thread Cert.Reference3Ideal.nD Cert.Reference3Ideal.τ).loc Cert.Reference3Ideal.main_arg10) = m ((c.tc : Thread nD τ).loc main_arg10)
      ∧ m' ((c.tc : Thread Cert.Reference3Ideal.nD Cert.Reference3Ideal.τ).loc Cert.Reference3Ideal.main_arg11) = m ((c.tc : Thread nD τ).loc main_arg11)
      ∧ m' ((c.tc : Thread Cert.Reference3Ideal.nD Cert.Reference3Ideal.τ).loc Cert.Reference3Ideal.main_arg12) = m ((c.tc : Thread nD τ).loc main_arg12)
      ∧ m' ((c.tc : Thread Cert.Reference3Ideal.nD Cert.Reference3Ideal.τ).loc Cert.Reference3Ideal.main_arg13) = m ((c.tc : Thread nD τ).loc main_arg13)
      ∧ m' ((c.tc : Thread Cert.Reference3Ideal.nD Cert.Reference3Ideal.τ).loc Cert.Reference3Ideal.main_arg14) = m ((c.tc : Thread nD τ).loc main_arg14)
      ∧ m' ((c.tc : Thread Cert.Reference3Ideal.nD Cert.Reference3Ideal.τ).loc Cert.Reference3Ideal.main_arg15) = m ((c.tc : Thread nD τ).loc main_arg15)
      ∧ m' ((c.tc : Thread Cert.Reference3Ideal.nD Cert.Reference3Ideal.τ).loc Cert.Reference3Ideal.main_arg16) = m ((c.tc : Thread nD τ).loc main_arg16)) :
    Agree m c (StableHlo.launchContents m' c) where
  a0 := h.1
  a1 := h.2.1
  a2 := h.2.2.1
  a3 := h.2.2.2.1
  a4 := h.2.2.2.2.1
  a5 := h.2.2.2.2.2.1
  a6 := h.2.2.2.2.2.2.1
  a7 := h.2.2.2.2.2.2.2.1
  a8 := h.2.2.2.2.2.2.2.2.1
  a9 := h.2.2.2.2.2.2.2.2.2.1
  a10 := h.2.2.2.2.2.2.2.2.2.2.1
  a11 := h.2.2.2.2.2.2.2.2.2.2.2.1
  a12 := h.2.2.2.2.2.2.2.2.2.2.2.2.1
  a13 := h.2.2.2.2.2.2.2.2.2.2.2.2.2.1
  a14 := h.2.2.2.2.2.2.2.2.2.2.2.2.2.2.1
  a15 := h.2.2.2.2.2.2.2.2.2.2.2.2.2.2.2.1
  a16 := h.2.2.2.2.2.2.2.2.2.2.2.2.2.2.2.2
  fq := fun i => by rw [show qA (StableHlo.launchContents m' c) = _ from h.2.1]; exact real_of_pre _ _ (hpre c).1 i
  fk := fun i => by rw [show kA (StableHlo.launchContents m' c) = _ from h.2.2.1]; exact real_of_pre _ _ (hpre c).2.1 i
  fb := fun i => by rw [show rpbA (StableHlo.launchContents m' c) = _ from h.2.2.2.2.2.2.2.2.1]; exact real_of_pre _ _ (hpre c).2.2 i

end Cert.Layer.PKern
-- ==== Proof.PromptProjVal.lean ====
/- For the prompt batch: the arrays that the first call's kernel leaves. -/
module

public import proofs.«01_k».proof.Proof.Gen.Kernel4Ideal.Value
public import proofs.«01_k».proof.Proof.ProjVal
public import proofs.«01_k».proof.Proof.Proj
public import Idealize.ShloMosaic.Lib.Claim

@[expose] public section

set_option maxRecDepth 16384

noncomputable section

namespace Cert.Layer.PProj

open Cert.Layer.Proj
open Cert.Kernel4Ideal Cert.Kernel4Ideal.Gen Idealize.ShloMosaic Idealize.ShloMosaic.TcCoe Idealize.ShloMosaic.Pointwise Idealize.SL.Sem Idealize.ShloMosaic.Tactic

theorem idx : ∀ t : Fin cfg0.N, win0_0.index t = ![t.val / 8, t.val % 8, 0] ∧ win0_1.index t = ![0, 0] ∧ win0_2.index t = ![0, 0]
    ∧ win0_3.index t = ![t.val / 8, t.val % 8, 0] ∧ win0_4.index t = ![t.val / 8, t.val % 8, 0] ∧ win0_5.index t = ![t.val / 8, t.val % 8, 0]
    ∧ win0_6.index t = ![t.val / 8, t.val % 8, 0] ∧ win0_7.index t = ![t.val / 8, t.val % 8, 0] ∧ win0_8.index t = ![t.val / 8, t.val % 8, 0] :=
  (by decide +kernel : ∀ t : Fin grid0.N, _)

variable (m : (ℓ : Loc nD τ sig) → Buf (Elt Ideal) ℓ) (c : Dev nD) (t : Fin cfg0.N)

/-- The batch and the token of row `i` of grid step `t`'s tile. -/
abbrev bT : Fin 8 := ⟨t.val / 8, by have : t.val < 64 := t.isLt; omega⟩
abbrev rT (i : Fin 1024) : Fin 8192 := ⟨1024 * (t.val % 8) + i.val, by omega⟩

abbrev xM : (SX 8).Idx → EReal := m ((c : Thread nD τ).loc main_arg0)
abbrev gM : SG.Idx → EReal := m ((c : Thread nD τ).loc main_arg1)
abbrev wM : SW.Idx → EReal := m ((c : Thread nD τ).loc main_arg2)

theorem blk0 (i d : Fin 1024) : (iblk m c 0 t : S1x1024x1024.Idx → EReal) (ix3 0 i d) = xM m c (ix3 (bT t) (rT t i) d) := by
  blk_ext [iblk, V, idx t]

theorem V1_at (d : Fin 1024) : (V m c main_v1 : S1x1024.Idx → EReal) (ix2 0 d) = gM m c (ix2 0 d) := by
  simp only [V, hostOps0, List.flatten_cons, List.flatten_nil, List.append_nil, List.cons_append, List.nil_append]
  entry_read
  pointwise

theorem V3_at (d : Fin 1024) (e : Fin 5120) : (V m c main_v3 : S1024x5120.Idx → EReal) (ix2 d e) = wM m c (ix3 0 d e) := by
  simp only [V, hostOps0, List.flatten_cons, List.flatten_nil, List.append_nil, List.cons_append, List.nil_append]
  entry_read
  pointwise

theorem blk1 (d : Fin 1024) : (iblk m c 1 t : S1x1024.Idx → EReal) (ix2 0 d) = gM m c (ix2 0 d) := by
  refine Eq.trans ?_ (V1_at m c d)
  blk_ext [iblk, idx t]

theorem blk2 (d : Fin 1024) (e : Fin 5120) : (iblk m c 2 t : S1024x5120.Idx → EReal) (ix2 d e) = wM m c (ix3 0 d e) := by
  refine Eq.trans ?_ (V3_at m c d e)
  blk_ext [iblk, idx t]

/-- The product with a block of columns, the inverse root mean square taken after it, is the projection there. -/
theorem col_at (i : Fin 1024) (e : Fin 5120) :
    (∑ d, k0_pay4 (F := Ideal) (iblk m c 0 t) (iblk m c 1 t) (ix2 i d) * (iblk m c 2 t : S1024x5120.Idx → EReal) (ix2 d e)) * k0_pay5 (F := Ideal) (iblk m c 0 t) (ix2 i 0)
      = projT (xM m c) (gM m c) (wM m c) (bT t) (rT t i) e := by
  refine (congrArg (fun q : EReal => (_ : EReal) * q) (rstd_at (iblk m c 0 t) i)).trans ?_
  refine Eq.trans ?_ (projR_eq _ _ _ e)
  refine congrArg₂ (fun p q : EReal => p * q) (Finset.sum_congr rfl fun d _ => ?_) (congrArg rstd (funext fun d => blk0 m c t i d))
  refine congrArg₂ (fun p q : EReal => p * q) ((gain_at (iblk m c 0 t) (iblk m c 1 t) i d).trans ?_) (blk2 m c t d e)
  rw [blk0, blk1]

/-- The same for a block of columns that was loaded from the matrix. -/
theorem part_at (n off : Nat) (h : ∀ a, (![0, off] : Fin 2 → Nat) a + (![1024, n] : Fin 2 → Nat) a ≤ S1024x5120.size a)
    (i : Fin 1024) (e : Fin n) (e' : Fin 5120) (he : off + e.val = e'.val) :
    (∑ d : Fin 1024, k0_pay4 (F := Ideal) (iblk m c 0 t) (iblk m c 1 t) (ix2 i d)
        * (View.ld (Val := Elt Ideal) (e' := .bf16) (iblk m c 2 t) (Rect.unit (s := S1024x5120) ![0, off] ![1024, n] h) : (⟨2, ![1024, n]⟩ : Shape).Idx → EReal) (ix2 d e))
        * k0_pay5 (F := Ideal) (iblk m c 0 t) (ix2 i 0)
      = projT (xM m c) (gM m c) (wM m c) (bT t) (rT t i) e' := by
  refine Eq.trans ?_ (col_at m c t i e')
  refine congrArg (fun p : EReal => p * k0_pay5 (F := Ideal) (iblk m c 0 t) (ix2 i 0)) (Finset.sum_congr rfl fun d _ => ?_)
  rw [ld_at (iblk m c 2 t) n off h d e e' he]

theorem gains_eq : k0_pay12 (F := Ideal) (iblk m c 0 t) (iblk m c 1 t) (iblk m c 2 t) = k0_pay4 (iblk m c 0 t) (iblk m c 1 t) := by
  unfold k0_pay12
  frame_out

theorem rstds_eq : k0_pay13 (F := Ideal) (iblk m c 0 t) (iblk m c 1 t) (iblk m c 2 t) = k0_pay5 (iblk m c 0 t) := by
  unfold k0_pay13
  frame_out

theorem final3 : (dats m 0 c).arrAt 3 cfg0.N = partArr (xM m c) (gM m c) (wM m c) colQ := by
  refine (dats m 0 c).arrAt_eq_of_covers 3 _ (by decide +kernel) fun t _ y => ?_
  blk_simp
  rw [after0_3]
  frame_out
  obtain ⟨i, e, rfl⟩ := blk_split (n := 512) y
  have hy : (win0_3.blk t).view.emb (ix3 0 i e) = (ix3 (bT t) (rT t i) e : S8x8192x512.Idx) := by
    blk_ext [idx t]
  refine Eq.trans ?_ (congrArg (partArr (xM m c) (gM m c) (wM m c) colQ) hy).symm
  exact (pay6_at _ _ _ i e).trans (part_at m c t 512 0 _ i e (colQ e) (Nat.zero_add _))

theorem final4 : (dats m 0 c).arrAt 4 cfg0.N = partArr (xM m c) (gM m c) (wM m c) colK := by
  refine (dats m 0 c).arrAt_eq_of_covers 4 _ (by decide +kernel) fun t _ y => ?_
  blk_simp
  rw [after0_4]
  frame_out
  obtain ⟨i, e, rfl⟩ := blk_split (n := 512) y
  have hy : (win0_4.blk t).view.emb (ix3 0 i e) = (ix3 (bT t) (rT t i) e : S8x8192x512.Idx) := by
    blk_ext [idx t]
  refine Eq.trans ?_ (congrArg (partArr (xM m c) (gM m c) (wM m c) colK) hy).symm
  exact (pay6_at _ _ _ i e).trans (part_at m c t 512 512 _ i e (colK e) rfl)

theorem final5 : (dats m 0 c).arrAt 5 cfg0.N = partArr (xM m c) (gM m c) (wM m c) colV := by
  refine (dats m 0 c).arrAt_eq_of_covers 5 _ (by decide +kernel) fun t _ y => ?_
  blk_simp
  rw [after0_5]
  frame_out
  obtain ⟨i, e, rfl⟩ := blk_split (n := 512) y
  have hy : (win0_5.blk t).view.emb (ix3 0 i e) = (ix3 (bT t) (rT t i) e : S8x8192x512.Idx) := by
    blk_ext [idx t]
  refine Eq.trans ?_ (congrArg (partArr (xM m c) (gM m c) (wM m c) colV) hy).symm
  rw [gains_eq, rstds_eq]
  exact (pay8_at _ _ _ i e).trans (part_at m c t 512 1024 _ i e (colV e) rfl)

theorem final6 : (dats m 0 c).arrAt 6 cfg0.N = zArr (xM m c) (gM m c) (wM m c) := by
  refine (dats m 0 c).arrAt_eq_of_covers 6 _ (by decide +kernel) fun t _ y => ?_
  blk_simp
  rw [after0_6]
  frame_out
  obtain ⟨i, e, rfl⟩ := blk_split (n := 512) y
  have hy : (win0_6.blk t).view.emb (ix3 0 i e) = (ix3 (bT t) (rT t i) e : S8x8192x512.Idx) := by
    blk_ext [idx t]
  refine Eq.trans ?_ (congrArg (zArr (xM m c) (gM m c) (wM m c)) hy).symm
  rw [gains_eq, rstds_eq]
  exact (pay10_at _ _ _ _ i e).trans (congrArg₂ (fun p q : EReal => p * q) (part_at m c t 512 2560 _ i e (colC e) rfl) (part_at m c t 512 1536 _ i e (colU e) rfl))

theorem final7 : (dats m 0 c).arrAt 7 cfg0.N = partArr (xM m c) (gM m c) (wM m c) colB := by
  refine (dats m 0 c).arrAt_eq_of_covers 7 _ (by decide +kernel) fun t _ y => ?_
  blk_simp
  rw [after0_7]
  frame_out
  obtain ⟨i, e, rfl⟩ := blk_split (n := 512) y
  have hy : (win0_7.blk t).view.emb (ix3 0 i e) = (ix3 (bT t) (rT t i) e : S8x8192x512.Idx) := by
    blk_ext [idx t]
  refine Eq.trans ?_ (congrArg (partArr (xM m c) (gM m c) (wM m c) colB) hy).symm
  rw [gains_eq, rstds_eq]
  exact (pay9_at _ _ _ i e).trans (part_at m c t 512 2048 _ i e (colB e) rfl)

theorem final8 : (dats m 0 c).arrAt 8 cfg0.N = glArr (xM m c) (gM m c) (wM m c) := by
  refine (dats m 0 c).arrAt_eq_of_covers 8 _ (by decide +kernel) fun t _ y => ?_
  blk_simp
  rw [after0_8]
  obtain ⟨i, e, rfl⟩ := blk_split (n := 2048) y
  have hy : (win0_8.blk t).view.emb (ix3 0 i e) = (ix3 (bT t) (rT t i) e : S8x8192x2048.Idx) := by
    blk_ext [idx t]
  refine Eq.trans ?_ (congrArg (glArr (xM m c) (gM m c) (wM m c)) hy).symm
  unfold out0_8
  rw [gains_eq, rstds_eq]
  canon_tiles x h
  · obtain ⟨i', e', rfl⟩ := blk_split (n := 1024) x
    obtain rfl : i = i' := Fin.ext h1
    exact (pay2_at _ _ _ i e').trans (part_at m c t 1024 4096 _ i e' (colG e) (by have h3 : e.val = 1024 + e'.val := h2; show 4096 + e'.val = 3072 + e.val; omega))
  · obtain ⟨i', e', rfl⟩ := blk_split (n := 1024) x
    obtain rfl : i = i' := Fin.ext h1
    exact (pay1_at _ _ _ i e').trans (part_at m c t 1024 3072 _ i e' (colG e) (by have h3 : e.val = e'.val := h2; show 3072 + e'.val = 3072 + e.val; omega))

end Cert.Layer.PProj
-- ==== Proof.PromptRefProj.lean ====
/- For the prompt batch: the reference's six results of the first call, each as one array. -/
module

public import proofs.«01_k».proof.Proof.Gen.Reference4Ideal.Run
public import proofs.«01_k».proof.Proof.RowProj
public import Idealize.ShloMosaic.Lib.Pointwise

@[expose] public section

set_option maxRecDepth 16384

noncomputable section

namespace Cert.Layer.PRefProj

open Cert.Reference4Ideal Cert.Reference4Ideal.Gen Cert.Reference4Ideal.Value Idealize.ShloMosaic Idealize.ShloMosaic.TcCoe Idealize.ShloMosaic.Pointwise

/-- The whole combined projection, as the reference computes it. -/
abbrev allU (X : FVec Ideal S8x8192x1024 .f32) (G : FVec Ideal S1x1024 .f32) (W : FVec Ideal S1x1024x5120 .f32) : FVec Ideal S8x8192x5120 .f32 :=
  (Host.dotGeneral (F := Ideal) (φ₁ := .f32) (φ₂ := .f32) dot_S8x8192x1024_S1024x5120_S8x8192x5120_2_0_01_1_n_n none (mulf (F := Ideal) (φ := .f32) (mulf (F := Ideal) (φ := .f32) X (broadcastInDim S8x8192x1024 ![0, 1, 2] bcast_S8x8192x1_S8x8192x1024_0_1_2 (Host.rsqrt (F := Ideal) (φ := .f32) (addf (F := Ideal) (φ := .f32) (Host.divf (F := Ideal) (φ := .f32) (broadcastInDim S8x8192x1 ![0, 1] bcast_S8x8192_S8x8192x1_0_1 (Host.reduceAdd (F := Ideal) (φ := .f32) (mulf (F := Ideal) (φ := .f32) X X) (constant S_ .f32 0x00000000#32) reducesTo_S8x8192x1024_S8x8192_d2 h_S_)) (broadcastInDim S8x8192x1 ![] bcast_S_S8x8192x1 (constant S_ .f32 0x44800000#32))) (broadcastInDim S8x8192x1 ![] bcast_S_S8x8192x1 (constant S_ .f32 0x358637BD#32)))))) (broadcastInDim S8x8192x1024 ![0, 1, 2] bcast_S1x1x1024_S8x8192x1024_0_1_2 (broadcastInDim S1x1x1024 ![2] bcast_S1024_S1x1x1024_2 (shapeCast _ G shapeCasts_S1x1024_S1024)))) (shapeCast _ W shapeCasts_S1x1024x5120_S1024x5120))

variable (X : FVec Ideal S8x8192x1024 .f32) (G : FVec Ideal S1x1024 .f32) (W : FVec Ideal S1x1024x5120 .f32)

theorem all_at (b : Fin 8) (t : Fin 8192) (e : Fin 5120) : (allU X G W : S8x8192x5120.Idx → EReal) (ix3 b t e) = projT X G W b t e := by
  unfold projT projR rstd
  pointwise

theorem cut_at (Y : FVec Ideal S8x8192x5120 .f32) (off : Nat) (h : S8x8192x5120.Slices ![0, 0, off] S8x8192x512) (b : Fin 8) (t : Fin 8192) (e : Fin 512) (e' : Fin 5120) (he : off + e.val = e'.val) :
    (extractStridedSlice S8x8192x512 ![0, 0, off] Y h : S8x8192x512.Idx → EReal) (ix3 b t e) = Y (ix3 b t e') := by
  refine congrArg Y ?_
  funext a
  match a with
  | ⟨0, _⟩ => exact Fin.ext (Nat.zero_add _)
  | ⟨1, _⟩ => exact Fin.ext (Nat.zero_add _)
  | ⟨2, _⟩ => exact Fin.ext he

theorem idx_split {n : Nat} (j : (⟨3, ![8, 8192, n]⟩ : Shape).Idx) : ∃ (b : Fin 8) (t : Fin 8192) (e : Fin n), j = ix3 b t e :=
  ⟨j 0, j 1, j 2, by funext a; match a with | ⟨0, _⟩ => rfl | ⟨1, _⟩ => rfl | ⟨2, _⟩ => rfl⟩

theorem q_arr : (truncf .bf16 (extractStridedSlice S8x8192x512 ![0, 0, 0] (allU X G W) slices_S8x8192x5120_S8x8192x512_0_0_0) bitsLt_bf16_f32 : FVec Ideal S8x8192x512 .bf16) = partArr X G W colQ := by
  refine funext fun j => ?_
  obtain ⟨b, t, e, rfl⟩ := idx_split j
  exact (cut_at _ 0 slices_S8x8192x5120_S8x8192x512_0_0_0 b t e (colQ e) (Nat.zero_add _)).trans (all_at X G W b t _)

theorem k_arr : (truncf .bf16 (extractStridedSlice S8x8192x512 ![0, 0, 512] (allU X G W) slices_S8x8192x5120_S8x8192x512_0_0_512) bitsLt_bf16_f32 : FVec Ideal S8x8192x512 .bf16) = partArr X G W colK := by
  refine funext fun j => ?_
  obtain ⟨b, t, e, rfl⟩ := idx_split j
  exact (cut_at _ 512 slices_S8x8192x5120_S8x8192x512_0_0_512 b t e (colK e) rfl).trans (all_at X G W b t _)

theorem v_arr : (truncf .bf16 (extractStridedSlice S8x8192x512 ![0, 0, 1024] (allU X G W) slices_S8x8192x5120_S8x8192x512_0_0_1024) bitsLt_bf16_f32 : FVec Ideal S8x8192x512 .bf16) = partArr X G W colV := by
  refine funext fun j => ?_
  obtain ⟨b, t, e, rfl⟩ := idx_split j
  exact (cut_at _ 1024 slices_S8x8192x5120_S8x8192x512_0_0_1024 b t e (colV e) rfl).trans (all_at X G W b t _)

theorem bg_arr : (truncf .bf16 (extractStridedSlice S8x8192x512 ![0, 0, 2048] (allU X G W) slices_S8x8192x5120_S8x8192x512_0_0_2048) bitsLt_bf16_f32 : FVec Ideal S8x8192x512 .bf16) = partArr X G W colB := by
  refine funext fun j => ?_
  obtain ⟨b, t, e, rfl⟩ := idx_split j
  exact (cut_at _ 2048 slices_S8x8192x5120_S8x8192x512_0_0_2048 b t e (colB e) rfl).trans (all_at X G W b t _)

theorem z_arr : (truncf .bf16 (mulf (extractStridedSlice S8x8192x512 ![0, 0, 2560] (allU X G W) slices_S8x8192x5120_S8x8192x512_0_0_2560) (extractStridedSlice S8x8192x512 ![0, 0, 1536] (allU X G W) slices_S8x8192x5120_S8x8192x512_0_0_1536)) bitsLt_bf16_f32 : FVec Ideal S8x8192x512 .bf16) = zArr X G W := by
  refine funext fun j => ?_
  obtain ⟨b, t, e, rfl⟩ := idx_split j
  exact congrArg₂ (fun p q : EReal => p * q) ((cut_at _ 2560 slices_S8x8192x5120_S8x8192x512_0_0_2560 b t e (colC e) rfl).trans (all_at X G W b t _)) ((cut_at _ 1536 slices_S8x8192x5120_S8x8192x512_0_0_1536 b t e (colU e) rfl).trans (all_at X G W b t _))

theorem gl_arr : (truncf .bf16 (extractStridedSlice S8x8192x2048 ![0, 0, 3072] (allU X G W) slices_S8x8192x5120_S8x8192x2048_0_0_3072) bitsLt_bf16_f32 : FVec Ideal S8x8192x2048 .bf16) = glArr X G W := by
  refine funext fun j => ?_
  obtain ⟨b, t, e, rfl⟩ := idx_split j
  refine Eq.trans ?_ (all_at X G W b t (colG e))
  refine congrArg (allU X G W) ?_
  funext a
  match a with
  | ⟨0, _⟩ => exact Fin.ext (Nat.zero_add _)
  | ⟨1, _⟩ => exact Fin.ext (Nat.zero_add _)
  | ⟨2, _⟩ => rfl

end Cert.Layer.PRefProj
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Final
public import proofs.«01_k».proof.Proof.ProjVal
public import proofs.«01_k».proof.Proof.RefProj
public import proofs.«01_k».proof.Proof.PromptFinal
public import proofs.«01_k».proof.Proof.PromptProjVal
public import proofs.«01_k».proof.Proof.PromptRefProj
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference3Ideal
public import proofs.«01_k».proof.Proof.Gen.Reference3Ideal.Run
public import proofs.«01_k».proof.Proof.Gen.Reference4Ideal
public import proofs.«01_k».proof.Proof.Gen.Reference4Ideal.Run
public import proofs.«01_k».proof.Proof.Gen.Pre_finite_prompt
public import Idealize.ShloMosaic.Adequacy
public import Idealize.ShloMosaic.Init

@[expose] public section

noncomputable section

namespace Cert.Proof

open Idealize.ShloMosaic Idealize.SL.Sem Cert.Kernel

/-- The reference runs, keeps its arguments, and every counter ends at zero. -/
theorem quiescent_ref : Cert.quiescent_ReferenceIdeal := fun m g _ =>
  (θ_run Cert.ReferenceIdeal.defs _ _).mono (fun _ h => ⟨fun c => (h c).2, sem_eq_zero_of_no_sems rfl _⟩) (Cert.ReferenceIdeal.Value.run (F := Ideal) m g)

/-- The two named constants. -/
theorem preserves : Cert.preserves_Kernel_KernelIdeal :=
  ⟨IdealRules.named_const.statement Cert.KernelIdeal.κ "q_scale" .f32 0x3E38AA3B#32 _ rfl, IdealRules.named_const.statement Cert.KernelIdeal.κ "log2e" .f32 0x3FB8AA3B#32 _ rfl⟩

/-- Both programs end with the same array. -/
theorem algebraic : Cert.algebraic_KernelIdeal_ReferenceIdeal_pre_finite := fun m g m' g' hpre hagree =>
  ⟨fun c => (Cert.KernelIdeal.Gen.dats m 0 c).arrAt 19 Cert.KernelIdeal.cfg0.N, Cert.KernelIdeal.Value.run_blocks (F := Ideal) m g,
    (θ_run Cert.ReferenceIdeal.defs _ _).mono
      (fun _ h c => ⟨(h c).1.trans ((Cert.Layer.Ref.ref_arr _).trans (Cert.Layer.Kern.final (Cert.Layer.Kern.agree hpre c (hagree c))).symm), (h c).2⟩)
      (Cert.ReferenceIdeal.Value.run (F := Ideal) m' g')⟩

/-- The first call's reference runs, keeps its arguments, and every counter ends at zero. -/
theorem quiescent_ref2 : Cert.quiescent_Reference2Ideal := fun m g _ =>
  (θ_run Cert.Reference2Ideal.defs _ _).mono (fun _ h => ⟨fun c => (h c).2.2.2.2.2.2, sem_eq_zero_of_no_sems rfl _⟩) (Cert.Reference2Ideal.Value.run (F := Ideal) m g)

/-- An array of both programs' arguments, equal when the arguments are. -/
theorem arr_congr {n : Nat} {α : Type} (f : ((Cert.Layer.SX n).Idx → EReal) → (Cert.Layer.SG.Idx → EReal) → (Cert.Layer.SW.Idx → EReal) → α)
    {X X' : (Cert.Layer.SX n).Idx → EReal} {G G' : Cert.Layer.SG.Idx → EReal} {W W' : Cert.Layer.SW.Idx → EReal} (hX : X' = X) (hG : G' = G) (hW : W' = W) :
    f X' G' W' = f X G W := by
  rw [hX, hG, hW]

/-- Both programs of the first call end with the same six arrays. -/
theorem algebraic2 : Cert.algebraic_Kernel2Ideal_Reference2Ideal := fun m g m' g' _ hagree =>
  ⟨fun c => (Cert.Kernel2Ideal.Gen.dats m 0 c).arrAt 3 Cert.Kernel2Ideal.cfg0.N, fun c => (Cert.Kernel2Ideal.Gen.dats m 0 c).arrAt 4 Cert.Kernel2Ideal.cfg0.N,
    fun c => (Cert.Kernel2Ideal.Gen.dats m 0 c).arrAt 5 Cert.Kernel2Ideal.cfg0.N, fun c => (Cert.Kernel2Ideal.Gen.dats m 0 c).arrAt 6 Cert.Kernel2Ideal.cfg0.N,
    fun c => (Cert.Kernel2Ideal.Gen.dats m 0 c).arrAt 7 Cert.Kernel2Ideal.cfg0.N, fun c => (Cert.Kernel2Ideal.Gen.dats m 0 c).arrAt 8 Cert.Kernel2Ideal.cfg0.N,
    Cert.Kernel2Ideal.Value.run_blocks (F := Ideal) m g,
    (θ_run Cert.Reference2Ideal.defs _ _).mono
      (fun _ h c => ⟨
        (h c).1.trans ((Cert.Layer.RefProj.q_arr _ _ _).trans ((arr_congr (fun X G W => Cert.Layer.partArr X G W Cert.Layer.colQ) (hagree c).1 (hagree c).2.1 (hagree c).2.2).trans (Cert.Layer.Proj.final3 m c).symm)),
        (h c).2.1.trans ((Cert.Layer.RefProj.k_arr _ _ _).trans ((arr_congr (fun X G W => Cert.Layer.partArr X G W Cert.Layer.colK) (hagree c).1 (hagree c).2.1 (hagree c).2.2).trans (Cert.Layer.Proj.final4 m c).symm)),
        (h c).2.2.1.trans ((Cert.Layer.RefProj.v_arr _ _ _).trans ((arr_congr (fun X G W => Cert.Layer.partArr X G W Cert.Layer.colV) (hagree c).1 (hagree c).2.1 (hagree c).2.2).trans (Cert.Layer.Proj.final5 m c).symm)),
        (h c).2.2.2.1.trans ((Cert.Layer.RefProj.z_arr _ _ _).trans ((arr_congr (fun X G W => Cert.Layer.zArr X G W) (hagree c).1 (hagree c).2.1 (hagree c).2.2).trans (Cert.Layer.Proj.final6 m c).symm)),
        (h c).2.2.2.2.1.trans ((Cert.Layer.RefProj.bg_arr _ _ _).trans ((arr_congr (fun X G W => Cert.Layer.partArr X G W Cert.Layer.colB) (hagree c).1 (hagree c).2.1 (hagree c).2.2).trans (Cert.Layer.Proj.final7 m c).symm)),
        (h c).2.2.2.2.2.1.trans ((Cert.Layer.RefProj.gl_arr _ _ _).trans ((arr_congr (fun X G W => Cert.Layer.glArr X G W) (hagree c).1 (hagree c).2.1 (hagree c).2.2).trans (Cert.Layer.Proj.final8 m c).symm)),
        (h c).2.2.2.2.2.2⟩)
      (Cert.Reference2Ideal.Value.run (F := Ideal) m' g')⟩

/-- At the prompt batch: the reference runs, keeps its arguments, and every counter ends at zero. -/
theorem quiescent_ref3 : Cert.quiescent_Reference3Ideal := fun m g _ =>
  (θ_run Cert.Reference3Ideal.defs _ _).mono (fun _ h => ⟨fun c => (h c).2, sem_eq_zero_of_no_sems rfl _⟩) (Cert.Reference3Ideal.Value.run (F := Ideal) m g)

/-- At the prompt batch: the two named constants. -/
theorem preserves3 : Cert.preserves_Kernel3_Kernel3Ideal :=
  ⟨IdealRules.named_const.statement Cert.Kernel3Ideal.κ "q_scale" .f32 0x3E38AA3B#32 _ rfl, IdealRules.named_const.statement Cert.Kernel3Ideal.κ "log2e" .f32 0x3FB8AA3B#32 _ rfl⟩

/-- At the prompt batch: both programs end with the same array. -/
theorem algebraic3 : Cert.algebraic_Kernel3Ideal_Reference3Ideal_pre_finite_prompt := fun m g m' g' hpre hagree =>
  ⟨fun c => (Cert.Kernel3Ideal.Gen.dats m 0 c).arrAt 19 Cert.Kernel3Ideal.cfg0.N, Cert.Kernel3Ideal.Value.run_blocks (F := Ideal) m g,
    (θ_run Cert.Reference3Ideal.defs _ _).mono
      (fun _ h c => ⟨(h c).1.trans ((Cert.Layer.PRef.ref_arr _).trans (Cert.Layer.PKern.final (Cert.Layer.PKern.agree hpre c (hagree c))).symm), (h c).2⟩)
      (Cert.Reference3Ideal.Value.run (F := Ideal) m' g')⟩

/-- At the prompt batch: the first call's reference runs, keeps its arguments, and every counter ends at zero. -/
theorem quiescent_ref4 : Cert.quiescent_Reference4Ideal := fun m g _ =>
  (θ_run Cert.Reference4Ideal.defs _ _).mono (fun _ h => ⟨fun c => (h c).2.2.2.2.2.2, sem_eq_zero_of_no_sems rfl _⟩) (Cert.Reference4Ideal.Value.run (F := Ideal) m g)

/-- At the prompt batch: both programs of the first call end with the same six arrays. -/
theorem algebraic4 : Cert.algebraic_Kernel4Ideal_Reference4Ideal := fun m g m' g' _ hagree =>
  ⟨fun c => (Cert.Kernel4Ideal.Gen.dats m 0 c).arrAt 3 Cert.Kernel4Ideal.cfg0.N, fun c => (Cert.Kernel4Ideal.Gen.dats m 0 c).arrAt 4 Cert.Kernel4Ideal.cfg0.N,
    fun c => (Cert.Kernel4Ideal.Gen.dats m 0 c).arrAt 5 Cert.Kernel4Ideal.cfg0.N, fun c => (Cert.Kernel4Ideal.Gen.dats m 0 c).arrAt 6 Cert.Kernel4Ideal.cfg0.N,
    fun c => (Cert.Kernel4Ideal.Gen.dats m 0 c).arrAt 7 Cert.Kernel4Ideal.cfg0.N, fun c => (Cert.Kernel4Ideal.Gen.dats m 0 c).arrAt 8 Cert.Kernel4Ideal.cfg0.N,
    Cert.Kernel4Ideal.Value.run_blocks (F := Ideal) m g,
    (θ_run Cert.Reference4Ideal.defs _ _).mono
      (fun _ h c => ⟨
        (h c).1.trans ((Cert.Layer.PRefProj.q_arr _ _ _).trans ((arr_congr (fun X G W => Cert.Layer.partArr X G W Cert.Layer.colQ) (hagree c).1 (hagree c).2.1 (hagree c).2.2).trans (Cert.Layer.PProj.final3 m c).symm)),
        (h c).2.1.trans ((Cert.Layer.PRefProj.k_arr _ _ _).trans ((arr_congr (fun X G W => Cert.Layer.partArr X G W Cert.Layer.colK) (hagree c).1 (hagree c).2.1 (hagree c).2.2).trans (Cert.Layer.PProj.final4 m c).symm)),
        (h c).2.2.1.trans ((Cert.Layer.PRefProj.v_arr _ _ _).trans ((arr_congr (fun X G W => Cert.Layer.partArr X G W Cert.Layer.colV) (hagree c).1 (hagree c).2.1 (hagree c).2.2).trans (Cert.Layer.PProj.final5 m c).symm)),
        (h c).2.2.2.1.trans ((Cert.Layer.PRefProj.z_arr _ _ _).trans ((arr_congr (fun X G W => Cert.Layer.zArr X G W) (hagree c).1 (hagree c).2.1 (hagree c).2.2).trans (Cert.Layer.PProj.final6 m c).symm)),
        (h c).2.2.2.2.1.trans ((Cert.Layer.PRefProj.bg_arr _ _ _).trans ((arr_congr (fun X G W => Cert.Layer.partArr X G W Cert.Layer.colB) (hagree c).1 (hagree c).2.1 (hagree c).2.2).trans (Cert.Layer.PProj.final7 m c).symm)),
        (h c).2.2.2.2.2.1.trans ((Cert.Layer.PRefProj.gl_arr _ _ _).trans ((arr_congr (fun X G W => Cert.Layer.glArr X G W) (hagree c).1 (hagree c).2.1 (hagree c).2.2).trans (Cert.Layer.PProj.final8 m c).symm)),
        (h c).2.2.2.2.2.2⟩)
      (Cert.Reference4Ideal.Value.run (F := Ideal) m' g')⟩

theorem claim : Cert.Claim := ⟨Cert.Kernel.Gen.facts, Cert.KernelIdeal.Gen.facts, Cert.ReferenceIdeal.Gen.facts, Cert.Kernel2.Gen.facts, Cert.Kernel2Ideal.Gen.facts,
  Cert.Reference2Ideal.Gen.facts, Cert.Kernel3.Gen.facts, Cert.Kernel3Ideal.Gen.facts, Cert.Reference3Ideal.Gen.facts, Cert.Kernel4.Gen.facts, Cert.Kernel4Ideal.Gen.facts,
  Cert.Reference4Ideal.Gen.facts, Cert.Pre_finite.Gen.facts, Cert.Pre_finite_prompt.Gen.facts,
  fun m ρ _ => Cert.Kernel.Gen.frame m ρ, fun m ρ _ => Cert.KernelIdeal.Gen.frame m ρ, fun m ρ _ => Cert.KernelIdeal.Gen.frame m ρ,
  quiescent_ref, fun m ρ _ => quiescent_ref m ρ trivial,
  fun m ρ _ => Cert.Kernel2.Gen.frame m ρ, fun m ρ _ => Cert.Kernel2Ideal.Gen.frame m ρ, quiescent_ref2,
  fun m ρ _ => Cert.Kernel3.Gen.frame m ρ, fun m ρ _ => Cert.Kernel3Ideal.Gen.frame m ρ, fun m ρ _ => Cert.Kernel3Ideal.Gen.frame m ρ,
  quiescent_ref3, fun m ρ _ => quiescent_ref3 m ρ trivial,
  fun m ρ _ => Cert.Kernel4.Gen.frame m ρ, fun m ρ _ => Cert.Kernel4Ideal.Gen.frame m ρ, quiescent_ref4,
  preserves, algebraic, trivial, algebraic2, preserves3, algebraic3, trivial, algebraic4⟩

end Cert.Proof

end
